-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_planned : Cert.Pre_planned.Facts] (m : (ℓ : Loc Cert.Kernel2.nD Cert.Kernel2.τ Cert.Kernel2.sig) → Buf (Elt Bits) ℓ) : Prop :=
  ∀ c : Dev Cert.Kernel2.nD,
    (Cert.Pre_planned.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_planned : Cert.Pre_planned.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_planned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_planned [hPre_planned : Cert.Pre_planned.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_planned.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] [hPre_planned : Cert.Pre_planned.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_planned [hReference2Ideal : Cert.Reference2Ideal.Facts] [hPre_planned : Cert.Pre_planned.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_planned m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_on_used_rows [hKernel2Ideal : Cert.Kernel2Ideal.Facts] [hReference2Ideal : Cert.Reference2Ideal.Facts] [hPre_planned : Cert.Pre_planned.Facts] [hOn_used_rows : Cert.On_used_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![49152, 1024]⟩ : Shape).Idx, (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Kernel2Ideal.nD Cert.Kernel2Ideal.τ).loc Cert.Kernel2Ideal.main_v3) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![49152, 1024]⟩ : Shape).Idx, (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Reference2Ideal.nD Cert.Reference2Ideal.τ).loc Cert.Reference2Ideal.main_v81) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v129) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_planned : Cert.Pre_planned.Facts) (hOn_used_rows : Cert.On_used_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_planned := hPre_planned)
    ∧ quiescent_Kernel2Ideal (hKernel2Ideal := hKernel2Ideal) (hPre_planned := hPre_planned)
    ∧ quiescent_Reference2Ideal (hReference2Ideal := hReference2Ideal)
    ∧ quiescent_Reference2Ideal_pre_planned (hReference2Ideal := hReference2Ideal) (hPre_planned := hPre_planned)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_used_rows (hKernel2Ideal := hKernel2Ideal) (hReference2Ideal := hReference2Ideal) (hPre_planned := hPre_planned) (hOn_used_rows := hOn_used_rows)
    ∧ preserves_Kernel3_Kernel3Ideal
    ∧ algebraic_Kernel3Ideal_Reference3Ideal (hKernel3Ideal := hKernel3Ideal) (hReference3Ideal := hReference3Ideal)
-- ==== On_used_rows.lean ====
abbrev S49152x512 : Shape := ⟨2, ![49152, 512]⟩
abbrev S8x128 : Shape := ⟨2, ![8, 128]⟩
abbrev S1x32x1024x256 : Shape := ⟨4, ![1, 32, 1024, 256]⟩
abbrev S1x32x256x1024 : Shape := ⟨4, ![1, 32, 256, 1024]⟩
abbrev S49152 : Shape := ⟨1, ![49152]⟩
abbrev S1x1 : Shape := ⟨2, ![1, 1]⟩
abbrev S_ : Shape := ⟨0, ![]⟩
abbrev S49152x1 : Shape := ⟨2, ![49152, 1]⟩
abbrev S49152x1024 : Shape := ⟨2, ![49152, 1024]⟩

class Facts : Prop where
  slices_S8x128_S1x1_5_0 : S8x128.Slices ![5, 0] S1x1
  shapeCasts_S1x1_S_ : S1x1.ShapeCasts S_
  bcast_S_S49152 : S_.BroadcastsInDim S49152 (![] : Fin 0 → Fin S49152.rank)
  bcast_S49152_S49152x1_0 : S49152.BroadcastsInDim S49152x1 (![0] : Fin 1 → Fin S49152x1.rank)
  bcast_S49152x1_S49152x1024_0_1 : S49152x1.BroadcastsInDim S49152x1024 (![0, 1] : Fin 2 → Fin S49152x1024.rank)

variable [Facts]

def fn {F : FTy → Type} [FloatOps F] (main_arg0 : IVec S49152x512 32) (main_arg1 : IVec S8x128 32) (main_arg2 : FVec F S1x32x1024x256 .f32) (main_arg3 : FVec F S1x32x1024x256 .f32) (main_arg4 : FVec F S1x32x256x1024 .f32) : IVec S49152x1024 1 :=
  let main_v0 : IVec S49152 32 := iotaInDim S49152 32 0
  let main_v1 : IVec S1x1 32 := (extractStridedSlice S1x1 ![5, 0] · slices_S8x128_S1x1_5_0) main_arg1
  let main_v2 : IVec S_ 32 := shapeCast S_ main_v1 shapeCasts_S1x1_S_
  let main_c : IVec S_ 32 := constantI S_ 32 512#32
  let main_v3 : IVec S_ 32 := muli main_v2 main_c
  let main_v4 : IVec S49152 32 := broadcastInDim S49152 ![] bcast_S_S49152 main_v3
  let main_v5 : IVec S49152 1 := cmpi .slt main_v0 main_v4
  let main_v6 : IVec S49152x1 1 := broadcastInDim S49152x1 ![0] bcast_S49152_S49152x1_0 main_v5
  let main_v7 : IVec S49152x1024 1 := broadcastInDim S49152x1024 ![0, 1] bcast_S49152x1_S49152x1024_0_1 main_v6
  main_v7
-- ==== Pre_planned.lean ====
abbrev S49152x512 : Shape := ⟨2, ![49152, 512]⟩
abbrev S8x128 : Shape := ⟨2, ![8, 128]⟩
abbrev S1x32x1024x256 : Shape := ⟨4, ![1, 32, 1024, 256]⟩
abbrev S1x32x256x1024 : Shape := ⟨4, ![1, 32, 256, 1024]⟩
abbrev S1x96 : Shape := ⟨2, ![1, 96]⟩
abbrev S96 : Shape := ⟨1, ![96]⟩
abbrev S1x1 : Shape := ⟨2, ![1, 1]⟩
abbrev S_ : Shape := ⟨0, ![]⟩
abbrev S95 : Shape := ⟨1, ![95]⟩
abbrev S1 : Shape := ⟨1, ![1]⟩

class Facts : Prop where
  slices_S8x128_S1x96_0_0 : S8x128.Slices ![0, 0] S1x96
  shapeCasts_S1x96_S96 : S1x96.ShapeCasts S96
  slices_S8x128_S1x96_2_0 : S8x128.Slices ![2, 0] S1x96
  slices_S8x128_S1x96_3_0 : S8x128.Slices ![3, 0] S1x96
  slices_S8x128_S1x96_4_0 : S8x128.Slices ![4, 0] S1x96
  slices_S8x128_S1x1_5_0 : S8x128.Slices ![5, 0] S1x1
  shapeCasts_S1x1_S_ : S1x1.ShapeCasts S_
  slices_S96_S95_1 : S96.Slices ![1] S95
  bcast_S_S95 : S_.BroadcastsInDim S95 (![] : Fin 0 → Fin S95.rank)
  slices_S96_S95_0 : S96.Slices ![0] S95
  slices_S96_S1_0 : S96.Slices ![0] S1
  shapeCasts_S1_S_ : S1.ShapeCasts S_
  slices_S96_S1_95 : S96.Slices ![95] S1
  bcast_S_S96 : S_.BroadcastsInDim S96 (![] : Fin 0 → Fin S96.rank)
  reducesTo_S96_S_d0 : S96.ReducesTo [0] S_
  h_S_ : 0 < S_.numel
  reducesTo_S95_S_d0 : S95.ReducesTo [0] S_

variable [Facts]

def fn_part3 {F : FTy → Type} [FloatOps F] (main_v5 : IVec S96 32) (main_v27 : IVec S95 1) (main_v42 : IVec S95 1) (main_v57 : IVec S_ 1) (main_v59 : IVec S96 1) (main_v61 : IVec S96 1) : IVec S_ 1 :=
  let main_v62 : IVec S96 1 := andi main_v59 main_v61
  let main_c_9 : IVec S_ 32 := constantI S_ 32 32#32
  let main_v63 : IVec S96 32 := broadcastInDim S96 ![] bcast_S_S96 main_c_9
  let main_v64 : IVec S96 1 := cmpi .slt main_v5 main_v63
  let main_v65 : IVec S96 1 := andi main_v62 main_v64
  let main_c_10 : IVec S_ 1 := constantI S_ 1 1#1
  let main_v66 : IVec S_ 1 := (fun x v => Host.reduce IntOp.andi x v reducesTo_S96_S_d0 h_S_) main_v65 main_c_10
  let main_v67 : IVec S_ 1 := andi main_v57 main_v66
  let main_v68 : IVec S95 1 := ori main_v27 main_v42
  let main_c_11 : IVec S_ 1 := constantI S_ 1 1#1
  let main_v69 : IVec S_ 1 := (fun x v => Host.reduce IntOp.andi x v reducesTo_S95_S_d0 h_S_) main_v68 main_c_11
  let main_v70 : IVec S_ 1 := andi main_v67 main_v69
  main_v70

def fn_part2 {F : FTy → Type} [FloatOps F] (main_v1 : IVec S96 32) (main_v3 : IVec S96 32) (main_v5 : IVec S96 32) (main_v7 : IVec S96 32) (main_v9 : IVec S_ 32) (main_v27 : IVec S95 1) (main_v42 : IVec S95 1) (main_v43 : IVec S_ 1) : IVec S_ 1 :=
  let main_c_3 : IVec S_ 32 := constantI S_ 32 96#32
  let main_v44 : IVec S_ 1 := cmpi .sle main_v9 main_c_3
  let main_v45 : IVec S_ 1 := andi main_v43 main_v44
  let main_v46 : IVec S1 32 := (extractStridedSlice S1 ![0] · slices_S96_S1_0) main_v3
  let main_v47 : IVec S_ 32 := shapeCast S_ main_v46 shapeCasts_S1_S_
  let main_c_4 : IVec S_ 32 := constantI S_ 32 1#32
  let main_v48 : IVec S_ 1 := cmpi .eq main_v47 main_c_4
  let main_v49 : IVec S_ 1 := andi main_v45 main_v48
  let main_v50 : IVec S1 32 := (extractStridedSlice S1 ![0] · slices_S96_S1_0) main_v7
  let main_v51 : IVec S_ 32 := shapeCast S_ main_v50 shapeCasts_S1_S_
  let main_c_5 : IVec S_ 32 := constantI S_ 32 0#32
  let main_v52 : IVec S_ 1 := cmpi .eq main_v51 main_c_5
  let main_v53 : IVec S_ 1 := andi main_v49 main_v52
  let main_v54 : IVec S1 32 := (extractStridedSlice S1 ![95] · slices_S96_S1_95) main_v5
  let main_v55 : IVec S_ 32 := shapeCast S_ main_v54 shapeCasts_S1_S_
  let main_c_6 : IVec S_ 32 := constantI S_ 32 0#32
  let main_v56 : IVec S_ 1 := cmpi .slt main_v55 main_c_6
  let main_v57 : IVec S_ 1 := andi main_v53 main_v56
  let main_c_7 : IVec S_ 32 := constantI S_ 32 0#32
  let main_v58 : IVec S96 32 := broadcastInDim S96 ![] bcast_S_S96 main_c_7
  let main_v59 : IVec S96 1 := cmpi .sge main_v1 main_v58
  let main_c_8 : IVec S_ 32 := constantI S_ 32 32#32
  let main_v60 : IVec S96 32 := broadcastInDim S96 ![] bcast_S_S96 main_c_8
  let main_v61 : IVec S96 1 := cmpi .slt main_v1 main_v60
  fn_part3 (F := F) main_v5 main_v27 main_v42 main_v57 main_v59 main_v61

def fn_part1 {F : FTy → Type} [FloatOps F] (main_v1 : IVec S96 32) (main_v3 : IVec S96 32) (main_v5 : IVec S96 32) (main_v7 : IVec S96 32) (main_v9 : IVec S_ 32) (main_v21 : IVec S95 1) (main_v22 : IVec S95 32) : IVec S_ 1 :=
  let main_v23 : IVec S95 32 := (extractStridedSlice S95 ![0] · slices_S96_S95_0) main_v7
  let main_c_0 : IVec S_ 32 := constantI S_ 32 1#32
  let main_v24 : IVec S95 32 := broadcastInDim S95 ![] bcast_S_S95 main_c_0
  let main_v25 : IVec S95 32 := subi main_v24 main_v23
  let main_v26 : IVec S95 1 := cmpi .eq main_v22 main_v25
  let main_v27 : IVec S95 1 := andi main_v21 main_v26
  let main_v28 : IVec S95 32 := (extractStridedSlice S95 ![1] · slices_S96_S95_1) main_v3
  let main_c_1 : IVec S_ 32 := constantI S_ 32 0#32
  let main_v29 : IVec S95 32 := broadcastInDim S95 ![] bcast_S_S95 main_c_1
  let main_v30 : IVec S95 1 := cmpi .eq main_v28 main_v29
  let main_v31 : IVec S95 32 := (extractStridedSlice S95 ![1] · slices_S96_S95_1) main_v1
  let main_v32 : IVec S95 32 := (extractStridedSlice S95 ![0] · slices_S96_S95_0) main_v1
  let main_v33 : IVec S95 1 := cmpi .eq main_v31 main_v32
  let main_v34 : IVec S95 1 := andi main_v30 main_v33
  let main_v35 : IVec S95 32 := (extractStridedSlice S95 ![1] · slices_S96_S95_1) main_v5
  let main_v36 : IVec S95 32 := (extractStridedSlice S95 ![0] · slices_S96_S95_0) main_v5
  let main_v37 : IVec S95 1 := cmpi .eq main_v35 main_v36
  let main_v38 : IVec S95 1 := andi main_v34 main_v37
  let main_v39 : IVec S95 32 := (extractStridedSlice S95 ![1] · slices_S96_S95_1) main_v7
  let main_v40 : IVec S95 32 := (extractStridedSlice S95 ![0] · slices_S96_S95_0) main_v7
  let main_v41 : IVec S95 1 := cmpi .eq main_v39 main_v40
  let main_v42 : IVec S95 1 := andi main_v38 main_v41
  let main_c_2 : IVec S_ 32 := constantI S_ 32 1#32
  let main_v43 : IVec S_ 1 := cmpi .sge main_v9 main_c_2
  fn_part2 (F := F) main_v1 main_v3 main_v5 main_v7 main_v9 main_v27 main_v42 main_v43

def fn {F : FTy → Type} [FloatOps F] (main_arg0 : IVec S49152x512 32) (main_arg1 : IVec S8x128 32) (main_arg2 : FVec F S1x32x1024x256 .f32) (main_arg3 : FVec F S1x32x1024x256 .f32) (main_arg4 : FVec F S1x32x256x1024 .f32) : IVec S_ 1 :=
  let main_v0 : IVec S1x96 32 := (extractStridedSlice S1x96 ![0, 0] · slices_S8x128_S1x96_0_0) main_arg1
  let main_v1 : IVec S96 32 := shapeCast S96 main_v0 shapeCasts_S1x96_S96
  let main_v2 : IVec S1x96 32 := (extractStridedSlice S1x96 ![2, 0] · slices_S8x128_S1x96_2_0) main_arg1
  let main_v3 : IVec S96 32 := shapeCast S96 main_v2 shapeCasts_S1x96_S96
  let main_v4 : IVec S1x96 32 := (extractStridedSlice S1x96 ![3, 0] · slices_S8x128_S1x96_3_0) main_arg1
  let main_v5 : IVec S96 32 := shapeCast S96 main_v4 shapeCasts_S1x96_S96
  let main_v6 : IVec S1x96 32 := (extractStridedSlice S1x96 ![4, 0] · slices_S8x128_S1x96_4_0) main_arg1
  let main_v7 : IVec S96 32 := shapeCast S96 main_v6 shapeCasts_S1x96_S96
  let main_v8 : IVec S1x1 32 := (extractStridedSlice S1x1 ![5, 0] · slices_S8x128_S1x1_5_0) main_arg1
  let main_v9 : IVec S_ 32 := shapeCast S_ main_v8 shapeCasts_S1x1_S_
  let main_v10 : IVec S96 32 := iotaInDim S96 32 0
  let main_v11 : IVec S95 32 := (extractStridedSlice S95 ![1] · slices_S96_S95_1) main_v3
  let main_c : IVec S_ 32 := constantI S_ 32 1#32
  let main_v12 : IVec S95 32 := broadcastInDim S95 ![] bcast_S_S95 main_c
  let main_v13 : IVec S95 1 := cmpi .eq main_v11 main_v12
  let main_v14 : IVec S95 32 := (extractStridedSlice S95 ![1] · slices_S96_S95_1) main_v10
  let main_v15 : IVec S95 32 := broadcastInDim S95 ![] bcast_S_S95 main_v9
  let main_v16 : IVec S95 1 := cmpi .slt main_v14 main_v15
  let main_v17 : IVec S95 1 := andi main_v13 main_v16
  let main_v18 : IVec S95 32 := (extractStridedSlice S95 ![1] · slices_S96_S95_1) main_v1
  let main_v19 : IVec S95 32 := (extractStridedSlice S95 ![0] · slices_S96_S95_0) main_v5
  let main_v20 : IVec S95 1 := cmpi .eq main_v18 main_v19
  let main_v21 : IVec S95 1 := andi main_v17 main_v20
  let main_v22 : IVec S95 32 := (extractStridedSlice S95 ![1] · slices_S96_S95_1) main_v7
  fn_part1 (F := F) main_v1 main_v3 main_v5 main_v7 main_v9 main_v21 main_v22
-- ==== Kernel.lean ====
abbrev S16384x1024 : Shape := ⟨2, ![16384, 1024]⟩
abbrev S16384x512 : Shape := ⟨2, ![16384, 512]⟩
abbrev S16384x128 : Shape := ⟨2, ![16384, 128]⟩
abbrev S1x4x4096x256 : Shape := ⟨4, ![1, 4, 4096, 256]⟩
abbrev S1x256x1024 : Shape := ⟨3, ![1, 256, 1024]⟩
abbrev S1x1024 : Shape := ⟨2, ![1, 1024]⟩
abbrev S1x1024x1024 : Shape := ⟨3, ![1, 1024, 1024]⟩
abbrev S4x4096x256 : Shape := ⟨3, ![4, 4096, 256]⟩
abbrev S16384x256 : Shape := ⟨2, ![16384, 256]⟩
abbrev S256x1024 : Shape := ⟨2, ![256, 1024]⟩
abbrev S1024 : Shape := ⟨1, ![1024]⟩
abbrev S1024x1024 : Shape := ⟨2, ![1024, 1024]⟩
abbrev S1024x128 : Shape := ⟨2, ![1024, 128]⟩
abbrev S1024x256 : Shape := ⟨2, ![1024, 256]⟩
abbrev S3x1024x1024 : Shape := ⟨3, ![3, 1024, 1024]⟩
abbrev S3x1024x512 : Shape := ⟨3, ![3, 1024, 512]⟩
abbrev S3x3 : Shape := ⟨2, ![3, 3]⟩
abbrev S1x1 : Shape := ⟨2, ![1, 1]⟩
abbrev S_ : Shape := ⟨0, ![]⟩
abbrev S1x1024x512 : Shape := ⟨3, ![1, 1024, 512]⟩
abbrev S1024x512 : Shape := ⟨2, ![1024, 512]⟩
abbrev S1024x1 : Shape := ⟨2, ![1024, 1]⟩

abbrev nBuf : Space → Nat
  | .hbm => 18
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x512, .i32⟩
  | .hbm, ⟨2, _⟩ => ⟨S16384x512, .i32⟩
  | .hbm, ⟨3, _⟩ => ⟨S16384x128, .f32⟩
  | .hbm, ⟨4, _⟩ => ⟨S1x4x4096x256, .f32⟩
  | .hbm, ⟨5, _⟩ => ⟨S1x256x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S4x4096x256, .f32⟩
  | .hbm, ⟨10, _⟩ => ⟨S16384x256, .f32⟩
  | .hbm, ⟨11, _⟩ => ⟨S256x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024x1024, .f32⟩
  | .hbm, ⟨17, _⟩ => ⟨S16384x1024, .f32⟩
  | .local _ .vmem, ⟨0, _⟩ => ⟨S1024x128, .f32⟩
  | .local _ .vmem, ⟨1, _⟩ => ⟨S1024x128, .f32⟩
  | .local _ .vmem, ⟨2, _⟩ => ⟨S1024x256, .f32⟩
  | .local _ .vmem, ⟨3, _⟩ => ⟨S1024x256, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S256x1024, .bf16⟩
  | .local _ .vmem, ⟨11, _⟩ => ⟨S1024x1024, .bf16⟩
  | .local _ .vmem, ⟨12, _⟩ => ⟨S3x1024x1024, .f32⟩
  | .local _ .vmem, ⟨13, _⟩ => ⟨S3x1024x512, .i32⟩
  | .local _ .vmem, ⟨14, _⟩ => ⟨S3x1024x512, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_48 : BitVec 32 := 0#32
  c0_i32_48
def k0_off1 (c0_i32_49 : BitVec 32) : Fin 2 → Nat :=
  let c0_i32_51 : BitVec 32 := 0#32
  let c3_i32_50 : BitVec 32 := 3#32
  let v113 : BitVec 32 := Scalar.remsi c0_i32_49 c3_i32_50
  ![0, v113.toNat]
def k0_off2 (c0_i32_49 : BitVec 32) : Fin 3 → Nat :=
  let c3_i32_50 : BitVec 32 := 3#32
  let v113 : BitVec 32 := Scalar.remsi c0_i32_49 c3_i32_50
  let c0_i32_52 : BitVec 32 := 0#32
  let c0_i32_53 : BitVec 32 := 0#32
  ![v113.toNat, 0, 0]
def k0_off3 (c0_i32_49 : BitVec 32) : Fin 2 → Nat :=
  let c1_i32_55 : BitVec 32 := 1#32
  let c3_i32_50 : BitVec 32 := 3#32
  let v113 : BitVec 32 := Scalar.remsi c0_i32_49 c3_i32_50
  ![1, v113.toNat]
def k0_off4 (c0_i32_49 : BitVec 32) : Fin 3 → Nat :=
  let c3_i32_50 : BitVec 32 := 3#32
  let v113 : BitVec 32 := Scalar.remsi c0_i32_49 c3_i32_50
  let c0_i32_56 : BitVec 32 := 0#32
  let c0_i32_57 : BitVec 32 := 0#32
  ![v113.toNat, 0, 0]
def k0_off5 (c0_i32_49 : BitVec 32) : Fin 2 → Nat :=
  let c2_i32_59 : BitVec 32 := 2#32
  let c3_i32_50 : BitVec 32 := 3#32
  let v113 : BitVec 32 := Scalar.remsi c0_i32_49 c3_i32_50
  ![2, v113.toNat]
def k0_mult2 : BitVec 32 :=
  let c1024_i32_63 : BitVec 32 := 1024#32
  c1024_i32_63
def k0_cond2 (i : grid0.Coords) : BitVec 1 :=
  let arg0 : BitVec 32 := BitVec.ofNat 32 (i 0).val
  let c2_i32 : BitVec 32 := 2#32
  let v3 : BitVec 32 := Scalar.addi arg0 c2_i32
  let c16_i32 : BitVec 32 := 16#32
  let v4 : BitVec 1 := Scalar.cmpi .slt v3 c16_i32
  let v6 : BitVec 32 := Scalar.extui v4
  let c0_i32_2 : BitVec 32 := 0#32
  let v7 : BitVec 1 := Scalar.cmpi .ne v6 c0_i32_2
  v7

def k0_mult3 (i : grid0.Coords) : BitVec 32 :=
  let arg0 : BitVec 32 := BitVec.ofNat 32 (i 0).val
  let c2_i32_1 : BitVec 32 := 2#32
  let v5 : BitVec 32 := Scalar.addi arg0 c2_i32_1
  let c1024_i32_48 : BitVec 32 := 1024#32
  let v112 : BitVec 32 := Scalar.muli v5 c1024_i32_48
  v112
def k0_off6 (i : grid0.Coords) : Fin 2 → Nat :=
  let c0_i32_50 : BitVec 32 := 0#32
  let arg0 : BitVec 32 := BitVec.ofNat 32 (i 0).val
  let c2_i32_1 : BitVec 32 := 2#32
  let v5 : BitVec 32 := Scalar.addi arg0 c2_i32_1
  let c3_i32_49 : BitVec 32 := 3#32
  let v114 : BitVec 32 := Scalar.remsi v5 c3_i32_49
  ![0, v114.toNat]
def k0_off7 (i : grid0.Coords) : Fin 3 → Nat :=
  let arg0 : BitVec 32 := BitVec.ofNat 32 (i 0).val
  let c2_i32_1 : BitVec 32 := 2#32
  let v5 : BitVec 32 := Scalar.addi arg0 c2_i32_1
  let c3_i32_49 : BitVec 32 := 3#32
  let v114 : BitVec 32 := Scalar.remsi v5 c3_i32_49
  let c0_i32_51 : BitVec 32 := 0#32
  let c0_i32_52 : BitVec 32 := 0#32
  ![v114.toNat, 0, 0]
def k0_off8 (i : grid0.Coords) : Fin 2 → Nat :=
  let arg0 : BitVec 32 := BitVec.ofNat 32 (i 0).val
  let c2_i32_1 : BitVec 32 := 2#32
  let v5 : BitVec 32 := Scalar.addi arg0 c2_i32_1
  let c1024_i32_48 : BitVec 32 := 1024#32
  let v112 : BitVec 32 := Scalar.muli v5 c1024_i32_48
  let v113 : BitVec 32 := v112
  let c0_i32_53 : BitVec 32 := 0#32
  ![v113.toNat, 0]
def k0_off9 (i : grid0.Coords) : Fin 2 → Nat :=
  let c1_i32_54 : BitVec 32 := 1#32
  let arg0 : BitVec 32 := BitVec.ofNat 32 (i 0).val
  let c2_i32_1 : BitVec 32 := 2#32
  let v5 : BitVec 32 := Scalar.addi arg0 c2_i32_1
  let c3_i32_49 : BitVec 32 := 3#32
  let v114 : BitVec 32 := Scalar.remsi v5 c3_i32_49
  ![1, v114.toNat]
def k0_off10 (i : grid0.Coords) : Fin 3 → Nat :=
  let arg0 : BitVec 32 := BitVec.ofNat 32 (i 0).val
  let c2_i32_1 : BitVec 32 := 2#32
  let v5 : BitVec 32 := Scalar.addi arg0 c2_i32_1
  let c3_i32_49 : BitVec 32 := 3#32
  let v114 : BitVec 32 := Scalar.remsi v5 c3_i32_49
  let c0_i32_55 : BitVec 32 := 0#32
  let c0_i32_56 : BitVec 32 := 0#32
  ![v114.toNat, 0, 0]
def k0_off11 (i : grid0.Coords) : Fin 2 → Nat :=
  let arg0 : BitVec 32 := BitVec.ofNat 32 (i 0).val
  let c2_i32_1 : BitVec 32 := 2#32
  let v5 : BitVec 32 := Scalar.addi arg0 c2_i32_1
  let c1024_i32_48 : BitVec 32 := 1024#32
  let v112 : BitVec 32 := Scalar.muli v5 c1024_i32_48
  let v113 : BitVec 32 := v112
  let c0_i32_57 : BitVec 32 := 0#32
  ![v113.toNat, 0]
def k0_off12 (i : grid0.Coords) : Fin 2 → Nat :=
  let c2_i32_58 : BitVec 32 := 2#32
  let arg0 : BitVec 32 := BitVec.ofNat 32 (i 0).val
  let c2_i32_1 : BitVec 32 := 2#32
  let v5 : BitVec 32 := Scalar.addi arg0 c2_i32_1
  let c3_i32_49 : BitVec 32 := 3#32
  let v114 : BitVec 32 := Scalar.remsi v5 c3_i32_49
  ![2, v114.toNat]
def k0_mult4 (i : grid0.Coords) : BitVec 32 :=
  let arg0 : BitVec 32 := BitVec.ofNat 32 (i 0).val
  let c1024_i32 : BitVec 32 := 1024#32
  let v8 : BitVec 32 := Scalar.muli arg0 c1024_i32
  v8
def k0_off13 (i : grid0.Coords) : Fin 2 → Nat :=
  let c0_i32_3 : BitVec 32 := 0#32
  let arg0 : BitVec 32 := BitVec.ofNat 32 (i 0).val
  let c3_i32 : BitVec 32 := 3#32
  let v10 : BitVec 32 := Scalar.remsi arg0 c3_i32
  ![0, v10.toNat]
def k0_off14 (i : grid0.Coords) : Fin 3 → Nat :=
  let arg0 : BitVec 32 := BitVec.ofNat 32 (i 0).val
  let c3_i32 : BitVec 32 := 3#32
  let v10 : BitVec 32 := Scalar.remsi arg0 c3_i32
  let c0_i32_4 : BitVec 32 := 0#32
  let c0_i32_5 : BitVec 32 := 0#32
  ![v10.toNat, 0, 0]
def k0_off15 (i : grid0.Coords) : Fin 2 → Nat :=
  let arg0 : BitVec 32 := BitVec.ofNat 32 (i 0).val
  let c1024_i32 : BitVec 32 := 1024#32
  let v8 : BitVec 32 := Scalar.muli arg0 c1024_i32
  let v9 : BitVec 32 := v8
  let c0_i32_6 : BitVec 32 := 0#32
  ![v9.toNat, 0]
def k0_off16 (i : grid0.Coords) : Fin 2 → Nat :=
  let c1_i32 : BitVec 32 := 1#32
  let arg0 : BitVec 32 := BitVec.ofNat 32 (i 0).val
  let c3_i32 : BitVec 32 := 3#32
  let v10 : BitVec 32 := Scalar.remsi arg0 c3_i32
  ![1, v10.toNat]
def k0_off17 (i : grid0.Coords) : Fin 3 → Nat :=
  let arg0 : BitVec 32 := BitVec.ofNat 32 (i 0).val
  let c3_i32 : BitVec 32 := 3#32
  let v10 : BitVec 32 := Scalar.remsi arg0 c3_i32
  let c0_i32_7 : BitVec 32 := 0#32
  let c0_i32_8 : BitVec 32 := 0#32
  ![v10.toNat, 0, 0]
def k0_off18 (i : grid0.Coords) : Fin 2 → Nat :=
  let arg0 : BitVec 32 := BitVec.ofNat 32 (i 0).val
  let c1024_i32 : BitVec 32 := 1024#32
  let v8 : BitVec 32 := Scalar.muli arg0 c1024_i32
  let v9 : BitVec 32 := v8
  let c0_i32_9 : BitVec 32 := 0#32
  ![v9.toNat, 0]
def k0_off19 (i : grid0.Coords) : Fin 2 → Nat :=
  let c2_i32_10 : BitVec 32 := 2#32
  let arg0 : BitVec 32 := BitVec.ofNat 32 (i 0).val
  let c3_i32 : BitVec 32 := 3#32
  let v10 : BitVec 32 := Scalar.remsi arg0 c3_i32
  ![2, v10.toNat]
def k0_off20 (i : grid0.Coords) : Fin 3 → Nat :=
  let arg0 : BitVec 32 := BitVec.ofNat 32 (i 0).val
  let c3_i32_14 : BitVec 32 := 3#32
  let v26 : BitVec 32 := Scalar.remsi arg0 c3_i32_14
  let v41 : Index := Scalar.indexCast v26
  let c0_19 : Index := 0#32
  let c0_20 : Index := 0#32
  ![v41.toNat, 0, 0]
def k0_off21 (i : grid0.Coords) : Fin 3 → Nat :=
  let arg0 : BitVec 32 := BitVec.ofNat 32 (i 0).val
  let c3_i32_14 : BitVec 32 := 3#32
  let v26 : BitVec 32 := Scalar.remsi arg0 c3_i32_14
  let v51 : Index := Scalar.indexCast v26
  let c0_23 : Index := 0#32
  let c0_24 : Index := 0#32
  ![v51.toNat, 0, 0]
def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x1024 : Shape := ⟨2, ![16384, 1024]⟩
abbrev S16384x512 : Shape := ⟨2, ![16384, 512]⟩
abbrev S16384x128 : Shape := ⟨2, ![16384, 128]⟩
abbrev S1x4x4096x256 : Shape := ⟨4, ![1, 4, 4096, 256]⟩
abbrev S1x256x1024 : Shape := ⟨3, ![1, 256, 1024]⟩
abbrev S1x1024 : Shape := ⟨2, ![1, 1024]⟩
abbrev S1x1024x1024 : Shape := ⟨3, ![1, 1024, 1024]⟩
abbrev S16384x1 : Shape := ⟨2, ![16384, 1]⟩
abbrev S16384x512x2 : Shape := ⟨3, ![16384, 512, 2]⟩
abbrev S16384x512x1 : Shape := ⟨3, ![16384, 512, 1]⟩
abbrev S4x4096x256 : Shape := ⟨3, ![4, 4096, 256]⟩
abbrev S256x1024 : Shape := ⟨2, ![256, 1024]⟩
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384 : Shape := ⟨1, ![16384]⟩
abbrev S1024x1024 : Shape := ⟨2, ![1024, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .i32⟩
  | .hbm, ⟨2, _⟩ => ⟨S16384x512, .i32⟩
  | .hbm, ⟨3, _⟩ => ⟨S16384x128, .f32⟩
  | .hbm, ⟨4, _⟩ => ⟨S1x4x4096x256, .f32⟩
  | .hbm, ⟨5, _⟩ => ⟨S1x256x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S16384x1, .f32⟩
  | .hbm, ⟨10, _⟩ => ⟨S16384x512x2, .bf16⟩
  | .hbm, ⟨11, _⟩ => ⟨S16384x512x2, .f32⟩
  | .hbm, ⟨12, _⟩ => ⟨S16384x512x1, .f32⟩
  | .hbm, ⟨13, _⟩ => ⟨S16384x512, .f32⟩
  | .hbm, ⟨14, _⟩ => ⟨S16384x512x1, .f32⟩
  | .hbm, ⟨15, _⟩ => ⟨S16384x512, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1, .f32⟩
  | .hbm, ⟨20, _⟩ => ⟨S16384x512x2, .bf16⟩
  | .hbm, ⟨21, _⟩ => ⟨S16384x512x2, .f32⟩
  | .hbm, ⟨22, _⟩ => ⟨S16384x512x1, .f32⟩
  | .hbm, ⟨23, _⟩ => ⟨S16384x512, .f32⟩
  | .hbm, ⟨24, _⟩ => ⟨S16384x512x1, .f32⟩
  | .hbm, ⟨25, _⟩ => ⟨S16384x512, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S4x4096x256, .f32⟩
  | .hbm, ⟨32, _⟩ => ⟨S256x1024, .f32⟩
  | .hbm, ⟨33, _⟩ => ⟨S4x4096x1024, .f32⟩
  | .hbm, ⟨34, _⟩ => ⟨S1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S16384x1024, .f32⟩
  | .hbm, ⟨52, _⟩ => ⟨S1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S1024x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Kernel2.lean ====
abbrev S49152x512 : Shape := ⟨2, ![49152, 512]⟩
abbrev S8x128 : Shape := ⟨2, ![8, 128]⟩
abbrev S1x32x1024x256 : Shape := ⟨4, ![1, 32, 1024, 256]⟩
abbrev S1x32x256x1024 : Shape := ⟨4, ![1, 32, 256, 1024]⟩
abbrev S32x1024x256 : Shape := ⟨3, ![32, 1024, 256]⟩
abbrev S32x256x1024 : Shape := ⟨3, ![32, 256, 1024]⟩
abbrev S49152x1024 : Shape := ⟨2, ![49152, 1024]⟩
abbrev S512x1024 : Shape := ⟨2, ![512, 1024]⟩
abbrev S1x1 : Shape := ⟨2, ![1, 1]⟩
abbrev S3x512x512 : Shape := ⟨3, ![3, 512, 512]⟩
abbrev S3 : Shape := ⟨1, ![3]⟩
abbrev S2x1024x256 : Shape := ⟨3, ![2, 1024, 256]⟩
abbrev S2x256x1024 : Shape := ⟨3, ![2, 256, 1024]⟩
abbrev S1024x256 : Shape := ⟨2, ![1024, 256]⟩
abbrev S256x1024 : Shape := ⟨2, ![256, 1024]⟩
abbrev S2x3 : Shape := ⟨2, ![2, 3]⟩
abbrev S1 : Shape := ⟨1, ![1]⟩
abbrev S_ : Shape := ⟨0, ![]⟩
abbrev S1x512x512 : Shape := ⟨3, ![1, 512, 512]⟩
abbrev S512x512 : Shape := ⟨2, ![512, 512]⟩
abbrev S1x1024x256 : Shape := ⟨3, ![1, 1024, 256]⟩
abbrev S1x256x1024 : Shape := ⟨3, ![1, 256, 1024]⟩
abbrev S512x256 : Shape := ⟨2, ![512, 256]⟩

abbrev nBuf : Space → Nat
  | .hbm => 8
  | .vmem => 9
  | .smem => 1
  | _ => 0

abbrev bufTy : (tb : Table) → Fin (tcTables nBuf tb) → BufTy
  | .hbm, ⟨0, _⟩ => ⟨S49152x512, .i32⟩
  | .hbm, ⟨1, _⟩ => ⟨S1x32x1024x256, .f32⟩
  | .hbm, ⟨2, _⟩ => ⟨S1x32x1024x256, .f32⟩
  | .hbm, ⟨3, _⟩ => ⟨S1x32x256x1024, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S49152x1024, .bf16⟩
  | .local _ .vmem, ⟨0, _⟩ => ⟨S512x1024, .bf16⟩
  | .local _ .vmem, ⟨1, _⟩ => ⟨S512x1024, .bf16⟩
  | .local _ .vmem, ⟨2, _⟩ => ⟨S3x512x512, .i32⟩
  | .local _ .vmem, ⟨3, _⟩ => ⟨S2x1024x256, .f32⟩
  | .local _ .vmem, ⟨4, _⟩ => ⟨S2x1024x256, .f32⟩
  | .local _ .vmem, ⟨5, _⟩ => ⟨S2x256x1024, .f32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .smem, ⟨0, _⟩ => ⟨S8x128, .i32⟩
  | _, _ => ⟨S49152x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c1 : Index := 1#32
  let arg0 : BitVec 32 := BitVec.ofNat 32 (i 0).val
  let v1 : Index := Scalar.indexCast arg0
  ![1, v1.toNat]
def k0_off2 (i : grid0.Coords) : Fin 2 → Nat :=
  let c0_0 : Index := 0#32
  let arg0 : BitVec 32 := BitVec.ofNat 32 (i 0).val
  let v3 : Index := Scalar.indexCast arg0
  ![0, v3.toNat]
def k0_off3 (i : grid0.Coords) : Fin 2 → Nat :=
  let c3 : Index := 3#32
  let arg0 : BitVec 32 := BitVec.ofNat 32 (i 0).val
  let v5 : Index := Scalar.indexCast arg0
  ![3, v5.toNat]
def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_1 : BitVec 32 := 0#32
  let v9 : BitVec 1 := Scalar.cmpi .ne v8 c0_i32_1
  v9

def k0_mult1 : BitVec 32 :=
  let c0_i32_8 : BitVec 32 := 0#32
  c0_i32_8
def k0_off4 : Fin 1 → Nat :=
  let c0_i32_9 : BitVec 32 := 0#32
  let c3_i32 : BitVec 32 := 3#32
  let v27 : BitVec 32 := Scalar.remsi c0_i32_9 c3_i32
  ![v27.toNat]
def k0_off5 : Fin 3 → Nat :=
  let c0_i32_9 : BitVec 32 := 0#32
  let c3_i32 : BitVec 32 := 3#32
  let v27 : BitVec 32 := Scalar.remsi c0_i32_9 c3_i32
  let c0_i32_15 : BitVec 32 := 0#32
  let c0_i32_16 : BitVec 32 := 0#32
  ![v27.toNat, 0, 0]
def k0_mult2 : BitVec 32 :=
  let c512_i32 : BitVec 32 := 512#32
  c512_i32
def k0_off6 : Fin 1 → Nat :=
  let c1_i32_12 : BitVec 32 := 1#32
  let c3_i32_13 : BitVec 32 := 3#32
  let v32 : BitVec 32 := Scalar.remsi c1_i32_12 c3_i32_13
  ![v32.toNat]
def k0_off7 : Fin 3 → Nat :=
  let c1_i32_12 : BitVec 32 := 1#32
  let c3_i32_13 : BitVec 32 := 3#32
  let v32 : BitVec 32 := Scalar.remsi c1_i32_12 c3_i32_13
  let c0_i32_15 : BitVec 32 := 0#32
  let c0_i32_16 : BitVec 32 := 0#32
  ![v32.toNat, 0, 0]
def k0_mult3 (i : grid0.Coords) : BitVec 32 :=
  let arg0 : BitVec 32 := BitVec.ofNat 32 (i 0).val
  let c2_i32_7 : BitVec 32 := 2#32
  let v25 : BitVec 32 := Scalar.addi arg0 c2_i32_7
  let c512_i32 : BitVec 32 := 512#32
  let v26 : BitVec 32 := Scalar.muli v25 c512_i32
  v26
def k0_off8 (i : grid0.Coords) : Fin 1 → Nat :=
  let arg0 : BitVec 32 := BitVec.ofNat 32 (i 0).val
  let c2_i32_7 : BitVec 32 := 2#32
  let v25 : BitVec 32 := Scalar.addi arg0 c2_i32_7
  let c3_i32 : BitVec 32 := 3#32
  let v28 : BitVec 32 := Scalar.remsi v25 c3_i32
  ![v28.toNat]
def k0_off9 (i : grid0.Coords) : Fin 3 → Nat :=
  let arg0 : BitVec 32 := BitVec.ofNat 32 (i 0).val
  let c2_i32_7 : BitVec 32 := 2#32
  let v25 : BitVec 32 := Scalar.addi arg0 c2_i32_7
  let c3_i32 : BitVec 32 := 3#32
  let v28 : BitVec 32 := Scalar.remsi v25 c3_i32
  let c0_i32_8 : BitVec 32 := 0#32
  let c0_i32_9 : BitVec 32 := 0#32
  ![v28.toNat, 0, 0]
def k0_off10 (i : grid0.Coords) : Fin 2 → Nat :=
  let arg0 : BitVec 32 := BitVec.ofNat 32 (i 0).val
  let c2_i32_7 : BitVec 32 := 2#32
  let v25 : BitVec 32 := Scalar.addi arg0 c2_i32_7
  let c512_i32 : BitVec 32 := 512#32
  let v26 : BitVec 32 := Scalar.muli v25 c512_i32
  let v27 : BitVec 32 := v26
  let c0_i32_10 : BitVec 32 := 0#32
  ![v27.toNat, 0]
def k0_cond4 (i : grid0.Coords) (v0 : BitVec 32) : BitVec 1 :=
  let arg0 : BitVec 32 := BitVec.ofNat 32 (i 0).val
  let c2_i32 : BitVec 32 := 2#32
  let v10 : BitVec 32 := Scalar.addi arg0 c2_i32
  let v11 : BitVec 1 := Scalar.cmpi .slt v10 v0
  let v12 : BitVec 32 := Scalar.extui v11
  let c0_i32_2 : BitVec 32 := 0#32
  let v13 : BitVec 1 := Scalar.cmpi .ne v12 c0_i32_2
  v13

def k0_chk1 (i : grid0.Coords) (v0 : BitVec 32) : Prop :=
  (∀ (k0_h4 : k0_cond4 i v0 = 1#1), ∀ a, (k0_off10 i) a + S512x512.size a ≤ S49152x512.size a)
theorem k0_off10_inb : ∀ (i : grid0.Coords) (v0 : BitVec 32) (k0_hw1 : k0_chk1 i v0), ∀ (k0_h4 : k0_cond4 i v0 = 1#1), ∀ a, (k0_off10 i) a + S512x512.size a ≤ S49152x512.size a := fun i v0 k0_hw1 k0_h4 => k0_hw1 k0_h4

def k0_cond5 (i : grid0.Coords) : BitVec 1 :=
  let arg0 : BitVec 32 := BitVec.ofNat 32 (i 0).val
  let c0_i32_3 : BitVec 32 := 0#32
  let v14 : BitVec 1 := Scalar.cmpi .eq arg0 c0_i32_3
  let v15 : BitVec 32 := Scalar.extui v14
  let c0_i32_4 : BitVec 32 := 0#32
  let v16 : BitVec 1 := Scalar.cmpi .ne v15 c0_i32_4
  v16

def k0_off11 (v4 : BitVec 32) : Fin 3 → Nat :=
  let c0_i32_12 : BitVec 32 := 0#32
  let c0_i32_13 : BitVec 32 := 0#32
  ![v4.toNat, 0, 0]

def k0_off12 (v4 : BitVec 32) : Fin 3 → Nat :=
  let c0_i32_26 : BitVec 32 := 0#32
  let c0_i32_27 : BitVec 32 := 0#32
  ![v4.toNat, 0, 0]

def k0_chk2 (i : grid0.Coords) (v4 : BitVec 32) : Prop :=
  (∀ (k0_h5 : k0_cond5 i = 1#1), ∀ a, (k0_off11 v4) a + S1x1024x256.size a ≤ S32x1024x256.size a) ∧
  (∀ (k0_h5 : k0_cond5 i = 1#1), ∀ a, (k0_off12 v4) a + S1x256x1024.size a ≤ S32x256x1024.size a)
theorem k0_off11_inb : ∀ (i : grid0.Coords) (v4 : BitVec 32) (k0_hw2 : k0_chk2 i v4), ∀ (k0_h5 : k0_cond5 i = 1#1), ∀ a, (k0_off11 v4) a + S1x1024x256.size a ≤ S32x1024x256.size a := fun i v4 k0_hw2 k0_h5 => k0_hw2.1 k0_h5
theorem k0_off12_inb : ∀ (i : grid0.Coords) (v4 : BitVec 32) (k0_hw2 : k0_chk2 i v4), ∀ (k0_h5 : k0_cond5 i = 1#1), ∀ a, (k0_off12 v4) a + S1x256x1024.size a ≤ S32x256x1024.size a := fun i v4 k0_hw2 k0_h5 => k0_hw2.2 k0_h5

def k0_off13 (i : grid0.Coords) : Fin 2 → Nat :=
  let c2 : Index := 2#32
  let arg0 : BitVec 32 := BitVec.ofNat 32 (i 0).val
  let v17 : Index := Scalar.indexCast arg0
  ![2, v17.toNat]
def k0_off14 (i : grid0.Coords) : Fin 2 → Nat :=
  let c4 : Index := 4#32
  let arg0 : BitVec 32 := BitVec.ofNat 32 (i 0).val
  let v25 : Index := Scalar.indexCast arg0
  ![4, v25.toNat]
def k0_off15 (v26 : BitVec 32) : Fin 2 → Nat :=
  let c0_i32_7 : BitVec 32 := 0#32
  ![v26.toNat, 0]
def k0_cond6 (v18 : BitVec 32) : BitVec 1 :=
  let c1_i32 : BitVec 32 := 1#32
  let v19 : BitVec 1 := Scalar.cmpi .eq v18 c1_i32
  let v20 : BitVec 32 := Scalar.extui v19
  let c0_i32_5 : BitVec 32 := 0#32
  let v21 : BitVec 1 := Scalar.cmpi .ne v20 c0_i32_5
  v21

def k0_off16 (v26 : BitVec 32) : Fin 3 → Nat :=
  let c0_i32_8 : BitVec 32 := 0#32
  let c0_i32_9 : BitVec 32 := 0#32
  ![v26.toNat, 0, 0]
def k0_off17 (v4 : BitVec 32) : Fin 3 → Nat :=
  let c0_i32_10 : BitVec 32 := 0#32
  let c0_i32_11 : BitVec 32 := 0#32
  ![v4.toNat, 0, 0]

def k0_off18 (v26 : BitVec 32) : Fin 2 → Nat :=
  let c1_i32_12 : BitVec 32 := 1#32
  ![v26.toNat, 1]
def k0_off19 (v26 : BitVec 32) : Fin 2 → Nat :=
  let c2_i32_17 : BitVec 32 := 2#32
  ![v26.toNat, 2]
def k0_off20 (v26 : BitVec 32) : Fin 3 → Nat :=
  let c0_i32_18 : BitVec 32 := 0#32
  let c0_i32_19 : BitVec 32 := 0#32
  ![v26.toNat, 0, 0]
def k0_off21 (v4 : BitVec 32) : Fin 3 → Nat :=
  let c0_i32_20 : BitVec 32 := 0#32
  let c0_i32_21 : BitVec 32 := 0#32
  ![v4.toNat, 0, 0]
def k0_off22 (v26 : BitVec 32) : Fin 3 → Nat :=
  let v45 : Index := Scalar.indexCast v26
  let c0_22 : Index := 0#32
  let c0_23 : Index := 0#32
  ![v45.toNat, 0, 0]
def k0_off23 (v26 : BitVec 32) : Fin 3 → Nat :=
  let v59 : Index := Scalar.indexCast v26
  let c0_30 : Index := 0#32
  let c0_31 : Index := 0#32
  ![v59.toNat, 0, 0]
def k0_off24 (v26 : BitVec 32) : Fin 2 → Nat :=
  let c1_i32_36 : BitVec 32 := 1#32
  let v69 : BitVec 32 := Scalar.subi c1_i32_36 v26
  let c0_i32_37 : BitVec 32 := 0#32
  ![v69.toNat, 0]
def k0_cond7 (v6 : BitVec 32) : BitVec 1 :=
  let c0_i32_34 : BitVec 32 := 0#32
  let v66 : BitVec 1 := Scalar.cmpi .sge v6 c0_i32_34
  let v67 : BitVec 32 := Scalar.extui v66
  let c0_i32_35 : BitVec 32 := 0#32
  let v68 : BitVec 1 := Scalar.cmpi .ne v67 c0_i32_35
  v68

def k0_off25 (v26 : BitVec 32) : Fin 3 → Nat :=
  let c1_i32_36 : BitVec 32 := 1#32
  let v69 : BitVec 32 := Scalar.subi c1_i32_36 v26
  let c0_i32_38 : BitVec 32 := 0#32
  let c0_i32_39 : BitVec 32 := 0#32
  ![v69.toNat, 0, 0]
def k0_off26 (v6 : BitVec 32) : Fin 3 → Nat :=
  let c0_i32_40 : BitVec 32 := 0#32
  let c0_i32_41 : BitVec 32 := 0#32
  ![v6.toNat, 0, 0]
def k0_off27 (v26 : BitVec 32) : Fin 2 → Nat :=
  let c1_i32_36 : BitVec 32 := 1#32
  let v69 : BitVec 32 := Scalar.subi c1_i32_36 v26
  let c1_i32_42 : BitVec 32 := 1#32
  ![v69.toNat, 1]
def k0_off28 (v26 : BitVec 32) : Fin 2 → Nat :=
  let c1_i32_36 : BitVec 32 := 1#32
  let v69 : BitVec 32 := Scalar.subi c1_i32_36 v26
  let c2_i32_47 : BitVec 32 := 2#32
  ![v69.toNat, 2]
def k0_off29 (v26 : BitVec 32) : Fin 3 → Nat :=
  let c1_i32_36 : BitVec 32 := 1#32
  let v69 : BitVec 32 := Scalar.subi c1_i32_36 v26
  let c0_i32_48 : BitVec 32 := 0#32
  let c0_i32_49 : BitVec 32 := 0#32
  ![v69.toNat, 0, 0]

def k0_chk3 (v6 : BitVec 32) (v18 : BitVec 32) (v26 : BitVec 32) : Prop :=
  (∀ (k0_h6 : k0_cond6 v18 = 1#1), ∀ a, (k0_off15 v26) a + S1x1.size a ≤ S2x3.size a) ∧
  (∀ (k0_h6 : k0_cond6 v18 = 1#1), ∀ a, (k0_off16 v26) a + S1x1024x256.size a ≤ S2x1024x256.size a) ∧
  (∀ (k0_h6 : k0_cond6 v18 = 1#1), ∀ a, (k0_off18 v26) a + S1x1.size a ≤ S2x3.size a) ∧
  (∀ (k0_h6 : k0_cond6 v18 = 1#1), ∀ a, (k0_off19 v26) a + S1x1.size a ≤ S2x3.size a) ∧
  (∀ (k0_h6 : k0_cond6 v18 = 1#1), ∀ a, (k0_off20 v26) a + S1x256x1024.size a ≤ S2x256x1024.size a) ∧
  (∀ (k0_h6 : k0_cond6 v18 = 1#1), ∀ a, (k0_off22 v26) a + S1x1024x256.size a ≤ S2x1024x256.size a) ∧
  (∀ (k0_h6 : k0_cond6 v18 = 1#1), ∀ a, (k0_off23 v26) a + S1x256x1024.size a ≤ S2x256x1024.size a) ∧
  (∀ (k0_h6 : k0_cond6 v18 = 1#1), ∀ (k0_h7 : k0_cond7 v6 = 1#1), ∀ a, (k0_off24 v26) a + S1x1.size a ≤ S2x3.size a) ∧
  (∀ (k0_h6 : k0_cond6 v18 = 1#1), ∀ (k0_h7 : k0_cond7 v6 = 1#1), ∀ a, (k0_off25 v26) a + S1x1024x256.size a ≤ S2x1024x256.size a) ∧
  (∀ (k0_h6 : k0_cond6 v18 = 1#1), ∀ (k0_h7 : k0_cond7 v6 = 1#1), ∀ a, (k0_off27 v26) a + S1x1.size a ≤ S2x3.size a) ∧
  (∀ (k0_h6 : k0_cond6 v18 = 1#1), ∀ (k0_h7 : k0_cond7 v6 = 1#1), ∀ a, (k0_off28 v26) a + S1x1.size a ≤ S2x3.size a) ∧
  (∀ (k0_h6 : k0_cond6 v18 = 1#1), ∀ (k0_h7 : k0_cond7 v6 = 1#1), ∀ a, (k0_off29 v26) a + S1x256x1024.size a ≤ S2x256x1024.size a)
theorem k0_off15_inb : ∀ (v6 : BitVec 32) (v18 : BitVec 32) (v26 : BitVec 32) (k0_hw3 : k0_chk3 v6 v18 v26), ∀ (k0_h6 : k0_cond6 v18 = 1#1), ∀ a, (k0_off15 v26) a + S1x1.size a ≤ S2x3.size a := fun v6 v18 v26 k0_hw3 k0_h6 => k0_hw3.1 k0_h6
theorem k0_off16_inb : ∀ (v6 : BitVec 32) (v18 : BitVec 32) (v26 : BitVec 32) (k0_hw3 : k0_chk3 v6 v18 v26), ∀ (k0_h6 : k0_cond6 v18 = 1#1), ∀ a, (k0_off16 v26) a + S1x1024x256.size a ≤ S2x1024x256.size a := fun v6 v18 v26 k0_hw3 k0_h6 => k0_hw3.2.1 k0_h6
theorem k0_off18_inb : ∀ (v6 : BitVec 32) (v18 : BitVec 32) (v26 : BitVec 32) (k0_hw3 : k0_chk3 v6 v18 v26), ∀ (k0_h6 : k0_cond6 v18 = 1#1), ∀ a, (k0_off18 v26) a + S1x1.size a ≤ S2x3.size a := fun v6 v18 v26 k0_hw3 k0_h6 => k0_hw3.2.2.1 k0_h6
theorem k0_off19_inb : ∀ (v6 : BitVec 32) (v18 : BitVec 32) (v26 : BitVec 32) (k0_hw3 : k0_chk3 v6 v18 v26), ∀ (k0_h6 : k0_cond6 v18 = 1#1), ∀ a, (k0_off19 v26) a + S1x1.size a ≤ S2x3.size a := fun v6 v18 v26 k0_hw3 k0_h6 => k0_hw3.2.2.2.1 k0_h6
theorem k0_off20_inb : ∀ (v6 : BitVec 32) (v18 : BitVec 32) (v26 : BitVec 32) (k0_hw3 : k0_chk3 v6 v18 v26), ∀ (k0_h6 : k0_cond6 v18 = 1#1), ∀ a, (k0_off20 v26) a + S1x256x1024.size a ≤ S2x256x1024.size a := fun v6 v18 v26 k0_hw3 k0_h6 => k0_hw3.2.2.2.2.1 k0_h6
theorem k0_off22_inb : ∀ (v6 : BitVec 32) (v18 : BitVec 32) (v26 : BitVec 32) (k0_hw3 : k0_chk3 v6 v18 v26), ∀ (k0_h6 : k0_cond6 v18 = 1#1), ∀ a, (k0_off22 v26) a + S1x1024x256.size a ≤ S2x1024x256.size a := fun v6 v18 v26 k0_hw3 k0_h6 => k0_hw3.2.2.2.2.2.1 k0_h6
theorem k0_off23_inb : ∀ (v6 : BitVec 32) (v18 : BitVec 32) (v26 : BitVec 32) (k0_hw3 : k0_chk3 v6 v18 v26), ∀ (k0_h6 : k0_cond6 v18 = 1#1), ∀ a, (k0_off23 v26) a + S1x256x1024.size a ≤ S2x256x1024.size a := fun v6 v18 v26 k0_hw3 k0_h6 => k0_hw3.2.2.2.2.2.2.1 k0_h6
theorem k0_off24_inb : ∀ (v6 : BitVec 32) (v18 : BitVec 32) (v26 : BitVec 32) (k0_hw3 : k0_chk3 v6 v18 v26), ∀ (k0_h6 : k0_cond6 v18 = 1#1), ∀ (k0_h7 : k0_cond7 v6 = 1#1), ∀ a, (k0_off24 v26) a + S1x1.size a ≤ S2x3.size a := fun v6 v18 v26 k0_hw3 k0_h6 k0_h7 => k0_hw3.2.2.2.2.2.2.2.1 k0_h6 k0_h7
theorem k0_off25_inb : ∀ (v6 : BitVec 32) (v18 : BitVec 32) (v26 : BitVec 32) (k0_hw3 : k0_chk3 v6 v18 v26), ∀ (k0_h6 : k0_cond6 v18 = 1#1), ∀ (k0_h7 : k0_cond7 v6 = 1#1), ∀ a, (k0_off25 v26) a + S1x1024x256.size a ≤ S2x1024x256.size a := fun v6 v18 v26 k0_hw3 k0_h6 k0_h7 => k0_hw3.2.2.2.2.2.2.2.2.1 k0_h6 k0_h7
theorem k0_off27_inb : ∀ (v6 : BitVec 32) (v18 : BitVec 32) (v26 : BitVec 32) (k0_hw3 : k0_chk3 v6 v18 v26), ∀ (k0_h6 : k0_cond6 v18 = 1#1), ∀ (k0_h7 : k0_cond7 v6 = 1#1), ∀ a, (k0_off27 v26) a + S1x1.size a ≤ S2x3.size a := fun v6 v18 v26 k0_hw3 k0_h6 k0_h7 => k0_hw3.2.2.2.2.2.2.2.2.2.1 k0_h6 k0_h7
theorem k0_off28_inb : ∀ (v6 : BitVec 32) (v18 : BitVec 32) (v26 : BitVec 32) (k0_hw3 : k0_chk3 v6 v18 v26), ∀ (k0_h6 : k0_cond6 v18 = 1#1), ∀ (k0_h7 : k0_cond7 v6 = 1#1), ∀ a, (k0_off28 v26) a + S1x1.size a ≤ S2x3.size a := fun v6 v18 v26 k0_hw3 k0_h6 k0_h7 => k0_hw3.2.2.2.2.2.2.2.2.2.2.1 k0_h6 k0_h7
theorem k0_off29_inb : ∀ (v6 : BitVec 32) (v18 : BitVec 32) (v26 : BitVec 32) (k0_hw3 : k0_chk3 v6 v18 v26), ∀ (k0_h6 : k0_cond6 v18 = 1#1), ∀ (k0_h7 : k0_cond7 v6 = 1#1), ∀ a, (k0_off29 v26) a + S1x256x1024.size a ≤ S2x256x1024.size a := fun v6 v18 v26 k0_hw3 k0_h6 k0_h7 => k0_hw3.2.2.2.2.2.2.2.2.2.2.2 k0_h6 k0_h7

def k0_off30 (v6 : BitVec 32) : Fin 3 → Nat :=
  let c0_i32_50 : BitVec 32 := 0#32
  let c0_i32_51 : BitVec 32 := 0#32
  ![v6.toNat, 0, 0]

def k0_chk4 (v4 : BitVec 32) (v6 : BitVec 32) (v18 : BitVec 32) : Prop :=
  (∀ (k0_h6 : k0_cond6 v18 = 1#1), ∀ a, (k0_off17 v4) a + S1x1024x256.size a ≤ S32x1024x256.size a) ∧
  (∀ (k0_h6 : k0_cond6 v18 = 1#1), ∀ a, (k0_off21 v4) a + S1x256x1024.size a ≤ S32x256x1024.size a) ∧
  (∀ (k0_h6 : k0_cond6 v18 = 1#1), ∀ (k0_h7 : k0_cond7 v6 = 1#1), ∀ a, (k0_off26 v6) a + S1x1024x256.size a ≤ S32x1024x256.size a) ∧
  (∀ (k0_h6 : k0_cond6 v18 = 1#1), ∀ (k0_h7 : k0_cond7 v6 = 1#1), ∀ a, (k0_off30 v6) a + S1x256x1024.size a ≤ S32x256x1024.size a)
theorem k0_off17_inb : ∀ (v4 : BitVec 32) (v6 : BitVec 32) (v18 : BitVec 32) (k0_hw4 : k0_chk4 v4 v6 v18), ∀ (k0_h6 : k0_cond6 v18 = 1#1), ∀ a, (k0_off17 v4) a + S1x1024x256.size a ≤ S32x1024x256.size a := fun v4 v6 v18 k0_hw4 k0_h6 => k0_hw4.1 k0_h6
theorem k0_off21_inb : ∀ (v4 : BitVec 32) (v6 : BitVec 32) (v18 : BitVec 32) (k0_hw4 : k0_chk4 v4 v6 v18), ∀ (k0_h6 : k0_cond6 v18 = 1#1), ∀ a, (k0_off21 v4) a + S1x256x1024.size a ≤ S32x256x1024.size a := fun v4 v6 v18 k0_hw4 k0_h6 => k0_hw4.2.1 k0_h6
theorem k0_off26_inb : ∀ (v4 : BitVec 32) (v6 : BitVec 32) (v18 : BitVec 32) (k0_hw4 : k0_chk4 v4 v6 v18), ∀ (k0_h6 : k0_cond6 v18 = 1#1), ∀ (k0_h7 : k0_cond7 v6 = 1#1), ∀ a, (k0_off26 v6) a + S1x1024x256.size a ≤ S32x1024x256.size a := fun v4 v6 v18 k0_hw4 k0_h6 k0_h7 => k0_hw4.2.2.1 k0_h6 k0_h7
theorem k0_off30_inb : ∀ (v4 : BitVec 32) (v6 : BitVec 32) (v18 : BitVec 32) (k0_hw4 : k0_chk4 v4 v6 v18), ∀ (k0_h6 : k0_cond6 v18 = 1#1), ∀ (k0_h7 : k0_cond7 v6 = 1#1), ∀ a, (k0_off30 v6) a + S1x256x1024.size a ≤ S32x256x1024.size a := fun v4 v6 v18 k0_hw4 k0_h6 k0_h7 => k0_hw4.2.2.2 k0_h6 k0_h7

def k0_mult4 (i : grid0.Coords) : BitVec 32 :=
  let arg0 : BitVec 32 := BitVec.ofNat 32 (i 0).val
  let c512_i32 : BitVec 32 := 512#32
  let v25 : BitVec 32 := Scalar.muli arg0 c512_i32
  v25
def k0_off31 (i : grid0.Coords) : Fin 1 → Nat :=
  let arg0 : BitVec 32 := BitVec.ofNat 32 (i 0).val
  let c3_i32 : BitVec 32 := 3#32
  let v27 : BitVec 32 := Scalar.remsi arg0 c3_i32
  ![v27.toNat]
def k0_off32 (i : grid0.Coords) : Fin 3 → Nat :=
  let arg0 : BitVec 32 := BitVec.ofNat 32 (i 0).val
  let c3_i32 : BitVec 32 := 3#32
  let v27 : BitVec 32 := Scalar.remsi arg0 c3_i32
  let c0_i32_7 : BitVec 32 := 0#32
  let c0_i32_8 : BitVec 32 := 0#32
  ![v27.toNat, 0, 0]
def k0_off33 (i : grid0.Coords) : Fin 2 → Nat :=
  let arg0 : BitVec 32 := BitVec.ofNat 32 (i 0).val
  let c512_i32 : BitVec 32 := 512#32
  let v25 : BitVec 32 := Scalar.muli arg0 c512_i32
  let v26 : BitVec 32 := v25
  let c0_i32_9 : BitVec 32 := 0#32
  ![v26.toNat, 0]
def k0_off34 (i : grid0.Coords) : Fin 3 → Nat :=
  let arg0 : BitVec 32 := BitVec.ofNat 32 (i 0).val
  let c3_i32_10 : BitVec 32 := 3#32
  let v34 : BitVec 32 := Scalar.remsi arg0 c3_i32_10
  let v35 : Index := Scalar.indexCast v34
  let c0_11 : Index := 0#32
  let c0_12 : Index := 0#32
  ![v35.toNat, 0, 0]
def k0_cond8 (i : grid0.Coords) (v0 : BitVec 32) : BitVec 1 :=
  let arg0 : BitVec 32 := BitVec.ofNat 32 (i 0).val
  let v22 : BitVec 1 := Scalar.cmpi .slt arg0 v0
  let v23 : BitVec 32 := Scalar.extui v22
  let c0_i32_6 : BitVec 32 := 0#32
  let v24 : BitVec 1 := Scalar.cmpi .ne v23 c0_i32_6
  v24

def cc0_transform_4 (inb_S8x128_S1x1_5_0 : ∀ a, (![5, 0] : Fin 2 → Nat) a + S1x1.size a ≤ S8x128.size a) (numel1_S1x1 : S1x1.numel = 1) (pf : pre0.Contents (Elt F)) (i : grid0.Coords) : Fin 2 → Nat :=
  let arg0 : BitVec 32 := BitVec.ofNat 32 (i 0).val
  let c5 : Index := 5#32
  let c0 : Index := 0#32
  let v0 : BitVec 32 := pf.at 0 (Rect.unit (s := S8x128) ![5, 0] S1x1.size inb_S8x128_S1x1_5_0) numel1_S1x1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference2Ideal.lean ====
abbrev S49152x512 : Shape := ⟨2, ![49152, 512]⟩
abbrev S8x128 : Shape := ⟨2, ![8, 128]⟩
abbrev S1x32x1024x256 : Shape := ⟨4, ![1, 32, 1024, 256]⟩
abbrev S1x32x256x1024 : Shape := ⟨4, ![1, 32, 256, 1024]⟩
abbrev S32x1024x256 : Shape := ⟨3, ![32, 1024, 256]⟩
abbrev S32x256x1024 : Shape := ⟨3, ![32, 256, 1024]⟩
abbrev S49152 : Shape := ⟨1, ![49152]⟩
abbrev S_ : Shape := ⟨0, ![]⟩
abbrev S1x128 : Shape := ⟨2, ![1, 128]⟩
abbrev S128 : Shape := ⟨1, ![128]⟩
abbrev S96 : Shape := ⟨1, ![96]⟩
abbrev S96x1 : Shape := ⟨2, ![96, 1]⟩
abbrev S96x512 : Shape := ⟨2, ![96, 512]⟩
abbrev S49152x1 : Shape := ⟨2, ![49152, 1]⟩
abbrev S49152x512x2 : Shape := ⟨3, ![49152, 512, 2]⟩
abbrev S49152x512x1 : Shape := ⟨3, ![49152, 512, 1]⟩
abbrev S49152x1024 : Shape := ⟨2, ![49152, 1024]⟩
abbrev S1x32 : Shape := ⟨2, ![1, 32]⟩
abbrev S49152x32 : Shape := ⟨2, ![49152, 32]⟩
abbrev S8x1024x256 : Shape := ⟨3, ![8, 1024, 256]⟩
abbrev S49152x8x256 : Shape := ⟨3, ![49152, 8, 256]⟩
abbrev S49152x8 : Shape := ⟨2, ![49152, 8]⟩
abbrev S49152x8x1 : Shape := ⟨3, ![49152, 8, 1]⟩
abbrev S8x256x1024 : Shape := ⟨3, ![8, 256, 1024]⟩

abbrev nBuf : Space → Nat
  | .hbm => 150
  | .vmem => 0
  | .smem => 0
  | _ => 0

abbrev hbmTy0_0 (i : Nat) : BufTy := match i % 128 with
  | 0 => ⟨S49152x512, .i32⟩
  | 1 => ⟨S8x128, .i32⟩
  | 2 => ⟨S1x32x1024x256, .f32⟩
  | 3 => ⟨S1x32x1024x256, .f32⟩
  | 4 => ⟨S1x32x256x1024, .f32⟩
  | 5 => ⟨S32x1024x256, .f32⟩
  | 6 => ⟨S32x1024x256, .f32⟩
  | 7 => ⟨S32x256x1024, .f32⟩
  | 8 => ⟨S49152, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S49152, .i32⟩
  | 16 => ⟨S49152, .i32⟩
  | 17 => ⟨S_, .i32⟩
  | 18 => ⟨S49152, .i32⟩
  | 19 => ⟨S49152, .i1⟩
  | 20 => ⟨S_, .i32⟩
  | 21 => ⟨S49152, .i32⟩
  | 22 => ⟨S49152, .i1⟩
  | 23 => ⟨S_, .i32⟩
  | 24 => ⟨S_, .i1⟩
  | 25 => ⟨S49152, .i1⟩
  | 26 => ⟨S49152, .i1⟩
  | 27 => ⟨S49152, .i1⟩
  | 28 => ⟨S49152, .i32⟩
  | 29 => ⟨S49152, .i32⟩
  | 30 => ⟨S49152, .i32⟩
  | 31 => ⟨S1x128, .i32⟩
  | 32 => ⟨S128, .i32⟩
  | 33 => ⟨S96, .i32⟩
  | 34 => ⟨S96x1, .i32⟩
  | 35 => ⟨S96x512, .i32⟩
  | 36 => ⟨S49152, .i32⟩
  | 37 => ⟨S49152, .i1⟩
  | 38 => ⟨S49152x1, .i1⟩
  | 39 => ⟨S49152x512x2, .bf16⟩
  | 40 => ⟨S49152x512x2, .f32⟩
  | 41 => ⟨S49152x512x1, .f32⟩
  | 42 => ⟨S49152x512, .f32⟩
  | 43 => ⟨S49152x512x1, .f32⟩
  | 44 => ⟨S49152x512, .f32⟩
  | 45 => ⟨S49152x1024, .f32⟩
  | 46 => ⟨S_, .f32⟩
  | 47 => ⟨S_, .f32⟩
  | 48 => ⟨S49152x1024, .i1⟩
  | 49 => ⟨S49152x1024, .f32⟩
  | 50 => ⟨S49152x1024, .f32⟩
  | 51 => ⟨S1x128, .i32⟩
  | 52 => ⟨S128, .i32⟩
  | 53 => ⟨S96, .i32⟩
  | 54 => ⟨S96x1, .i32⟩
  | 55 => ⟨S96x512, .i32⟩
  | 56 => ⟨S49152, .i32⟩
  | 57 => ⟨S49152x1, .i32⟩
  | 58 => ⟨S1x32, .i32⟩
  | 59 => ⟨S49152x32, .i32⟩
  | 60 => ⟨S49152x32, .i32⟩
  | 61 => ⟨S49152x32, .i1⟩
  | 62 => ⟨S49152x32, .f32⟩
  | 63 => ⟨S_, .f32⟩
  | 64 => ⟨S49152x1024, .f32⟩
  | 65 => ⟨S8x1024x256, .f32⟩
  | 66 => ⟨S49152x8x256, .f32⟩
  | 67 => ⟨S49152x8x256, .f32⟩
  | 68 => ⟨S49152x8x256, .f32⟩
  | 69 => ⟨S_, .f32⟩
  | 70 => ⟨S49152x8x256, .f32⟩
  | 71 => ⟨S49152x8x256, .f32⟩
  | 72 => ⟨S_, .f32⟩
  | 73 => ⟨S49152x8x256, .f32⟩
  | 74 => ⟨S49152x8x256, .f32⟩
  | 75 => ⟨S49152x8x256, .f32⟩
  | 76 => ⟨S8x1024x256, .f32⟩
  | 77 => ⟨S49152x8x256, .f32⟩
  | 78 => ⟨S49152x8x256, .f32⟩
  | 79 => ⟨S49152x8, .f32⟩
  | 80 => ⟨S49152x8x1, .f32⟩
  | 81 => ⟨S49152x8x256, .f32⟩
  | 82 => ⟨S49152x8x256, .f32⟩
  | 83 => ⟨S8x256x1024, .f32⟩
  | 84 => ⟨S49152x1024, .f32⟩
  | 85 => ⟨S49152x1024, .f32⟩
  | 86 => ⟨S8x1024x256, .f32⟩
  | 87 => ⟨S49152x8x256, .f32⟩
  | 88 => ⟨S49152x8x256, .f32⟩
  | 89 => ⟨S49152x8x256, .f32⟩
  | 90 => ⟨S_, .f32⟩
  | 91 => ⟨S49152x8x256, .f32⟩
  | 92 => ⟨S49152x8x256, .f32⟩
  | 93 => ⟨S_, .f32⟩
  | 94 => ⟨S49152x8x256, .f32⟩
  | 95 => ⟨S49152x8x256, .f32⟩
  | 96 => ⟨S49152x8x256, .f32⟩
  | 97 => ⟨S8x1024x256, .f32⟩
  | 98 => ⟨S49152x8x256, .f32⟩
  | 99 => ⟨S49152x8x256, .f32⟩
  | 100 => ⟨S49152x8, .f32⟩
  | 101 => ⟨S49152x8x1, .f32⟩
  | 102 => ⟨S49152x8x256, .f32⟩
  | 103 => ⟨S49152x8x256, .f32⟩
  | 104 => ⟨S8x256x1024, .f32⟩
  | 105 => ⟨S49152x1024, .f32⟩
  | 106 => ⟨S49152x1024, .f32⟩
  | 107 => ⟨S8x1024x256, .f32⟩
  | 108 => ⟨S49152x8x256, .f32⟩
  | 109 => ⟨S49152x8x256, .f32⟩
  | 110 => ⟨S49152x8x256, .f32⟩
  | 111 => ⟨S_, .f32⟩
  | 112 => ⟨S49152x8x256, .f32⟩
  | 113 => ⟨S49152x8x256, .f32⟩
  | 114 => ⟨S_, .f32⟩
  | 115 => ⟨S49152x8x256, .f32⟩
  | 116 => ⟨S49152x8x256, .f32⟩
  | 117 => ⟨S49152x8x256, .f32⟩
  | 118 => ⟨S8x1024x256, .f32⟩
  | 119 => ⟨S49152x8x256, .f32⟩
  | 120 => ⟨S49152x8x256, .f32⟩
  | 121 => ⟨S49152x8, .f32⟩
  | 122 => ⟨S49152x8x1, .f32⟩
  | 123 => ⟨S49152x8x256, .f32⟩
  | 124 => ⟨S49152x8x256, .f32⟩
  | 125 => ⟨S8x256x1024, .f32⟩
  | 126 => ⟨S49152x1024, .f32⟩
  | 127 => ⟨S49152x1024, .f32⟩
  | _ => ⟨S49152x512, .i32⟩

abbrev hbmTy0_1 (i : Nat) : BufTy := match i % 128 with
  | 0 => ⟨S8x1024x256, .f32⟩
  | 1 => ⟨S49152x8x256, .f32⟩
  | 2 => ⟨S49152x8x256, .f32⟩
  | 3 => ⟨S49152x8x256, .f32⟩
  | 4 => ⟨S_, .f32⟩
  | 5 => ⟨S49152x8x256, .f32⟩
  | 6 => ⟨S49152x8x256, .f32⟩
  | 7 => ⟨S_, .f32⟩
  | 8 => ⟨S49152x8x256, .f32⟩
  | 9 => ⟨S49152x8x256, .f32⟩
  | 10 => ⟨S49152x8x256, .f32⟩
  | 11 => ⟨S8x1024x256, .f32⟩
  | 12 => ⟨S49152x8x256, .f32⟩
  | 13 => ⟨S49152x8x256, .f32⟩
  | 14 => ⟨S49152x8, .f32⟩
  | 15 => ⟨S49152x8x1, .f32⟩
  | 16 => ⟨S49152x8x256, .f32⟩
  | 17 => ⟨S49152x8x256, .f32⟩
  | 18 => ⟨S8x256x1024, .f32⟩
  | 19 => ⟨S49152x1024, .f32⟩
  | 20 => ⟨S49152x1024, .f32⟩
  | 21 => ⟨S49152x1024, .bf16⟩
  | _ => ⟨S49152x512, .i32⟩

abbrev hbmTy (i : Nat) : BufTy := match i / 128 with
  | 0 => hbmTy0_0 i
  | 1 => hbmTy0_1 i
  | _ => ⟨S49152x512, .i32⟩

abbrev bufTy : (tb : Table) → Fin (tcTables nBuf tb) → BufTy
  | .hbm, ⟨i, _⟩ => hbmTy i
  | _, _ => ⟨S49152x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v27 : Ref sig .tc := ⟨.hbm, 62, rfl⟩
abbrev main_cst_0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_call3_v0 : Ref sig .tc := ⟨.hbm, 67, rfl⟩
abbrev main_call3_v1 : Ref sig .tc := ⟨.hbm, 68, rfl⟩
abbrev main_call3_cst : Ref sig .tc := ⟨.hbm, 69, rfl⟩
abbrev main_call3_v2 : Ref sig .tc := ⟨.hbm, 70, rfl⟩
abbrev main_call3_v3 : Ref sig .tc := ⟨.hbm, 71, rfl⟩
abbrev main_call3_cst_0 : Ref sig .tc := ⟨.hbm, 72, rfl⟩
abbrev main_call3_v4 : Ref sig .tc := ⟨.hbm, 73, rfl⟩
abbrev main_call3_v5 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_call4_v0 : Ref sig .tc := ⟨.hbm, 88, rfl⟩
abbrev main_call4_v1 : Ref sig .tc := ⟨.hbm, 89, rfl⟩
abbrev main_call4_cst : Ref sig .tc := ⟨.hbm, 90, rfl⟩
abbrev main_call4_v2 : Ref sig .tc := ⟨.hbm, 91, rfl⟩
abbrev main_call4_v3 : Ref sig .tc := ⟨.hbm, 92, rfl⟩
abbrev main_call4_cst_0 : Ref sig .tc := ⟨.hbm, 93, rfl⟩
abbrev main_call4_v4 : Ref sig .tc := ⟨.hbm, 94, rfl⟩
abbrev main_call4_v5 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_call5_v0 : Ref sig .tc := ⟨.hbm, 109, rfl⟩
abbrev main_call5_v1 : Ref sig .tc := ⟨.hbm, 110, rfl⟩
abbrev main_call5_cst : Ref sig .tc := ⟨.hbm, 111, rfl⟩
abbrev main_call5_v2 : Ref sig .tc := ⟨.hbm, 112, rfl⟩
abbrev main_call5_v3 : Ref sig .tc := ⟨.hbm, 113, rfl⟩
abbrev main_call5_cst_0 : Ref sig .tc := ⟨.hbm, 114, rfl⟩
abbrev main_call5_v4 : Ref sig .tc := ⟨.hbm, 115, rfl⟩
abbrev main_call5_v5 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_call6_v0 : Ref sig .tc := ⟨.hbm, 130, rfl⟩
abbrev main_call6_v1 : Ref sig .tc := ⟨.hbm, 131, rfl⟩
abbrev main_call6_cst : Ref sig .tc := ⟨.hbm, 132, rfl⟩
abbrev main_call6_v2 : Ref sig .tc := ⟨.hbm, 133, rfl⟩
abbrev main_call6_v3 : Ref sig .tc := ⟨.hbm, 134, rfl⟩
abbrev main_call6_cst_0 : Ref sig .tc := ⟨.hbm, 135, rfl⟩
abbrev main_call6_v4 : Ref sig .tc := ⟨.hbm, 136, rfl⟩
abbrev main_call6_v5 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩

abbrev nD : Nat := 1
abbrev τ : Topo := Topo.v7x

variable {F : FTy → Type} [FloatOps F]
-- ==== Kernel3.lean ====
abbrev S64x1x128 : Shape := ⟨3, ![64, 1, 128]⟩
abbrev S16384x128 : Shape := ⟨2, ![16384, 128]⟩
abbrev S64x128 : Shape := ⟨2, ![64, 128]⟩
abbrev S8x128 : Shape := ⟨2, ![8, 128]⟩
abbrev S32x8x128 : Shape := ⟨3, ![32, 8, 128]⟩
abbrev S4096x128 : Shape := ⟨2, ![4096, 128]⟩
abbrev S128 : Shape := ⟨1, ![128]⟩
abbrev S1x128 : Shape := ⟨2, ![1, 128]⟩
abbrev S128x128 : Shape := ⟨2, ![128, 128]⟩
abbrev S64x64 : Shape := ⟨2, ![64, 64]⟩
abbrev S1 : Shape := ⟨1, ![1]⟩
abbrev S1x1 : Shape := ⟨2, ![1, 1]⟩
abbrev S128x1 : Shape := ⟨2, ![128, 1]⟩
abbrev S256x256 : Shape := ⟨2, ![256, 256]⟩
abbrev S256x128 : Shape := ⟨2, ![256, 128]⟩
abbrev S128x256 : Shape := ⟨2, ![128, 256]⟩
abbrev S32x256 : Shape := ⟨2, ![32, 256]⟩
abbrev S256 : Shape := ⟨1, ![256]⟩
abbrev S1x256 : Shape := ⟨2, ![1, 256]⟩
abbrev S8x256 : Shape := ⟨2, ![8, 256]⟩
abbrev S1x1x128 : Shape := ⟨3, ![1, 1, 128]⟩

abbrev nBuf : Space → Nat
  | .hbm => 7
  | .vmem => 7
  | .smem => 0
  | _ => 0

abbrev bufTy : (tb : Table) → Fin (tcTables nBuf tb) → BufTy
  | .hbm, ⟨0, _⟩ => ⟨S64x1x128, .f32⟩
  | .hbm, ⟨1, _⟩ => ⟨S16384x128, .f32⟩
  | .hbm, ⟨2, _⟩ => ⟨S64x128, .f32⟩
  | .hbm, ⟨3, _⟩ => ⟨S64x128, .f32⟩
  | .hbm, ⟨4, _⟩ => ⟨S8x128, .i32⟩
  | .hbm, ⟨5, _⟩ => ⟨S32x8x128, .i32⟩
  | .hbm, ⟨6, _⟩ => ⟨S32x8x128, .i32⟩
  | .local _ .vmem, ⟨0, _⟩ => ⟨S64x128, .f32⟩
  | .local _ .vmem, ⟨1, _⟩ => ⟨S4096x128, .f32⟩
  | .local _ .vmem, ⟨2, _⟩ => ⟨S4096x128, .f32⟩
  | .local _ .vmem, ⟨3, _⟩ => ⟨S64x128, .f32⟩
  | .local _ .vmem, ⟨4, _⟩ => ⟨S8x128, .i32⟩
  | .local _ .vmem, ⟨5, _⟩ => ⟨S32x8x128, .i32⟩
  | .local _ .vmem, ⟨6, _⟩ => ⟨S32x8x128, .i32⟩
  | _, _ => ⟨S64x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_4 : BitVec 32 := 0#32
  let c16_i32 : BitVec 32 := 16#32
  let v17 : BitVec 32 := Scalar.addi c0_i32_4 c16_i32
  let c1_i32 : BitVec 32 := 1#32
  ⟨c0_i32_4, v17, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c256_i32 : BitVec 32 := 256#32
  let v20 : BitVec 32 := Scalar.muli arg7 c256_i32
  v20
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c256_i32 : BitVec 32 := 256#32
  let v20 : BitVec 32 := Scalar.muli arg7 c256_i32
  let v21 : BitVec 32 := v20
  let v22 : Index := Scalar.indexCast v21
  let c0 : Index := 0#32
  ![v22.toNat, 0]
def k0_off2 (i : grid0.Coords) (k0_t1 : Fin k0_t1_loop.trips) : Fin 2 → Nat :=
  let arg0 : BitVec 32 := BitVec.ofNat 32 (i 0).val
  let c16_i32_6 : BitVec 32 := 16#32
  let v18 : BitVec 32 := Scalar.muli arg0 c16_i32_6
  let c0_i32_4 : BitVec 32 := 0#32
  let c1_i32 : BitVec 32 := 1#32
  let arg7 : BitVec 32 := Scf.iv c0_i32_4 c1_i32 k0_t1
  let v19 : BitVec 32 := Scalar.addi v18 arg7
  let v43 : Index := Scalar.indexCast v19
  let c0_13 : Index := 0#32
  ![v43.toNat, 0]
def k0_off3 (i : grid0.Coords) (k0_t1 : Fin k0_t1_loop.trips) (c0_i32_36 : BitVec 32) : Fin 3 → Nat :=
  let arg0 : BitVec 32 := BitVec.ofNat 32 (i 0).val
  let c16_i32_6 : BitVec 32 := 16#32
  let v18 : BitVec 32 := Scalar.muli arg0 c16_i32_6
  let c0_i32_4 : BitVec 32 := 0#32
  let c1_i32 : BitVec 32 := 1#32
  let arg7 : BitVec 32 := Scf.iv c0_i32_4 c1_i32 k0_t1
  let v19 : BitVec 32 := Scalar.addi v18 arg7
  let c0_i32_28 : BitVec 32 := 0#32
  let v90 : BitVec 1 := Scalar.cmpi .sgt v19 c0_i32_28
  let v91 : BitVec 32 := Scalar.extui v90
  let c0_i32_29 : BitVec 32 := 0#32
  let v92 : BitVec 1 := Scalar.cmpi .slt v19 c0_i32_29
  let v93 : BitVec 32 := Scalar.extui v92
  let v94 : BitVec 32 := Scalar.subi v91 v93
  let c2_i32_27 : BitVec 32 := 2#32
  let c0_i32_30 : BitVec 32 := 0#32
  let v95 : BitVec 1 := Scalar.cmpi .sgt c2_i32_27 c0_i32_30
  let v96 : BitVec 32 := Scalar.extui v95
  let c0_i32_31 : BitVec 32 := 0#32
  let v97 : BitVec 1 := Scalar.cmpi .slt c2_i32_27 c0_i32_31
  let v98 : BitVec 32 := Scalar.extui v97
  let v99 : BitVec 32 := Scalar.subi v96 v98
  let v100 : BitVec 1 := Scalar.cmpi .ne v94 v99
  let v101 : BitVec 32 := Scalar.remsi v19 c2_i32_27
  let c0_i32_32 : BitVec 32 := 0#32
  let v102 : BitVec 1 := Scalar.cmpi .ne v101 c0_i32_32
  let v103 : BitVec 1 := Scalar.andi v100 v102
  let v89 : BitVec 32 := Scalar.divsi v19 c2_i32_27
  let c1_i32_33 : BitVec 32 := 1#32
  let v104 : BitVec 32 := Scalar.subi v89 c1_i32_33
  let v105 : BitVec 32 := Scalar.select v103 v104 v89
  let v114 : Index := Scalar.indexCast v105
  let c2_i32_34 : BitVec 32 := 2#32
  let v106 : BitVec 32 := Scalar.remsi v19 c2_i32_34
  let c2_i32_35 : BitVec 32 := 2#32
  let v107 : BitVec 32 := Scalar.muli v106 c2_i32_35
  let v113 : BitVec 32 := Scalar.addi v107 c0_i32_36
  let v115 : Index := Scalar.indexCast v113
  let c0_37 : Index := 0#32
  ![v114.toNat, v115.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x8x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S64x1x128 : Shape := ⟨3, ![64, 1, 128]⟩
abbrev S16384x128 : Shape := ⟨2, ![16384, 128]⟩
abbrev S64x128 : Shape := ⟨2, ![64, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S6x128 : Shape := ⟨2, ![6, 128]⟩
abbrev S8x128 : Shape := ⟨2, ![8, 128]⟩

abbrev nBuf : Space → Nat
  | .hbm => 193
  | .vmem => 0
  | .smem => 0
  | _ => 0

abbrev hbmTy0_0 (i : Nat) : BufTy := match i % 128 with
  | 0 => ⟨S64x1x128, .f32⟩
  | 1 => ⟨S16384x128, .f32⟩
  | 2 => ⟨S64x128, .f32⟩
  | 3 => ⟨S_, .f32⟩
  | 4 => ⟨S128, .f32⟩
  | 5 => ⟨S_, .f32⟩
  | 6 => ⟨S128, .f32⟩
  | 7 => ⟨S128, .f32⟩
  | 8 => ⟨S128, .f32⟩
  | 9 => ⟨S128, .i32⟩
  | 10 => ⟨S128x1, .i32⟩
  | 11 => ⟨S1x128, .i32⟩
  | 12 => ⟨S128x128, .i32⟩
  | 13 => ⟨S128x128, .i32⟩
  | 14 => ⟨S128x128, .i1⟩
  | 15 => ⟨S_, .f32⟩
  | 16 => ⟨S_, .f32⟩
  | 17 => ⟨S128x128, .f32⟩
  | 18 => ⟨S128x128, .f32⟩
  | 19 => ⟨S128x128, .f32⟩
  | 20 => ⟨S_, .f32⟩
  | 21 => ⟨S128, .f32⟩
  | 22 => ⟨S128, .f32⟩
  | 23 => ⟨S_, .f32⟩
  | 24 => ⟨S_, .f32⟩
  | 25 => ⟨S128, .i32⟩
  | 26 => ⟨S128, .f32⟩
  | 27 => ⟨S_, .i32⟩
  | 28 => ⟨S128, .i32⟩
  | 29 => ⟨S128, .i1⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128x1, .f32⟩
  | 37 => ⟨S1x128, .f32⟩
  | 38 => ⟨S128x128, .f32⟩
  | 39 => ⟨S128x128, .f32⟩
  | 40 => ⟨S128x128, .i1⟩
  | 41 => ⟨S1x128, .i1⟩
  | 42 => ⟨S128x128, .i1⟩
  | 43 => ⟨S128x128, .i1⟩
  | 44 => ⟨S_, .f32⟩
  | 45 => ⟨S_, .f32⟩
  | 46 => ⟨S128x128, .f32⟩
  | 47 => ⟨S128x128, .f32⟩
  | 48 => ⟨S128x128, .f32⟩
  | 49 => ⟨S128x128, .f32⟩
  | 50 => ⟨S_, .f32⟩
  | 51 => ⟨S128, .f32⟩
  | 52 => ⟨S_, .f32⟩
  | 53 => ⟨S128, .f32⟩
  | 54 => ⟨S128, .f32⟩
  | 55 => ⟨S128, .i32⟩
  | 56 => ⟨S128, .f32⟩
  | 57 => ⟨S128, .i1⟩
  | 58 => ⟨S_, .i32⟩
  | 59 => ⟨S128, .i32⟩
  | 60 => ⟨S128, .i1⟩
  | 61 => ⟨S_, .i32⟩
  | 62 => ⟨S128, .i32⟩
  | 63 => ⟨S128, .i32⟩
  | 64 => ⟨S128, .i32⟩
  | 65 => ⟨S128x1, .i32⟩
  | 66 => ⟨S128, .f32⟩
  | 67 => ⟨S_, .i32⟩
  | 68 => ⟨S128, .i32⟩
  | 69 => ⟨S128, .i1⟩
  | 70 => ⟨S_, .i32⟩
  | 71 => ⟨S128, .i32⟩
  | 72 => ⟨S128, .i32⟩
  | 73 => ⟨S128, .i32⟩
  | 74 => ⟨S128x1, .i32⟩
  | 75 => ⟨S128, .f32⟩
  | 76 => ⟨S128, .f32⟩
  | 77 => ⟨S_, .f32⟩
  | 78 => ⟨S128, .f32⟩
  | 79 => ⟨S128, .f32⟩
  | 80 => ⟨S128, .f32⟩
  | 81 => ⟨S_, .f32⟩
  | 82 => ⟨S_, .f32⟩
  | 83 => ⟨S_, .f32⟩
  | 84 => ⟨S128, .f32⟩
  | 85 => ⟨S128, .f32⟩
  | 86 => ⟨S_, .f32⟩
  | 87 => ⟨S128, .f32⟩
  | 88 => ⟨S128, .f32⟩
  | 89 => ⟨S_, .f32⟩
  | 90 => ⟨S_, .f32⟩
  | 91 => ⟨S128, .f32⟩
  | 92 => ⟨S128, .f32⟩
  | 93 => ⟨S128, .f32⟩
  | 94 => ⟨S128, .i1⟩
  | 95 => ⟨S_, .i32⟩
  | 96 => ⟨S128, .i32⟩
  | 97 => ⟨S128, .i1⟩
  | 98 => ⟨S_, .i32⟩
  | 99 => ⟨S128, .i32⟩
  | 100 => ⟨S128, .i32⟩
  | 101 => ⟨S128, .i32⟩
  | 102 => ⟨S128x1, .i32⟩
  | 103 => ⟨S128, .f32⟩
  | 104 => ⟨S128, .i1⟩
  | 105 => ⟨S128, .i1⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S128, .f32⟩
  | 113 => ⟨S128, .i1⟩
  | 114 => ⟨S128, .i1⟩
  | 115 => ⟨S128x1, .i32⟩
  | 116 => ⟨S1x128, .i32⟩
  | 117 => ⟨S128x128, .i32⟩
  | 118 => ⟨S128x128, .i32⟩
  | 119 => ⟨S128x128, .i1⟩
  | 120 => ⟨S1x128, .i1⟩
  | 121 => ⟨S128x128, .i1⟩
  | 122 => ⟨S128x128, .i1⟩
  | 123 => ⟨S128, .f32⟩
  | 124 => ⟨S_, .f32⟩
  | 125 => ⟨S_, .f32⟩
  | 126 => ⟨S128x128, .f32⟩
  | 127 => ⟨S128x128, .f32⟩
  | _ => ⟨S64x1x128, .f32⟩

abbrev hbmTy0_1 (i : Nat) : BufTy := match i % 128 with
  | 0 => ⟨S128x128, .f32⟩
  | 1 => ⟨S_, .f32⟩
  | 2 => ⟨S128, .f32⟩
  | 3 => ⟨S_, .f32⟩
  | 4 => ⟨S128, .f32⟩
  | 5 => ⟨S128, .i1⟩
  | 6 => ⟨S_, .f32⟩
  | 7 => ⟨S_, .f32⟩
  | 8 => ⟨S128, .f32⟩
  | 9 => ⟨S128, .f32⟩
  | 10 => ⟨S128x1, .i32⟩
  | 11 => ⟨S1x128, .i32⟩
  | 12 => ⟨S128x128, .i32⟩
  | 13 => ⟨S128x128, .i32⟩
  | 14 => ⟨S128x128, .i1⟩
  | 15 => ⟨S1x128, .i1⟩
  | 16 => ⟨S128x128, .i1⟩
  | 17 => ⟨S128x128, .i1⟩
  | 18 => ⟨S_, .f32⟩
  | 19 => ⟨S_, .f32⟩
  | 20 => ⟨S128x128, .f32⟩
  | 21 => ⟨S128x128, .f32⟩
  | 22 => ⟨S128x128, .f32⟩
  | 23 => ⟨S128x128, .f32⟩
  | 24 => ⟨S_, .f32⟩
  | 25 => ⟨S128, .f32⟩
  | 26 => ⟨S_, .i32⟩
  | 27 => ⟨S128, .i32⟩
  | 28 => ⟨S128, .i1⟩
  | 29 => ⟨S_, .i32⟩
  | 30 => ⟨S128, .i32⟩
  | 31 => ⟨S128, .i32⟩
  | 32 => ⟨S128, .i32⟩
  | 33 => ⟨S128x1, .i32⟩
  | 34 => ⟨S128, .f32⟩
  | 35 => ⟨S_, .f32⟩
  | 36 => ⟨S128, .f32⟩
  | 37 => ⟨S128, .f32⟩
  | 38 => ⟨S128, .f32⟩
  | 39 => ⟨S_, .f32⟩
  | 40 => ⟨S128, .f32⟩
  | 41 => ⟨S128, .f32⟩
  | 42 => ⟨S128, .f32⟩
  | 43 => ⟨S_, .i32⟩
  | 44 => ⟨S128, .i32⟩
  | 45 => ⟨S128, .i1⟩
  | 46 => ⟨S_, .i32⟩
  | 47 => ⟨S128, .i32⟩
  | 48 => ⟨S128, .i32⟩
  | 49 => ⟨S128, .i32⟩
  | 50 => ⟨S128x1, .i32⟩
  | 51 => ⟨S128, .f32⟩
  | 52 => ⟨S128, .f32⟩
  | 53 => ⟨S128, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S6x128, .f32⟩
  | 61 => ⟨S_, .i32⟩
  | 62 => ⟨S_, .f32⟩
  | 63 => ⟨S8x128, .f32⟩
  | 64 => ⟨S8x128, .i32⟩
  | _ => ⟨S64x1x128, .f32⟩

abbrev hbmTy (i : Nat) : BufTy := match i / 128 with
  | 0 => hbmTy0_0 i
  | 1 => hbmTy0_1 i
  | _ => ⟨S64x1x128, .f32⟩

abbrev bufTy : (tb : Table) → Fin (tcTables nBuf tb) → BufTy
  | .hbm, ⟨i, _⟩ => hbmTy i
  | _, _ => ⟨S64x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_c_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_12 : Ref sig .tc := ⟨.hbm, 67, rfl⟩
abbrev main_v46 : Ref sig .tc := ⟨.hbm, 68, rfl⟩
abbrev main_v47 : Ref sig .tc := ⟨.hbm, 69, rfl⟩
abbrev main_c_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_cst_16 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v57 : Ref sig .tc := ⟨.hbm, 88, rfl⟩
abbrev main_cst_17 : Ref sig .tc := ⟨.hbm, 89, rfl⟩
abbrev main_call3_v0 : Ref sig .tc := ⟨.hbm, 90, rfl⟩
abbrev main_call3_v1 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_18 : Ref sig .tc := ⟨.hbm, 95, rfl⟩
abbrev main_v61 : Ref sig .tc := ⟨.hbm, 96, rfl⟩
abbrev main_v62 : Ref sig .tc := ⟨.hbm, 97, rfl⟩
abbrev main_c_19 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_20 : Ref sig .tc := ⟨.hbm, 106, rfl⟩
abbrev main_cst_21 : Ref sig .tc := ⟨.hbm, 107, rfl⟩
abbrev main_call4_v0 : Ref sig .tc := ⟨.hbm, 108, rfl⟩
abbrev main_call4_v1 : Ref sig .tc := ⟨.hbm, 109, rfl⟩
abbrev main_v70 : Ref sig .tc := ⟨.hbm, 110, rfl⟩
abbrev main_cst_22 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_23 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_v83 : Ref sig .tc := ⟨.hbm, 128, rfl⟩
abbrev main_cst_24 : Ref sig .tc := ⟨.hbm, 129, rfl⟩
abbrev main_v84 : Ref sig .tc := ⟨.hbm, 130, rfl⟩
abbrev main_cst_25 : Ref sig .tc := ⟨.hbm, 131, rfl⟩
abbrev main_v85 : Ref sig .tc := ⟨.hbm, 132, rfl⟩
abbrev main_v86 : Ref sig .tc := ⟨.hbm, 133, rfl⟩
abbrev main_cst_26 : Ref sig .tc := ⟨.hbm, 134, rfl⟩
abbrev main_call6_v0 : Ref sig .tc := ⟨.hbm, 135, rfl⟩
abbrev main_call6_v1 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_27 : Ref sig .tc := ⟨.hbm, 146, rfl⟩
abbrev main_cst_28 : Ref sig .tc := ⟨.hbm, 147, rfl⟩
abbrev main_call7_v0 : Ref sig .tc := ⟨.hbm, 148, rfl⟩
abbrev main_call7_v1 : Ref sig .tc := ⟨.hbm, 149, rfl⟩
abbrev main_v96 : Ref sig .tc := ⟨.hbm, 150, rfl⟩
abbrev main_v97 : Ref sig .tc := ⟨.hbm, 151, rfl⟩
abbrev main_cst_29 : Ref sig .tc := ⟨.hbm, 152, rfl⟩
abbrev main_v98 : Ref sig .tc := ⟨.hbm, 153, rfl⟩
abbrev main_c_30 : Ref sig .tc := ⟨.hbm, 154, rfl⟩
abbrev main_v99 : Ref sig .tc := ⟨.hbm, 155, rfl⟩
abbrev main_v100 : Ref sig .tc := ⟨.hbm, 156, rfl⟩
abbrev main_c_31 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_32 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_33 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_34 : Ref sig .tc := ⟨.hbm, 171, rfl⟩
abbrev main_v112 : Ref sig .tc := ⟨.hbm, 172, rfl⟩
abbrev main_v113 : Ref sig .tc := ⟨.hbm, 173, rfl⟩
abbrev main_c_35 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_c_36 : Ref sig .tc := ⟨.hbm, 189, rfl⟩
abbrev main_call8_v0 : Ref sig .tc := ⟨.hbm, 190, rfl⟩
abbrev main_v128 : Ref sig .tc := ⟨.hbm, 191, rfl⟩
abbrev main_v129 : Ref sig .tc := ⟨.hbm, 192, rfl⟩

abbrev nD : Nat := 1
abbrev τ : Topo := Topo.v7x

variable {F : FTy → Type} [FloatOps F]
-- ==== Proof.Ple.Setup.lean ====
/- What the runs of the per-layer-embedding kernel are stated over: the branch conditions at each point,
   the staging, scratch and HBM memrefs, the kernel's own semaphore cells, and what the launch hands over. -/
module

public import proofs.«01_k».proof.Proof.Gen.Kernel.Frame
public import proofs.«01_k».proof.Proof.Gen.Kernel.Skeleton

@[expose] public section

set_option maxRecDepth 16384

noncomputable section

namespace Cert.Kernel.Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points before point 14 — decided over the grid. -/
theorem hcond0_1 : ∀ t : Fin cfg0.N, cond0_1 (grid0.coords t) ↔ t.val < 14 :=
  (by decide +kernel : ∀ t : Fin grid0.N, cond0_1 (grid0.coords t) ↔ t.val < 14)

/-! ## The kernel body on any staging memrefs: a subtype the run finds -/

/-- Each window's current staging memref at point `t`, spelled as the pipeline passes it (`bodyAt0`), and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x1024 .bf16 := Memref.whole cc0_scratch0
abbrev scM0_1 : Memref sig .tc .vmem S1024x1024 .bf16 := Memref.whole cc0_scratch1
abbrev scM0_2 : Memref sig .tc .vmem S3x1024x1024 .f32 := Memref.whole cc0_scratch2
abbrev scM0_3 : Memref sig .tc .vmem S3x1024x512 .i32 := Memref.whole cc0_scratch3
abbrev scM0_4 : Memref sig .tc .vmem S3x1024x512 .i32 := Memref.whole cc0_scratch4
/-- The operands left in HBM that the body copies into scratch itself, whole. -/
abbrev hbM0_0 : Memref sig .tc .hbm S16384x1024 .f32 := Memref.whole main_arg0
abbrev hbM0_1 : Memref sig .tc .hbm S16384x512 .i32 := Memref.whole main_arg1
abbrev hbM0_2 : Memref sig .tc .hbm S16384x512 .i32 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 9 → SemLoc sig := fun j => (![SemLoc.dma 10, SemLoc.dma 11, SemLoc.dma 12, SemLoc.dma 13, SemLoc.dma 14, SemLoc.dma 15, SemLoc.dma 16, SemLoc.dma 17, SemLoc.dma 18] : Fin 9 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8] (by decide) (by decide)]; rfl
/-- The HBM operands the body moves, as references: unscoped, no window's array (`Pipeline.restRefs`). -/
def H0 : Finset (Ref sig .tc) := {main_arg0, main_arg1, main_arg2}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_arg1) ∗ hbPt0 c hbM0_2 (V m c main_arg2)) := by
  rw [BI.bigSep_eq_bigSepL_of_eq [main_arg0, main_arg1, main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg0) ∗ hbPt0 c hbM0_1 (V m c main_arg1) ∗ hbPt0 c hbM0_2 (V m c main_arg2))) := by
  rw [Pipeline.ΦD_eq, scopedRest0_eq, ownSems00_eq, hbmPts0_eq]; simp only [scM0_0, scM0_1, scM0_2, scM0_3, scM0_4, owns_whole]; try rfl

/-! ## Entering the region -/

/-- The host operations run, then the region: over the algebra that counts the kernel's own transfers. -/
theorem region_entry (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

end Cert.Kernel.Ple

end
-- ==== Proof.Ple.RingX.lean ====
/- The ring that streams the residual rows `x1`: three slots, blocks fetched two ahead. Its slots, cells and
   blocks, what the launch hands it, and the names the body's transfers have at each point. -/
module

public import proofs.«01_k».proof.Proof.Ple.Setup

@[expose] public section

set_option maxRecDepth 16384

noncomputable section

namespace Cert.Kernel.Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## Ring 0 of kernel 0: `main_arg0` streamed through the 3 slots of `cc0_scratch2` on the cells of `cc0_scratch5`, 2 block ahead, in 16 steps -/

instance : NeZero grid0.N := ⟨by rw [N_0]; decide⟩
theorem inb_slot0_0 (s : Fin 3) : ∀ a, (![s.val, 0, 0] : Fin 3 → Nat) a + S1x1024x1024.size a ≤ S3x1024x1024.size a := by
  have := s.isLt; intro a; fin_cases a <;> simp <;> omega
theorem inb_src0_0 (b : Fin 16) : ∀ a, (![1024 * b.val, 0] : Fin 2 → Nat) a + S1024x1024.size a ≤ S16384x1024.size a := by
  have := b.isLt; intro a; fin_cases a <;> simp <;> omega
theorem inb_cell0_0 (s : Fin 3) : ∀ a, (![0, s.val] : Fin 2 → Nat) a + S1x1.size a ≤ S3x3.size a := by
  have := s.isLt; intro a; fin_cases a <;> simp <;> omega
/-- Slot `s` of the ring, spelt as the body's transfers spell their destination, at offsets in `s`. -/
def rslot0_0 (s : Fin 3) : Memref sig .tc .vmem S1024x1024 .f32 :=
  (scM0_2.slice (Rect.unit (s := S3x1024x1024) ![s.val, 0, 0] S1x1024x1024.size (inb_slot0_0 s)) (fun _ => rfl)).squeeze S1024x1024 squeezes_S1x1024x1024_S1024x1024
/-- Block `b` of the operand (the block step `b` waits), spelt as the transfers spell their source, at offsets in `b`. -/
def srcB0_0 (b : Fin 16) : Memref sig .tc .hbm S1024x1024 .f32 :=
  hbM0_0.slice (Rect.unit (s := S16384x1024) ![1024 * b.val, 0] S1024x1024.size (inb_src0_0 b)) (fun _ => rfl)
/-- Cell `s` of `cc0_scratch5`, spelt as the body spells a cell; its number in the pool. -/
def cellA0_0 (s : Fin 3) : DmaSems sig S_ := (cc0_scratch5.slice (Rect.unit (s := S3x3) ![0, s.val] S1x1.size (inb_cell0_0 s))).squeeze S_ squeezes_S1x1_S_
abbrev cellR0_0 (s : Fin 3) : SemLoc sig := SemLoc.dma (cellA0_0 s).sem
theorem cellR0_0_0 : cellR0_0 0 = SemLoc.dma 10 := by decide
theorem cellR0_0_1 : cellR0_0 1 = SemLoc.dma 11 := by decide
theorem cellR0_0_2 : cellR0_0 2 = SemLoc.dma 12 := by decide

section Ring0_0
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 16) : sProp 𝕄 := (srcB0_0 b).view.loc (c : Thread nD τ) ↦[(srcB0_0 b).view.set]{qs0_0 s} W
/-- (a `def`: no run reads this rest, and folded it stays out of the executor's table of held buffers) -/
def restP0_0 (s : Fin 3) (b : Fin 16) : sProp 𝕄 := ((c : Thread nD τ).loc main_arg0) ↦[Finset.univ \ (srcB0_0 b).view.set]{qs0_0 s} W
abbrev wholeP0_0 (s : Fin 3) : sProp 𝕄 := ((c : Thread nD τ).loc main_arg0) ↦[Finset.univ]{qs0_0 s} W
abbrev landed0_0 (s : Fin 3) (b : Fin 16) (f : HbBuf0 (F := F) c (rslot0_0 s)) : HbBuf0 (F := F) c (rslot0_0 s) :=
  (rslot0_0 s).view.writes (Elt F) f [⟨Rect.whole S1024x1024, ReadAs.same.apply ((srcB0_0 b).view.read (Elt F) W)⟩]
abbrev flightP0_0 (s : Fin 3) (b : Fin 16) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 16) (f : HbBuf0 (F := F) c (rslot0_0 s)) : sProp 𝕄 := iprop(flightP0_0 c W s b f ∗ restP0_0 c W s b)
abbrev noHome0_0 (b : Fin 16) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 10) 0 := congrArg (fun x => (semVal ((c : Thread nD τ), x) 0 : sProp 𝕄)) cellR0_0_0
omit [FloatOps F] in
theorem cellP0_0_1 : cellP0_0 (F := F) c 1 = semVal ((c : Thread nD τ), SemLoc.dma 11) 0 := congrArg (fun x => (semVal ((c : Thread nD τ), x) 0 : sProp 𝕄)) cellR0_0_1
omit [FloatOps F] in
theorem cellP0_0_2 : cellP0_0 (F := F) c 2 = semVal ((c : Thread nD τ), SemLoc.dma 12) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x1024x1024.Idx := (Rect.unit (s := S3x1024x1024) ![s.val, 0, 0] S1x1024x1024.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x1024x1024) (0 : Fin 3) 1 (fun s : Fin 3 => (![s.val, 0, 0] : Fin 3 → Nat)) S1x1024x1024.size inb_slot0_0 (fun s => by simp) rfl s s' h
theorem slots0_0_cover : Finset.univ.biUnion slotSet0_0 = Finset.univ :=
  Ring.lead_cover (s := S3x1024x1024) (0 : Fin 3) 1 (fun s : Fin 3 => (![s.val, 0, 0] : Fin 3 → Nat)) S1x1024x1024.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch2) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 16) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_2 fullShare d) ⊢ (iprop((∃ f, slotP0_0 (F := F) c 0 f) ∗ (∃ f, slotP0_0 (F := F) c 1 f) ∗ ∃ f, slotP0_0 (F := F) c 2 f) : sProp 𝕄) := by
  simp only [scM0_2, owns_whole]
  exact Ring.slots3_split (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_2 fullShare d) := by
  simp only [scM0_2, owns_whole]
  exact Ring.slots3_join (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_2 fullShare d) ∗ (semVal ((c : Thread nD τ), SemLoc.dma 10) 0 ∗ semVal ((c : Thread nD τ), SemLoc.dma 11) 0 ∗ semVal ((c : Thread nD τ), SemLoc.dma 12) 0) ∗ hbPt0 c hbM0_0 (V m c main_arg0))
      ⊢ ringAt0_0 c (V m c main_arg0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_arg0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_arg0) 16
      ⊢ iprop((∃ d, owns (c : Thread nD τ) scM0_2 fullShare d) ∗ (semVal ((c : Thread nD τ), SemLoc.dma 10) 0 ∗ semVal ((c : Thread nD τ), SemLoc.dma 11) 0 ∗ semVal ((c : Thread nD τ), SemLoc.dma 12) 0) ∗ hbPt0 c hbM0_0 (V m c main_arg0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_arg0)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 2 < 16 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ 16 ≤ t.val + 2 ∧ t.val < 16 ∧ (t.val + 1) = t.val + 1 := by decide +kernel
set_option synthInstance.maxSize 4096 in
theorem coff0_0_1 : ∀ t : Fin grid0.N, cond0_0 (grid0.coords t) → cond0_1 (grid0.coords t) → k0_off2 0#32 = ![(Ring.sl 3 t.val).val, 0, 0] := by decide +kernel
@[sl_canon] theorem canon0_0_1 (t : Fin grid0.N) (h0 : cond0_0 (grid0.coords t)) (h1 : cond0_1 (grid0.coords t)) :
    (scM0_2.slice (Rect.unit (s := S3x1024x1024) (k0_off2 0#32) S1x1024x1024.size (k0_off2_inb (grid0.coords t) h0 0)) (fun _ => rfl)).squeeze S1024x1024 squeezes_S1x1024x1024_S1024x1024 = rslot0_0 (Ring.sl 3 t.val) :=
  congrArg (fun M : Memref sig .tc .vmem S1x1024x1024 .f32 => M.squeeze S1024x1024 squeezes_S1x1024x1024_S1024x1024) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → k0_off1 0#32 = ![0, (Ring.sl 3 t.val).val] := by decide +kernel
@[sl_canon] theorem canon0_0_2 (t : Fin grid0.N) (h0 : cond0_0 (grid0.coords t)) (h1 : cond0_1 (grid0.coords t)) :
    (cc0_scratch5.slice (Rect.unit (s := S3x3) (k0_off1 0#32) S1x1.size (k0_off1_inb (grid0.coords t) h0 0))).squeeze S_ squeezes_S1x1_S_ = cellA0_0 (Ring.sl 3 t.val) :=
  congrArg (fun A : DmaSems sig S1x1 => A.squeeze S_ squeezes_S1x1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0] : Fin 2 → Nat) = ![1024 * (Ring.bk 16 t.val).val, 0] := by decide +kernel
@[sl_canon] theorem canon0_0_3 (t : Fin grid0.N) (h0 : cond0_0 (grid0.coords t)) (h1 : cond0_1 (grid0.coords t)) :
    hbM0_0.slice (Rect.unit (s := S16384x1024) ![0, 0] S1024x1024.size inb_S16384x1024_S1024x1024_0_0) (fun _ => rfl) = srcB0_0 (Ring.bk 16 t.val) :=
  congrArg (fun M : Memref sig .tc .hbm S1024x1024 .f32 => M) (Memref.slice_unit_congr _ (coff0_0_3 t h0 h1) _ _ (fun _ => rfl) (fun _ => rfl))
set_option synthInstance.maxSize 4096 in
theorem coff0_0_4 : ∀ t : Fin grid0.N, cond0_0 (grid0.coords t) → cond0_1 (grid0.coords t) → k0_off2 1#32 = ![(Ring.sl 3 (t.val + 1)).val, 0, 0] := by decide +kernel
@[sl_canon] theorem canon0_0_4 (t : Fin grid0.N) (h0 : cond0_0 (grid0.coords t)) (h1 : cond0_1 (grid0.coords t)) :
    (scM0_2.slice (Rect.unit (s := S3x1024x1024) (k0_off2 1#32) S1x1024x1024.size (k0_off2_inb (grid0.coords t) h0 1)) (fun _ => rfl)).squeeze S1024x1024 squeezes_S1x1024x1024_S1024x1024 = rslot0_0 (Ring.sl 3 (t.val + 1)) :=
  congrArg (fun M : Memref sig .tc .vmem S1x1024x1024 .f32 => M.squeeze S1024x1024 squeezes_S1x1024x1024_S1024x1024) (Memref.slice_unit_congr _ (coff0_0_4 t h0 h1) _ _ (fun _ => rfl) (fun _ => rfl))
set_option synthInstance.maxSize 4096 in
theorem coff0_0_5 : ∀ t : Fin grid0.N, cond0_0 (grid0.coords t) → cond0_1 (grid0.coords t) → k0_off1 1#32 = ![0, (Ring.sl 3 (t.val + 1)).val] := by decide +kernel
@[sl_canon] theorem canon0_0_5 (t : Fin grid0.N) (h0 : cond0_0 (grid0.coords t)) (h1 : cond0_1 (grid0.coords t)) :
    (cc0_scratch5.slice (Rect.unit (s := S3x3) (k0_off1 1#32) S1x1.size (k0_off1_inb (grid0.coords t) h0 1))).squeeze S_ squeezes_S1x1_S_ = cellA0_0 (Ring.sl 3 (t.val + 1)) :=
  congrArg (fun A : DmaSems sig S1x1 => A.squeeze S_ squeezes_S1x1_S_) (SemArray.slice_unit_congr _ (coff0_0_5 t h0 h1) _ _)
set_option synthInstance.maxSize 4096 in
theorem coff0_0_6 : ∀ t : Fin grid0.N, cond0_0 (grid0.coords t) → cond0_1 (grid0.coords t) → (![1024, 0] : Fin 2 → Nat) = ![1024 * (Ring.bk 16 (t.val + 1)).val, 0] := by decide +kernel
@[sl_canon] theorem canon0_0_6 (t : Fin grid0.N) (h0 : cond0_0 (grid0.coords t)) (h1 : cond0_1 (grid0.coords t)) :
    hbM0_0.slice (Rect.unit (s := S16384x1024) ![1024, 0] S1024x1024.size inb_S16384x1024_S1024x1024_1024_0) (fun _ => rfl) = srcB0_0 (Ring.bk 16 (t.val + 1)) :=
  congrArg (fun M : Memref sig .tc .hbm S1024x1024 .f32 => M) (Memref.slice_unit_congr _ (coff0_0_6 t h0 h1) _ _ (fun _ => rfl) (fun _ => rfl))
set_option synthInstance.maxSize 4096 in
theorem coff0_0_7 : ∀ t : Fin grid0.N, k0_off7 (grid0.coords t) = ![(Ring.sl 3 (t.val + 2)).val, 0, 0] := by decide +kernel
@[sl_canon] theorem canon0_0_7 (t : Fin grid0.N) (h1 : cond0_1 (grid0.coords t)) :
    (scM0_2.slice (Rect.unit (s := S3x1024x1024) (k0_off7 (grid0.coords t)) S1x1024x1024.size (k0_off7_inb (grid0.coords t) h1)) (fun _ => rfl)).squeeze S1024x1024 squeezes_S1x1024x1024_S1024x1024 = rslot0_0 (Ring.sl 3 (t.val + 2)) :=
  congrArg (fun M : Memref sig .tc .vmem S1x1024x1024 .f32 => M.squeeze S1024x1024 squeezes_S1x1024x1024_S1024x1024) (Memref.slice_unit_congr _ (coff0_0_7 t ) _ _ (fun _ => rfl) (fun _ => rfl))
set_option synthInstance.maxSize 4096 in
theorem coff0_0_8 : ∀ t : Fin grid0.N, k0_off6 (grid0.coords t) = ![0, (Ring.sl 3 (t.val + 2)).val] := by decide +kernel
@[sl_canon] theorem canon0_0_8 (t : Fin grid0.N) (h1 : cond0_1 (grid0.coords t)) :
    (cc0_scratch5.slice (Rect.unit (s := S3x3) (k0_off6 (grid0.coords t)) S1x1.size (k0_off6_inb (grid0.coords t) h1))).squeeze S_ squeezes_S1x1_S_ = cellA0_0 (Ring.sl 3 (t.val + 2)) :=
  congrArg (fun A : DmaSems sig S1x1 => A.squeeze S_ squeezes_S1x1_S_) (SemArray.slice_unit_congr _ (coff0_0_8 t ) _ _)
set_option synthInstance.maxSize 4096 in
theorem coff0_0_9 : ∀ t : Fin grid0.N, cond0_0 (grid0.coords t) → cond0_1 (grid0.coords t) → k0_off8 (grid0.coords t) = ![1024 * (Ring.bk 16 (t.val + 2)).val, 0] := by decide +kernel
@[sl_canon] theorem canon0_0_9 (t : Fin grid0.N) (h0 : cond0_0 (grid0.coords t)) (h1 : cond0_1 (grid0.coords t)) :
    hbM0_0.slice (Rect.unit (s := S16384x1024) (k0_off8 (grid0.coords t)) S1024x1024.size (k0_off8_inb (grid0.coords t) h1)) (fun _ => rfl) = srcB0_0 (Ring.bk 16 (t.val + 2)) :=
  congrArg (fun M : Memref sig .tc .hbm S1024x1024 .f32 => M) (Memref.slice_unit_congr _ (coff0_0_9 t h0 h1) _ _ (fun _ => rfl) (fun _ => rfl))
set_option synthInstance.maxSize 4096 in
theorem coff0_0_10 : ∀ t : Fin grid0.N, k0_off14 (grid0.coords t) = ![(Ring.sl 3 t.val).val, 0, 0] := by decide +kernel
@[sl_canon] theorem canon0_0_10 (t : Fin grid0.N) :
    (scM0_2.slice (Rect.unit (s := S3x1024x1024) (k0_off14 (grid0.coords t)) S1x1024x1024.size (k0_off14_inb (grid0.coords t))) (fun _ => rfl)).squeeze S1024x1024 squeezes_S1x1024x1024_S1024x1024 = rslot0_0 (Ring.sl 3 t.val) :=
  congrArg (fun M : Memref sig .tc .vmem S1x1024x1024 .f32 => M.squeeze S1024x1024 squeezes_S1x1024x1024_S1024x1024) (Memref.slice_unit_congr _ (coff0_0_10 t ) _ _ (fun _ => rfl) (fun _ => rfl))
set_option synthInstance.maxSize 4096 in
theorem coff0_0_11 : ∀ t : Fin grid0.N, k0_off13 (grid0.coords t) = ![0, (Ring.sl 3 t.val).val] := by decide +kernel
@[sl_canon] theorem canon0_0_11 (t : Fin grid0.N) :
    (cc0_scratch5.slice (Rect.unit (s := S3x3) (k0_off13 (grid0.coords t)) S1x1.size (k0_off13_inb (grid0.coords t)))).squeeze S_ squeezes_S1x1_S_ = cellA0_0 (Ring.sl 3 t.val) :=
  congrArg (fun A : DmaSems sig S1x1 => A.squeeze S_ squeezes_S1x1_S_) (SemArray.slice_unit_congr _ (coff0_0_11 t ) _ _)
set_option synthInstance.maxSize 4096 in
theorem coff0_0_12 : ∀ t : Fin grid0.N, ¬cond0_0 (grid0.coords t) → cond0_1 (grid0.coords t) → k0_off8 (grid0.coords t) = ![1024 * (Ring.bk 16 (t.val + 2)).val, 0] := by decide +kernel
@[sl_canon] theorem canon0_0_12 (t : Fin grid0.N) (h0 : ¬cond0_0 (grid0.coords t)) (h1 : cond0_1 (grid0.coords t)) :
    hbM0_0.slice (Rect.unit (s := S16384x1024) (k0_off8 (grid0.coords t)) S1024x1024.size (k0_off8_inb (grid0.coords t) h1)) (fun _ => rfl) = srcB0_0 (Ring.bk 16 (t.val + 2)) :=
  congrArg (fun M : Memref sig .tc .hbm S1024x1024 .f32 => M) (Memref.slice_unit_congr _ (coff0_0_12 t h0 h1) _ _ (fun _ => rfl) (fun _ => rfl))
set_option synthInstance.maxSize 4096 in
theorem coff0_0_13 : ∀ t : Fin grid0.N, k0_off21 (grid0.coords t) = ![(Ring.sl 3 t.val).val, 0, 0] := by decide +kernel
/-- The ring-memref load's box in the slot's spelling (the block this step waited): the executor's symbolic geometry then sees it inside that slot. -/
instance (priority := high) closedOff0_0_13 (t : Fin grid0.N) : ClosedOff (k0_off21 (grid0.coords t)) := ⟨![(Ring.sl 3 t.val).val, 0, 0], coff0_0_13 t⟩
end Canon0_0

end Cert.Kernel.Ple

end
-- ==== Proof.Ple.RingG1.lean ====
/- The ring that streams the first expert's packed rows `g1`, as in `RingX`. -/
module

public import proofs.«01_k».proof.Proof.Ple.RingX

@[expose] public section

set_option maxRecDepth 16384

noncomputable section

namespace Cert.Kernel.Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## Ring 1 of kernel 0: `main_arg1` streamed through the 3 slots of `cc0_scratch3` on the cells of `cc0_scratch5`, 2 block ahead, in 16 steps -/

theorem inb_slot0_1 (s : Fin 3) : ∀ a, (![s.val, 0, 0] : Fin 3 → Nat) a + S1x1024x512.size a ≤ S3x1024x512.size a := by
  have := s.isLt; intro a; fin_cases a <;> simp <;> omega
theorem inb_src0_1 (b : Fin 16) : ∀ a, (![1024 * b.val, 0] : Fin 2 → Nat) a + S1024x512.size a ≤ S16384x512.size a := by
  have := b.isLt; intro a; fin_cases a <;> simp <;> omega
theorem inb_cell0_1 (s : Fin 3) : ∀ a, (![1, s.val] : Fin 2 → Nat) a + S1x1.size a ≤ S3x3.size a := by
  have := s.isLt; intro a; fin_cases a <;> simp <;> omega
/-- Slot `s` of the ring, spelt as the body's transfers spell their destination, at offsets in `s`. -/
def rslot0_1 (s : Fin 3) : Memref sig .tc .vmem S1024x512 .i32 :=
  (scM0_3.slice (Rect.unit (s := S3x1024x512) ![s.val, 0, 0] S1x1024x512.size (inb_slot0_1 s)) (fun _ => rfl)).squeeze S1024x512 squeezes_S1x1024x512_S1024x512
/-- Block `b` of the operand (the block step `b` waits), spelt as the transfers spell their source, at offsets in `b`. -/
def srcB0_1 (b : Fin 16) : Memref sig .tc .hbm S1024x512 .i32 :=
  hbM0_1.slice (Rect.unit (s := S16384x512) ![1024 * b.val, 0] S1024x512.size (inb_src0_1 b)) (fun _ => rfl)
/-- Cell `s` of `cc0_scratch5`, spelt as the body spells a cell; its number in the pool. -/
def cellA0_1 (s : Fin 3) : DmaSems sig S_ := (cc0_scratch5.slice (Rect.unit (s := S3x3) ![1, s.val] S1x1.size (inb_cell0_1 s))).squeeze S_ squeezes_S1x1_S_
abbrev cellR0_1 (s : Fin 3) : SemLoc sig := SemLoc.dma (cellA0_1 s).sem
theorem cellR0_1_0 : cellR0_1 0 = SemLoc.dma 13 := by decide
theorem cellR0_1_1 : cellR0_1 1 = SemLoc.dma 14 := by decide
theorem cellR0_1_2 : cellR0_1 2 = SemLoc.dma 15 := by decide

section Ring0_1
variable (c : Dev nD) (W : HbBuf0 (F := F) c hbM0_1)
/-- The operand is lent BY SHARE, one read-share copy of it per slot (the full share halved, the right half halved again):
    whatever blocks the transfers in flight stream — the same one twice, ones that overlap —, each borrows from its own slot's copy. -/
abbrev qs0_1 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_1 (s : Fin 3) (f : HbBuf0 (F := F) c (rslot0_1 s)) : sProp 𝕄 := (rslot0_1 s).view.loc (c : Thread nD τ) ↦[(rslot0_1 s).view.set]{fullShare} f
abbrev cellP0_1 (s : Fin 3) : sProp 𝕄 := semVal ((c : Thread nD τ), cellR0_1 s) 0
abbrev srcP0_1 (s : Fin 3) (b : Fin 16) : sProp 𝕄 := (srcB0_1 b).view.loc (c : Thread nD τ) ↦[(srcB0_1 b).view.set]{qs0_1 s} W
/-- (a `def`: no run reads this rest, and folded it stays out of the executor's table of held buffers) -/
def restP0_1 (s : Fin 3) (b : Fin 16) : sProp 𝕄 := ((c : Thread nD τ).loc main_arg1) ↦[Finset.univ \ (srcB0_1 b).view.set]{qs0_1 s} W
abbrev wholeP0_1 (s : Fin 3) : sProp 𝕄 := ((c : Thread nD τ).loc main_arg1) ↦[Finset.univ]{qs0_1 s} W
abbrev landed0_1 (s : Fin 3) (b : Fin 16) (f : HbBuf0 (F := F) c (rslot0_1 s)) : HbBuf0 (F := F) c (rslot0_1 s) :=
  (rslot0_1 s).view.writes (Elt F) f [⟨Rect.whole S1024x512, ReadAs.same.apply ((srcB0_1 b).view.read (Elt F) W)⟩]
abbrev flightP0_1 (s : Fin 3) (b : Fin 16) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- Lib/Ring.lean's `slot` and `flight` families: a slot not in flight carries its copy of the operand whole; a flight, the
    rest of the copy it borrowed from. No block is held apart: the `home` family is `emp`. -/
abbrev slotW0_1 (s : Fin 3) (f : HbBuf0 (F := F) c (rslot0_1 s)) : sProp 𝕄 := iprop(slotP0_1 c s f ∗ wholeP0_1 c W s)
abbrev flightW0_1 (s : Fin 3) (b : Fin 16) (f : HbBuf0 (F := F) c (rslot0_1 s)) : sProp 𝕄 := iprop(flightP0_1 c W s b f ∗ restP0_1 c W s b)
abbrev noHome0_1 (b : Fin 16) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_1 (k : ℕ) : sProp 𝕄 :=
  if k = 0 then Ring.At₀ (cellP0_1 c) (slotW0_1 c W) noHome0_1
  else Ring.At 2 (cellP0_1 c) (slotW0_1 c W) noHome0_1 (flightW0_1 c W) k
omit [FloatOps F] in
theorem cellP0_1_0 : cellP0_1 (F := F) c 0 = semVal ((c : Thread nD τ), SemLoc.dma 13) 0 := congrArg (fun x => (semVal ((c : Thread nD τ), x) 0 : sProp 𝕄)) cellR0_1_0
omit [FloatOps F] in
theorem cellP0_1_1 : cellP0_1 (F := F) c 1 = semVal ((c : Thread nD τ), SemLoc.dma 14) 0 := congrArg (fun x => (semVal ((c : Thread nD τ), x) 0 : sProp 𝕄)) cellR0_1_1
omit [FloatOps F] in
theorem cellP0_1_2 : cellP0_1 (F := F) c 2 = semVal ((c : Thread nD τ), SemLoc.dma 15) 0 := congrArg (fun x => (semVal ((c : Thread nD τ), x) 0 : sProp 𝕄)) cellR0_1_2
end Ring0_1

/-! ### The slots, disjoint and covering the scratch (Lib/Ring.lean `lead_disjoint` / `lead_cover`) -/

abbrev slotSet0_1 (s : Fin 3) : Finset S3x1024x512.Idx := (Rect.unit (s := S3x1024x512) ![s.val, 0, 0] S1x1024x512.size (inb_slot0_1 s)).set
theorem slotSet0_1_eq (s : Fin 3) : (rslot0_1 s).view.set = slotSet0_1 s := by
  simp only [rslot0_1, Memref.view_squeeze, View.set_reshape]; exact View.set_slice_whole _ _
theorem slots0_1_disjoint (s s' : Fin 3) (h : s ≠ s') : Disjoint (slotSet0_1 s) (slotSet0_1 s') :=
  Ring.lead_disjoint (s := S3x1024x512) (0 : Fin 3) 1 (fun s : Fin 3 => (![s.val, 0, 0] : Fin 3 → Nat)) S1x1024x512.size inb_slot0_1 (fun s => by simp) rfl s s' h
theorem slots0_1_cover : Finset.univ.biUnion slotSet0_1 = Finset.univ :=
  Ring.lead_cover (s := S3x1024x512) (0 : Fin 3) 1 (fun s : Fin 3 => (![s.val, 0, 0] : Fin 3 → Nat)) S1x1024x512.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_1)
theorem slotP0_1_eq (s : Fin 3) (f) : slotP0_1 (F := F) c s f = (((c : Thread nD τ).loc cc0_scratch3) ↦[slotSet0_1 s]{fullShare} f : sProp 𝕄) := by
  unfold slotP0_1; rw [slotSet0_1_eq]; rfl
/-- A slot's copy of the operand, whole, is block `b`'s elements and the rest (any `b`: what a run splits off before its step
    starts block `b`, and joins back once the wait returned it); -/
theorem src0_1_split (s : Fin 3) (b : Fin 16) : wholeP0_1 (F := F) c W s ⊣⊢ iprop(srcP0_1 c W s b ∗ restP0_1 c W s b) := by
  unfold restP0_1; exact pointsTo_split_subset (Finset.subset_univ _)
/-- the operand whole at the full share is the three copies (halves, the right one halved again). -/
theorem whole0_1_split : (hbPt0 c hbM0_1 W : sProp 𝕄) ⊣⊢ iprop(wholeP0_1 c W 0 ∗ wholeP0_1 c W 1 ∗ wholeP0_1 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_1_in : iprop(∃ d, owns (c : Thread nD τ) scM0_3 fullShare d) ⊢ (iprop((∃ f, slotP0_1 (F := F) c 0 f) ∗ (∃ f, slotP0_1 (F := F) c 1 f) ∗ ∃ f, slotP0_1 (F := F) c 2 f) : sProp 𝕄) := by
  simp only [scM0_3, owns_whole]
  exact Ring.slots3_split (U := Pipeline.UD sig nD τ) (ℓ := (c : Thread nD τ).loc cc0_scratch3) (q := fullShare) slotSet0_1 slots0_1_disjoint slots0_1_cover
    (slotP0_1 c 0) (slotP0_1 c 1) (slotP0_1 c 2) (slotP0_1_eq c 0) (slotP0_1_eq c 1) (slotP0_1_eq c 2)
set_option maxHeartbeats 1000000 in
theorem slots0_1_out : (iprop((∃ f, slotP0_1 (F := F) c 0 f) ∗ (∃ f, slotP0_1 (F := F) c 1 f) ∗ ∃ f, slotP0_1 (F := F) c 2 f) : sProp 𝕄) ⊢ iprop(∃ d, owns (c : Thread nD τ) scM0_3 fullShare d) := by
  simp only [scM0_3, owns_whole]
  exact Ring.slots3_join (U := Pipeline.UD sig nD τ) (ℓ := (c : Thread nD τ).loc cc0_scratch3) (q := fullShare) slotSet0_1 slots0_1_disjoint slots0_1_cover
    (slotP0_1 c 0) (slotP0_1 c 1) (slotP0_1 c 2) (slotP0_1_eq c 0) (slotP0_1_eq c 1) (slotP0_1_eq c 2)
end InOut0_1

/-- INTO THE RING: the launch's pieces — the scratch whole, the cells at zero, the operand whole — are the ring before its first step; -/
theorem ring0_1_in (c : Dev nD) :
    iprop((∃ d, owns (c : Thread nD τ) scM0_3 fullShare d) ∗ (semVal ((c : Thread nD τ), SemLoc.dma 13) 0 ∗ semVal ((c : Thread nD τ), SemLoc.dma 14) 0 ∗ semVal ((c : Thread nD τ), SemLoc.dma 15) 0) ∗ hbPt0 c hbM0_1 (V m c main_arg1))
      ⊢ ringAt0_1 c (V m c main_arg1) 0 := by
  unfold ringAt0_1; rw [if_pos rfl]; unfold Ring.At₀
  rw [Ring.bigSep_fin3]
  simp only [Ring.free, cellP0_1_0, cellP0_1_1, cellP0_1_2]
  iintro ⟨HS, Hc, HW⟩
  iapply Ring.with_homes₀
  icases Hc with ⟨H0, H1, H2⟩
  ihave HS' := (slots0_1_in (F := F) c) $$ HS
  icases HS' with ⟨⟨%d0, HS0⟩, ⟨%d1, HS1⟩, ⟨%d2, HS2⟩⟩
  ihave HW' := (whole0_1_split (F := F) c (V m c main_arg1)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_1_out (c : Dev nD) :
    ringAt0_1 c (V m c main_arg1) 16
      ⊢ iprop((∃ d, owns (c : Thread nD τ) scM0_3 fullShare d) ∗ (semVal ((c : Thread nD τ), SemLoc.dma 13) 0 ∗ semVal ((c : Thread nD τ), SemLoc.dma 14) 0 ∗ semVal ((c : Thread nD τ), SemLoc.dma 15) 0) ∗ hbPt0 c hbM0_1 (V m c main_arg1)) := by
  unfold ringAt0_1; rw [if_neg (by decide)]
  iintro H
  ihave H' := (Ring.free3_of_At_last _ _ _ _) $$ H
  simp only [Ring.free, cellP0_1_0, cellP0_1_1, cellP0_1_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_1_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_1_split (F := F) c (V m c main_arg1)).2; isplitl [HW0]; · iexact HW0
    isplitl [HW1]; · iexact HW1
    iexact HW2

/-! ### Ring 1's steps at each case's points, and its canonical names: the body's operands at point `t` are the ring's slots, blocks and cells -/

section Canon0_1
omit [FloatOps F]
/-- At the points of case A the ring takes its FIRST step. -/
theorem rstep0_1_A : ∀ t : Fin grid0.N, cond0_0 (grid0.coords t) → cond0_1 (grid0.coords t) → t.val = 0 ∧ (t.val + 1) = 1 := by decide +kernel
/-- At the points of case B the ring takes a step, a block still to start. -/
theorem rstep0_1_B : ∀ t : Fin grid0.N, ¬cond0_0 (grid0.coords t) → cond0_1 (grid0.coords t) → 1 ≤ t.val ∧ t.val + 2 < 16 ∧ (t.val + 1) = t.val + 1 := by decide +kernel
/-- At the points of case C the ring takes its LAST step. -/
theorem rstep0_1_C : ∀ t : Fin grid0.N, ¬cond0_0 (grid0.coords t) → ¬cond0_1 (grid0.coords t) → 1 ≤ t.val ∧ 16 ≤ t.val + 2 ∧ t.val < 16 ∧ (t.val + 1) = t.val + 1 := by decide +kernel
set_option synthInstance.maxSize 4096 in
theorem coff0_1_1 : ∀ t : Fin grid0.N, cond0_0 (grid0.coords t) → cond0_1 (grid0.coords t) → k0_off4 0#32 = ![(Ring.sl 3 t.val).val, 0, 0] := by decide +kernel
@[sl_canon] theorem canon0_1_1 (t : Fin grid0.N) (h0 : cond0_0 (grid0.coords t)) (h1 : cond0_1 (grid0.coords t)) :
    (scM0_3.slice (Rect.unit (s := S3x1024x512) (k0_off4 0#32) S1x1024x512.size (k0_off4_inb (grid0.coords t) h0 0)) (fun _ => rfl)).squeeze S1024x512 squeezes_S1x1024x512_S1024x512 = rslot0_1 (Ring.sl 3 t.val) :=
  congrArg (fun M : Memref sig .tc .vmem S1x1024x512 .i32 => M.squeeze S1024x512 squeezes_S1x1024x512_S1024x512) (Memref.slice_unit_congr _ (coff0_1_1 t h0 h1) _ _ (fun _ => rfl) (fun _ => rfl))
set_option synthInstance.maxSize 4096 in
theorem coff0_1_2 : ∀ t : Fin grid0.N, cond0_0 (grid0.coords t) → cond0_1 (grid0.coords t) → k0_off3 0#32 = ![1, (Ring.sl 3 t.val).val] := by decide +kernel
@[sl_canon] theorem canon0_1_2 (t : Fin grid0.N) (h0 : cond0_0 (grid0.coords t)) (h1 : cond0_1 (grid0.coords t)) :
    (cc0_scratch5.slice (Rect.unit (s := S3x3) (k0_off3 0#32) S1x1.size (k0_off3_inb (grid0.coords t) h0 0))).squeeze S_ squeezes_S1x1_S_ = cellA0_1 (Ring.sl 3 t.val) :=
  congrArg (fun A : DmaSems sig S1x1 => A.squeeze S_ squeezes_S1x1_S_) (SemArray.slice_unit_congr _ (coff0_1_2 t h0 h1) _ _)
set_option synthInstance.maxSize 4096 in
theorem coff0_1_3 : ∀ t : Fin grid0.N, cond0_0 (grid0.coords t) → cond0_1 (grid0.coords t) → (![0, 0] : Fin 2 → Nat) = ![1024 * (Ring.bk 16 t.val).val, 0] := by decide +kernel
@[sl_canon] theorem canon0_1_3 (t : Fin grid0.N) (h0 : cond0_0 (grid0.coords t)) (h1 : cond0_1 (grid0.coords t)) :
    hbM0_1.slice (Rect.unit (s := S16384x512) ![0, 0] S1024x512.size inb_S16384x512_S1024x512_0_0) (fun _ => rfl) = srcB0_1 (Ring.bk 16 t.val) :=
  congrArg (fun M : Memref sig .tc .hbm S1024x512 .i32 => M) (Memref.slice_unit_congr _ (coff0_1_3 t h0 h1) _ _ (fun _ => rfl) (fun _ => rfl))
set_option synthInstance.maxSize 4096 in
theorem coff0_1_4 : ∀ t : Fin grid0.N, cond0_0 (grid0.coords t) → cond0_1 (grid0.coords t) → k0_off4 1#32 = ![(Ring.sl 3 (t.val + 1)).val, 0, 0] := by decide +kernel
@[sl_canon] theorem canon0_1_4 (t : Fin grid0.N) (h0 : cond0_0 (grid0.coords t)) (h1 : cond0_1 (grid0.coords t)) :
    (scM0_3.slice (Rect.unit (s := S3x1024x512) (k0_off4 1#32) S1x1024x512.size (k0_off4_inb (grid0.coords t) h0 1)) (fun _ => rfl)).squeeze S1024x512 squeezes_S1x1024x512_S1024x512 = rslot0_1 (Ring.sl 3 (t.val + 1)) :=
  congrArg (fun M : Memref sig .tc .vmem S1x1024x512 .i32 => M.squeeze S1024x512 squeezes_S1x1024x512_S1024x512) (Memref.slice_unit_congr _ (coff0_1_4 t h0 h1) _ _ (fun _ => rfl) (fun _ => rfl))
set_option synthInstance.maxSize 4096 in
theorem coff0_1_5 : ∀ t : Fin grid0.N, cond0_0 (grid0.coords t) → cond0_1 (grid0.coords t) → k0_off3 1#32 = ![1, (Ring.sl 3 (t.val + 1)).val] := by decide +kernel
@[sl_canon] theorem canon0_1_5 (t : Fin grid0.N) (h0 : cond0_0 (grid0.coords t)) (h1 : cond0_1 (grid0.coords t)) :
    (cc0_scratch5.slice (Rect.unit (s := S3x3) (k0_off3 1#32) S1x1.size (k0_off3_inb (grid0.coords t) h0 1))).squeeze S_ squeezes_S1x1_S_ = cellA0_1 (Ring.sl 3 (t.val + 1)) :=
  congrArg (fun A : DmaSems sig S1x1 => A.squeeze S_ squeezes_S1x1_S_) (SemArray.slice_unit_congr _ (coff0_1_5 t h0 h1) _ _)
set_option synthInstance.maxSize 4096 in
theorem coff0_1_6 : ∀ t : Fin grid0.N, cond0_0 (grid0.coords t) → cond0_1 (grid0.coords t) → (![1024, 0] : Fin 2 → Nat) = ![1024 * (Ring.bk 16 (t.val + 1)).val, 0] := by decide +kernel
@[sl_canon] theorem canon0_1_6 (t : Fin grid0.N) (h0 : cond0_0 (grid0.coords t)) (h1 : cond0_1 (grid0.coords t)) :
    hbM0_1.slice (Rect.unit (s := S16384x512) ![1024, 0] S1024x512.size inb_S16384x512_S1024x512_1024_0) (fun _ => rfl) = srcB0_1 (Ring.bk 16 (t.val + 1)) :=
  congrArg (fun M : Memref sig .tc .hbm S1024x512 .i32 => M) (Memref.slice_unit_congr _ (coff0_1_6 t h0 h1) _ _ (fun _ => rfl) (fun _ => rfl))
set_option synthInstance.maxSize 4096 in
theorem coff0_1_7 : ∀ t : Fin grid0.N, k0_off10 (grid0.coords t) = ![(Ring.sl 3 (t.val + 2)).val, 0, 0] := by decide +kernel
@[sl_canon] theorem canon0_1_7 (t : Fin grid0.N) (h1 : cond0_1 (grid0.coords t)) :
    (scM0_3.slice (Rect.unit (s := S3x1024x512) (k0_off10 (grid0.coords t)) S1x1024x512.size (k0_off10_inb (grid0.coords t) h1)) (fun _ => rfl)).squeeze S1024x512 squeezes_S1x1024x512_S1024x512 = rslot0_1 (Ring.sl 3 (t.val + 2)) :=
  congrArg (fun M : Memref sig .tc .vmem S1x1024x512 .i32 => M.squeeze S1024x512 squeezes_S1x1024x512_S1024x512) (Memref.slice_unit_congr _ (coff0_1_7 t ) _ _ (fun _ => rfl) (fun _ => rfl))
set_option synthInstance.maxSize 4096 in
theorem coff0_1_8 : ∀ t : Fin grid0.N, k0_off9 (grid0.coords t) = ![1, (Ring.sl 3 (t.val + 2)).val] := by decide +kernel
@[sl_canon] theorem canon0_1_8 (t : Fin grid0.N) (h1 : cond0_1 (grid0.coords t)) :
    (cc0_scratch5.slice (Rect.unit (s := S3x3) (k0_off9 (grid0.coords t)) S1x1.size (k0_off9_inb (grid0.coords t) h1))).squeeze S_ squeezes_S1x1_S_ = cellA0_1 (Ring.sl 3 (t.val + 2)) :=
  congrArg (fun A : DmaSems sig S1x1 => A.squeeze S_ squeezes_S1x1_S_) (SemArray.slice_unit_congr _ (coff0_1_8 t ) _ _)
set_option synthInstance.maxSize 4096 in
theorem coff0_1_9 : ∀ t : Fin grid0.N, cond0_0 (grid0.coords t) → cond0_1 (grid0.coords t) → k0_off11 (grid0.coords t) = ![1024 * (Ring.bk 16 (t.val + 2)).val, 0] := by decide +kernel
@[sl_canon] theorem canon0_1_9 (t : Fin grid0.N) (h0 : cond0_0 (grid0.coords t)) (h1 : cond0_1 (grid0.coords t)) :
    hbM0_1.slice (Rect.unit (s := S16384x512) (k0_off11 (grid0.coords t)) S1024x512.size (k0_off11_inb (grid0.coords t) h1)) (fun _ => rfl) = srcB0_1 (Ring.bk 16 (t.val + 2)) :=
  congrArg (fun M : Memref sig .tc .hbm S1024x512 .i32 => M) (Memref.slice_unit_congr _ (coff0_1_9 t h0 h1) _ _ (fun _ => rfl) (fun _ => rfl))
set_option synthInstance.maxSize 4096 in
theorem coff0_1_10 : ∀ t : Fin grid0.N, k0_off17 (grid0.coords t) = ![(Ring.sl 3 t.val).val, 0, 0] := by decide +kernel
@[sl_canon] theorem canon0_1_10 (t : Fin grid0.N) :
    (scM0_3.slice (Rect.unit (s := S3x1024x512) (k0_off17 (grid0.coords t)) S1x1024x512.size (k0_off17_inb (grid0.coords t))) (fun _ => rfl)).squeeze S1024x512 squeezes_S1x1024x512_S1024x512 = rslot0_1 (Ring.sl 3 t.val) :=
  congrArg (fun M : Memref sig .tc .vmem S1x1024x512 .i32 => M.squeeze S1024x512 squeezes_S1x1024x512_S1024x512) (Memref.slice_unit_congr _ (coff0_1_10 t ) _ _ (fun _ => rfl) (fun _ => rfl))
set_option synthInstance.maxSize 4096 in
theorem coff0_1_11 : ∀ t : Fin grid0.N, k0_off16 (grid0.coords t) = ![1, (Ring.sl 3 t.val).val] := by decide +kernel
@[sl_canon] theorem canon0_1_11 (t : Fin grid0.N) :
    (cc0_scratch5.slice (Rect.unit (s := S3x3) (k0_off16 (grid0.coords t)) S1x1.size (k0_off16_inb (grid0.coords t)))).squeeze S_ squeezes_S1x1_S_ = cellA0_1 (Ring.sl 3 t.val) :=
  congrArg (fun A : DmaSems sig S1x1 => A.squeeze S_ squeezes_S1x1_S_) (SemArray.slice_unit_congr _ (coff0_1_11 t ) _ _)
set_option synthInstance.maxSize 4096 in
theorem coff0_1_12 : ∀ t : Fin grid0.N, ¬cond0_0 (grid0.coords t) → cond0_1 (grid0.coords t) → k0_off11 (grid0.coords t) = ![1024 * (Ring.bk 16 (t.val + 2)).val, 0] := by decide +kernel
@[sl_canon] theorem canon0_1_12 (t : Fin grid0.N) (h0 : ¬cond0_0 (grid0.coords t)) (h1 : cond0_1 (grid0.coords t)) :
    hbM0_1.slice (Rect.unit (s := S16384x512) (k0_off11 (grid0.coords t)) S1024x512.size (k0_off11_inb (grid0.coords t) h1)) (fun _ => rfl) = srcB0_1 (Ring.bk 16 (t.val + 2)) :=
  congrArg (fun M : Memref sig .tc .hbm S1024x512 .i32 => M) (Memref.slice_unit_congr _ (coff0_1_12 t h0 h1) _ _ (fun _ => rfl) (fun _ => rfl))
set_option synthInstance.maxSize 4096 in
theorem coff0_1_13 : ∀ t : Fin grid0.N, k0_off20 (grid0.coords t) = ![(Ring.sl 3 t.val).val, 0, 0] := by decide +kernel
/-- The ring-memref load's box in the slot's spelling (the block this step waited): the executor's symbolic geometry then sees it inside that slot. -/
instance (priority := high) closedOff0_1_13 (t : Fin grid0.N) : ClosedOff (k0_off20 (grid0.coords t)) := ⟨![(Ring.sl 3 t.val).val, 0, 0], coff0_1_13 t⟩
end Canon0_1

end Cert.Kernel.Ple

end
-- ==== Proof.Ple.RingG2.lean ====
/- The ring that streams the second expert's packed rows `g2`, as in `RingX`. -/
module

public import proofs.«01_k».proof.Proof.Ple.RingG1

@[expose] public section

set_option maxRecDepth 16384

noncomputable section

namespace Cert.Kernel.Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## Ring 2 of kernel 0: `main_arg2` streamed through the 3 slots of `cc0_scratch4` on the cells of `cc0_scratch5`, 2 block ahead, in 16 steps -/

theorem inb_slot0_2 (s : Fin 3) : ∀ a, (![s.val, 0, 0] : Fin 3 → Nat) a + S1x1024x512.size a ≤ S3x1024x512.size a := by
  have := s.isLt; intro a; fin_cases a <;> simp <;> omega
theorem inb_src0_2 (b : Fin 16) : ∀ a, (![1024 * b.val, 0] : Fin 2 → Nat) a + S1024x512.size a ≤ S16384x512.size a := by
  have := b.isLt; intro a; fin_cases a <;> simp <;> omega
theorem inb_cell0_2 (s : Fin 3) : ∀ a, (![2, s.val] : Fin 2 → Nat) a + S1x1.size a ≤ S3x3.size a := by
  have := s.isLt; intro a; fin_cases a <;> simp <;> omega
/-- Slot `s` of the ring, spelt as the body's transfers spell their destination, at offsets in `s`. -/
def rslot0_2 (s : Fin 3) : Memref sig .tc .vmem S1024x512 .i32 :=
  (scM0_4.slice (Rect.unit (s := S3x1024x512) ![s.val, 0, 0] S1x1024x512.size (inb_slot0_2 s)) (fun _ => rfl)).squeeze S1024x512 squeezes_S1x1024x512_S1024x512
/-- Block `b` of the operand (the block step `b` waits), spelt as the transfers spell their source, at offsets in `b`. -/
def srcB0_2 (b : Fin 16) : Memref sig .tc .hbm S1024x512 .i32 :=
  hbM0_2.slice (Rect.unit (s := S16384x512) ![1024 * b.val, 0] S1024x512.size (inb_src0_2 b)) (fun _ => rfl)
/-- Cell `s` of `cc0_scratch5`, spelt as the body spells a cell; its number in the pool. -/
def cellA0_2 (s : Fin 3) : DmaSems sig S_ := (cc0_scratch5.slice (Rect.unit (s := S3x3) ![2, s.val] S1x1.size (inb_cell0_2 s))).squeeze S_ squeezes_S1x1_S_
abbrev cellR0_2 (s : Fin 3) : SemLoc sig := SemLoc.dma (cellA0_2 s).sem
theorem cellR0_2_0 : cellR0_2 0 = SemLoc.dma 16 := by decide
theorem cellR0_2_1 : cellR0_2 1 = SemLoc.dma 17 := by decide
theorem cellR0_2_2 : cellR0_2 2 = SemLoc.dma 18 := by decide

section Ring0_2
variable (c : Dev nD) (W : HbBuf0 (F := F) c hbM0_2)
/-- The operand is lent BY SHARE, one read-share copy of it per slot (the full share halved, the right half halved again):
    whatever blocks the transfers in flight stream — the same one twice, ones that overlap —, each borrows from its own slot's copy. -/
abbrev qs0_2 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_2 (s : Fin 3) (f : HbBuf0 (F := F) c (rslot0_2 s)) : sProp 𝕄 := (rslot0_2 s).view.loc (c : Thread nD τ) ↦[(rslot0_2 s).view.set]{fullShare} f
abbrev cellP0_2 (s : Fin 3) : sProp 𝕄 := semVal ((c : Thread nD τ), cellR0_2 s) 0
abbrev srcP0_2 (s : Fin 3) (b : Fin 16) : sProp 𝕄 := (srcB0_2 b).view.loc (c : Thread nD τ) ↦[(srcB0_2 b).view.set]{qs0_2 s} W
/-- (a `def`: no run reads this rest, and folded it stays out of the executor's table of held buffers) -/
def restP0_2 (s : Fin 3) (b : Fin 16) : sProp 𝕄 := ((c : Thread nD τ).loc main_arg2) ↦[Finset.univ \ (srcB0_2 b).view.set]{qs0_2 s} W
abbrev wholeP0_2 (s : Fin 3) : sProp 𝕄 := ((c : Thread nD τ).loc main_arg2) ↦[Finset.univ]{qs0_2 s} W
abbrev landed0_2 (s : Fin 3) (b : Fin 16) (f : HbBuf0 (F := F) c (rslot0_2 s)) : HbBuf0 (F := F) c (rslot0_2 s) :=
  (rslot0_2 s).view.writes (Elt F) f [⟨Rect.whole S1024x512, ReadAs.same.apply ((srcB0_2 b).view.read (Elt F) W)⟩]
abbrev flightP0_2 (s : Fin 3) (b : Fin 16) (f : HbBuf0 (F := F) c (rslot0_2 s)) : sProp 𝕄 :=
  Transfers.Flight countersEmb (c : Thread nD τ) (cellR0_2 s) default ((rslot0_2 s).view.amount (cellR0_2 s))
    iprop(slotP0_2 c s (landed0_2 c W s b f) ∗ srcP0_2 c W s b)
/-- Lib/Ring.lean's `slot` and `flight` families: a slot not in flight carries its copy of the operand whole; a flight, the
    rest of the copy it borrowed from. No block is held apart: the `home` family is `emp`. -/
abbrev slotW0_2 (s : Fin 3) (f : HbBuf0 (F := F) c (rslot0_2 s)) : sProp 𝕄 := iprop(slotP0_2 c s f ∗ wholeP0_2 c W s)
abbrev flightW0_2 (s : Fin 3) (b : Fin 16) (f : HbBuf0 (F := F) c (rslot0_2 s)) : sProp 𝕄 := iprop(flightP0_2 c W s b f ∗ restP0_2 c W s b)
abbrev noHome0_2 (b : Fin 16) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_2 (k : ℕ) : sProp 𝕄 :=
  if k = 0 then Ring.At₀ (cellP0_2 c) (slotW0_2 c W) noHome0_2
  else Ring.At 2 (cellP0_2 c) (slotW0_2 c W) noHome0_2 (flightW0_2 c W) k
omit [FloatOps F] in
theorem cellP0_2_0 : cellP0_2 (F := F) c 0 = semVal ((c : Thread nD τ), SemLoc.dma 16) 0 := congrArg (fun x => (semVal ((c : Thread nD τ), x) 0 : sProp 𝕄)) cellR0_2_0
omit [FloatOps F] in
theorem cellP0_2_1 : cellP0_2 (F := F) c 1 = semVal ((c : Thread nD τ), SemLoc.dma 17) 0 := congrArg (fun x => (semVal ((c : Thread nD τ), x) 0 : sProp 𝕄)) cellR0_2_1
omit [FloatOps F] in
theorem cellP0_2_2 : cellP0_2 (F := F) c 2 = semVal ((c : Thread nD τ), SemLoc.dma 18) 0 := congrArg (fun x => (semVal ((c : Thread nD τ), x) 0 : sProp 𝕄)) cellR0_2_2
end Ring0_2

/-! ### The slots, disjoint and covering the scratch (Lib/Ring.lean `lead_disjoint` / `lead_cover`) -/

abbrev slotSet0_2 (s : Fin 3) : Finset S3x1024x512.Idx := (Rect.unit (s := S3x1024x512) ![s.val, 0, 0] S1x1024x512.size (inb_slot0_2 s)).set
theorem slotSet0_2_eq (s : Fin 3) : (rslot0_2 s).view.set = slotSet0_2 s := by
  simp only [rslot0_2, Memref.view_squeeze, View.set_reshape]; exact View.set_slice_whole _ _
theorem slots0_2_disjoint (s s' : Fin 3) (h : s ≠ s') : Disjoint (slotSet0_2 s) (slotSet0_2 s') :=
  Ring.lead_disjoint (s := S3x1024x512) (0 : Fin 3) 1 (fun s : Fin 3 => (![s.val, 0, 0] : Fin 3 → Nat)) S1x1024x512.size inb_slot0_2 (fun s => by simp) rfl s s' h
theorem slots0_2_cover : Finset.univ.biUnion slotSet0_2 = Finset.univ :=
  Ring.lead_cover (s := S3x1024x512) (0 : Fin 3) 1 (fun s : Fin 3 => (![s.val, 0, 0] : Fin 3 → Nat)) S1x1024x512.size inb_slot0_2 (fun s => by simp)
    (fun s a ha => by fin_cases a <;> first | exact absurd rfl ha | rfl) rfl (fun a ha => by fin_cases a <;> first | exact absurd rfl ha | rfl) rfl

/-! ### What the launch hands the ring, and takes back -/

section InOut0_2
variable (c : Dev nD) (W : HbBuf0 (F := F) c hbM0_2)
theorem slotP0_2_eq (s : Fin 3) (f) : slotP0_2 (F := F) c s f = (((c : Thread nD τ).loc cc0_scratch4) ↦[slotSet0_2 s]{fullShare} f : sProp 𝕄) := by
  unfold slotP0_2; rw [slotSet0_2_eq]; rfl
/-- A slot's copy of the operand, whole, is block `b`'s elements and the rest (any `b`: what a run splits off before its step
    starts block `b`, and joins back once the wait returned it); -/
theorem src0_2_split (s : Fin 3) (b : Fin 16) : wholeP0_2 (F := F) c W s ⊣⊢ iprop(srcP0_2 c W s b ∗ restP0_2 c W s b) := by
  unfold restP0_2; exact pointsTo_split_subset (Finset.subset_univ _)
/-- the operand whole at the full share is the three copies (halves, the right one halved again). -/
theorem whole0_2_split : (hbPt0 c hbM0_2 W : sProp 𝕄) ⊣⊢ iprop(wholeP0_2 c W 0 ∗ wholeP0_2 c W 1 ∗ wholeP0_2 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_2_in : iprop(∃ d, owns (c : Thread nD τ) scM0_4 fullShare d) ⊢ (iprop((∃ f, slotP0_2 (F := F) c 0 f) ∗ (∃ f, slotP0_2 (F := F) c 1 f) ∗ ∃ f, slotP0_2 (F := F) c 2 f) : sProp 𝕄) := by
  simp only [scM0_4, owns_whole]
  exact Ring.slots3_split (U := Pipeline.UD sig nD τ) (ℓ := (c : Thread nD τ).loc cc0_scratch4) (q := fullShare) slotSet0_2 slots0_2_disjoint slots0_2_cover
    (slotP0_2 c 0) (slotP0_2 c 1) (slotP0_2 c 2) (slotP0_2_eq c 0) (slotP0_2_eq c 1) (slotP0_2_eq c 2)
set_option maxHeartbeats 1000000 in
theorem slots0_2_out : (iprop((∃ f, slotP0_2 (F := F) c 0 f) ∗ (∃ f, slotP0_2 (F := F) c 1 f) ∗ ∃ f, slotP0_2 (F := F) c 2 f) : sProp 𝕄) ⊢ iprop(∃ d, owns (c : Thread nD τ) scM0_4 fullShare d) := by
  simp only [scM0_4, owns_whole]
  exact Ring.slots3_join (U := Pipeline.UD sig nD τ) (ℓ := (c : Thread nD τ).loc cc0_scratch4) (q := fullShare) slotSet0_2 slots0_2_disjoint slots0_2_cover
    (slotP0_2 c 0) (slotP0_2 c 1) (slotP0_2 c 2) (slotP0_2_eq c 0) (slotP0_2_eq c 1) (slotP0_2_eq c 2)
end InOut0_2

/-- INTO THE RING: the launch's pieces — the scratch whole, the cells at zero, the operand whole — are the ring before its first step; -/
theorem ring0_2_in (c : Dev nD) :
    iprop((∃ d, owns (c : Thread nD τ) scM0_4 fullShare d) ∗ (semVal ((c : Thread nD τ), SemLoc.dma 16) 0 ∗ semVal ((c : Thread nD τ), SemLoc.dma 17) 0 ∗ semVal ((c : Thread nD τ), SemLoc.dma 18) 0) ∗ hbPt0 c hbM0_2 (V m c main_arg2))
      ⊢ ringAt0_2 c (V m c main_arg2) 0 := by
  unfold ringAt0_2; rw [if_pos rfl]; unfold Ring.At₀
  rw [Ring.bigSep_fin3]
  simp only [Ring.free, cellP0_2_0, cellP0_2_1, cellP0_2_2]
  iintro ⟨HS, Hc, HW⟩
  iapply Ring.with_homes₀
  icases Hc with ⟨H0, H1, H2⟩
  ihave HS' := (slots0_2_in (F := F) c) $$ HS
  icases HS' with ⟨⟨%d0, HS0⟩, ⟨%d1, HS1⟩, ⟨%d2, HS2⟩⟩
  ihave HW' := (whole0_2_split (F := F) c (V m c main_arg2)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_2_out (c : Dev nD) :
    ringAt0_2 c (V m c main_arg2) 16
      ⊢ iprop((∃ d, owns (c : Thread nD τ) scM0_4 fullShare d) ∗ (semVal ((c : Thread nD τ), SemLoc.dma 16) 0 ∗ semVal ((c : Thread nD τ), SemLoc.dma 17) 0 ∗ semVal ((c : Thread nD τ), SemLoc.dma 18) 0) ∗ hbPt0 c hbM0_2 (V m c main_arg2)) := by
  unfold ringAt0_2; rw [if_neg (by decide)]
  iintro H
  ihave H' := (Ring.free3_of_At_last _ _ _ _) $$ H
  simp only [Ring.free, cellP0_2_0, cellP0_2_1, cellP0_2_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_2_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_2_split (F := F) c (V m c main_arg2)).2; isplitl [HW0]; · iexact HW0
    isplitl [HW1]; · iexact HW1
    iexact HW2

/-! ### Ring 2's steps at each case's points, and its canonical names: the body's operands at point `t` are the ring's slots, blocks and cells -/

section Canon0_2
omit [FloatOps F]
/-- At the points of case A the ring takes its FIRST step. -/
theorem rstep0_2_A : ∀ t : Fin grid0.N, cond0_0 (grid0.coords t) → cond0_1 (grid0.coords t) → t.val = 0 ∧ (t.val + 1) = 1 := by decide +kernel
/-- At the points of case B the ring takes a step, a block still to start. -/
theorem rstep0_2_B : ∀ t : Fin grid0.N, ¬cond0_0 (grid0.coords t) → cond0_1 (grid0.coords t) → 1 ≤ t.val ∧ t.val + 2 < 16 ∧ (t.val + 1) = t.val + 1 := by decide +kernel
/-- At the points of case C the ring takes its LAST step. -/
theorem rstep0_2_C : ∀ t : Fin grid0.N, ¬cond0_0 (grid0.coords t) → ¬cond0_1 (grid0.coords t) → 1 ≤ t.val ∧ 16 ≤ t.val + 2 ∧ t.val < 16 ∧ (t.val + 1) = t.val + 1 := by decide +kernel
set_option synthInstance.maxSize 4096 in
theorem coff0_2_1 : ∀ t : Fin grid0.N, cond0_0 (grid0.coords t) → cond0_1 (grid0.coords t) → k0_off4 0#32 = ![(Ring.sl 3 t.val).val, 0, 0] := by decide +kernel
@[sl_canon] theorem canon0_2_1 (t : Fin grid0.N) (h0 : cond0_0 (grid0.coords t)) (h1 : cond0_1 (grid0.coords t)) :
    (scM0_4.slice (Rect.unit (s := S3x1024x512) (k0_off4 0#32) S1x1024x512.size (k0_off4_inb (grid0.coords t) h0 0)) (fun _ => rfl)).squeeze S1024x512 squeezes_S1x1024x512_S1024x512 = rslot0_2 (Ring.sl 3 t.val) :=
  congrArg (fun M : Memref sig .tc .vmem S1x1024x512 .i32 => M.squeeze S1024x512 squeezes_S1x1024x512_S1024x512) (Memref.slice_unit_congr _ (coff0_2_1 t h0 h1) _ _ (fun _ => rfl) (fun _ => rfl))
set_option synthInstance.maxSize 4096 in
theorem coff0_2_2 : ∀ t : Fin grid0.N, cond0_0 (grid0.coords t) → cond0_1 (grid0.coords t) → k0_off5 0#32 = ![2, (Ring.sl 3 t.val).val] := by decide +kernel
@[sl_canon] theorem canon0_2_2 (t : Fin grid0.N) (h0 : cond0_0 (grid0.coords t)) (h1 : cond0_1 (grid0.coords t)) :
    (cc0_scratch5.slice (Rect.unit (s := S3x3) (k0_off5 0#32) S1x1.size (k0_off5_inb (grid0.coords t) h0 0))).squeeze S_ squeezes_S1x1_S_ = cellA0_2 (Ring.sl 3 t.val) :=
  congrArg (fun A : DmaSems sig S1x1 => A.squeeze S_ squeezes_S1x1_S_) (SemArray.slice_unit_congr _ (coff0_2_2 t h0 h1) _ _)
set_option synthInstance.maxSize 4096 in
theorem coff0_2_3 : ∀ t : Fin grid0.N, cond0_0 (grid0.coords t) → cond0_1 (grid0.coords t) → (![0, 0] : Fin 2 → Nat) = ![1024 * (Ring.bk 16 t.val).val, 0] := by decide +kernel
@[sl_canon] theorem canon0_2_3 (t : Fin grid0.N) (h0 : cond0_0 (grid0.coords t)) (h1 : cond0_1 (grid0.coords t)) :
    hbM0_2.slice (Rect.unit (s := S16384x512) ![0, 0] S1024x512.size inb_S16384x512_S1024x512_0_0) (fun _ => rfl) = srcB0_2 (Ring.bk 16 t.val) :=
  congrArg (fun M : Memref sig .tc .hbm S1024x512 .i32 => M) (Memref.slice_unit_congr _ (coff0_2_3 t h0 h1) _ _ (fun _ => rfl) (fun _ => rfl))
set_option synthInstance.maxSize 4096 in
theorem coff0_2_4 : ∀ t : Fin grid0.N, cond0_0 (grid0.coords t) → cond0_1 (grid0.coords t) → k0_off4 1#32 = ![(Ring.sl 3 (t.val + 1)).val, 0, 0] := by decide +kernel
@[sl_canon] theorem canon0_2_4 (t : Fin grid0.N) (h0 : cond0_0 (grid0.coords t)) (h1 : cond0_1 (grid0.coords t)) :
    (scM0_4.slice (Rect.unit (s := S3x1024x512) (k0_off4 1#32) S1x1024x512.size (k0_off4_inb (grid0.coords t) h0 1)) (fun _ => rfl)).squeeze S1024x512 squeezes_S1x1024x512_S1024x512 = rslot0_2 (Ring.sl 3 (t.val + 1)) :=
  congrArg (fun M : Memref sig .tc .vmem S1x1024x512 .i32 => M.squeeze S1024x512 squeezes_S1x1024x512_S1024x512) (Memref.slice_unit_congr _ (coff0_2_4 t h0 h1) _ _ (fun _ => rfl) (fun _ => rfl))
set_option synthInstance.maxSize 4096 in
theorem coff0_2_5 : ∀ t : Fin grid0.N, cond0_0 (grid0.coords t) → cond0_1 (grid0.coords t) → k0_off5 1#32 = ![2, (Ring.sl 3 (t.val + 1)).val] := by decide +kernel
@[sl_canon] theorem canon0_2_5 (t : Fin grid0.N) (h0 : cond0_0 (grid0.coords t)) (h1 : cond0_1 (grid0.coords t)) :
    (cc0_scratch5.slice (Rect.unit (s := S3x3) (k0_off5 1#32) S1x1.size (k0_off5_inb (grid0.coords t) h0 1))).squeeze S_ squeezes_S1x1_S_ = cellA0_2 (Ring.sl 3 (t.val + 1)) :=
  congrArg (fun A : DmaSems sig S1x1 => A.squeeze S_ squeezes_S1x1_S_) (SemArray.slice_unit_congr _ (coff0_2_5 t h0 h1) _ _)
set_option synthInstance.maxSize 4096 in
theorem coff0_2_6 : ∀ t : Fin grid0.N, cond0_0 (grid0.coords t) → cond0_1 (grid0.coords t) → (![1024, 0] : Fin 2 → Nat) = ![1024 * (Ring.bk 16 (t.val + 1)).val, 0] := by decide +kernel
@[sl_canon] theorem canon0_2_6 (t : Fin grid0.N) (h0 : cond0_0 (grid0.coords t)) (h1 : cond0_1 (grid0.coords t)) :
    hbM0_2.slice (Rect.unit (s := S16384x512) ![1024, 0] S1024x512.size inb_S16384x512_S1024x512_1024_0) (fun _ => rfl) = srcB0_2 (Ring.bk 16 (t.val + 1)) :=
  congrArg (fun M : Memref sig .tc .hbm S1024x512 .i32 => M) (Memref.slice_unit_congr _ (coff0_2_6 t h0 h1) _ _ (fun _ => rfl) (fun _ => rfl))
set_option synthInstance.maxSize 4096 in
theorem coff0_2_7 : ∀ t : Fin grid0.N, k0_off10 (grid0.coords t) = ![(Ring.sl 3 (t.val + 2)).val, 0, 0] := by decide +kernel
@[sl_canon] theorem canon0_2_7 (t : Fin grid0.N) (h1 : cond0_1 (grid0.coords t)) :
    (scM0_4.slice (Rect.unit (s := S3x1024x512) (k0_off10 (grid0.coords t)) S1x1024x512.size (k0_off10_inb (grid0.coords t) h1)) (fun _ => rfl)).squeeze S1024x512 squeezes_S1x1024x512_S1024x512 = rslot0_2 (Ring.sl 3 (t.val + 2)) :=
  congrArg (fun M : Memref sig .tc .vmem S1x1024x512 .i32 => M.squeeze S1024x512 squeezes_S1x1024x512_S1024x512) (Memref.slice_unit_congr _ (coff0_2_7 t ) _ _ (fun _ => rfl) (fun _ => rfl))
set_option synthInstance.maxSize 4096 in
theorem coff0_2_8 : ∀ t : Fin grid0.N, k0_off12 (grid0.coords t) = ![2, (Ring.sl 3 (t.val + 2)).val] := by decide +kernel
@[sl_canon] theorem canon0_2_8 (t : Fin grid0.N) (h1 : cond0_1 (grid0.coords t)) :
    (cc0_scratch5.slice (Rect.unit (s := S3x3) (k0_off12 (grid0.coords t)) S1x1.size (k0_off12_inb (grid0.coords t) h1))).squeeze S_ squeezes_S1x1_S_ = cellA0_2 (Ring.sl 3 (t.val + 2)) :=
  congrArg (fun A : DmaSems sig S1x1 => A.squeeze S_ squeezes_S1x1_S_) (SemArray.slice_unit_congr _ (coff0_2_8 t ) _ _)
set_option synthInstance.maxSize 4096 in
theorem coff0_2_9 : ∀ t : Fin grid0.N, cond0_0 (grid0.coords t) → cond0_1 (grid0.coords t) → k0_off11 (grid0.coords t) = ![1024 * (Ring.bk 16 (t.val + 2)).val, 0] := by decide +kernel
@[sl_canon] theorem canon0_2_9 (t : Fin grid0.N) (h0 : cond0_0 (grid0.coords t)) (h1 : cond0_1 (grid0.coords t)) :
    hbM0_2.slice (Rect.unit (s := S16384x512) (k0_off11 (grid0.coords t)) S1024x512.size (k0_off11_inb (grid0.coords t) h1)) (fun _ => rfl) = srcB0_2 (Ring.bk 16 (t.val + 2)) :=
  congrArg (fun M : Memref sig .tc .hbm S1024x512 .i32 => M) (Memref.slice_unit_congr _ (coff0_2_9 t h0 h1) _ _ (fun _ => rfl) (fun _ => rfl))
set_option synthInstance.maxSize 4096 in
theorem coff0_2_10 : ∀ t : Fin grid0.N, k0_off17 (grid0.coords t) = ![(Ring.sl 3 t.val).val, 0, 0] := by decide +kernel
@[sl_canon] theorem canon0_2_10 (t : Fin grid0.N) :
    (scM0_4.slice (Rect.unit (s := S3x1024x512) (k0_off17 (grid0.coords t)) S1x1024x512.size (k0_off17_inb (grid0.coords t))) (fun _ => rfl)).squeeze S1024x512 squeezes_S1x1024x512_S1024x512 = rslot0_2 (Ring.sl 3 t.val) :=
  congrArg (fun M : Memref sig .tc .vmem S1x1024x512 .i32 => M.squeeze S1024x512 squeezes_S1x1024x512_S1024x512) (Memref.slice_unit_congr _ (coff0_2_10 t ) _ _ (fun _ => rfl) (fun _ => rfl))
set_option synthInstance.maxSize 4096 in
theorem coff0_2_11 : ∀ t : Fin grid0.N, k0_off19 (grid0.coords t) = ![2, (Ring.sl 3 t.val).val] := by decide +kernel
@[sl_canon] theorem canon0_2_11 (t : Fin grid0.N) :
    (cc0_scratch5.slice (Rect.unit (s := S3x3) (k0_off19 (grid0.coords t)) S1x1.size (k0_off19_inb (grid0.coords t)))).squeeze S_ squeezes_S1x1_S_ = cellA0_2 (Ring.sl 3 t.val) :=
  congrArg (fun A : DmaSems sig S1x1 => A.squeeze S_ squeezes_S1x1_S_) (SemArray.slice_unit_congr _ (coff0_2_11 t ) _ _)
set_option synthInstance.maxSize 4096 in
theorem coff0_2_12 : ∀ t : Fin grid0.N, ¬cond0_0 (grid0.coords t) → cond0_1 (grid0.coords t) → k0_off11 (grid0.coords t) = ![1024 * (Ring.bk 16 (t.val + 2)).val, 0] := by decide +kernel
@[sl_canon] theorem canon0_2_12 (t : Fin grid0.N) (h0 : ¬cond0_0 (grid0.coords t)) (h1 : cond0_1 (grid0.coords t)) :
    hbM0_2.slice (Rect.unit (s := S16384x512) (k0_off11 (grid0.coords t)) S1024x512.size (k0_off11_inb (grid0.coords t) h1)) (fun _ => rfl) = srcB0_2 (Ring.bk 16 (t.val + 2)) :=
  congrArg (fun M : Memref sig .tc .hbm S1024x512 .i32 => M) (Memref.slice_unit_congr _ (coff0_2_12 t h0 h1) _ _ (fun _ => rfl) (fun _ => rfl))
set_option synthInstance.maxSize 4096 in
theorem coff0_2_13 : ∀ t : Fin grid0.N, k0_off20 (grid0.coords t) = ![(Ring.sl 3 t.val).val, 0, 0] := by decide +kernel
/-- The ring-memref load's box in the slot's spelling (the block this step waited): the executor's symbolic geometry then sees it inside that slot. -/
instance (priority := high) closedOff0_2_13 (t : Fin grid0.N) : ClosedOff (k0_off20 (grid0.coords t)) := ⟨![(Ring.sl 3 t.val).val, 0, 0], coff0_2_13 t⟩
end Canon0_2

end Cert.Kernel.Ple

end
-- ==== Proof.Ple.Block.lean ====
/- What one grid point of the per-layer-embedding kernel leaves in its output block, as a function
   of the blocks it reads, and what the loads off the three transfer rings read. Over any number
   system: the two frames and the value claim share it. -/
module

public import proofs.«01_k».proof.Proof.Ple.RingG2
public import Idealize.ShloMosaic.Lib.Pipeline.Value
public import Idealize.ShloMosaic.Lib.VecWindow

@[expose] public section

set_option maxRecDepth 16384

noncomputable section

namespace Cert.Kernel.Ple

open Idealize.ShloMosaic Idealize.ShloMosaic.TcCoe Idealize.ShloMosaic.Pipeline Cert.Kernel.Gen

variable {F : FTy → Type} [FloatOps F]

theorem cast_rows : S1024x1024.ShapeCasts S1x1024x1024 := by decide
theorem cast_words : S1024x512.ShapeCasts S1x1024x512 := by decide

/-- The output block from a routing block, an embedding block, the two norm gains, the two weights
    as the kernel keeps them (rounded once, at the first point), and the three blocks its own
    transfers brought: the residual rows and the two words of packed expert rows. -/
def blk (x0 : Vec F S1024x128 .f32) (x1 : Vec F S1024x256 .f32) (x3 x4 : Vec F S1x1024 .f32)
    (wp : Vec F S256x1024 .bf16) (wg : Vec F S1024x1024 .bf16)
    (b0 : Vec F S1024x1024 .f32) (b1 b2 : Vec F S1024x512 .i32) : Vec F S1024x1024 .f32 :=
  k0_pay1
    (k0_pay5 x0 (iota .tc S1024x128 32 [1] iota_S1024x128_d1_w32) k0_pay4
      (shapeCast S1x1024x512 b1 cast_words) (shapeCast S1x1024x512 b2 cast_words)
      (shapeCast S1x1024x1024 b0 cast_rows))
    (k0_pay6 x1 wp) x3 x4 wg

/-- The printed body's values are `blk`, once each load is known to read what it should. -/
theorem blk_of {x0 v27 : Vec F S1024x128 .f32} {x1 v66 : Vec F S1024x256 .f32} {x3 v71 x4 v85 : Vec F S1x1024 .f32}
    {wp v69 : Vec F S256x1024 .bf16} {wg v100 : Vec F S1024x1024 .bf16} {b0 : Vec F S1024x1024 .f32}
    {b1 b2 : Vec F S1024x512 .i32} {v42 v47 : Vec F S1x1024x512 .i32} {v52 : Vec F S1x1024x1024 .f32}
    (h27 : v27 = x0) (h42 : v42 = shapeCast S1x1024x512 b1 cast_words) (h47 : v47 = shapeCast S1x1024x512 b2 cast_words)
    (h52 : v52 = shapeCast S1x1024x1024 b0 cast_rows) (h66 : v66 = x1) (h69 : v69 = wp) (h71 : v71 = x3)
    (h85 : v85 = x4) (h100 : v100 = wg) :
    k0_pay1 (k0_pay5 v27 (iota .tc S1024x128 32 [1] iota_S1024x128_d1_w32) k0_pay4 v42 v47 v52) (k0_pay6 v66 v69) v71 v85 v100
      = blk x0 x1 x3 x4 wp wg b0 b1 b2 := by
  subst h27 h42 h47 h52 h66 h69 h71 h85 h100; rfl

/-- A load of a whole buffer reads what it holds. -/
theorem load_whole {s : Shape} {e : EltTy} {M : Memref sig .tc .vmem s e} (hM : M.IsWhole) (x : s.Idx → Elt F e)
    {off : Fin s.rank → ℕ} (h : ∀ a, off a + s.size a ≤ s.size a) :
    M.view.readAt (Elt F) (Rect.unit off s.size h).toLoadRect (hM.unread x) = x :=
  (View.readAt_full _ _ h).trans (hM.read_unread x)

/-- The rows a slot of a ring holds, given back the leading axis of extent one, are what a load
    through the whole scratch at that slot's box reads. -/
theorem slot_cast {sp : Space} {s s' : Shape} {e : EltTy} (M : Memref sig .tc sp s e) (r : Rect s)
    (hr : ∀ a, r.stride a = 1) (hq : r.shape.Squeezes s') (hc : s'.ShapeCasts r.shape)
    (f : M.view.ty.Contents (Elt F)) :
    M.view.readAt (Elt F) r.toLoadRect f = shapeCast r.shape (((M.slice r hr).squeeze s' hq).view.read (Elt F) f) hc := by
  funext j
  rw [Memref.read_squeeze_slice M r hr hq hq.numel_eq f]
  unfold shapeCast
  rw [Shape.reshapeEquiv_reshapeEquiv, Shape.reshapeEquiv_self]

/-- A load of a slot's box, the slot having received a block whole, reads that block. -/
theorem slot_load {sp : Space} {s s' : Shape} {e : EltTy} (M : Memref sig .tc sp s e) {off off' size : Fin s.rank → ℕ}
    (ho : off = off') (p : ∀ a, off a + size a ≤ s.size a) (p' : ∀ a, off' a + size a ≤ s.size a)
    (hq : (Rect.unit off' size p').shape.Squeezes s') (hc : s'.ShapeCasts (Rect.unit off' size p').shape)
    (f : ((M.slice (Rect.unit off' size p') (fun _ => rfl)).squeeze s' hq).view.ty.Contents (Elt F)) (w : s'.Idx → Elt F e) :
    M.view.readAt (Elt F) (Rect.unit off size p).toLoadRect
      (((M.slice (Rect.unit off' size p') (fun _ => rfl)).squeeze s' hq).view.writes (Elt F) f [⟨Rect.whole s', w⟩])
      = shapeCast (Rect.unit off' size p').shape w hc := by
  subst ho
  refine (slot_cast M (Rect.unit off size p) (fun _ => rfl) hq hc _).trans ?_
  exact congrArg (fun x => shapeCast (Rect.unit off size p).shape x hc) (View.read_writes_whole _ f w)

/-- A load of the current slot of the residual ring reads the block that landed there. -/
theorem load_rows (t : Fin cfg0.N) (f : (rslot0_0 (Ring.sl 3 t.val)).view.ty.Contents (Elt F))
    (w : S1024x1024.Idx → Elt F .f32) (h : ∀ a, k0_off21 (grid0.coords t) a + S1x1024x1024.size a ≤ S3x1024x1024.size a) :
    scM0_2.view.readAt (Elt F) (Rect.unit (s := S3x1024x1024) (k0_off21 (grid0.coords t)) S1x1024x1024.size h).toLoadRect
      ((rslot0_0 (Ring.sl 3 t.val)).view.writes (Elt F) f [⟨Rect.whole S1024x1024, w⟩])
      = shapeCast S1x1024x1024 w cast_rows := by
  exact slot_load scM0_2 (coff0_0_13 t) h (inb_slot0_0 _) squeezes_S1x1024x1024_S1024x1024 cast_rows f w

/-- A load of the current slot of the first words' ring reads the block that landed there. -/
theorem load_first (t : Fin cfg0.N) (f : (rslot0_1 (Ring.sl 3 t.val)).view.ty.Contents (Elt F))
    (w : S1024x512.Idx → Elt F .i32) (h : ∀ a, k0_off20 (grid0.coords t) a + S1x1024x512.size a ≤ S3x1024x512.size a) :
    scM0_3.view.readAt (Elt F) (Rect.unit (s := S3x1024x512) (k0_off20 (grid0.coords t)) S1x1024x512.size h).toLoadRect
      ((rslot0_1 (Ring.sl 3 t.val)).view.writes (Elt F) f [⟨Rect.whole S1024x512, w⟩])
      = shapeCast S1x1024x512 w cast_words := by
  exact slot_load scM0_3 (coff0_1_13 t) h (inb_slot0_1 _) squeezes_S1x1024x512_S1024x512 cast_words f w

/-- A load of the current slot of the second words' ring reads the block that landed there. -/
theorem load_second (t : Fin cfg0.N) (f : (rslot0_2 (Ring.sl 3 t.val)).view.ty.Contents (Elt F))
    (w : S1024x512.Idx → Elt F .i32) (h : ∀ a, k0_off20 (grid0.coords t) a + S1x1024x512.size a ≤ S3x1024x512.size a) :
    scM0_4.view.readAt (Elt F) (Rect.unit (s := S3x1024x512) (k0_off20 (grid0.coords t)) S1x1024x512.size h).toLoadRect
      ((rslot0_2 (Ring.sl 3 t.val)).view.writes (Elt F) f [⟨Rect.whole S1024x512, w⟩])
      = shapeCast S1x1024x512 w cast_words := by
  exact slot_load scM0_4 (coff0_2_13 t) h (inb_slot0_2 _) squeezes_S1x1024x512_S1024x512 cast_words f w

end Cert.Kernel.Ple

end
-- ==== Proof.Ple.RunA.lean ====
/- The body of the kernel at the first point: the two weights are rounded into scratch and every ring is started. Its triple
   names what the output block ends with (`blk` of the blocks read) and what the two weight buffers hold. -/
module

public import proofs.«01_k».proof.Proof.Ple.Block

@[expose] public section

set_option maxRecDepth 16384

noncomputable section

namespace Cert.Kernel.Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple at the first point: the two weights are rounded into scratch and every ring is started: inputs and rings as they were or moved on by one step,
    the output block at `blk`; the weight buffers are taken at anything and left at the rounded weights. -/
theorem runA (c : Dev nD) (t : Fin cfg0.N) (arg4 : Memref sig .tc .vmem S1024x128 .f32) (harg4 : arg4.IsWhole) (arg5 : Memref sig .tc .vmem S1024x256 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S256x1024 .bf16) (harg11 : arg11.IsWhole) (arg12 : Memref sig .tc .vmem S1024x1024 .bf16) (harg12 : arg12.IsWhole) (hc0 : cond0_0 (grid0.coords t)) (hc1 : cond0_1 (grid0.coords t))
    (x0 : Vec F S1024x128 .f32) (x1 : Vec F S1024x256 .f32) (x2 : Vec F S256x1024 .f32) (x3 : Vec F S1x1024 .f32) (x4 : Vec F S1x1024 .f32) (x5 : Vec F S1024x1024 .f32) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ Ring.free (cellP0_1 c) (slotW0_1 c fh1) (Ring.sl 3 t.val) ∗ Ring.free (cellP0_1 c) (slotW0_1 c fh1) (Ring.sl 3 (t.val + 1)) ∗ Ring.free (cellP0_1 c) (slotW0_1 c fh1) (Ring.sl 3 (t.val + 2)) ∗ Ring.free (cellP0_2 c) (slotW0_2 c fh2) (Ring.sl 3 t.val) ∗ Ring.free (cellP0_2 c) (slotW0_2 c fh2) (Ring.sl 3 (t.val + 1)) ∗ Ring.free (cellP0_2 c) (slotW0_2 c fh2) (Ring.sl 3 (t.val + 2)) ∗ owes (c : Thread nD τ) 0 W
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (blk x0 x1 x3 x4 (k0_pay2 x2) (k0_pay3 x5) ((srcB0_0 (Ring.bk 16 t.val)).view.read (Elt F) fh0) ((srcB0_1 (Ring.bk 16 t.val)).view.read (Elt F) fh1) ((srcB0_2 (Ring.bk 16 t.val)).view.read (Elt F) fh2)) ∗ owns (c : Thread nD τ) arg11 fullShare (k0_pay2 x2) ∗ owns (c : Thread nD τ) arg12 fullShare (k0_pay3 x5) ∗ Ring.inflight (flightW0_0 c fh0) (Ring.sl 3 (t.val + 1)) (Ring.bk 16 (t.val + 1)) ∗ Ring.inflight (flightW0_0 c fh0) (Ring.sl 3 (t.val + 2)) (Ring.bk 16 (t.val + 2)) ∗ Ring.free (cellP0_0 c) (slotW0_0 c fh0) (Ring.sl 3 t.val) ∗ Ring.inflight (flightW0_1 c fh1) (Ring.sl 3 (t.val + 1)) (Ring.bk 16 (t.val + 1)) ∗ Ring.inflight (flightW0_1 c fh1) (Ring.sl 3 (t.val + 2)) (Ring.bk 16 (t.val + 2)) ∗ Ring.free (cellP0_1 c) (slotW0_1 c fh1) (Ring.sl 3 t.val) ∗ Ring.inflight (flightW0_2 c fh2) (Ring.sl 3 (t.val + 1)) (Ring.bk 16 (t.val + 1)) ∗ Ring.inflight (flightW0_2 c fh2) (Ring.sl 3 (t.val + 2)) (Ring.bk 16 (t.val + 2)) ∗ Ring.free (cellP0_2 c) (slotW0_2 c fh2) (Ring.sl 3 t.val) ∗ (∃ W', owes (c : Thread nD τ) 0 W')) -∗ K ⟨⟩))
          ⊢ wp frame (wpE (defs₀ (F := F)) Variants.none c none) Set.univ (cc0_ple (grid0.coords t) (Memref.whole main_arg0) (Memref.isWhole_whole _) (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 scM0_2 (Memref.isWhole_whole _) scM0_3 (Memref.isWhole_whole _) scM0_4 (Memref.isWhole_whole _) cc0_scratch5) K := by
    intro W K
    haveI : Fact (cond0_0 (grid0.coords t)) := ⟨hc0⟩
    haveI : Fact (cond0_1 (grid0.coords t)) := ⟨hc1⟩
    simp only [cc0_ple_eq_skeleton]; unfold cc0_ple_skel
    simp only [k0_part2_eq_skeleton, k0_part1_eq_skeleton, k0_part3_eq_skeleton]
    have hcanon0 := canon0_0_3 t hc0 hc1
    have hcanon1 := canon0_0_6 t hc0 hc1
    have hcanon2 := canon0_1_3 t hc0 hc1
    have hcanon3 := canon0_1_6 t hc0 hc1
    have hcanon4 := canon0_2_3 t hc0 hc1
    have hcanon5 := canon0_2_6 t hc0 hc1
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_1_0, ⟨%fs0_1_0, Hs0_1_0, Hw0_1_0⟩⟩, ⟨Hc0_1_1, ⟨%fs0_1_1, Hs0_1_1, Hw0_1_1⟩⟩, ⟨Hc0_1_2, ⟨%fs0_1_2, Hs0_1_2, Hw0_1_2⟩⟩, ⟨Hc0_2_0, ⟨%fs0_2_0, Hs0_2_0, Hw0_2_0⟩⟩, ⟨Hc0_2_1, ⟨%fs0_2_1, Hs0_2_1, Hw0_2_1⟩⟩, ⟨Hc0_2_2, ⟨%fs0_2_2, Hs0_2_2, Hw0_2_2⟩⟩, HW, Hk⟩
    ihave Hsp0_0_0 := (src0_0_split c fh0 (Ring.sl 3 t.val) (Ring.bk 16 t.val)).1 $$ Hw0_0_0
    icases Hsp0_0_0 with ⟨Hh0_0_0, Hr0_0_0⟩
    ihave Hsp0_0_1 := (src0_0_split c fh0 (Ring.sl 3 (t.val + 1)) (Ring.bk 16 (t.val + 1))).1 $$ Hw0_0_1
    icases Hsp0_0_1 with ⟨Hh0_0_1, Hr0_0_1⟩
    ihave Hsp0_0_2 := (src0_0_split c fh0 (Ring.sl 3 (t.val + 2)) (Ring.bk 16 (t.val + 2))).1 $$ Hw0_0_2
    icases Hsp0_0_2 with ⟨Hh0_0_2, Hr0_0_2⟩
    ihave Hsp0_1_0 := (src0_1_split c fh1 (Ring.sl 3 t.val) (Ring.bk 16 t.val)).1 $$ Hw0_1_0
    icases Hsp0_1_0 with ⟨Hh0_1_0, Hr0_1_0⟩
    ihave Hsp0_1_1 := (src0_1_split c fh1 (Ring.sl 3 (t.val + 1)) (Ring.bk 16 (t.val + 1))).1 $$ Hw0_1_1
    icases Hsp0_1_1 with ⟨Hh0_1_1, Hr0_1_1⟩
    ihave Hsp0_1_2 := (src0_1_split c fh1 (Ring.sl 3 (t.val + 2)) (Ring.bk 16 (t.val + 2))).1 $$ Hw0_1_2
    icases Hsp0_1_2 with ⟨Hh0_1_2, Hr0_1_2⟩
    ihave Hsp0_2_0 := (src0_2_split c fh2 (Ring.sl 3 t.val) (Ring.bk 16 t.val)).1 $$ Hw0_2_0
    icases Hsp0_2_0 with ⟨Hh0_2_0, Hr0_2_0⟩
    ihave Hsp0_2_1 := (src0_2_split c fh2 (Ring.sl 3 (t.val + 1)) (Ring.bk 16 (t.val + 1))).1 $$ Hw0_2_1
    icases Hsp0_2_1 with ⟨Hh0_2_1, Hr0_2_1⟩
    ihave Hsp0_2_2 := (src0_2_split c fh2 (Ring.sl 3 (t.val + 2)) (Ring.bk 16 (t.val + 2))).1 $$ Hw0_2_2
    icases Hsp0_2_2 with ⟨Hh0_2_2, Hr0_2_2⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; swap; · iexact H6
      ipureintro
      exact (View.read_writes_full _ _ _ _ _).trans (blk_of (load_whole harg4 x0 _) (load_first t _ _ _)
        (load_second t _ _ _) (load_rows t _ _ _) (load_whole harg5 x1 _)
        ((View.readCov_full _ _ _ _ _).trans (congrArg k0_pay2 (load_whole harg6 x2 _)))
        (load_whole harg7 x3 _) (load_whole harg8 x4 _)
        ((View.readCov_full _ _ _ _ _).trans (congrArg k0_pay3 (load_whole harg9 x5 _))))
    isplitl [HS0]
    · iexists _; isplitr; swap; · iexact HS0
      ipureintro
      exact (View.read_writes_full _ _ _ _ _).trans (congrArg k0_pay2 (load_whole harg6 x2 _))
    isplitl [HS1]
    · iexists _; isplitr; swap; · iexact HS1
      ipureintro
      exact (View.read_writes_full _ _ _ _ _).trans (congrArg k0_pay3 (load_whole harg9 x5 _))
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 16 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_2 Hr0_1_2]
    · iexists _; isplitl [Hc0_1_2]; · iexact Hc0_1_2
      iexact Hr0_1_2
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 3 t.val) (Ring.bk 16 t.val)).2; isplitl [Hh0_1_0]; · iexact Hh0_1_0
      iexact Hr0_1_0
    isplitl [Hc0_2_1 Hr0_2_1]
    · iexists _; isplitl [Hc0_2_1]; · iexact Hc0_2_1
      iexact Hr0_2_1
    isplitl [Hc0_2_2 Hr0_2_2]
    · iexists _; isplitl [Hc0_2_2]; · iexact Hc0_2_2
      iexact Hr0_2_2
    isplitl [Hc0_2_0 Hs0_2_0 Hh0_2_0 Hr0_2_0]
    · isplitl [Hc0_2_0]; · iexact Hc0_2_0
      iexists _; isplitl [Hs0_2_0]; · iexact Hs0_2_0
      iapply (src0_2_split c fh2 (Ring.sl 3 t.val) (Ring.bk 16 t.val)).2; isplitl [Hh0_2_0]; · iexact Hh0_2_0
      iexact Hr0_2_0
    iexists _; iexact HW

end Cert.Kernel.Ple

end
-- ==== Proof.Ple.RunB.lean ====
/- The body of the kernel at a middle point: the rings move on and the weights are read from scratch. Its triple
   names what the output block ends with (`blk` of the blocks read) and what the two weight buffers hold. -/
module

public import proofs.«01_k».proof.Proof.Ple.RunA

@[expose] public section

set_option maxRecDepth 16384

noncomputable section

namespace Cert.Kernel.Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple at a middle point: the rings move on and the weights are read from scratch: inputs and rings as they were or moved on by one step,
    the output block at `blk`; the weight buffers are read and kept. -/
theorem runB (c : Dev nD) (t : Fin cfg0.N) (arg4 : Memref sig .tc .vmem S1024x128 .f32) (harg4 : arg4.IsWhole) (arg5 : Memref sig .tc .vmem S1024x256 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S256x1024 .bf16) (harg11 : arg11.IsWhole) (arg12 : Memref sig .tc .vmem S1024x1024 .bf16) (harg12 : arg12.IsWhole) (hc0 : ¬cond0_0 (grid0.coords t)) (hc1 : cond0_1 (grid0.coords t))
    (x0 : Vec F S1024x128 .f32) (x1 : Vec F S1024x256 .f32) (x2 : Vec F S256x1024 .f32) (x3 : Vec F S1x1024 .f32) (x4 : Vec F S1x1024 .f32) (x5 : Vec F S1024x1024 .f32) (wp0 : Vec F S256x1024 .bf16) (wg0 : Vec F S1024x1024 .bf16) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare wp0 ∗ owns (c : Thread nD τ) arg12 fullShare wg0 ∗ Ring.inflight (flightW0_0 c fh0) (Ring.sl 3 t.val) (Ring.bk 16 t.val) ∗ Ring.inflight (flightW0_0 c fh0) (Ring.sl 3 (t.val + 1)) (Ring.bk 16 (t.val + 1)) ∗ Ring.free (cellP0_0 c) (slotW0_0 c fh0) (Ring.sl 3 (t.val + 2)) ∗ Ring.inflight (flightW0_1 c fh1) (Ring.sl 3 t.val) (Ring.bk 16 t.val) ∗ Ring.inflight (flightW0_1 c fh1) (Ring.sl 3 (t.val + 1)) (Ring.bk 16 (t.val + 1)) ∗ Ring.free (cellP0_1 c) (slotW0_1 c fh1) (Ring.sl 3 (t.val + 2)) ∗ Ring.inflight (flightW0_2 c fh2) (Ring.sl 3 t.val) (Ring.bk 16 t.val) ∗ Ring.inflight (flightW0_2 c fh2) (Ring.sl 3 (t.val + 1)) (Ring.bk 16 (t.val + 1)) ∗ Ring.free (cellP0_2 c) (slotW0_2 c fh2) (Ring.sl 3 (t.val + 2)) ∗ owes (c : Thread nD τ) 0 W
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (blk x0 x1 x3 x4 wp0 wg0 ((srcB0_0 (Ring.bk 16 t.val)).view.read (Elt F) fh0) ((srcB0_1 (Ring.bk 16 t.val)).view.read (Elt F) fh1) ((srcB0_2 (Ring.bk 16 t.val)).view.read (Elt F) fh2)) ∗ owns (c : Thread nD τ) arg11 fullShare wp0 ∗ owns (c : Thread nD τ) arg12 fullShare wg0 ∗ Ring.inflight (flightW0_0 c fh0) (Ring.sl 3 (t.val + 1)) (Ring.bk 16 (t.val + 1)) ∗ Ring.inflight (flightW0_0 c fh0) (Ring.sl 3 (t.val + 2)) (Ring.bk 16 (t.val + 2)) ∗ Ring.free (cellP0_0 c) (slotW0_0 c fh0) (Ring.sl 3 t.val) ∗ Ring.inflight (flightW0_1 c fh1) (Ring.sl 3 (t.val + 1)) (Ring.bk 16 (t.val + 1)) ∗ Ring.inflight (flightW0_1 c fh1) (Ring.sl 3 (t.val + 2)) (Ring.bk 16 (t.val + 2)) ∗ Ring.free (cellP0_1 c) (slotW0_1 c fh1) (Ring.sl 3 t.val) ∗ Ring.inflight (flightW0_2 c fh2) (Ring.sl 3 (t.val + 1)) (Ring.bk 16 (t.val + 1)) ∗ Ring.inflight (flightW0_2 c fh2) (Ring.sl 3 (t.val + 2)) (Ring.bk 16 (t.val + 2)) ∗ Ring.free (cellP0_2 c) (slotW0_2 c fh2) (Ring.sl 3 t.val) ∗ (∃ W', owes (c : Thread nD τ) 0 W')) -∗ K ⟨⟩))
          ⊢ wp frame (wpE (defs₀ (F := F)) Variants.none c none) Set.univ (cc0_ple (grid0.coords t) (Memref.whole main_arg0) (Memref.isWhole_whole _) (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 scM0_2 (Memref.isWhole_whole _) scM0_3 (Memref.isWhole_whole _) scM0_4 (Memref.isWhole_whole _) cc0_scratch5) K := by
    intro W K
    haveI : Fact (¬cond0_0 (grid0.coords t)) := ⟨hc0⟩
    haveI : Fact (cond0_1 (grid0.coords t)) := ⟨hc1⟩
    simp only [cc0_ple_eq_skeleton]; unfold cc0_ple_skel
    simp only [k0_part2_eq_skeleton, k0_part3_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, ⟨%ff0_2_0, Hf0_2_0, Hrf0_2_0⟩, ⟨%ff0_2_1, Hf0_2_1, Hrf0_2_1⟩, ⟨Hc0_2_2, ⟨%fs0_2_2, Hs0_2_2, Hw0_2_2⟩⟩, HW, Hk⟩
    ihave Hsp0_0_2 := (src0_0_split c fh0 (Ring.sl 3 (t.val + 2)) (Ring.bk 16 (t.val + 2))).1 $$ Hw0_0_2
    icases Hsp0_0_2 with ⟨Hh0_0_2, Hr0_0_2⟩
    ihave Hsp0_1_2 := (src0_1_split c fh1 (Ring.sl 3 (t.val + 2)) (Ring.bk 16 (t.val + 2))).1 $$ Hw0_1_2
    icases Hsp0_1_2 with ⟨Hh0_1_2, Hr0_1_2⟩
    ihave Hsp0_2_2 := (src0_2_split c fh2 (Ring.sl 3 (t.val + 2)) (Ring.bk 16 (t.val + 2))).1 $$ Hw0_2_2
    icases Hsp0_2_2 with ⟨Hh0_2_2, Hr0_2_2⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hs0; obtain rfl := harg12.eq_unread hs1
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; swap; · iexact H6
      ipureintro
      exact (View.read_writes_full _ _ _ _ _).trans (blk_of (load_whole harg4 x0 _) (load_first t _ _ _)
        (load_second t _ _ _) (load_rows t _ _ _) (load_whole harg5 x1 _)
        (load_whole harg11 wp0 _)
        (load_whole harg7 x3 _) (load_whole harg8 x4 _)
        (load_whole harg12 wg0 _))
    isplitl [HS0]
    · iexists _; isplitr; · ipureintro; exact harg11.read_unread _
      iexact HS0
    isplitl [HS1]
    · iexists _; isplitr; · ipureintro; exact harg12.read_unread _
      iexact HS1
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 16 t.val)).2; isplitl [Hf0_0_0_src]; · iexact Hf0_0_0_src
      iexact Hrf0_0_0
    isplitl [Hf0_1_1 Hrf0_1_1]
    · iexists ff0_1_1; isplitl [Hf0_1_1]; · iexact Hf0_1_1
      iexact Hrf0_1_1
    isplitl [Hc0_1_2 Hr0_1_2]
    · iexists _; isplitl [Hc0_1_2]; · iexact Hc0_1_2
      iexact Hr0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 16 t.val)).2; isplitl [Hf0_1_0_src]; · iexact Hf0_1_0_src
      iexact Hrf0_1_0
    isplitl [Hf0_2_1 Hrf0_2_1]
    · iexists ff0_2_1; isplitl [Hf0_2_1]; · iexact Hf0_2_1
      iexact Hrf0_2_1
    isplitl [Hc0_2_2 Hr0_2_2]
    · iexists _; isplitl [Hc0_2_2]; · iexact Hc0_2_2
      iexact Hr0_2_2
    isplitl [Hf0_2_0 Hf0_2_0_dst Hf0_2_0_src Hrf0_2_0]
    · isplitl [Hf0_2_0]; · iexact Hf0_2_0
      iexists _; isplitl [Hf0_2_0_dst]; · iexact Hf0_2_0_dst
      iapply (src0_2_split c fh2 (Ring.sl 3 t.val) (Ring.bk 16 t.val)).2; isplitl [Hf0_2_0_src]; · iexact Hf0_2_0_src
      iexact Hrf0_2_0
    iexists _; iexact HW

end Cert.Kernel.Ple

end
-- ==== Proof.Ple.RunC.lean ====
/- The body of the kernel at one of the last two points: nothing is left to start. Its triple
   names what the output block ends with (`blk` of the blocks read) and what the two weight buffers hold. -/
module

public import proofs.«01_k».proof.Proof.Ple.RunB

@[expose] public section

set_option maxRecDepth 16384

noncomputable section

namespace Cert.Kernel.Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple at one of the last two points: nothing is left to start: inputs and rings as they were or moved on by one step,
    the output block at `blk`; the weight buffers are read and kept. -/
theorem runC (c : Dev nD) (t : Fin cfg0.N) (arg4 : Memref sig .tc .vmem S1024x128 .f32) (harg4 : arg4.IsWhole) (arg5 : Memref sig .tc .vmem S1024x256 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S256x1024 .bf16) (harg11 : arg11.IsWhole) (arg12 : Memref sig .tc .vmem S1024x1024 .bf16) (harg12 : arg12.IsWhole) (hc0 : ¬cond0_0 (grid0.coords t)) (hc1 : ¬cond0_1 (grid0.coords t))
    (x0 : Vec F S1024x128 .f32) (x1 : Vec F S1024x256 .f32) (x2 : Vec F S256x1024 .f32) (x3 : Vec F S1x1024 .f32) (x4 : Vec F S1x1024 .f32) (x5 : Vec F S1024x1024 .f32) (wp0 : Vec F S256x1024 .bf16) (wg0 : Vec F S1024x1024 .bf16) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare wp0 ∗ owns (c : Thread nD τ) arg12 fullShare wg0 ∗ Ring.inflight (flightW0_0 c fh0) (Ring.sl 3 t.val) (Ring.bk 16 t.val) ∗ Ring.slotAt 2 (cellP0_0 c) (slotW0_0 c fh0) (flightW0_0 c fh0) t.val 1 ∗ Ring.free (cellP0_0 c) (slotW0_0 c fh0) (Ring.sl 3 (t.val + 2)) ∗ Ring.inflight (flightW0_1 c fh1) (Ring.sl 3 t.val) (Ring.bk 16 t.val) ∗ Ring.slotAt 2 (cellP0_1 c) (slotW0_1 c fh1) (flightW0_1 c fh1) t.val 1 ∗ Ring.free (cellP0_1 c) (slotW0_1 c fh1) (Ring.sl 3 (t.val + 2)) ∗ Ring.inflight (flightW0_2 c fh2) (Ring.sl 3 t.val) (Ring.bk 16 t.val) ∗ Ring.slotAt 2 (cellP0_2 c) (slotW0_2 c fh2) (flightW0_2 c fh2) t.val 1 ∗ Ring.free (cellP0_2 c) (slotW0_2 c fh2) (Ring.sl 3 (t.val + 2)) ∗ owes (c : Thread nD τ) 0 W
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (blk x0 x1 x3 x4 wp0 wg0 ((srcB0_0 (Ring.bk 16 t.val)).view.read (Elt F) fh0) ((srcB0_1 (Ring.bk 16 t.val)).view.read (Elt F) fh1) ((srcB0_2 (Ring.bk 16 t.val)).view.read (Elt F) fh2)) ∗ owns (c : Thread nD τ) arg11 fullShare wp0 ∗ owns (c : Thread nD τ) arg12 fullShare wg0 ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ Ring.slotAt 2 (cellP0_1 c) (slotW0_1 c fh1) (flightW0_1 c fh1) t.val 1 ∗ Ring.free (cellP0_1 c) (slotW0_1 c fh1) (Ring.sl 3 (t.val + 2)) ∗ Ring.free (cellP0_1 c) (slotW0_1 c fh1) (Ring.sl 3 t.val) ∗ Ring.slotAt 2 (cellP0_2 c) (slotW0_2 c fh2) (flightW0_2 c fh2) t.val 1 ∗ Ring.free (cellP0_2 c) (slotW0_2 c fh2) (Ring.sl 3 (t.val + 2)) ∗ Ring.free (cellP0_2 c) (slotW0_2 c fh2) (Ring.sl 3 t.val) ∗ (∃ W', owes (c : Thread nD τ) 0 W')) -∗ K ⟨⟩))
          ⊢ wp frame (wpE (defs₀ (F := F)) Variants.none c none) Set.univ (cc0_ple (grid0.coords t) (Memref.whole main_arg0) (Memref.isWhole_whole _) (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 scM0_2 (Memref.isWhole_whole _) scM0_3 (Memref.isWhole_whole _) scM0_4 (Memref.isWhole_whole _) cc0_scratch5) K := by
    intro W K
    haveI : Fact (¬cond0_0 (grid0.coords t)) := ⟨hc0⟩
    haveI : Fact (¬cond0_1 (grid0.coords t)) := ⟨hc1⟩
    simp only [cc0_ple_eq_skeleton]; unfold cc0_ple_skel
    simp only [k0_part2_eq_skeleton, k0_part3_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, ⟨%ff0_0_0, Hf0_0_0, Hrf0_0_0⟩, Hro0_0_1, ⟨Hc0_0_2, ⟨%fs0_0_2, Hs0_0_2, Hw0_0_2⟩⟩, ⟨%ff0_1_0, Hf0_1_0, Hrf0_1_0⟩, Hro0_1_1, ⟨Hc0_1_2, ⟨%fs0_1_2, Hs0_1_2, Hw0_1_2⟩⟩, ⟨%ff0_2_0, Hf0_2_0, Hrf0_2_0⟩, Hro0_2_1, ⟨Hc0_2_2, ⟨%fs0_2_2, Hs0_2_2, Hw0_2_2⟩⟩, HW, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hs0; obtain rfl := harg12.eq_unread hs1
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; swap; · iexact H6
      ipureintro
      exact (View.read_writes_full _ _ _ _ _).trans (blk_of (load_whole harg4 x0 _) (load_first t _ _ _)
        (load_second t _ _ _) (load_rows t _ _ _) (load_whole harg5 x1 _)
        (load_whole harg11 wp0 _)
        (load_whole harg7 x3 _) (load_whole harg8 x4 _)
        (load_whole harg12 wg0 _))
    isplitl [HS0]
    · iexists _; isplitr; · ipureintro; exact harg11.read_unread _
      iexact HS0
    isplitl [HS1]
    · iexists _; isplitr; · ipureintro; exact harg12.read_unread _
      iexact HS1
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 16 t.val)).2; isplitl [Hf0_0_0_src]; · iexact Hf0_0_0_src
      iexact Hrf0_0_0
    isplitl [Hro0_1_1]; · iexact Hro0_1_1
    isplitl [Hc0_1_2 Hs0_1_2 Hw0_1_2]
    · isplitl [Hc0_1_2]; · iexact Hc0_1_2
      iexists _; isplitl [Hs0_1_2]; · iexact Hs0_1_2
      iexact Hw0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 16 t.val)).2; isplitl [Hf0_1_0_src]; · iexact Hf0_1_0_src
      iexact Hrf0_1_0
    isplitl [Hro0_2_1]; · iexact Hro0_2_1
    isplitl [Hc0_2_2 Hs0_2_2 Hw0_2_2]
    · isplitl [Hc0_2_2]; · iexact Hc0_2_2
      iexists _; isplitl [Hs0_2_2]; · iexact Hs0_2_2
      iexact Hw0_2_2
    isplitl [Hf0_2_0 Hf0_2_0_dst Hf0_2_0_src Hrf0_2_0]
    · isplitl [Hf0_2_0]; · iexact Hf0_2_0
      iexists _; isplitl [Hf0_2_0_dst]; · iexact Hf0_2_0_dst
      iapply (src0_2_split c fh2 (Ring.sl 3 t.val) (Ring.bk 16 t.val)).2; isplitl [Hf0_2_0_src]; · iexact Hf0_2_0_src
      iexact Hrf0_2_0
    iexists _; iexact HW

end Cert.Kernel.Ple

end
-- ==== Proof.Ple.Run.lean ====
/- The run of the per-layer-embedding kernel with its output named: the region's proof data, the body
   obligation at every point, the launch, and what the result array and the argument arrays end at.
   Over any number system. -/
module

public import proofs.«01_k».proof.Proof.Ple.RunC
public import Idealize.ShloMosaic.Lib.Claim

@[expose] public section

set_option maxRecDepth 16384

noncomputable section

namespace Cert.Kernel.Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The first grid point. -/
abbrev t0 : Fin cfg0.N := ⟨0, by rw [show cfg0.N = 16 from N_0]; decide⟩

/-- The embedding weight and the gate weight as the kernel keeps them from its first point on. -/
def wEmb (c : Dev nD) : Vec F S256x1024 .bf16 := k0_pay2 (iblk m c 2 t0)
def wGate (c : Dev nD) : Vec F S1024x1024 .bf16 := k0_pay3 (iblk m c 5 t0)

/-- The output block point `t` leaves. -/
def blkAt (c : Dev nD) (t : Fin cfg0.N) : Vec F S1024x1024 .f32 :=
  blk (iblk m c 0 t) (iblk m c 1 t) (iblk m c 3 t) (iblk m c 4 t) (wEmb m c) (wGate m c)
    ((srcB0_0 (Ring.bk 16 t.val)).view.read (Elt F) (V m c main_arg0))
    ((srcB0_1 (Ring.bk 16 t.val)).view.read (Elt F) (V m c main_arg1))
    ((srcB0_2 (Ring.bk 16 t.val)).view.read (Elt F) (V m c main_arg2))

/-- The weight buffers before point `k`: anything before the first, the rounded weights after it. -/
def weights (c : Dev nD) (k : ℕ) : sProp 𝕄 :=
  if k = 0 then iprop((∃ d, owns (c : Thread nD τ) scM0_0 fullShare d) ∗ (∃ d, owns (c : Thread nD τ) scM0_1 fullShare d))
  else iprop(owns (c : Thread nD τ) scM0_0 fullShare (wEmb m c) ∗ owns (c : Thread nD τ) scM0_1 fullShare (wGate m c))

/-- The region invariant before point `k`: the weight buffers, the generator register, the three rings. -/
def PhiR (c : Dev nD) (k : ℕ) : sProp 𝕄 := iprop(weights m c k ∗ (∃ r, prngReg c r) ∗ ringAt0_0 c (V m c main_arg0) k ∗ ringAt0_1 c (V m c main_arg1) k ∗ ringAt0_2 c (V m c main_arg2) k)

/-- The proof data of the one pipeline on core `c`: each input's buffer keeps its block, the output's holds `blkAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkAt m c t
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blkAt m c t := by dsimp only [dats]

/-- Each input's current staging buffer holds its block at every point, fetched there or not (unfetched, its index has not moved). -/
theorem before0_0 (c : Dev nD) (t : Fin cfg0.N) (d) : (dats m 0 c).before 0 t d = iblk m c 0 t :=
  ((dats m 0 c).before_in_eq_fetched 0 rfl (fun _ => rfl) (fun _ _ _ => rfl) (fun t => (after0_0 m c t).trans rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => (after0_1 m c t).trans rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => (after0_2 m c t).trans rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => (after0_3 m c t).trans rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => (after0_4 m c t).trans rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun t => (after0_5 m c t).trans rfl) t d).trans rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 3600000 in
/-- The body at any point: the case the point is in is decided by arithmetic, its run applied, and the rings'
    pieces put back as the invariant before the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [after0_0, after0_1, after0_2, after0_3, after0_4, after0_5, after0_6]
  rw [PhiR_castSucc m c t, PhiR_succ m c t]
  unfold Dat.owesAt Pipeline.owesWithin
  rw [show (dats m 0 c).owed t.castSucc = 0 from rfl, show (dats m 0 c).owed t.succ = 0 from rfl]
  unfold PhiR weights ringAt0_0 ringAt0_1 ringAt0_2
  simp only [if_neg (show ¬t.val + 1 = 0 by omega)]
  have hgN : grid0.N = 16 := N_0
  have hN : t.val < 16 := lt_of_lt_of_eq t.isLt (show cfg0.N = 16 from N_0)
  by_cases h0 : t.val % 16 = 0
  · by_cases h1 : t.val < 14
    · obtain rfl : t = t0 := Fin.ext (show t.val = 0 by omega)
      have hr0 := rstep0_0_A t0 ((hcond0_0 t0).mpr h0) ((hcond0_1 t0).mpr h1)
      obtain ⟨hK00, hK10⟩ := hr0
      rw [if_pos hK00, if_pos hK00]
      rw [Ring.At₀_eq3' _ _ _ t0.val hK00 (by decide : 3 ≤ 16), Ring.At3_one' _ _ _ _ t0.val hK00 (by decide : 3 ≤ 16)]
      have hr1 := rstep0_1_A t0 ((hcond0_0 t0).mpr h0) ((hcond0_1 t0).mpr h1)
      obtain ⟨hK01, hK11⟩ := hr1
      rw [if_pos hK01]
      rw [Ring.At₀_eq3' _ _ _ t0.val hK01 (by decide : 3 ≤ 16), Ring.At3_one' _ _ _ _ t0.val hK01 (by decide : 3 ≤ 16)]
      have hr2 := rstep0_2_A t0 ((hcond0_0 t0).mpr h0) ((hcond0_1 t0).mpr h1)
      obtain ⟨hK02, hK12⟩ := hr2
      rw [if_pos hK02]
      rw [Ring.At₀_eq3' _ _ _ t0.val hK02 (by decide : 3 ≤ 16), Ring.At3_one' _ _ _ _ t0.val hK02 (by decide : 3 ≤ 16)]
      iintro ⟨⟨⟨HS0, HS1⟩, Hg, ⟨-, Hfr0_0_0, Hfr0_0_1, Hfr0_0_2⟩, ⟨-, Hfr0_1_0, Hfr0_1_1, Hfr0_1_2⟩, ⟨-, Hfr0_2_0, Hfr0_2_1, Hfr0_2_2⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((runA c t0 _ _ _ _ _ _ _ _ _ _ _ _ _ _ _ _ _ _ ((hcond0_0 t0).mpr h0) ((hcond0_1 t0).mpr h1) (iblk m c 0 t0) (iblk m c 1 t0) (iblk m c 2 t0) (iblk m c 3 t0) (iblk m c 4 t0) (iblk m c 5 t0) (V m c main_arg0) (V m c main_arg1) (V m c main_arg2)) W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [Hfr0_0_0]; · iexact Hfr0_0_0
      isplitl [Hfr0_0_1]; · iexact Hfr0_0_1
      isplitl [Hfr0_0_2]; · iexact Hfr0_0_2
      isplitl [Hfr0_1_0]; · iexact Hfr0_1_0
      isplitl [Hfr0_1_1]; · iexact Hfr0_1_1
      isplitl [Hfr0_1_2]; · iexact Hfr0_1_2
      isplitl [Hfr0_2_0]; · iexact Hfr0_2_0
      isplitl [Hfr0_2_1]; · iexact Hfr0_2_1
      isplitl [Hfr0_2_2]; · iexact Hfr0_2_2
      isplitl [HW]; · iexact HW
      iintro ⟨H0, H1, H2, H3, H4, H5, H6, HS0, HS1, Hfa0_0', Hfb0_0', Hfc0_0', Hfa0_1', Hfb0_1', Hfc0_1', Hfa0_2', Hfb0_2', Hfc0_2', ⟨%W', HW'⟩⟩
      isplitl [HS0 HS1 Hg Hfa0_0' Hfb0_0' Hfc0_0' Hfa0_1' Hfb0_1' Hfc0_1' Hfa0_2' Hfb0_2' Hfc0_2']
      · isplitl [HS0 HS1]
        · isplitl [HS0]; · iexact HS0
          iexact HS1
        isplitl [Hg]; · iexact Hg
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        isplitl [Hfa0_1' Hfb0_1' Hfc0_1']
        · iapply (Ring.with_homes (Idealize.SL.BI.Entails.refl _))
          isplitl [Hfa0_1']; · iexact Hfa0_1'
          isplitl [Hfb0_1']; · iexact Hfb0_1'
          iexact Hfc0_1'
        iapply (Ring.with_homes (Idealize.SL.BI.Entails.refl _))
        isplitl [Hfa0_2']; · iexact Hfa0_2'
        isplitl [Hfb0_2']; · iexact Hfb0_2'
        iexact Hfc0_2'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6
    · exfalso; omega
  · by_cases h1 : t.val < 14
    · have hr0 := rstep0_0_B t (fun h => h0 ((hcond0_0 t).mp h)) ((hcond0_1 t).mpr h1)
      obtain ⟨hK10, hKB0, hKs0⟩ := hr0
      rw [if_neg (show ¬t.val = 0 by omega), if_neg (show ¬t.val = 0 by omega)]
      rw [Ring.At3_here _ _ _ _ t.val hKB0, Ring.At3_next _ _ _ _ t.val hKB0, Ring.slotAt3_next0 _ _ _ t.val (by omega), Ring.slotAt3_next1 _ _ _ t.val hKB0]
      have hr1 := rstep0_1_B t (fun h => h0 ((hcond0_0 t).mp h)) ((hcond0_1 t).mpr h1)
      obtain ⟨hK11, hKB1, hKs1⟩ := hr1
      rw [if_neg (show ¬t.val = 0 by omega)]
      rw [Ring.At3_here _ _ _ _ t.val hKB1, Ring.At3_next _ _ _ _ t.val hKB1, Ring.slotAt3_next0 _ _ _ t.val (by omega), Ring.slotAt3_next1 _ _ _ t.val hKB1]
      have hr2 := rstep0_2_B t (fun h => h0 ((hcond0_0 t).mp h)) ((hcond0_1 t).mpr h1)
      obtain ⟨hK12, hKB2, hKs2⟩ := hr2
      rw [if_neg (show ¬t.val = 0 by omega)]
      rw [Ring.At3_here _ _ _ _ t.val hKB2, Ring.At3_next _ _ _ _ t.val hKB2, Ring.slotAt3_next0 _ _ _ t.val (by omega), Ring.slotAt3_next1 _ _ _ t.val hKB2]
      iintro ⟨⟨⟨HS0, HS1⟩, Hg, ⟨-, Hfr0_0_0, Hfr0_0_1, Hfr0_0_2⟩, ⟨-, Hfr0_1_0, Hfr0_1_1, Hfr0_1_2⟩, ⟨-, Hfr0_2_0, Hfr0_2_1, Hfr0_2_2⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((runB c t _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (wEmb m c) (wGate m c) (V m c main_arg0) (V m c main_arg1) (V m c main_arg2)) W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [Hfr0_0_0]; · iexact Hfr0_0_0
      isplitl [Hfr0_0_1]; · iexact Hfr0_0_1
      isplitl [Hfr0_0_2]; · iexact Hfr0_0_2
      isplitl [Hfr0_1_0]; · iexact Hfr0_1_0
      isplitl [Hfr0_1_1]; · iexact Hfr0_1_1
      isplitl [Hfr0_1_2]; · iexact Hfr0_1_2
      isplitl [Hfr0_2_0]; · iexact Hfr0_2_0
      isplitl [Hfr0_2_1]; · iexact Hfr0_2_1
      isplitl [Hfr0_2_2]; · iexact Hfr0_2_2
      isplitl [HW]; · iexact HW
      iintro ⟨H0, H1, H2, H3, H4, H5, H6, HS0, HS1, Hfa0_0', Hfb0_0', Hfc0_0', Hfa0_1', Hfb0_1', Hfc0_1', Hfa0_2', Hfb0_2', Hfc0_2', ⟨%W', HW'⟩⟩
      isplitl [HS0 HS1 Hg Hfa0_0' Hfb0_0' Hfc0_0' Hfa0_1' Hfb0_1' Hfc0_1' Hfa0_2' Hfb0_2' Hfc0_2']
      · isplitl [HS0 HS1]
        · isplitl [HS0]; · iexact HS0
          iexact HS1
        isplitl [Hg]; · iexact Hg
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        isplitl [Hfa0_1' Hfb0_1' Hfc0_1']
        · iapply (Ring.with_homes (Idealize.SL.BI.Entails.refl _))
          isplitl [Hfa0_1']; · iexact Hfa0_1'
          isplitl [Hfb0_1']; · iexact Hfb0_1'
          iexact Hfc0_1'
        iapply (Ring.with_homes (Idealize.SL.BI.Entails.refl _))
        isplitl [Hfa0_2']; · iexact Hfa0_2'
        isplitl [Hfb0_2']; · iexact Hfb0_2'
        iexact Hfc0_2'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6
    · have hr0 := rstep0_0_C t (fun h => h0 ((hcond0_0 t).mp h)) (fun h => h1 ((hcond0_1 t).mp h))
      obtain ⟨hK10, hKB0, hKlt0, hKs0⟩ := hr0
      rw [if_neg (show ¬t.val = 0 by omega), if_neg (show ¬t.val = 0 by omega)]
      rw [Ring.At3_here_tail _ _ _ _ t.val hKlt0, Ring.At3_next_tail _ _ _ _ t.val hKB0 hKlt0, Ring.slotAt3_tail_role _ _ _ t.val]
      have hr1 := rstep0_1_C t (fun h => h0 ((hcond0_0 t).mp h)) (fun h => h1 ((hcond0_1 t).mp h))
      obtain ⟨hK11, hKB1, hKlt1, hKs1⟩ := hr1
      rw [if_neg (show ¬t.val = 0 by omega)]
      rw [Ring.At3_here_tail _ _ _ _ t.val hKlt1, Ring.At3_next_tail _ _ _ _ t.val hKB1 hKlt1, Ring.slotAt3_tail_role _ _ _ t.val]
      have hr2 := rstep0_2_C t (fun h => h0 ((hcond0_0 t).mp h)) (fun h => h1 ((hcond0_1 t).mp h))
      obtain ⟨hK12, hKB2, hKlt2, hKs2⟩ := hr2
      rw [if_neg (show ¬t.val = 0 by omega)]
      rw [Ring.At3_here_tail _ _ _ _ t.val hKlt2, Ring.At3_next_tail _ _ _ _ t.val hKB2 hKlt2, Ring.slotAt3_tail_role _ _ _ t.val]
      iintro ⟨⟨⟨HS0, HS1⟩, Hg, ⟨-, Hfr0_0_0, Hfr0_0_1, Hfr0_0_2⟩, ⟨-, Hfr0_1_0, Hfr0_1_1, Hfr0_1_2⟩, ⟨-, Hfr0_2_0, Hfr0_2_1, Hfr0_2_2⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((runC c t _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (wEmb m c) (wGate m c) (V m c main_arg0) (V m c main_arg1) (V m c main_arg2)) W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [Hfr0_0_0]; · iexact Hfr0_0_0
      isplitl [Hfr0_0_1]; · iexact Hfr0_0_1
      isplitl [Hfr0_0_2]; · iexact Hfr0_0_2
      isplitl [Hfr0_1_0]; · iexact Hfr0_1_0
      isplitl [Hfr0_1_1]; · iexact Hfr0_1_1
      isplitl [Hfr0_1_2]; · iexact Hfr0_1_2
      isplitl [Hfr0_2_0]; · iexact Hfr0_2_0
      isplitl [Hfr0_2_1]; · iexact Hfr0_2_1
      isplitl [Hfr0_2_2]; · iexact Hfr0_2_2
      isplitl [HW]; · iexact HW
      iintro ⟨H0, H1, H2, H3, H4, H5, H6, HS0, HS1, Hfa0_0', Hfb0_0', Hfc0_0', Hfa0_1', Hfb0_1', Hfc0_1', Hfa0_2', Hfb0_2', Hfc0_2', ⟨%W', HW'⟩⟩
      isplitl [HS0 HS1 Hg Hfa0_0' Hfb0_0' Hfc0_0' Hfa0_1' Hfb0_1' Hfc0_1' Hfa0_2' Hfb0_2' Hfc0_2']
      · isplitl [HS0 HS1]
        · isplitl [HS0]; · iexact HS0
          iexact HS1
        isplitl [Hg]; · iexact Hg
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        isplitl [Hfa0_1' Hfb0_1' Hfc0_1']
        · iapply (Ring.with_homes (Idealize.SL.BI.Entails.refl _))
          isplitl [Hfa0_1']; · iexact Hfa0_1'
          isplitl [Hfb0_1']; · iexact Hfb0_1'
          iexact Hfc0_1'
        iapply (Ring.with_homes (Idealize.SL.BI.Entails.refl _))
        isplitl [Hfa0_2']; · iexact Hfa0_2'
        isplitl [Hfb0_2']; · iexact Hfb0_2'
        iexact Hfc0_2'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR weights
  rw [if_pos rfl]
  iintro ⟨⟨HS0, HS1, HR0_0, HR0_1, HR0_2⟩, Hg, ⟨Hq0, Hq1, Hq2, Hq3, Hq4, Hq5, Hq6, Hq7, Hq8⟩, ⟨Hh0, Hh1, Hh2⟩⟩
  isplitl [HS0 HS1]
  · isplitl [HS0]; · iexact HS0
    iexact HS1
  isplitl [Hg]; · iexact Hg
  isplitl [HR0_0 Hq0 Hq1 Hq2 Hh0]
  · iapply (ring0_0_in (F := F) m c)
    isplitl [HR0_0]; · iexact HR0_0
    isplitl [Hq0 Hq1 Hq2]
    · isplitl [Hq0]; · iexact Hq0
      isplitl [Hq1]; · iexact Hq1
      iexact Hq2
    iexact Hh0
  isplitl [HR0_1 Hq3 Hq4 Hq5 Hh1]
  · iapply (ring0_1_in (F := F) m c)
    isplitl [HR0_1]; · iexact HR0_1
    isplitl [Hq3 Hq4 Hq5]
    · isplitl [Hq3]; · iexact Hq3
      isplitl [Hq4]; · iexact Hq4
      iexact Hq5
    iexact Hh1
  iapply (ring0_2_in (F := F) m c)
  isplitl [HR0_2]; · iexact HR0_2
  isplitl [Hq6 Hq7 Hq8]
  · isplitl [Hq6]; · iexact Hq6
    isplitl [Hq7]; · iexact Hq7
    iexact Hq8
  iexact Hh2
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR weights
  rw [show grid0.N = 16 by rw [N_0], if_neg (by decide)]
  iintro ⟨⟨HS0, HS1⟩, Hg, HR0_0, HR0_1, HR0_2⟩
  ihave HX0_0 := (ring0_0_out (F := F) m c) $$ HR0_0
  icases HX0_0 with ⟨HR0_0, ⟨Hq0, Hq1, Hq2⟩, Hh0⟩
  ihave HX0_1 := (ring0_1_out (F := F) m c) $$ HR0_1
  icases HX0_1 with ⟨HR0_1, ⟨Hq3, Hq4, Hq5⟩, Hh1⟩
  ihave HX0_2 := (ring0_2_out (F := F) m c) $$ HR0_2
  icases HX0_2 with ⟨HR0_2, ⟨Hq6, Hq7, Hq8⟩, Hh2⟩
  isplitl [HS0 HS1 HR0_0 HR0_1 HR0_2]
  · isplitl [HS0]; · iexists _; iexact HS0
    isplitl [HS1]; · iexists _; iexact HS1
    isplitl [HR0_0]; · iexact HR0_0
    isplitl [HR0_1]; · iexact HR0_1
    iexact HR0_2
  isplitl [Hg]
  · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  isplitl [Hh1]; · iexact Hh1
  iexact Hh2

/-! ## The run -/

set_option backward.isDefEq.respectTransparency.types false in
/-- The launch: every weakly fair execution ends, with every window's array at what the proof data says and
    every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := region_entry m Variants.none) (hA := A_eq m) (hin := hin m) (hout := hout m)

/-- The run, read at the result and the arguments. -/
theorem run : θ_run defs (onTc (τ := τ) (main (F := F))) ⟨m, fun _ => 0, ρ⟩ (fun r => (∀ c : Dev nD,
      r.2.mem ((c.tc : Thread nD τ).loc main_v8) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1 c).1 6,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 0).trans (((dats m 0 c).arrAt_in 0 rfl _).trans ((A_eq m c 0).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

/-- The arguments come back as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (run m ρ)

end Cert.Kernel.Ple

end
-- ==== Proof.Ple.Rows.lean ====
/- One row of the layer's last step, as extended reals: the mathematics the reference states and the
   kernel's block computes. The kernel side is read off one grid point's block, the reference side off
   its composed term; both come to the same functions of the rows they read. -/
module

public import proofs.«01_k».proof.Proof.Ple.Block
public import proofs.«01_k».proof.Proof.Gen.ReferenceIdeal.Run
public import Idealize.ShloMosaic.Lib.Pointwise
public import Idealize.ShloMosaic.Lib.BitcastConvert
public import Idealize.ShloMosaic.Lib.Tactic.CleanTypes

@[expose] public section

set_option maxRecDepth 16384

noncomputable section

namespace Cert.Row

open Idealize.ShloMosaic

/-- A row of packed words read as 1024 numbers: the low halves first, then the high halves. -/
def halves (w : Fin 512 → BitVec 32) (j : Fin 1024) : EReal :=
  if h : j.val < 512 then Ideal.ofBits .bf16 ((w ⟨j.val, h⟩).extractLsb' 0 16)
  else Ideal.ofBits .bf16 ((w ⟨j.val - 512, by omega⟩).extractLsb' 16 16)

/-- The residual row with the two weighted expert rows added. -/
def mixed (x : Fin 1024 → EReal) (w1 w2 : Fin 512 → BitVec 32) (s1 s2 : EReal) (j : Fin 1024) : EReal :=
  x j + (s1 * halves w1 j + s2 * halves w2 j)

/-- The inverse root mean square of a row. -/
def scale (v : Fin 1024 → EReal) : EReal :=
  Ideal.rsqrt (Ideal.div (∑ k, v k * v k) (Ideal.ofBits .f32 0x44800000#32) + Ideal.ofBits .f32 0x358637BD#32)

/-- A row `p` of the embedding inputs times the embedding weight. -/
def embed (p : Fin 256 → EReal) (w : Fin 256 → Fin 1024 → EReal) (j : Fin 1024) : EReal := ∑ k, p k * w k j

/-- The gated result: the row, plus its gate times the normalised embedding. -/
def gated (x e g h : Fin 1024 → EReal) (w : Fin 1024 → Fin 1024 → EReal) (j : Fin 1024) : EReal :=
  x j + Ideal.div 1 (1 + Ideal.exp (0 - ∑ k, x k * scale x * h k * w k j)) * (e j * scale e * g j)

/-- The sum over the lanes of a row masked to one lane is that lane. -/
theorem pick (n : Fin 128) (v : Fin 128 → EReal) :
    (∑ x : Fin 128, Scalar.select (IntOp.cmpi CmpIPredicate.eq (BitVec.ofNat 32 x.val) (BitVec.ofNat 32 n.val)) (v x) 0) = v n := by
  rw [Finset.sum_eq_single n]
  · simp [Scalar.select, IntOp.cmpi]
  · intro b _ hb
    have : BitVec.ofNat 32 b.val ≠ BitVec.ofNat 32 n.val := fun h => hb (Fin.ext (by
      have := congrArg BitVec.toNat h
      simp only [BitVec.toNat_ofNat] at this
      omega))
    simp [Scalar.select, IntOp.cmpi, beq_eq_false_iff_ne.mpr this]
  · simp

end Cert.Row

namespace Cert.Kernel.Ple

open Idealize.ShloMosaic Idealize.ShloMosaic.TcCoe Idealize.ShloMosaic.Pipeline Cert.Kernel.Gen

theorem pay1_apply (x e : Vec Ideal S1024x1024 .f32) (g h : Vec Ideal S1x1024 .f32) (w : Vec Ideal S1024x1024 .bf16)
    (r j : Fin 1024) : k0_pay1 (F := Ideal) x e g h w (ix2 r j)
      = Row.gated (fun k => x (ix2 r k)) (fun k => e (ix2 r k)) (fun k => g (ix2 0 k)) (fun k => h (ix2 0 k))
          (fun k l => w (ix2 k l)) j := by
  pointwise [k0_pay1]
  rfl

theorem pay5_apply (x0 : Vec Ideal S1024x128 .f32) (b0 : Vec Ideal S1024x1024 .f32) (b1 b2 : Vec Ideal S1024x512 .i32)
    (r j : Fin 1024) : k0_pay5 (F := Ideal) x0 (iota .tc S1024x128 32 [1] iota_S1024x128_d1_w32) k0_pay4
      (shapeCast S1x1024x512 b1 cast_words) (shapeCast S1x1024x512 b2 cast_words) (shapeCast S1x1024x1024 b0 cast_rows) (ix2 r j)
      = Row.mixed (fun k => b0 (ix2 r k)) (fun k => b1 (ix2 r k)) (fun k => b2 (ix2 r k)) (x0 (ix2 r 34)) (x0 (ix2 r 35)) j := by
  pointwise [k0_pay5, k0_pay4]
  have h34 := Row.pick 34 (fun k => x0 (ix2 r k))
  have h35 := Row.pick 35 (fun k => x0 (ix2 r k))
  unfold Row.mixed Row.halves
  split
  · exact congrArg₂ (fun p q : EReal => b0 (ix2 r j) + (p * _ + q * _)) h34 h35
  · exact congrArg₂ (fun p q : EReal => b0 (ix2 r j) + (p * _ + q * _)) h34 h35

theorem pay6_apply (p : Vec Ideal S1024x256 .f32) (w : Vec Ideal S256x1024 .f32)
    (r j : Fin 1024) : k0_pay6 (F := Ideal) p (k0_pay2 w) (ix2 r j)
      = Row.embed (fun k => p (ix2 r k)) (fun k l => w (ix2 k l)) j := by
  pointwise [k0_pay6, k0_pay2]
  rfl

theorem pay3_eq (w : Vec Ideal S1024x1024 .f32) (r j : Fin 1024) : k0_pay3 (F := Ideal) w (ix2 r j) = w (ix2 r j) := by
  pointwise [k0_pay3]

/-- One grid point's block at row `r`, column `j`, from the rows it reads. -/
theorem blk_apply (x0 : Vec Ideal S1024x128 .f32) (x1 : Vec Ideal S1024x256 .f32) (x3 x4 : Vec Ideal S1x1024 .f32)
    (x2 : Vec Ideal S256x1024 .f32) (x5 : Vec Ideal S1024x1024 .f32) (b0 : Vec Ideal S1024x1024 .f32)
    (b1 b2 : Vec Ideal S1024x512 .i32) (r j : Fin 1024) :
    blk x0 x1 x3 x4 (k0_pay2 x2) (k0_pay3 x5) b0 b1 b2 (ix2 r j)
      = Row.gated
          (Row.mixed (fun k => b0 (ix2 r k)) (fun k => b1 (ix2 r k)) (fun k => b2 (ix2 r k)) (x0 (ix2 r 34)) (x0 (ix2 r 35)))
          (Row.embed (fun k => x1 (ix2 r k)) fun k l => x2 (ix2 k l))
          (fun k => x3 (ix2 0 k)) (fun k => x4 (ix2 0 k)) (fun k l => x5 (ix2 k l)) j := by
  refine (pay1_apply _ _ _ _ _ r j).trans ?_
  simp only [pay3_eq]
  exact congrArg₂ (fun x e : Fin 1024 → EReal => Row.gated x e (fun k => x3 (ix2 0 k)) (fun k => x4 (ix2 0 k)) (fun k l => x5 (ix2 k l)) j)
    (funext fun k => pay5_apply x0 b0 b1 b2 r k) (funext fun k => pay6_apply x1 x2 r k)

end Cert.Kernel.Ple

namespace Cert.ReferenceIdeal.Ple

open Cert.ReferenceIdeal Cert.ReferenceIdeal.Gen Idealize.ShloMosaic Idealize.ShloMosaic.TcCoe

variable (a0 : FVec Ideal S16384x1024 .f32) (a1 a2 : IVec S16384x512 32) (a3 : FVec Ideal S16384x128 .f32)
  (a4 : FVec Ideal S1x4x4096x256 .f32) (a5 : FVec Ideal S1x256x1024 .f32)

/-- The reference's residual stream with the expert rows added. -/
def refX : FVec Ideal S16384x1024 .f32 := addf a0 (addf (mulf (broadcastInDim S16384x1024 ![0, 1] bcast_S16384x1_S16384x1024_0_1 (extractStridedSlice S16384x1 ![0, 34] a3 slices_S16384x128_S16384x1_0_34)) (concatenate S16384x1024 1 [⟨S16384x512, (shapeCast _ (extractStridedSlice S16384x512x1 ![0, 0, 0] (extf .f32 (bitcastToFloat (F := Ideal) .bf16 (Host.bitcastConvertNarrow S16384x512x2 16 a1 splits_S16384x512_w32_S16384x512x2_w16)) bitsLt_bf16_f32) slices_S16384x512x2_S16384x512x1_0_0_0) shapeCasts_S16384x512x1_S16384x512)⟩, ⟨S16384x512, (shapeCast _ (extractStridedSlice S16384x512x1 ![0, 0, 1] (extf .f32 (bitcastToFloat (F := Ideal) .bf16 (Host.bitcastConvertNarrow S16384x512x2 16 a1 splits_S16384x512_w32_S16384x512x2_w16)) bitsLt_bf16_f32) slices_S16384x512x2_S16384x512x1_0_0_1) shapeCasts_S16384x512x1_S16384x512)⟩] concatenates_S16384x512_S16384x512_S16384x1024_d1)) (mulf (broadcastInDim S16384x1024 ![0, 1] bcast_S16384x1_S16384x1024_0_1 (extractStridedSlice S16384x1 ![0, 35] a3 slices_S16384x128_S16384x1_0_35)) (concatenate S16384x1024 1 [⟨S16384x512, (shapeCast _ (extractStridedSlice S16384x512x1 ![0, 0, 0] (extf .f32 (bitcastToFloat (F := Ideal) .bf16 (Host.bitcastConvertNarrow S16384x512x2 16 a2 splits_S16384x512_w32_S16384x512x2_w16)) bitsLt_bf16_f32) slices_S16384x512x2_S16384x512x1_0_0_0) shapeCasts_S16384x512x1_S16384x512)⟩, ⟨S16384x512, (shapeCast _ (extractStridedSlice S16384x512x1 ![0, 0, 1] (extf .f32 (bitcastToFloat (F := Ideal) .bf16 (Host.bitcastConvertNarrow S16384x512x2 16 a2 splits_S16384x512_w32_S16384x512x2_w16)) bitsLt_bf16_f32) slices_S16384x512x2_S16384x512x1_0_0_1) shapeCasts_S16384x512x1_S16384x512)⟩] concatenates_S16384x512_S16384x512_S16384x1024_d1)))
/-- The reference's embedding product. -/
def refE : FVec Ideal S4x4096x1024 .f32 := Host.dotGeneral dot_S4x4096x256_S256x1024_S4x4096x1024_2_0_01_1_n_n none (shapeCast _ a4 shapeCasts_S1x4x4096x256_S4x4096x256) (shapeCast _ a5 shapeCasts_S1x256x1024_S256x1024)
/-- The rest of the reference, from those two. -/
def refOut (x : FVec Ideal S16384x1024 .f32) (e : FVec Ideal S4x4096x1024 .f32) (g h : FVec Ideal S1x1024 .f32)
    (w : FVec Ideal S1x1024x1024 .f32) : FVec Ideal S16384x1024 .f32 := addf x (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ h shapeCasts_S1x1024_S1024)))) (shapeCast _ w shapeCasts_S1x1024x1024_S1024x1024)))))) (shapeCast _ (mulf (mulf e (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf e e) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))) shapeCasts_S4x4096x1024_S16384x1024))

/-- The word a packed pair's part belongs to. -/
theorem drop_part (r : Fin 16384) (k : Fin 512) (b : Fin 2) :
    splits_S16384x512_w32_S16384x512x2_w16.drop (ix3 r k b) = ix2 r k := by
  funext a
  apply Fin.ext
  match a with
  | ⟨0, _⟩ => rfl
  | ⟨1, _⟩ => rfl

theorem refX_apply (r : Fin 16384) (j : Fin 1024) : refX a0 a1 a2 a3 (ix2 r j)
      = Row.mixed (fun k => a0 (ix2 r k)) (fun k => a1 (ix2 r k)) (fun k => a2 (ix2 r k)) (a3 (ix2 r 34)) (a3 (ix2 r 35)) j := by
  pointwise [refX]
  simp only [drop_part]
  rfl

theorem refE_apply (b : Fin 4) (r : Fin 4096) (j : Fin 1024) : refE a4 a5 (ix3 b r j)
      = Row.embed (fun k => a4 (ix4 0 b r k)) (fun k l => a5 (ix3 0 k l)) j := by
  pointwise [refE]
  rfl

theorem refOut_apply (x : FVec Ideal S16384x1024 .f32) (e : FVec Ideal S4x4096x1024 .f32) (g h : FVec Ideal S1x1024 .f32)
    (w : FVec Ideal S1x1024x1024 .f32) (r : Fin 16384) (j : Fin 1024) : refOut x e g h w (ix2 r j)
      = Row.gated (fun k => x (ix2 r k)) (fun k => e (ix3 ⟨r.val / 4096, by omega⟩ ⟨r.val % 4096, by omega⟩ k))
          (fun k => g (ix2 0 k)) (fun k => h (ix2 0 k)) (fun k l => w (ix3 0 k l)) j := by
  pointwise [refOut]
  unfold Row.gated Row.scale
  simp only [zero_sub]

/-- The reference's result at row `r`, column `j`. -/
theorem ref_apply (m : (ℓ : Loc nD τ sig) → Buf (Elt Ideal) ℓ) (c : Dev nD) (r : Fin 16384) (j : Fin 1024) :
    Value.res_main_v63 (F := Ideal) m c (ix2 r j)
      = Row.gated
          (Row.mixed (fun k => m ((c.tc : Thread nD τ).loc main_arg0) (ix2 r k)) (fun k => m ((c.tc : Thread nD τ).loc main_arg1) (ix2 r k))
            (fun k => m ((c.tc : Thread nD τ).loc main_arg2) (ix2 r k)) (m ((c.tc : Thread nD τ).loc main_arg3) (ix2 r 34))
            (m ((c.tc : Thread nD τ).loc main_arg3) (ix2 r 35)))
          (Row.embed (fun k => m ((c.tc : Thread nD τ).loc main_arg4) (ix4 0 ⟨r.val / 4096, by omega⟩ ⟨r.val % 4096, by omega⟩ k))
            fun k l => m ((c.tc : Thread nD τ).loc main_arg5) (ix3 0 k l))
          (fun k => m ((c.tc : Thread nD τ).loc main_arg6) (ix2 0 k)) (fun k => m ((c.tc : Thread nD τ).loc main_arg7) (ix2 0 k))
          (fun k l => m ((c.tc : Thread nD τ).loc main_arg8) (ix3 0 k l)) j := by
  have h : Value.res_main_v63 (F := Ideal) m c
      = refOut (refX (m ((c.tc : Thread nD τ).loc main_arg0)) (m ((c.tc : Thread nD τ).loc main_arg1))
            (m ((c.tc : Thread nD τ).loc main_arg2)) (m ((c.tc : Thread nD τ).loc main_arg3)))
          (refE (m ((c.tc : Thread nD τ).loc main_arg4)) (m ((c.tc : Thread nD τ).loc main_arg5)))
          (m ((c.tc : Thread nD τ).loc main_arg6)) (m ((c.tc : Thread nD τ).loc main_arg7)) (m ((c.tc : Thread nD τ).loc main_arg8)) := rfl
  rw [h]
  refine (refOut_apply ..).trans ?_
  simp only [refX_apply, refE_apply]

end Cert.ReferenceIdeal.Ple

end
-- ==== Proof.Ple.Value.lean ====
/- What the kernel's result array holds after its run, row by row, at the reals. -/
module

public import proofs.«01_k».proof.Proof.Ple.Run
public import proofs.«01_k».proof.Proof.Ple.Rows
public import Idealize.ShloMosaic.Lib.Pipeline.ValueKit.Geometry

@[expose] public section

set_option maxRecDepth 16384

noncomputable section

namespace Cert.Kernel.Ple

open Idealize.ShloMosaic Idealize.ShloMosaic.TcCoe Idealize.ShloMosaic.Pipeline Idealize.SL.Sem Cert.Kernel.Gen

variable (m : (ℓ : Loc nD τ sig) → Buf (Elt Ideal) ℓ) (c : Dev nD)

theorem V_embed_cast (x : FVec Ideal S1x4x4096x256 .f32) (r : Fin 16384) (k : Fin 256) : shapeCast S16384x256 (shapeCast S4x4096x256 x shapeCasts_S1x4x4096x256_S4x4096x256) shapeCasts_S4x4096x256_S16384x256 (ix2 r k) = x (ix4 0 ⟨r.val / 4096, by omega⟩ ⟨r.val % 4096, by omega⟩ k) := by
  pointwise []
/-- The embedding rows the host hands the kernel. -/
theorem V_embed (r : Fin 16384) (k : Fin 256) : V m c main_v1 (ix2 r k) = m ((c.tc : Thread nD τ).loc main_arg4) (ix4 0 ⟨r.val / 4096, by omega⟩ ⟨r.val % 4096, by omega⟩ k) := by
  have h : V m c main_v1 = shapeCast S16384x256 (shapeCast S4x4096x256 (m ((c.tc : Thread nD τ).loc main_arg4)) shapeCasts_S1x4x4096x256_S4x4096x256) shapeCasts_S4x4096x256_S16384x256 := by
    unfold V hostOps0
    after_results_simp <;> rfl
  exact (congrFun h _).trans (V_embed_cast _ r k)

theorem V_wEmb_cast (x : FVec Ideal S1x256x1024 .f32) (k : Fin 256) (l : Fin 1024) : shapeCast S256x1024 x shapeCasts_S1x256x1024_S256x1024 (ix2 k l) = x (ix3 0 k l) := by
  pointwise []
/-- The embedding weight. -/
theorem V_wEmb (k : Fin 256) (l : Fin 1024) : V m c main_v2 (ix2 k l) = m ((c.tc : Thread nD τ).loc main_arg5) (ix3 0 k l) := by
  have h : V m c main_v2 = shapeCast S256x1024 (m ((c.tc : Thread nD τ).loc main_arg5)) shapeCasts_S1x256x1024_S256x1024 := by
    unfold V hostOps0
    after_results_simp <;> rfl
  exact (congrFun h _).trans (V_wEmb_cast _ k l)

theorem V_gainE_cast (x : FVec Ideal S1x1024 .f32) (k : Fin 1024) : shapeCast S1x1024 (shapeCast S1024 x shapeCasts_S1x1024_S1024) shapeCasts_S1024_S1x1024 (ix2 0 k) = x (ix2 0 k) := by
  pointwise []
/-- The gain of the embedding norm. -/
theorem V_gainE (k : Fin 1024) : V m c main_v4 (ix2 0 k) = m ((c.tc : Thread nD τ).loc main_arg6) (ix2 0 k) := by
  have h : V m c main_v4 = shapeCast S1x1024 (shapeCast S1024 (m ((c.tc : Thread nD τ).loc main_arg6)) shapeCasts_S1x1024_S1024) shapeCasts_S1024_S1x1024 := by
    unfold V hostOps0
    after_results_simp <;> rfl
  exact (congrFun h _).trans (V_gainE_cast _ k)

theorem V_gainG_cast (x : FVec Ideal S1x1024 .f32) (k : Fin 1024) : shapeCast S1x1024 (shapeCast S1024 x shapeCasts_S1x1024_S1024) shapeCasts_S1024_S1x1024 (ix2 0 k) = x (ix2 0 k) := by
  pointwise []
/-- The gain of the gate norm. -/
theorem V_gainG (k : Fin 1024) : V m c main_v6 (ix2 0 k) = m ((c.tc : Thread nD τ).loc main_arg7) (ix2 0 k) := by
  have h : V m c main_v6 = shapeCast S1x1024 (shapeCast S1024 (m ((c.tc : Thread nD τ).loc main_arg7)) shapeCasts_S1x1024_S1024) shapeCasts_S1024_S1x1024 := by
    unfold V hostOps0
    after_results_simp <;> rfl
  exact (congrFun h _).trans (V_gainG_cast _ k)

theorem V_wGate_cast (x : FVec Ideal S1x1024x1024 .f32) (k l : Fin 1024) : shapeCast S1024x1024 x shapeCasts_S1x1024x1024_S1024x1024 (ix2 k l) = x (ix3 0 k l) := by
  pointwise []
/-- The gate weight. -/
theorem V_wGate (k l : Fin 1024) : V m c main_v7 (ix2 k l) = m ((c.tc : Thread nD τ).loc main_arg8) (ix3 0 k l) := by
  have h : V m c main_v7 = shapeCast S1024x1024 (m ((c.tc : Thread nD τ).loc main_arg8)) shapeCasts_S1x1024x1024_S1024x1024 := by
    unfold V hostOps0
    after_results_simp <;> rfl
  exact (congrFun h _).trans (V_wGate_cast _ k l)

/-- Row `r` of the kernel's result. -/
def row (r : Fin 16384) : Fin 1024 → EReal :=
  Row.gated
    (Row.mixed (fun k => m ((c.tc : Thread nD τ).loc main_arg0) (ix2 r k)) (fun k => m ((c.tc : Thread nD τ).loc main_arg1) (ix2 r k))
      (fun k => m ((c.tc : Thread nD τ).loc main_arg2) (ix2 r k)) (m ((c.tc : Thread nD τ).loc main_arg3) (ix2 r 34))
      (m ((c.tc : Thread nD τ).loc main_arg3) (ix2 r 35)))
    (Row.embed (fun k => m ((c.tc : Thread nD τ).loc main_arg4) (ix4 0 ⟨r.val / 4096, by omega⟩ ⟨r.val % 4096, by omega⟩ k))
      fun k l => m ((c.tc : Thread nD τ).loc main_arg5) (ix3 0 k l))
    (fun k => m ((c.tc : Thread nD τ).loc main_arg6) (ix2 0 k)) (fun k => m ((c.tc : Thread nD τ).loc main_arg7) (ix2 0 k))
    (fun k l => m ((c.tc : Thread nD τ).loc main_arg8) (ix3 0 k l))

/-- The result array. -/
def result : Buf (Elt Ideal) ((c.tc : Thread nD τ).loc main_v8) := fun i : S16384x1024.Idx => row m c (i 0) (i 1)

/-- The row of the arrays that row `r` of point `t`'s blocks is. -/
def at_ (t : Fin cfg0.N) (r : Fin 1024) : Fin 16384 := ⟨t.val * 1024 + r.val, by
  have := lt_of_lt_of_eq t.isLt (show cfg0.N = 16 from N_0); omega⟩

theorem ix0 : ∀ t : Fin cfg0.N, win0_0.index t = ![t.val, 0] := (by decide +kernel : ∀ t : Fin grid0.N, _)
theorem ix1 : ∀ t : Fin cfg0.N, win0_1.index t = ![t.val, 0] := (by decide +kernel : ∀ t : Fin grid0.N, _)
theorem ix2' : ∀ t : Fin cfg0.N, win0_2.index t = ![0, 0] := (by decide +kernel : ∀ t : Fin grid0.N, _)
theorem ix3' : ∀ t : Fin cfg0.N, win0_3.index t = ![0, 0] := (by decide +kernel : ∀ t : Fin grid0.N, _)
theorem ix4' : ∀ t : Fin cfg0.N, win0_4.index t = ![0, 0] := (by decide +kernel : ∀ t : Fin grid0.N, _)
theorem ix5' : ∀ t : Fin cfg0.N, win0_5.index t = ![0, 0] := (by decide +kernel : ∀ t : Fin grid0.N, _)
theorem ix6' : ∀ t : Fin cfg0.N, win0_6.index t = ![t.val, 0] := (by decide +kernel : ∀ t : Fin grid0.N, _)

/-- Point `t`'s routing rows. -/
theorem route_at (t : Fin cfg0.N) (r : Fin 1024) (k : Fin 128) :
    (iblk m c 0 t : Vec Ideal S1024x128 .f32) (ix2 r k) = m ((c.tc : Thread nD τ).loc main_arg3) (ix2 (at_ t r) k) := by
  refine Eq.trans ?_ (congrFun (V_main_arg3 m c) (ix2 (at_ t r) k))
  blk_simp [iblk]
  refine congrArg (V m c main_arg3) ?_
  blk_ext [ix0]
  rfl

/-- Point `t`'s embedding rows. -/
theorem embed_at (t : Fin cfg0.N) (r : Fin 1024) (k : Fin 256) :
    (iblk m c 1 t : Vec Ideal S1024x256 .f32) (ix2 r k) = m ((c.tc : Thread nD τ).loc main_arg4) (ix4 0 ⟨(at_ t r).val / 4096, by omega⟩ ⟨(at_ t r).val % 4096, by omega⟩ k) := by
  refine Eq.trans ?_ (V_embed m c (at_ t r) k)
  blk_simp [iblk]
  refine congrArg (V m c main_v1) ?_
  blk_ext [ix1]
  rfl

/-- The embedding weight's block is the weight. -/
theorem wEmb_at (t : Fin cfg0.N) (k : Fin 256) (l : Fin 1024) :
    (iblk m c 2 t : Vec Ideal S256x1024 .f32) (ix2 k l) = m ((c.tc : Thread nD τ).loc main_arg5) (ix3 0 k l) := by
  refine Eq.trans ?_ (V_wEmb m c k l)
  blk_simp [iblk]
  refine congrArg (V m c main_v2) ?_
  blk_ext [ix2']

/-- The embedding gain's block. -/
theorem gainE_at (t : Fin cfg0.N) (k : Fin 1024) :
    (iblk m c 3 t : Vec Ideal S1x1024 .f32) (ix2 0 k) = m ((c.tc : Thread nD τ).loc main_arg6) (ix2 0 k) := by
  refine Eq.trans ?_ (V_gainE m c k)
  blk_simp [iblk]
  refine congrArg (V m c main_v4) ?_
  blk_ext [ix3']

/-- The gate gain's block. -/
theorem gainG_at (t : Fin cfg0.N) (k : Fin 1024) :
    (iblk m c 4 t : Vec Ideal S1x1024 .f32) (ix2 0 k) = m ((c.tc : Thread nD τ).loc main_arg7) (ix2 0 k) := by
  refine Eq.trans ?_ (V_gainG m c k)
  blk_simp [iblk]
  refine congrArg (V m c main_v6) ?_
  blk_ext [ix4']

/-- The gate weight's block is the weight. -/
theorem wGate_at (t : Fin cfg0.N) (k l : Fin 1024) :
    (iblk m c 5 t : Vec Ideal S1024x1024 .f32) (ix2 k l) = m ((c.tc : Thread nD τ).loc main_arg8) (ix3 0 k l) := by
  refine Eq.trans ?_ (V_wGate m c k l)
  blk_simp [iblk]
  refine congrArg (V m c main_v7) ?_
  blk_ext [ix5']

/-- Point `t`'s rows of ring 0's operand. -/
theorem ring0_at (t : Fin cfg0.N) (r : Fin 1024) (k : Fin 1024) :
    ((srcB0_0 (Ring.bk 16 t.val)).view.read (Elt Ideal) (V m c main_arg0) : Vec Ideal S1024x1024 .f32) (ix2 r k)
      = m ((c.tc : Thread nD τ).loc main_arg0) (ix2 (at_ t r) k) := by
  have ht : t.val < 16 := lt_of_lt_of_eq t.isLt (show cfg0.N = 16 from N_0)
  refine Eq.trans ?_ (congrFun (V_main_arg0 m c) (ix2 (at_ t r) k))
  refine congrArg (V m c main_arg0) ?_
  funext a
  apply Fin.ext
  match a with
  | ⟨0, _⟩ =>
    show 1024 * (t.val % 16) + 1 * r.val = t.val * 1024 + r.val
    omega
  | ⟨1, _⟩ =>
    show 0 + 1 * k.val = k.val
    omega

/-- Point `t`'s rows of ring 1's operand. -/
theorem ring1_at (t : Fin cfg0.N) (r : Fin 1024) (k : Fin 512) :
    ((srcB0_1 (Ring.bk 16 t.val)).view.read (Elt Ideal) (V m c main_arg1) : Vec Ideal S1024x512 .i32) (ix2 r k)
      = m ((c.tc : Thread nD τ).loc main_arg1) (ix2 (at_ t r) k) := by
  have ht : t.val < 16 := lt_of_lt_of_eq t.isLt (show cfg0.N = 16 from N_0)
  refine Eq.trans ?_ (congrFun (V_main_arg1 m c) (ix2 (at_ t r) k))
  refine congrArg (V m c main_arg1) ?_
  funext a
  apply Fin.ext
  match a with
  | ⟨0, _⟩ =>
    show 1024 * (t.val % 16) + 1 * r.val = t.val * 1024 + r.val
    omega
  | ⟨1, _⟩ =>
    show 0 + 1 * k.val = k.val
    omega

/-- Point `t`'s rows of ring 2's operand. -/
theorem ring2_at (t : Fin cfg0.N) (r : Fin 1024) (k : Fin 512) :
    ((srcB0_2 (Ring.bk 16 t.val)).view.read (Elt Ideal) (V m c main_arg2) : Vec Ideal S1024x512 .i32) (ix2 r k)
      = m ((c.tc : Thread nD τ).loc main_arg2) (ix2 (at_ t r) k) := by
  have ht : t.val < 16 := lt_of_lt_of_eq t.isLt (show cfg0.N = 16 from N_0)
  refine Eq.trans ?_ (congrFun (V_main_arg2 m c) (ix2 (at_ t r) k))
  refine congrArg (V m c main_arg2) ?_
  funext a
  apply Fin.ext
  match a with
  | ⟨0, _⟩ =>
    show 1024 * (t.val % 16) + 1 * r.val = t.val * 1024 + r.val
    omega
  | ⟨1, _⟩ =>
    show 0 + 1 * k.val = k.val
    omega

theorem row_congr {x x' : Fin 1024 → EReal} {a a' b b' : Fin 512 → BitVec 32} {s s' u u' : EReal} {p p' : Fin 256 → EReal}
    {w w' : Fin 256 → Fin 1024 → EReal} {g g' h h' : Fin 1024 → EReal} {z z' : Fin 1024 → Fin 1024 → EReal}
    (hx : x = x') (ha : a = a') (hb : b = b') (hs : s = s') (hu : u = u') (hp : p = p') (hw : w = w') (hg : g = g')
    (hh : h = h') (hz : z = z') (j : Fin 1024) :
    Row.gated (Row.mixed x a b s u) (Row.embed p w) g h z j = Row.gated (Row.mixed x' a' b' s' u') (Row.embed p' w') g' h' z' j := by
  subst hx ha hb hs hu hp hw hg hh hz; rfl

/-- What point `t` leaves, at row `r`, column `j`: that row of the result. -/
theorem blkAt_apply (t : Fin cfg0.N) (r j : Fin 1024) : blkAt m c t (ix2 r j) = row m c (at_ t r) j :=
  (blk_apply _ _ _ _ _ _ _ _ _ r j).trans (row_congr
    (funext fun k => ring0_at m c t r k) (funext fun k => ring1_at m c t r k) (funext fun k => ring2_at m c t r k)
    (route_at m c t r 34) (route_at m c t r 35) (funext fun k => embed_at m c t r k)
    (funext fun k => funext fun l => wEmb_at m c t0 k l) (funext fun k => gainE_at m c t k) (funext fun k => gainG_at m c t k)
    (funext fun k => funext fun l => wGate_at m c t0 k l) j)

/-- The result array after the run. -/
theorem final : (dats m 0 c).arrAt 6 cfg0.N = result m c := by
  refine (dats m 0 c).arrAt_eq_of_covers 6 _ (by decide +kernel) fun t hf y => ?_
  blk_simp
  rw [after0_6]
  change S1024x1024.Idx at y
  obtain ⟨r, j, rfl⟩ : ∃ (r j : Fin 1024), y = ix2 r j := ⟨y 0, y 1, eq_ix2 y⟩
  refine (blkAt_apply m c t r j).trans ?_
  have h0 : (((win0_6.blk t).view.emb (ix2 r j) : S16384x1024.Idx) 0) = at_ t r := Fin.ext (by blk_simp [ix6']; rfl)
  have h1 : (((win0_6.blk t).view.emb (ix2 r j) : S16384x1024.Idx) 1) = j := Fin.ext (by blk_simp [ix6'])
  exact (congrArg₂ (row m c) h0 h1).symm

/-- The run with its result named: every row of the result array, the arguments unchanged. -/
theorem value (ρ : Dev nD → PrngReg) : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1).trans (final m c), (h.1 c).2⟩) (run m ρ)

end Cert.Kernel.Ple

end
-- ==== Proof.Ple.Twin.lean ====
/- The program read at the ideal instance has the same text as the kernel's: the two body tables
   agree, so whatever holds of a run of the one holds of a run of the other. -/
module

public import proofs.«01_k».proof.Defs
public import proofs.«01_k».proof.Proof.Gen.KernelIdeal
public import proofs.«01_k».proof.Proof.Ple.Value

@[expose] public section

set_option maxRecDepth 16384

namespace Cert.KernelIdeal.Ple

open Idealize.ShloMosaic Idealize.ShloMosaic.TcCoe Idealize.SL.Sem

variable {F : FTy → Type} [FloatOps F]

/-- The kernel's bodies agree, label by label. -/
theorem bodies : Cert.KernelIdeal.defs₀ (F := F) = Cert.Kernel.defs₀ (F := F) :=
  congrArg (Defs.onTc (nD := Cert.Kernel.nD) (τ := Cert.Kernel.τ) (sig := Cert.Kernel.sig))
    (funext fun l => funext fun x =>
      match l, x with
      | 0, (_, _) => rfl)

/-- So do the tables with the pipeline's own bodies. -/
theorem defs_eq : Cert.KernelIdeal.defs (F := F) = Cert.Kernel.defs (F := F) :=
  congrArg (Pipeline.defs (Cert.Kernel.pcfgs (F := F))) bodies

/-- The kernel's frame, of the program at the ideal instance. -/
theorem frame : Cert.quiescent_KernelIdeal := fun m ρ _ => by
  have h := Cert.Kernel.Ple.frame (F := Ideal) m ρ
  rw [← defs_eq] at h
  exact h

end Cert.KernelIdeal.Ple
-- ==== Proof.Experts.Setup.lean ====
/- The kernel of the experts: names for its buffers, the slots of its rings, the blocks they stream, and what
   the run holds of a slot that is idle and of one a transfer is on its way into. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

/-! ## The buffers -/

abbrev tbM : Memref sig .tc .smem S8x128 .i32 := Memref.whole main_arg1
abbrev xsM : Memref sig .tc .hbm S49152x512 .i32 := Memref.whole main_arg0
abbrev wgM : Memref sig .tc .hbm S32x1024x256 .f32 := Memref.whole main_v0
abbrev wuM : Memref sig .tc .hbm S32x1024x256 .f32 := Memref.whole main_v1
abbrev wdM : Memref sig .tc .hbm S32x256x1024 .f32 := Memref.whole main_v2
abbrev xR : Memref sig .tc .vmem S3x512x512 .i32 := Memref.whole cc0_scratch0
abbrev gR : Memref sig .tc .vmem S2x1024x256 .f32 := Memref.whole cc0_scratch2
abbrev uR : Memref sig .tc .vmem S2x1024x256 .f32 := Memref.whole cc0_scratch3
abbrev dR : Memref sig .tc .vmem S2x256x1024 .f32 := Memref.whole cc0_scratch4
abbrev gB : Memref sig .tc .vmem S1024x256 .bf16 := Memref.whole cc0_scratch5
abbrev uB : Memref sig .tc .vmem S1024x256 .bf16 := Memref.whole cc0_scratch6
abbrev dB : Memref sig .tc .vmem S256x1024 .bf16 := Memref.whole cc0_scratch7

/-- The contents a memref's buffer may have on core `c`. -/
abbrev Held (c : Dev nD) {sp : Space} {S : Shape} {e : EltTy} (M : Memref sig .tc sp S e) : Type :=
  Buf (Elt F) (M.view.loc (c : Thread nD τ))

/-! ## Slots, cells and blocks -/

theorem xslot_inb (s : Fin 3) : ∀ a, (![s.val, 0, 0] : Fin 3 → Nat) a + S1x512x512.size a ≤ S3x512x512.size a := by
  have := s.isLt; intro a; fin_cases a <;> simp <;> omega
theorem xsrc_inb (b : Fin 96) : ∀ a, (![512 * b.val, 0] : Fin 2 → Nat) a + S512x512.size a ≤ S49152x512.size a := by
  have := b.isLt; intro a; fin_cases a <;> simp <;> omega
theorem xcell_inb (s : Fin 3) : ∀ a, (![s.val] : Fin 1 → Nat) a + S1.size a ≤ S3.size a := by
  have := s.isLt; intro a; fin_cases a <;> simp <;> omega
/-- Slot `s` of the ring of row blocks. -/
def xslot (s : Fin 3) : Memref sig .tc .vmem S512x512 .i32 :=
  (xR.slice (Rect.unit (s := S3x512x512) ![s.val, 0, 0] S1x512x512.size (xslot_inb s)) (fun _ => rfl)).squeeze S512x512 squeezes_S1x512x512_S512x512
/-- Row block `b`. -/
def xsrc (b : Fin 96) : Memref sig .tc .hbm S512x512 .i32 :=
  xsM.slice (Rect.unit (s := S49152x512) ![512 * b.val, 0] S512x512.size (xsrc_inb b)) (fun _ => rfl)
/-- The semaphore of slot `s`. -/
def xcell (s : Fin 3) : DmaSems sig S_ := (cc0_scratch1.slice (Rect.unit (s := S3) ![s.val] S1.size (xcell_inb s))).squeeze S_ squeezes_S1_S_
/-- The share of the rows lent to slot `s`. -/
abbrev xq (s : Fin 3) : PosShare TreeShare := if s.val = 0 then fullShare.left else if s.val = 1 then fullShare.right.left else fullShare.right.right

theorem wslot_inb (s : Fin 2) : ∀ a, (![s.val, 0, 0] : Fin 3 → Nat) a + S1x1024x256.size a ≤ S2x1024x256.size a := by
  have := s.isLt; intro a; fin_cases a <;> simp <;> omega
theorem wsrc_inb (e : Fin 32) : ∀ a, (![e.val, 0, 0] : Fin 3 → Nat) a + S1x1024x256.size a ≤ S32x1024x256.size a := by
  have := e.isLt; intro a; fin_cases a <;> simp <;> omega
theorem dslot_inb (s : Fin 2) : ∀ a, (![s.val, 0, 0] : Fin 3 → Nat) a + S1x256x1024.size a ≤ S2x256x1024.size a := by
  have := s.isLt; intro a; fin_cases a <;> simp <;> omega
theorem dsrc_inb (e : Fin 32) : ∀ a, (![e.val, 0, 0] : Fin 3 → Nat) a + S1x256x1024.size a ≤ S32x256x1024.size a := by
  have := e.isLt; intro a; fin_cases a <;> simp <;> omega
theorem wcell_inb (j : Fin 3) (s : Fin 2) : ∀ a, (![s.val, j.val] : Fin 2 → Nat) a + S1x1.size a ≤ S2x3.size a := by
  have := s.isLt; have := j.isLt; intro a; fin_cases a <;> simp <;> omega
/-- Slot `s` of a ring of gate or up weights. -/
def wslot (R : Memref sig .tc .vmem S2x1024x256 .f32) (s : Fin 2) : Memref sig .tc .vmem S1024x256 .f32 :=
  (R.slice (Rect.unit (s := S2x1024x256) ![s.val, 0, 0] S1x1024x256.size (wslot_inb s)) (fun _ => rfl)).squeeze S1024x256 squeezes_S1x1024x256_S1024x256
/-- The gate or up weight of expert `e`. -/
def wsrc (M : Memref sig .tc .hbm S32x1024x256 .f32) (e : Fin 32) : Memref sig .tc .hbm S1024x256 .f32 :=
  (M.slice (Rect.unit (s := S32x1024x256) ![e.val, 0, 0] S1x1024x256.size (wsrc_inb e)) (fun _ => rfl)).squeeze S1024x256 squeezes_S1x1024x256_S1024x256
/-- Slot `s` of the ring of down weights. -/
def dslot (s : Fin 2) : Memref sig .tc .vmem S256x1024 .f32 :=
  (dR.slice (Rect.unit (s := S2x256x1024) ![s.val, 0, 0] S1x256x1024.size (dslot_inb s)) (fun _ => rfl)).squeeze S256x1024 squeezes_S1x256x1024_S256x1024
/-- The down weight of expert `e`. -/
def dsrc (e : Fin 32) : Memref sig .tc .hbm S256x1024 .f32 :=
  (wdM.slice (Rect.unit (s := S32x256x1024) ![e.val, 0, 0] S1x256x1024.size (dsrc_inb e)) (fun _ => rfl)).squeeze S256x1024 squeezes_S1x256x1024_S256x1024
/-- The semaphore of weight `j` (gate, up, down) in slot `s`. -/
def wcell (j : Fin 3) (s : Fin 2) : DmaSems sig S_ := (cc0_scratch8.slice (Rect.unit (s := S2x3) ![s.val, j.val] S1x1.size (wcell_inb j s))).squeeze S_ squeezes_S1x1_S_
/-- The share of the weights lent to slot `s`. -/
abbrev wq (s : Fin 2) : PosShare TreeShare := if s.val = 0 then fullShare.left else fullShare.right

/-! ## What is held of a slot -/

/-! ### The ring of row blocks -/

/-- Slot `s`, held at `f`. -/
abbrev xSlotP (c : Dev nD) (s : Fin 3) (f : Held (F := F) c (xslot s)) : sProp 𝕄 :=
  (xslot s).view.loc (c : Thread nD τ) ↦[(xslot s).view.set]{fullShare} f
/-- Block `b` of slot `s`'s copy of the operand: what a transfer into slot `s` borrows. -/
abbrev xSrcP (c : Dev nD) (W : Held (F := F) c xsM) (s : Fin 3) (b : Fin 96) : sProp 𝕄 :=
  (xsrc b).view.loc (c : Thread nD τ) ↦[(xsrc b).view.set]{xq s} W
/-- The rest of that copy. -/
def xRest (c : Dev nD) (W : Held (F := F) c xsM) (s : Fin 3) (b : Fin 96) : sProp 𝕄 :=
  (xsrc b).view.loc (c : Thread nD τ) ↦[Finset.univ \ (xsrc b).view.set]{xq s} W
/-- Slot `s`'s copy of the operand, whole. -/
abbrev xCopy (c : Dev nD) (W : Held (F := F) c xsM) (s : Fin 3) : sProp 𝕄 :=
  xsM.view.loc (c : Thread nD τ) ↦[Finset.univ]{xq s} W
/-- What slot `s` holds once block `b` has landed in it over `f`. -/
abbrev xLanded (c : Dev nD) (W : Held (F := F) c xsM) (s : Fin 3) (b : Fin 96) (f : Held (F := F) c (xslot s)) : Held (F := F) c (xslot s) :=
  (xslot s).view.writes (Elt F) f [⟨Rect.whole S512x512, ReadAs.same.apply ((xsrc b).view.read (Elt F) W)⟩]
/-- The slot idle: its cell at zero, the slot at anything, its copy of the operand whole. -/
def xFree (c : Dev nD) (W : Held (F := F) c xsM) (s : Fin 3) : sProp 𝕄 :=
  iprop(semVal ((c : Thread nD τ), SemLoc.dma (xcell s).sem) 0 ∗ ∃ f, xSlotP c s f ∗ xCopy c W s)
/-- Block `b` on its way into slot `s`, and the rest of the copy it is borrowed from. -/
def xFlight (c : Dev nD) (W : Held (F := F) c xsM) (s : Fin 3) (b : Fin 96) : sProp 𝕄 :=
  iprop(∃ f, Transfers.Flight countersEmb (c : Thread nD τ) (SemLoc.dma (xcell s).sem) default ((xslot s).view.amount (SemLoc.dma (xcell s).sem))
      iprop(xSlotP c s (xLanded c W s b f) ∗ xSrcP c W s b) ∗ xRest c W s b)

/-! ### The gate weights -/

/-- Slot `s`, held at `f`. -/
abbrev gSlotP (c : Dev nD) (s : Fin 2) (f : Held (F := F) c (wslot gR s)) : sProp 𝕄 :=
  (wslot gR s).view.loc (c : Thread nD τ) ↦[(wslot gR s).view.set]{fullShare} f
/-- Block `b` of slot `s`'s copy of the operand: what a transfer into slot `s` borrows. -/
abbrev gSrcP (c : Dev nD) (W : Held (F := F) c wgM) (s : Fin 2) (b : Fin 32) : sProp 𝕄 :=
  (wsrc wgM b).view.loc (c : Thread nD τ) ↦[(wsrc wgM b).view.set]{wq s} W
/-- The rest of that copy. -/
def gRest (c : Dev nD) (W : Held (F := F) c wgM) (s : Fin 2) (b : Fin 32) : sProp 𝕄 :=
  (wsrc wgM b).view.loc (c : Thread nD τ) ↦[Finset.univ \ (wsrc wgM b).view.set]{wq s} W
/-- Slot `s`'s copy of the operand, whole. -/
abbrev gCopy (c : Dev nD) (W : Held (F := F) c wgM) (s : Fin 2) : sProp 𝕄 :=
  wgM.view.loc (c : Thread nD τ) ↦[Finset.univ]{wq s} W
/-- What slot `s` holds once block `b` has landed in it over `f`. -/
abbrev gLanded (c : Dev nD) (W : Held (F := F) c wgM) (s : Fin 2) (b : Fin 32) (f : Held (F := F) c (wslot gR s)) : Held (F := F) c (wslot gR s) :=
  (wslot gR s).view.writes (Elt F) f [⟨Rect.whole S1024x256, ReadAs.same.apply ((wsrc wgM b).view.read (Elt F) W)⟩]
/-- The slot idle: its cell at zero, the slot at anything, its copy of the operand whole. -/
def gFree (c : Dev nD) (W : Held (F := F) c wgM) (s : Fin 2) : sProp 𝕄 :=
  iprop(semVal ((c : Thread nD τ), SemLoc.dma (wcell 0 s).sem) 0 ∗ ∃ f, gSlotP c s f ∗ gCopy c W s)
/-- Block `b` on its way into slot `s`, and the rest of the copy it is borrowed from. -/
def gFlight (c : Dev nD) (W : Held (F := F) c wgM) (s : Fin 2) (b : Fin 32) : sProp 𝕄 :=
  iprop(∃ f, Transfers.Flight countersEmb (c : Thread nD τ) (SemLoc.dma (wcell 0 s).sem) default ((wslot gR s).view.amount (SemLoc.dma (wcell 0 s).sem))
      iprop(gSlotP c s (gLanded c W s b f) ∗ gSrcP c W s b) ∗ gRest c W s b)

/-! ### The up weights -/

/-- Slot `s`, held at `f`. -/
abbrev uSlotP (c : Dev nD) (s : Fin 2) (f : Held (F := F) c (wslot uR s)) : sProp 𝕄 :=
  (wslot uR s).view.loc (c : Thread nD τ) ↦[(wslot uR s).view.set]{fullShare} f
/-- Block `b` of slot `s`'s copy of the operand: what a transfer into slot `s` borrows. -/
abbrev uSrcP (c : Dev nD) (W : Held (F := F) c wuM) (s : Fin 2) (b : Fin 32) : sProp 𝕄 :=
  (wsrc wuM b).view.loc (c : Thread nD τ) ↦[(wsrc wuM b).view.set]{wq s} W
/-- The rest of that copy. -/
def uRest (c : Dev nD) (W : Held (F := F) c wuM) (s : Fin 2) (b : Fin 32) : sProp 𝕄 :=
  (wsrc wuM b).view.loc (c : Thread nD τ) ↦[Finset.univ \ (wsrc wuM b).view.set]{wq s} W
/-- Slot `s`'s copy of the operand, whole. -/
abbrev uCopy (c : Dev nD) (W : Held (F := F) c wuM) (s : Fin 2) : sProp 𝕄 :=
  wuM.view.loc (c : Thread nD τ) ↦[Finset.univ]{wq s} W
/-- What slot `s` holds once block `b` has landed in it over `f`. -/
abbrev uLanded (c : Dev nD) (W : Held (F := F) c wuM) (s : Fin 2) (b : Fin 32) (f : Held (F := F) c (wslot uR s)) : Held (F := F) c (wslot uR s) :=
  (wslot uR s).view.writes (Elt F) f [⟨Rect.whole S1024x256, ReadAs.same.apply ((wsrc wuM b).view.read (Elt F) W)⟩]
/-- The slot idle: its cell at zero, the slot at anything, its copy of the operand whole. -/
def uFree (c : Dev nD) (W : Held (F := F) c wuM) (s : Fin 2) : sProp 𝕄 :=
  iprop(semVal ((c : Thread nD τ), SemLoc.dma (wcell 1 s).sem) 0 ∗ ∃ f, uSlotP c s f ∗ uCopy c W s)
/-- Block `b` on its way into slot `s`, and the rest of the copy it is borrowed from. -/
def uFlight (c : Dev nD) (W : Held (F := F) c wuM) (s : Fin 2) (b : Fin 32) : sProp 𝕄 :=
  iprop(∃ f, Transfers.Flight countersEmb (c : Thread nD τ) (SemLoc.dma (wcell 1 s).sem) default ((wslot uR s).view.amount (SemLoc.dma (wcell 1 s).sem))
      iprop(uSlotP c s (uLanded c W s b f) ∗ uSrcP c W s b) ∗ uRest c W s b)

/-! ### The down weights -/

/-- Slot `s`, held at `f`. -/
abbrev dSlotP (c : Dev nD) (s : Fin 2) (f : Held (F := F) c (dslot s)) : sProp 𝕄 :=
  (dslot s).view.loc (c : Thread nD τ) ↦[(dslot s).view.set]{fullShare} f
/-- Block `b` of slot `s`'s copy of the operand: what a transfer into slot `s` borrows. -/
abbrev dSrcP (c : Dev nD) (W : Held (F := F) c wdM) (s : Fin 2) (b : Fin 32) : sProp 𝕄 :=
  (dsrc b).view.loc (c : Thread nD τ) ↦[(dsrc b).view.set]{wq s} W
/-- The rest of that copy. -/
def dRest (c : Dev nD) (W : Held (F := F) c wdM) (s : Fin 2) (b : Fin 32) : sProp 𝕄 :=
  (dsrc b).view.loc (c : Thread nD τ) ↦[Finset.univ \ (dsrc b).view.set]{wq s} W
/-- Slot `s`'s copy of the operand, whole. -/
abbrev dCopy (c : Dev nD) (W : Held (F := F) c wdM) (s : Fin 2) : sProp 𝕄 :=
  wdM.view.loc (c : Thread nD τ) ↦[Finset.univ]{wq s} W
/-- What slot `s` holds once block `b` has landed in it over `f`. -/
abbrev dLanded (c : Dev nD) (W : Held (F := F) c wdM) (s : Fin 2) (b : Fin 32) (f : Held (F := F) c (dslot s)) : Held (F := F) c (dslot s) :=
  (dslot s).view.writes (Elt F) f [⟨Rect.whole S256x1024, ReadAs.same.apply ((dsrc b).view.read (Elt F) W)⟩]
/-- The slot idle: its cell at zero, the slot at anything, its copy of the operand whole. -/
def dFree (c : Dev nD) (W : Held (F := F) c wdM) (s : Fin 2) : sProp 𝕄 :=
  iprop(semVal ((c : Thread nD τ), SemLoc.dma (wcell 2 s).sem) 0 ∗ ∃ f, dSlotP c s f ∗ dCopy c W s)
/-- Block `b` on its way into slot `s`, and the rest of the copy it is borrowed from. -/
def dFlight (c : Dev nD) (W : Held (F := F) c wdM) (s : Fin 2) (b : Fin 32) : sProp 𝕄 :=
  iprop(∃ f, Transfers.Flight countersEmb (c : Thread nD τ) (SemLoc.dma (wcell 2 s).sem) default ((dslot s).view.amount (SemLoc.dma (wcell 2 s).sem))
      iprop(dSlotP c s (dLanded c W s b f) ∗ dSrcP c W s b) ∗ dRest c W s b)

/-- The three weights of a slot idle. -/
def wFree (c : Dev nD) (G : Held (F := F) c wgM) (U : Held (F := F) c wuM) (D : Held (F := F) c wdM) (s : Fin 2) : sProp 𝕄 :=
  iprop(gFree c G s ∗ uFree c U s ∗ dFree c D s)
/-- The three weights of expert `e` on their way into slot `s`. -/
def wFlight (c : Dev nD) (G : Held (F := F) c wgM) (U : Held (F := F) c wuM) (D : Held (F := F) c wdM) (s : Fin 2) (e : Fin 32) : sProp 𝕄 :=
  iprop(gFlight c G s e ∗ uFlight c U s e ∗ dFlight c D s e)

/-- A slot's copy of the rows is block `b` and the rest. -/
theorem xCopy_split (c : Dev nD) (W : Held (F := F) c xsM) (s : Fin 3) (b : Fin 96) : xCopy c W s ⊣⊢ iprop(xSrcP c W s b ∗ xRest c W s b) := by
  unfold xRest; exact pointsTo_split_subset (Finset.subset_univ _)
theorem gCopy_split (c : Dev nD) (W : Held (F := F) c wgM) (s : Fin 2) (b : Fin 32) : gCopy c W s ⊣⊢ iprop(gSrcP c W s b ∗ gRest c W s b) := by
  unfold gRest; exact pointsTo_split_subset (Finset.subset_univ _)
theorem uCopy_split (c : Dev nD) (W : Held (F := F) c wuM) (s : Fin 2) (b : Fin 32) : uCopy c W s ⊣⊢ iprop(uSrcP c W s b ∗ uRest c W s b) := by
  unfold uRest; exact pointsTo_split_subset (Finset.subset_univ _)
theorem dCopy_split (c : Dev nD) (W : Held (F := F) c wdM) (s : Fin 2) (b : Fin 32) : dCopy c W s ⊣⊢ iprop(dSrcP c W s b ∗ dRest c W s b) := by
  unfold dRest; exact pointsTo_split_subset (Finset.subset_univ _)

/-! ## The names the body's transfers have -/

theorem sl3_val (k : ℕ) : (Ring.sl 3 k).val = k % 3 := rfl
theorem off8_eq : ∀ t : Fin grid0.N, k0_off8 (grid0.coords t) = ![(Ring.sl 3 (t.val + 2)).val] := by decide +kernel
theorem off9_eq : ∀ t : Fin grid0.N, k0_off9 (grid0.coords t) = ![(Ring.sl 3 (t.val + 2)).val, 0, 0] := by decide +kernel
theorem off10_eq : ∀ t : Fin grid0.N, t.val + 2 < 96 → k0_off10 (grid0.coords t) = ![512 * (Ring.bk 96 (t.val + 2)).val, 0] := by decide +kernel
theorem off10_lt : ∀ t : Fin grid0.N, (∀ a, k0_off10 (grid0.coords t) a + S512x512.size a ≤ S49152x512.size a) → t.val + 2 < 96 := by decide +kernel
theorem off31_eq : ∀ t : Fin grid0.N, k0_off31 (grid0.coords t) = ![(Ring.sl 3 t.val).val] := by decide +kernel
theorem off32_eq : ∀ t : Fin grid0.N, k0_off32 (grid0.coords t) = ![(Ring.sl 3 t.val).val, 0, 0] := by decide +kernel
theorem off34_eq : ∀ t : Fin grid0.N, k0_off34 (grid0.coords t) = ![(Ring.sl 3 t.val).val, 0, 0] := by decide +kernel
theorem off33_eq : ∀ t : Fin grid0.N, k0_off33 (grid0.coords t) = ![512 * (Ring.bk 96 t.val).val, 0] := by decide +kernel
theorem off15_eq : ∀ s : Fin 2, k0_off15 (BitVec.ofNat 32 s.val) = ![s.val, (0 : Fin 3).val] := by decide +kernel
theorem off18_eq : ∀ s : Fin 2, k0_off18 (BitVec.ofNat 32 s.val) = ![s.val, (1 : Fin 3).val] := by decide +kernel
theorem off19_eq : ∀ s : Fin 2, k0_off19 (BitVec.ofNat 32 s.val) = ![s.val, (2 : Fin 3).val] := by decide +kernel
theorem off16_eq : ∀ s : Fin 2, k0_off16 (BitVec.ofNat 32 s.val) = ![s.val, 0, 0] := by decide +kernel
theorem off20_eq : ∀ s : Fin 2, k0_off20 (BitVec.ofNat 32 s.val) = ![s.val, 0, 0] := by decide +kernel
theorem off22_eq : ∀ s : Fin 2, k0_off22 (BitVec.ofNat 32 s.val) = ![s.val, 0, 0] := by decide +kernel
theorem off23_eq : ∀ s : Fin 2, k0_off23 (BitVec.ofNat 32 s.val) = ![s.val, 0, 0] := by decide +kernel
theorem off24_eq : ∀ s : Fin 2, k0_off24 (BitVec.ofNat 32 s.val) = ![(1 - s).val, (0 : Fin 3).val] := by decide +kernel
theorem off27_eq : ∀ s : Fin 2, k0_off27 (BitVec.ofNat 32 s.val) = ![(1 - s).val, (1 : Fin 3).val] := by decide +kernel
theorem off28_eq : ∀ s : Fin 2, k0_off28 (BitVec.ofNat 32 s.val) = ![(1 - s).val, (2 : Fin 3).val] := by decide +kernel
theorem off25_eq : ∀ s : Fin 2, k0_off25 (BitVec.ofNat 32 s.val) = ![(1 - s).val, 0, 0] := by decide +kernel
theorem off29_eq : ∀ s : Fin 2, k0_off29 (BitVec.ofNat 32 s.val) = ![(1 - s).val, 0, 0] := by decide +kernel
theorem off11_eq : ∀ e : Fin 32, k0_off11 (BitVec.ofNat 32 e.val) = ![e.val, 0, 0] := by decide +kernel
theorem off12_eq : ∀ e : Fin 32, k0_off12 (BitVec.ofNat 32 e.val) = ![e.val, 0, 0] := by decide +kernel
theorem off17_eq : ∀ e : Fin 32, k0_off17 (BitVec.ofNat 32 e.val) = ![e.val, 0, 0] := by decide +kernel
theorem off21_eq : ∀ e : Fin 32, k0_off21 (BitVec.ofNat 32 e.val) = ![e.val, 0, 0] := by decide +kernel
theorem off26_eq : ∀ e : Fin 32, k0_off26 (BitVec.ofNat 32 e.val) = ![e.val, 0, 0] := by decide +kernel
theorem off30_eq : ∀ e : Fin 32, k0_off30 (BitVec.ofNat 32 e.val) = ![e.val, 0, 0] := by decide +kernel

/-! A slice at offsets equal to a slot's, a block's or a cell's is that slot, block or cell. -/

theorem xslot_of {off : Fin 3 → ℕ} {s : Fin 3} (h : off = ![s.val, 0, 0]) (p : ∀ a, off a + S1x512x512.size a ≤ S3x512x512.size a) :
    (xR.slice (Rect.unit (s := S3x512x512) off S1x512x512.size p) (fun _ => rfl)).squeeze S512x512 squeezes_S1x512x512_S512x512 = xslot s := by
  subst h; rfl
theorem xsrc_of {off : Fin 2 → ℕ} {b : Fin 96} (h : off = ![512 * b.val, 0]) (p : ∀ a, off a + S512x512.size a ≤ S49152x512.size a) :
    xsM.slice (Rect.unit (s := S49152x512) off S512x512.size p) (fun _ => rfl) = xsrc b := by
  subst h; rfl
theorem xcell_of {off : Fin 1 → ℕ} {s : Fin 3} (h : off = ![s.val]) (p : ∀ a, off a + S1.size a ≤ S3.size a) :
    (cc0_scratch1.slice (Rect.unit (s := S3) off S1.size p)).squeeze S_ squeezes_S1_S_ = xcell s := by
  subst h; rfl
theorem wslot_of (R : Memref sig .tc .vmem S2x1024x256 .f32) {off : Fin 3 → ℕ} {s : Fin 2} (h : off = ![s.val, 0, 0]) (p : ∀ a, off a + S1x1024x256.size a ≤ S2x1024x256.size a) :
    (R.slice (Rect.unit (s := S2x1024x256) off S1x1024x256.size p) (fun _ => rfl)).squeeze S1024x256 squeezes_S1x1024x256_S1024x256 = wslot R s := by
  subst h; rfl
theorem wsrc_of (M : Memref sig .tc .hbm S32x1024x256 .f32) {off : Fin 3 → ℕ} {e : Fin 32} (h : off = ![e.val, 0, 0]) (p : ∀ a, off a + S1x1024x256.size a ≤ S32x1024x256.size a) :
    (M.slice (Rect.unit (s := S32x1024x256) off S1x1024x256.size p) (fun _ => rfl)).squeeze S1024x256 squeezes_S1x1024x256_S1024x256 = wsrc M e := by
  subst h; rfl
theorem dslot_of {off : Fin 3 → ℕ} {s : Fin 2} (h : off = ![s.val, 0, 0]) (p : ∀ a, off a + S1x256x1024.size a ≤ S2x256x1024.size a) :
    (dR.slice (Rect.unit (s := S2x256x1024) off S1x256x1024.size p) (fun _ => rfl)).squeeze S256x1024 squeezes_S1x256x1024_S256x1024 = dslot s := by
  subst h; rfl
theorem dsrc_of {off : Fin 3 → ℕ} {e : Fin 32} (h : off = ![e.val, 0, 0]) (p : ∀ a, off a + S1x256x1024.size a ≤ S32x256x1024.size a) :
    (wdM.slice (Rect.unit (s := S32x256x1024) off S1x256x1024.size p) (fun _ => rfl)).squeeze S256x1024 squeezes_S1x256x1024_S256x1024 = dsrc e := by
  subst h; rfl
theorem wcell_of {off : Fin 2 → ℕ} {j : Fin 3} {s : Fin 2} (h : off = ![s.val, j.val]) (p : ∀ a, off a + S1x1.size a ≤ S2x3.size a) :
    (cc0_scratch8.slice (Rect.unit (s := S2x3) off S1x1.size p)).squeeze S_ squeezes_S1x1_S_ = wcell j s := by
  subst h; rfl

@[sl_canon] theorem canon_x9 (t : Fin grid0.N) (p : ∀ a, k0_off9 (grid0.coords t) a + S1x512x512.size a ≤ S3x512x512.size a) :
    (xR.slice (Rect.unit (s := S3x512x512) (k0_off9 (grid0.coords t)) S1x512x512.size p) (fun _ => rfl)).squeeze S512x512 squeezes_S1x512x512_S512x512 = xslot (Ring.sl 3 (t.val + 2)) := xslot_of (off9_eq t) p
@[sl_canon] theorem canon_x8 (t : Fin grid0.N) (p : ∀ a, k0_off8 (grid0.coords t) a + S1.size a ≤ S3.size a) :
    (cc0_scratch1.slice (Rect.unit (s := S3) (k0_off8 (grid0.coords t)) S1.size p)).squeeze S_ squeezes_S1_S_ = xcell (Ring.sl 3 (t.val + 2)) := xcell_of (off8_eq t) p
@[sl_canon] theorem canon_x10 (t : Fin grid0.N) (p : ∀ a, k0_off10 (grid0.coords t) a + S512x512.size a ≤ S49152x512.size a) :
    xsM.slice (Rect.unit (s := S49152x512) (k0_off10 (grid0.coords t)) S512x512.size p) (fun _ => rfl) = xsrc (Ring.bk 96 (t.val + 2)) := xsrc_of (off10_eq t (off10_lt t p)) p
@[sl_canon] theorem canon_x32 (t : Fin grid0.N) (p : ∀ a, k0_off32 (grid0.coords t) a + S1x512x512.size a ≤ S3x512x512.size a) :
    (xR.slice (Rect.unit (s := S3x512x512) (k0_off32 (grid0.coords t)) S1x512x512.size p) (fun _ => rfl)).squeeze S512x512 squeezes_S1x512x512_S512x512 = xslot (Ring.sl 3 t.val) := xslot_of (off32_eq t) p
@[sl_canon] theorem canon_x31 (t : Fin grid0.N) (p : ∀ a, k0_off31 (grid0.coords t) a + S1.size a ≤ S3.size a) :
    (cc0_scratch1.slice (Rect.unit (s := S3) (k0_off31 (grid0.coords t)) S1.size p)).squeeze S_ squeezes_S1_S_ = xcell (Ring.sl 3 t.val) := xcell_of (off31_eq t) p
@[sl_canon] theorem canon_x33 (t : Fin grid0.N) (p : ∀ a, k0_off33 (grid0.coords t) a + S512x512.size a ≤ S49152x512.size a) :
    xsM.slice (Rect.unit (s := S49152x512) (k0_off33 (grid0.coords t)) S512x512.size p) (fun _ => rfl) = xsrc (Ring.bk 96 t.val) := xsrc_of (off33_eq t) p
@[sl_canon] theorem canon_x5  (p : ∀ a, k0_off5 a + S1x512x512.size a ≤ S3x512x512.size a) :
    (xR.slice (Rect.unit (s := S3x512x512) k0_off5 S1x512x512.size p) (fun _ => rfl)).squeeze S512x512 squeezes_S1x512x512_S512x512 = xslot 0 := xslot_of (s := 0) (by decide +kernel) p
@[sl_canon] theorem canon_x4  (p : ∀ a, k0_off4 a + S1.size a ≤ S3.size a) :
    (cc0_scratch1.slice (Rect.unit (s := S3) k0_off4 S1.size p)).squeeze S_ squeezes_S1_S_ = xcell 0 := xcell_of (s := 0) (by decide +kernel) p
@[sl_canon] theorem canon_x7  (p : ∀ a, k0_off7 a + S1x512x512.size a ≤ S3x512x512.size a) :
    (xR.slice (Rect.unit (s := S3x512x512) k0_off7 S1x512x512.size p) (fun _ => rfl)).squeeze S512x512 squeezes_S1x512x512_S512x512 = xslot 1 := xslot_of (s := 1) (by decide +kernel) p
@[sl_canon] theorem canon_x6  (p : ∀ a, k0_off6 a + S1.size a ≤ S3.size a) :
    (cc0_scratch1.slice (Rect.unit (s := S3) k0_off6 S1.size p)).squeeze S_ squeezes_S1_S_ = xcell 1 := xcell_of (s := 1) (by decide +kernel) p
@[sl_canon] theorem canon_g16 (s : Fin 2) (p : ∀ a, k0_off16 (BitVec.ofNat 32 s.val) a + S1x1024x256.size a ≤ S2x1024x256.size a) :
    (gR.slice (Rect.unit (s := S2x1024x256) (k0_off16 (BitVec.ofNat 32 s.val)) S1x1024x256.size p) (fun _ => rfl)).squeeze S1024x256 squeezes_S1x1024x256_S1024x256 = wslot gR s := wslot_of gR (off16_eq s) p
@[sl_canon] theorem canon_g25 (s : Fin 2) (p : ∀ a, k0_off25 (BitVec.ofNat 32 s.val) a + S1x1024x256.size a ≤ S2x1024x256.size a) :
    (gR.slice (Rect.unit (s := S2x1024x256) (k0_off25 (BitVec.ofNat 32 s.val)) S1x1024x256.size p) (fun _ => rfl)).squeeze S1024x256 squeezes_S1x1024x256_S1024x256 = wslot gR (1 - s) := wslot_of gR (off25_eq s) p
@[sl_canon] theorem canon_g11 (e : Fin 32) (p : ∀ a, k0_off11 (BitVec.ofNat 32 e.val) a + S1x1024x256.size a ≤ S32x1024x256.size a) :
    (wgM.slice (Rect.unit (s := S32x1024x256) (k0_off11 (BitVec.ofNat 32 e.val)) S1x1024x256.size p) (fun _ => rfl)).squeeze S1024x256 squeezes_S1x1024x256_S1024x256 = wsrc wgM e := wsrc_of wgM (off11_eq e) p
@[sl_canon] theorem canon_g17 (e : Fin 32) (p : ∀ a, k0_off17 (BitVec.ofNat 32 e.val) a + S1x1024x256.size a ≤ S32x1024x256.size a) :
    (wgM.slice (Rect.unit (s := S32x1024x256) (k0_off17 (BitVec.ofNat 32 e.val)) S1x1024x256.size p) (fun _ => rfl)).squeeze S1024x256 squeezes_S1x1024x256_S1024x256 = wsrc wgM e := wsrc_of wgM (off17_eq e) p
@[sl_canon] theorem canon_g26 (e : Fin 32) (p : ∀ a, k0_off26 (BitVec.ofNat 32 e.val) a + S1x1024x256.size a ≤ S32x1024x256.size a) :
    (wgM.slice (Rect.unit (s := S32x1024x256) (k0_off26 (BitVec.ofNat 32 e.val)) S1x1024x256.size p) (fun _ => rfl)).squeeze S1024x256 squeezes_S1x1024x256_S1024x256 = wsrc wgM e := wsrc_of wgM (off26_eq e) p
@[sl_canon] theorem canon_u16 (s : Fin 2) (p : ∀ a, k0_off16 (BitVec.ofNat 32 s.val) a + S1x1024x256.size a ≤ S2x1024x256.size a) :
    (uR.slice (Rect.unit (s := S2x1024x256) (k0_off16 (BitVec.ofNat 32 s.val)) S1x1024x256.size p) (fun _ => rfl)).squeeze S1024x256 squeezes_S1x1024x256_S1024x256 = wslot uR s := wslot_of uR (off16_eq s) p
@[sl_canon] theorem canon_u25 (s : Fin 2) (p : ∀ a, k0_off25 (BitVec.ofNat 32 s.val) a + S1x1024x256.size a ≤ S2x1024x256.size a) :
    (uR.slice (Rect.unit (s := S2x1024x256) (k0_off25 (BitVec.ofNat 32 s.val)) S1x1024x256.size p) (fun _ => rfl)).squeeze S1024x256 squeezes_S1x1024x256_S1024x256 = wslot uR (1 - s) := wslot_of uR (off25_eq s) p
@[sl_canon] theorem canon_u11 (e : Fin 32) (p : ∀ a, k0_off11 (BitVec.ofNat 32 e.val) a + S1x1024x256.size a ≤ S32x1024x256.size a) :
    (wuM.slice (Rect.unit (s := S32x1024x256) (k0_off11 (BitVec.ofNat 32 e.val)) S1x1024x256.size p) (fun _ => rfl)).squeeze S1024x256 squeezes_S1x1024x256_S1024x256 = wsrc wuM e := wsrc_of wuM (off11_eq e) p
@[sl_canon] theorem canon_u17 (e : Fin 32) (p : ∀ a, k0_off17 (BitVec.ofNat 32 e.val) a + S1x1024x256.size a ≤ S32x1024x256.size a) :
    (wuM.slice (Rect.unit (s := S32x1024x256) (k0_off17 (BitVec.ofNat 32 e.val)) S1x1024x256.size p) (fun _ => rfl)).squeeze S1024x256 squeezes_S1x1024x256_S1024x256 = wsrc wuM e := wsrc_of wuM (off17_eq e) p
@[sl_canon] theorem canon_u26 (e : Fin 32) (p : ∀ a, k0_off26 (BitVec.ofNat 32 e.val) a + S1x1024x256.size a ≤ S32x1024x256.size a) :
    (wuM.slice (Rect.unit (s := S32x1024x256) (k0_off26 (BitVec.ofNat 32 e.val)) S1x1024x256.size p) (fun _ => rfl)).squeeze S1024x256 squeezes_S1x1024x256_S1024x256 = wsrc wuM e := wsrc_of wuM (off26_eq e) p
@[sl_canon] theorem canon_d20 (s : Fin 2) (p : ∀ a, k0_off20 (BitVec.ofNat 32 s.val) a + S1x256x1024.size a ≤ S2x256x1024.size a) :
    (dR.slice (Rect.unit (s := S2x256x1024) (k0_off20 (BitVec.ofNat 32 s.val)) S1x256x1024.size p) (fun _ => rfl)).squeeze S256x1024 squeezes_S1x256x1024_S256x1024 = dslot s := dslot_of (off20_eq s) p
@[sl_canon] theorem canon_d29 (s : Fin 2) (p : ∀ a, k0_off29 (BitVec.ofNat 32 s.val) a + S1x256x1024.size a ≤ S2x256x1024.size a) :
    (dR.slice (Rect.unit (s := S2x256x1024) (k0_off29 (BitVec.ofNat 32 s.val)) S1x256x1024.size p) (fun _ => rfl)).squeeze S256x1024 squeezes_S1x256x1024_S256x1024 = dslot (1 - s) := dslot_of (off29_eq s) p
@[sl_canon] theorem canon_d12 (e : Fin 32) (p : ∀ a, k0_off12 (BitVec.ofNat 32 e.val) a + S1x256x1024.size a ≤ S32x256x1024.size a) :
    (wdM.slice (Rect.unit (s := S32x256x1024) (k0_off12 (BitVec.ofNat 32 e.val)) S1x256x1024.size p) (fun _ => rfl)).squeeze S256x1024 squeezes_S1x256x1024_S256x1024 = dsrc e := dsrc_of (off12_eq e) p
@[sl_canon] theorem canon_d21 (e : Fin 32) (p : ∀ a, k0_off21 (BitVec.ofNat 32 e.val) a + S1x256x1024.size a ≤ S32x256x1024.size a) :
    (wdM.slice (Rect.unit (s := S32x256x1024) (k0_off21 (BitVec.ofNat 32 e.val)) S1x256x1024.size p) (fun _ => rfl)).squeeze S256x1024 squeezes_S1x256x1024_S256x1024 = dsrc e := dsrc_of (off21_eq e) p
@[sl_canon] theorem canon_d30 (e : Fin 32) (p : ∀ a, k0_off30 (BitVec.ofNat 32 e.val) a + S1x256x1024.size a ≤ S32x256x1024.size a) :
    (wdM.slice (Rect.unit (s := S32x256x1024) (k0_off30 (BitVec.ofNat 32 e.val)) S1x256x1024.size p) (fun _ => rfl)).squeeze S256x1024 squeezes_S1x256x1024_S256x1024 = dsrc e := dsrc_of (off30_eq e) p
@[sl_canon] theorem canon_c15 (s : Fin 2) (p : ∀ a, k0_off15 (BitVec.ofNat 32 s.val) a + S1x1.size a ≤ S2x3.size a) :
    (cc0_scratch8.slice (Rect.unit (s := S2x3) (k0_off15 (BitVec.ofNat 32 s.val)) S1x1.size p)).squeeze S_ squeezes_S1x1_S_ = wcell 0 s := wcell_of (off15_eq s) p
@[sl_canon] theorem canon_c18 (s : Fin 2) (p : ∀ a, k0_off18 (BitVec.ofNat 32 s.val) a + S1x1.size a ≤ S2x3.size a) :
    (cc0_scratch8.slice (Rect.unit (s := S2x3) (k0_off18 (BitVec.ofNat 32 s.val)) S1x1.size p)).squeeze S_ squeezes_S1x1_S_ = wcell 1 s := wcell_of (off18_eq s) p
@[sl_canon] theorem canon_c19 (s : Fin 2) (p : ∀ a, k0_off19 (BitVec.ofNat 32 s.val) a + S1x1.size a ≤ S2x3.size a) :
    (cc0_scratch8.slice (Rect.unit (s := S2x3) (k0_off19 (BitVec.ofNat 32 s.val)) S1x1.size p)).squeeze S_ squeezes_S1x1_S_ = wcell 2 s := wcell_of (off19_eq s) p
@[sl_canon] theorem canon_c24 (s : Fin 2) (p : ∀ a, k0_off24 (BitVec.ofNat 32 s.val) a + S1x1.size a ≤ S2x3.size a) :
    (cc0_scratch8.slice (Rect.unit (s := S2x3) (k0_off24 (BitVec.ofNat 32 s.val)) S1x1.size p)).squeeze S_ squeezes_S1x1_S_ = wcell 0 (1 - s) := wcell_of (off24_eq s) p
@[sl_canon] theorem canon_c27 (s : Fin 2) (p : ∀ a, k0_off27 (BitVec.ofNat 32 s.val) a + S1x1.size a ≤ S2x3.size a) :
    (cc0_scratch8.slice (Rect.unit (s := S2x3) (k0_off27 (BitVec.ofNat 32 s.val)) S1x1.size p)).squeeze S_ squeezes_S1x1_S_ = wcell 1 (1 - s) := wcell_of (off27_eq s) p
@[sl_canon] theorem canon_c28 (s : Fin 2) (p : ∀ a, k0_off28 (BitVec.ofNat 32 s.val) a + S1x1.size a ≤ S2x3.size a) :
    (cc0_scratch8.slice (Rect.unit (s := S2x3) (k0_off28 (BitVec.ofNat 32 s.val)) S1x1.size p)).squeeze S_ squeezes_S1x1_S_ = wcell 2 (1 - s) := wcell_of (off28_eq s) p

/-! The same of the offsets written as numbers. -/

@[sl_canon] theorem canon_g0 (p : ∀ a, (![0, 0, 0] : Fin 3 → ℕ) a + S1x1024x256.size a ≤ S2x1024x256.size a) :
    (gR.slice (Rect.unit (s := S2x1024x256) ![0, 0, 0] S1x1024x256.size p) (fun _ => rfl)).squeeze S1024x256 squeezes_S1x1024x256_S1024x256 = wslot gR 0 := rfl
@[sl_canon] theorem canon_u0 (p : ∀ a, (![0, 0, 0] : Fin 3 → ℕ) a + S1x1024x256.size a ≤ S2x1024x256.size a) :
    (uR.slice (Rect.unit (s := S2x1024x256) ![0, 0, 0] S1x1024x256.size p) (fun _ => rfl)).squeeze S1024x256 squeezes_S1x1024x256_S1024x256 = wslot uR 0 := rfl
@[sl_canon] theorem canon_d0 (p : ∀ a, (![0, 0, 0] : Fin 3 → ℕ) a + S1x256x1024.size a ≤ S2x256x1024.size a) :
    (dR.slice (Rect.unit (s := S2x256x1024) ![0, 0, 0] S1x256x1024.size p) (fun _ => rfl)).squeeze S256x1024 squeezes_S1x256x1024_S256x1024 = dslot 0 := rfl
@[sl_canon] theorem canon_c00 (p : ∀ a, (![0, 0] : Fin 2 → ℕ) a + S1x1.size a ≤ S2x3.size a) :
    (cc0_scratch8.slice (Rect.unit (s := S2x3) ![0, 0] S1x1.size p)).squeeze S_ squeezes_S1x1_S_ = wcell 0 0 := rfl
@[sl_canon] theorem canon_c01 (p : ∀ a, (![0, 1] : Fin 2 → ℕ) a + S1x1.size a ≤ S2x3.size a) :
    (cc0_scratch8.slice (Rect.unit (s := S2x3) ![0, 1] S1x1.size p)).squeeze S_ squeezes_S1x1_S_ = wcell 1 0 := rfl
@[sl_canon] theorem canon_c02 (p : ∀ a, (![0, 2] : Fin 2 → ℕ) a + S1x1.size a ≤ S2x3.size a) :
    (cc0_scratch8.slice (Rect.unit (s := S2x3) ![0, 2] S1x1.size p)).squeeze S_ squeezes_S1x1_S_ = wcell 2 0 := rfl
@[sl_canon] theorem canon_x00 (p : ∀ a, (![0, 0] : Fin 2 → ℕ) a + S512x512.size a ≤ S49152x512.size a) :
    xsM.slice (Rect.unit (s := S49152x512) ![0, 0] S512x512.size p) (fun _ => rfl) = xsrc 0 := rfl
@[sl_canon] theorem canon_x512 (p : ∀ a, (![512, 0] : Fin 2 → ℕ) a + S512x512.size a ≤ S49152x512.size a) :
    xsM.slice (Rect.unit (s := S49152x512) ![512, 0] S512x512.size p) (fun _ => rfl) = xsrc 1 := rfl

/-! A load's offsets, as the numbers they are. -/

instance (priority := high) closed22 (s : Fin 2) : ClosedOff (k0_off22 (BitVec.ofNat 32 s.val)) := ⟨![s.val, 0, 0], off22_eq s⟩
instance (priority := high) closed23 (s : Fin 2) : ClosedOff (k0_off23 (BitVec.ofNat 32 s.val)) := ⟨![s.val, 0, 0], off23_eq s⟩
instance (priority := high) closed34 (t : Fin grid0.N) : ClosedOff (k0_off34 (grid0.coords t)) := ⟨![(Ring.sl 3 t.val).val, 0, 0], off34_eq t⟩

end Cert.Kernel2Ideal.Experts

end
-- ==== Proof.Experts.Blocks.lean ====
/- The body of the experts' kernel, cut into its five conditional steps: each is a program that ends by going
   on with the program it is given. The printed body is the five in a row. -/
module

public import proofs.«01_k».proof.Proof.Experts.Setup

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

/-- Read a word of the plan. -/
def withWord (off : Fin 2 → ℕ) (inb : ∀ a, off a + S1x1.size a ≤ S8x128.size a) (k : BitVec 32 → Prog (TpuEff nD τ sig (Elt F) Λ₀ .tc) PUnit) : Prog (TpuEff nD τ sig (Elt F) Λ₀ .tc) PUnit :=
  smemLoad (Val := Elt F) (e := .i32) tbM (Rect.unit (s := S8x128) off S1x1.size inb) numel1_S1x1 rfl >>= k
/-- Go on under a condition the words read must meet. -/
def withProof (p : Prop) (d : Decidable p) (k : p → Prog (TpuEff nD τ sig (Elt F) Λ₀ .tc) PUnit) : Prog (TpuEff nD τ sig (Elt F) Λ₀ .tc) PUnit :=
  Prog.lift (TpuEff.assume p d) >>= fun h => k h.down
/-- Start block 0 of the rows, if there is one. -/
def startRows0 (i : grid0.Coords) (v0 : BitVec 32) (k0_h1 : k0_cond1 i = 1#1) (k : Prog (TpuEff nD τ sig (Elt F) Λ₀ .tc) PUnit) : Prog (TpuEff nD τ sig (Elt F) Λ₀ .tc) PUnit :=
  if Scalar.cmpi .ne (Scalar.extui (Scalar.cmpi .sgt v0 0#32) : BitVec 32) 0#32 = 1#1 then do
    let v35 : DmaSems sig S1 := cc0_scratch1.slice (Rect.unit (s := S3) k0_off4 S1.size (k0_off4_inb i k0_h1))
    let v36 : DmaSems sig S_ := v35.squeeze S_ squeezes_S1_S_
    let v37 : Memref sig .tc .vmem S1x512x512 .i32 := xR.slice (Rect.unit (s := S3x512x512) k0_off5 S1x512x512.size (k0_off5_inb i k0_h1)) (fun _ => rfl)
    let v38 : Memref sig .tc .vmem S512x512 .i32 := v37.squeeze S512x512 squeezes_S1x512x512_S512x512
    let v39 : Memref sig .tc .hbm S512x512 .i32 := xsM.slice (Rect.unit (s := S49152x512) ![0, 0] S512x512.size inb_S49152x512_S512x512_0_0) (fun _ => rfl)
    Prog.lift (.enqueueDma v39 (.here v38) (.dma v36.sem) (View.wordExact_bits rfl) ((View.wordExact_bits rfl).reshape _ _) ⟨Or.inl rfl, trivial⟩)
    k
  else k
/-- Start block 1 of the rows, if there is one. -/
def startRows1 (i : grid0.Coords) (v0 : BitVec 32) (k0_h1 : k0_cond1 i = 1#1) (k : Prog (TpuEff nD τ sig (Elt F) Λ₀ .tc) PUnit) : Prog (TpuEff nD τ sig (Elt F) Λ₀ .tc) PUnit :=
  if Scalar.cmpi .ne (Scalar.extui (Scalar.cmpi .sgt v0 1#32) : BitVec 32) 0#32 = 1#1 then do
    let v35 : DmaSems sig S1 := cc0_scratch1.slice (Rect.unit (s := S3) k0_off6 S1.size (k0_off6_inb i k0_h1))
    let v36 : DmaSems sig S_ := v35.squeeze S_ squeezes_S1_S_
    let v37 : Memref sig .tc .vmem S1x512x512 .i32 := xR.slice (Rect.unit (s := S3x512x512) k0_off7 S1x512x512.size (k0_off7_inb i k0_h1)) (fun _ => rfl)
    let v38 : Memref sig .tc .vmem S512x512 .i32 := v37.squeeze S512x512 squeezes_S1x512x512_S512x512
    let v39 : Memref sig .tc .hbm S512x512 .i32 := xsM.slice (Rect.unit (s := S49152x512) ![512, 0] S512x512.size inb_S49152x512_S512x512_512_0) (fun _ => rfl)
    Prog.lift (.enqueueDma v39 (.here v38) (.dma v36.sem) (View.wordExact_bits rfl) ((View.wordExact_bits rfl).reshape _ _) ⟨Or.inl rfl, trivial⟩)
    k
  else k
/-- Step 1: at the first point, start the first two blocks of the rows. -/
def blockA (i : grid0.Coords) (v0 : BitVec 32) (k : Prog (TpuEff nD τ sig (Elt F) Λ₀ .tc) PUnit) : Prog (TpuEff nD τ sig (Elt F) Λ₀ .tc) PUnit :=
  if k0_h1 : k0_cond1 i = 1#1 then startRows0 i v0 k0_h1 (startRows1 i v0 k0_h1 k) else k
/-- Step 2: start the block of rows two points on, if there is one. -/
def blockB (i : grid0.Coords) (v0 : BitVec 32) (k0_hw1 : k0_chk1 i v0) (k : Prog (TpuEff nD τ sig (Elt F) Λ₀ .tc) PUnit) : Prog (TpuEff nD τ sig (Elt F) Λ₀ .tc) PUnit :=
  if k0_h4 : k0_cond4 i v0 = 1#1 then do
    let v29 : DmaSems sig S1 := cc0_scratch1.slice (Rect.unit (s := S3) (k0_off8 i) S1.size (k0_off8_inb i))
    let v30 : DmaSems sig S_ := v29.squeeze S_ squeezes_S1_S_
    let v31 : Memref sig .tc .vmem S1x512x512 .i32 := xR.slice (Rect.unit (s := S3x512x512) (k0_off9 i) S1x512x512.size (k0_off9_inb i)) (fun _ => rfl)
    let v32 : Memref sig .tc .vmem S512x512 .i32 := v31.squeeze S512x512 squeezes_S1x512x512_S512x512
    let v33 : Memref sig .tc .hbm S512x512 .i32 := xsM.slice (Rect.unit (s := S49152x512) (k0_off10 i) S512x512.size (k0_off10_inb i v0 k0_hw1 k0_h4)) (fun _ => rfl)
    Prog.lift (.enqueueDma v33 (.here v32) (.dma v30.sem) (View.wordExact_bits rfl) ((View.wordExact_bits rfl).reshape _ _) ⟨Or.inl rfl, trivial⟩)
    k
  else do
    k
/-- Step 3: at the first point, start the weights of its expert. -/
def blockC (i : grid0.Coords) (v4 : BitVec 32) (k0_hw2 : k0_chk2 i v4) (k : Prog (TpuEff nD τ sig (Elt F) Λ₀ .tc) PUnit) : Prog (TpuEff nD τ sig (Elt F) Λ₀ .tc) PUnit :=
  if k0_h5 : k0_cond5 i = 1#1 then do
    let v25 : DmaSems sig S1x1 := cc0_scratch8.slice (Rect.unit (s := S2x3) ![0, 0] S1x1.size inb_S2x3_S1x1_0_0)
    let v26 : DmaSems sig S_ := v25.squeeze S_ squeezes_S1x1_S_
    let v27 : Memref sig .tc .vmem S1x1024x256 .f32 := gR.slice (Rect.unit (s := S2x1024x256) ![0, 0, 0] S1x1024x256.size inb_S2x1024x256_S1x1024x256_0_0_0) (fun _ => rfl)
    let v28 : Memref sig .tc .vmem S1024x256 .f32 := v27.squeeze S1024x256 squeezes_S1x1024x256_S1024x256
    let v29 : Memref sig .tc .hbm S1x1024x256 .f32 := wgM.slice (Rect.unit (s := S32x1024x256) (k0_off11 v4) S1x1024x256.size (k0_off11_inb i v4 k0_hw2 k0_h5)) (fun _ => rfl)
    let v30 : Memref sig .tc .hbm S1024x256 .f32 := v29.squeeze S1024x256 squeezes_S1x1024x256_S1024x256
    Prog.lift (.enqueueDma v30 (.here v28) (.dma v26.sem) ((View.wordExact_bits rfl).reshape _ _) ((View.wordExact_bits rfl).reshape _ _) ⟨Or.inl rfl, trivial⟩)
    let v31 : DmaSems sig S1x1 := cc0_scratch8.slice (Rect.unit (s := S2x3) ![0, 1] S1x1.size inb_S2x3_S1x1_0_1)
    let v32 : DmaSems sig S_ := v31.squeeze S_ squeezes_S1x1_S_
    let v33 : Memref sig .tc .vmem S1x1024x256 .f32 := uR.slice (Rect.unit (s := S2x1024x256) ![0, 0, 0] S1x1024x256.size inb_S2x1024x256_S1x1024x256_0_0_0) (fun _ => rfl)
    let v34 : Memref sig .tc .vmem S1024x256 .f32 := v33.squeeze S1024x256 squeezes_S1x1024x256_S1024x256
    let v35 : Memref sig .tc .hbm S1x1024x256 .f32 := wuM.slice (Rect.unit (s := S32x1024x256) (k0_off11 v4) S1x1024x256.size (k0_off11_inb i v4 k0_hw2 k0_h5)) (fun _ => rfl)
    let v36 : Memref sig .tc .hbm S1024x256 .f32 := v35.squeeze S1024x256 squeezes_S1x1024x256_S1024x256
    Prog.lift (.enqueueDma v36 (.here v34) (.dma v32.sem) ((View.wordExact_bits rfl).reshape _ _) ((View.wordExact_bits rfl).reshape _ _) ⟨Or.inl rfl, trivial⟩)
    let v37 : DmaSems sig S1x1 := cc0_scratch8.slice (Rect.unit (s := S2x3) ![0, 2] S1x1.size inb_S2x3_S1x1_0_2)
    let v38 : DmaSems sig S_ := v37.squeeze S_ squeezes_S1x1_S_
    let v39 : Memref sig .tc .vmem S1x256x1024 .f32 := dR.slice (Rect.unit (s := S2x256x1024) ![0, 0, 0] S1x256x1024.size inb_S2x256x1024_S1x256x1024_0_0_0) (fun _ => rfl)
    let v40 : Memref sig .tc .vmem S256x1024 .f32 := v39.squeeze S256x1024 squeezes_S1x256x1024_S256x1024
    let v41 : Memref sig .tc .hbm S1x256x1024 .f32 := wdM.slice (Rect.unit (s := S32x256x1024) (k0_off12 v4) S1x256x1024.size (k0_off12_inb i v4 k0_hw2 k0_h5)) (fun _ => rfl)
    let v42 : Memref sig .tc .hbm S256x1024 .f32 := v41.squeeze S256x1024 squeezes_S1x256x1024_S256x1024
    Prog.lift (.enqueueDma v42 (.here v40) (.dma v38.sem) ((View.wordExact_bits rfl).reshape _ _) ((View.wordExact_bits rfl).reshape _ _) ⟨Or.inl rfl, trivial⟩)
    k
  else do
    k
/-- Within step 4: start the weights of the next expert, if there is one. -/
def blockN (v4 v6 v18 v26 : BitVec 32) (k0_hw4 : k0_chk4 v4 v6 v18) (k0_h6 : k0_cond6 v18 = 1#1) (k0_hw3 : k0_chk3 v6 v18 v26) (k : Prog (TpuEff nD τ sig (Elt F) Λ₀ .tc) PUnit) : Prog (TpuEff nD τ sig (Elt F) Λ₀ .tc) PUnit :=
  if k0_h7 : k0_cond7 v6 = 1#1 then do
    let v70 : DmaSems sig S1x1 := cc0_scratch8.slice (Rect.unit (s := S2x3) (k0_off24 v26) S1x1.size (k0_off24_inb v6 v18 v26 k0_hw3 k0_h6 k0_h7))
    let v71 : DmaSems sig S_ := v70.squeeze S_ squeezes_S1x1_S_
    let v72 : Memref sig .tc .vmem S1x1024x256 .f32 := gR.slice (Rect.unit (s := S2x1024x256) (k0_off25 v26) S1x1024x256.size (k0_off25_inb v6 v18 v26 k0_hw3 k0_h6 k0_h7)) (fun _ => rfl)
    let v73 : Memref sig .tc .vmem S1024x256 .f32 := v72.squeeze S1024x256 squeezes_S1x1024x256_S1024x256
    let v74 : Memref sig .tc .hbm S1x1024x256 .f32 := wgM.slice (Rect.unit (s := S32x1024x256) (k0_off26 v6) S1x1024x256.size (k0_off26_inb v4 v6 v18 k0_hw4 k0_h6 k0_h7)) (fun _ => rfl)
    let v75 : Memref sig .tc .hbm S1024x256 .f32 := v74.squeeze S1024x256 squeezes_S1x1024x256_S1024x256
    Prog.lift (.enqueueDma v75 (.here v73) (.dma v71.sem) ((View.wordExact_bits rfl).reshape _ _) ((View.wordExact_bits rfl).reshape _ _) ⟨Or.inl rfl, trivial⟩)
    let v76 : DmaSems sig S1x1 := cc0_scratch8.slice (Rect.unit (s := S2x3) (k0_off27 v26) S1x1.size (k0_off27_inb v6 v18 v26 k0_hw3 k0_h6 k0_h7))
    let v77 : DmaSems sig S_ := v76.squeeze S_ squeezes_S1x1_S_
    let v78 : Memref sig .tc .vmem S1x1024x256 .f32 := uR.slice (Rect.unit (s := S2x1024x256) (k0_off25 v26) S1x1024x256.size (k0_off25_inb v6 v18 v26 k0_hw3 k0_h6 k0_h7)) (fun _ => rfl)
    let v79 : Memref sig .tc .vmem S1024x256 .f32 := v78.squeeze S1024x256 squeezes_S1x1024x256_S1024x256
    let v80 : Memref sig .tc .hbm S1x1024x256 .f32 := wuM.slice (Rect.unit (s := S32x1024x256) (k0_off26 v6) S1x1024x256.size (k0_off26_inb v4 v6 v18 k0_hw4 k0_h6 k0_h7)) (fun _ => rfl)
    let v81 : Memref sig .tc .hbm S1024x256 .f32 := v80.squeeze S1024x256 squeezes_S1x1024x256_S1024x256
    Prog.lift (.enqueueDma v81 (.here v79) (.dma v77.sem) ((View.wordExact_bits rfl).reshape _ _) ((View.wordExact_bits rfl).reshape _ _) ⟨Or.inl rfl, trivial⟩)
    let v82 : DmaSems sig S1x1 := cc0_scratch8.slice (Rect.unit (s := S2x3) (k0_off28 v26) S1x1.size (k0_off28_inb v6 v18 v26 k0_hw3 k0_h6 k0_h7))
    let v83 : DmaSems sig S_ := v82.squeeze S_ squeezes_S1x1_S_
    let v84 : Memref sig .tc .vmem S1x256x1024 .f32 := dR.slice (Rect.unit (s := S2x256x1024) (k0_off29 v26) S1x256x1024.size (k0_off29_inb v6 v18 v26 k0_hw3 k0_h6 k0_h7)) (fun _ => rfl)
    let v85 : Memref sig .tc .vmem S256x1024 .f32 := v84.squeeze S256x1024 squeezes_S1x256x1024_S256x1024
    let v86 : Memref sig .tc .hbm S1x256x1024 .f32 := wdM.slice (Rect.unit (s := S32x256x1024) (k0_off30 v6) S1x256x1024.size (k0_off30_inb v4 v6 v18 k0_hw4 k0_h6 k0_h7)) (fun _ => rfl)
    let v87 : Memref sig .tc .hbm S256x1024 .f32 := v86.squeeze S256x1024 squeezes_S1x256x1024_S256x1024
    Prog.lift (.enqueueDma v87 (.here v85) (.dma v83.sem) ((View.wordExact_bits rfl).reshape _ _) ((View.wordExact_bits rfl).reshape _ _) ⟨Or.inl rfl, trivial⟩)
    k
  else do
    k
/-- Within step 4: wait for the weights of the expert and round them. -/
def blockW (v4 v6 v18 v26 : BitVec 32) (k0_hw4 : k0_chk4 v4 v6 v18) (k0_h6 : k0_cond6 v18 = 1#1) (k0_hw3 : k0_chk3 v6 v18 v26) (k : Prog (TpuEff nD τ sig (Elt F) Λ₀ .tc) PUnit) : Prog (TpuEff nD τ sig (Elt F) Λ₀ .tc) PUnit := do
  let v27 : DmaSems sig S1x1 := cc0_scratch8.slice (Rect.unit (s := S2x3) (k0_off15 v26) S1x1.size (k0_off15_inb v6 v18 v26 k0_hw3 k0_h6))
  let v28 : DmaSems sig S_ := v27.squeeze S_ squeezes_S1x1_S_
  let v29 : Memref sig .tc .vmem S1x1024x256 .f32 := gR.slice (Rect.unit (s := S2x1024x256) (k0_off16 v26) S1x1024x256.size (k0_off16_inb v6 v18 v26 k0_hw3 k0_h6)) (fun _ => rfl)
  let v30 : Memref sig .tc .vmem S1024x256 .f32 := v29.squeeze S1024x256 squeezes_S1x1024x256_S1024x256
  let v31 : Memref sig .tc .hbm S1x1024x256 .f32 := wgM.slice (Rect.unit (s := S32x1024x256) (k0_off17 v4) S1x1024x256.size (k0_off17_inb v4 v6 v18 k0_hw4 k0_h6)) (fun _ => rfl)
  let v32 : Memref sig .tc .hbm S1024x256 .f32 := v31.squeeze S1024x256 squeezes_S1x1024x256_S1024x256
  Prog.lift (.waitDma2 v28.sem v32 v30 ((View.wordExact_bits rfl).reshape _ _) ((View.wordExact_bits rfl).reshape _ _))
  let v33 : DmaSems sig S1x1 := cc0_scratch8.slice (Rect.unit (s := S2x3) (k0_off18 v26) S1x1.size (k0_off18_inb v6 v18 v26 k0_hw3 k0_h6))
  let v34 : DmaSems sig S_ := v33.squeeze S_ squeezes_S1x1_S_
  let v35 : Memref sig .tc .vmem S1x1024x256 .f32 := uR.slice (Rect.unit (s := S2x1024x256) (k0_off16 v26) S1x1024x256.size (k0_off16_inb v6 v18 v26 k0_hw3 k0_h6)) (fun _ => rfl)
  let v36 : Memref sig .tc .vmem S1024x256 .f32 := v35.squeeze S1024x256 squeezes_S1x1024x256_S1024x256
  let v37 : Memref sig .tc .hbm S1x1024x256 .f32 := wuM.slice (Rect.unit (s := S32x1024x256) (k0_off17 v4) S1x1024x256.size (k0_off17_inb v4 v6 v18 k0_hw4 k0_h6)) (fun _ => rfl)
  let v38 : Memref sig .tc .hbm S1024x256 .f32 := v37.squeeze S1024x256 squeezes_S1x1024x256_S1024x256
  Prog.lift (.waitDma2 v34.sem v38 v36 ((View.wordExact_bits rfl).reshape _ _) ((View.wordExact_bits rfl).reshape _ _))
  let v39 : DmaSems sig S1x1 := cc0_scratch8.slice (Rect.unit (s := S2x3) (k0_off19 v26) S1x1.size (k0_off19_inb v6 v18 v26 k0_hw3 k0_h6))
  let v40 : DmaSems sig S_ := v39.squeeze S_ squeezes_S1x1_S_
  let v41 : Memref sig .tc .vmem S1x256x1024 .f32 := dR.slice (Rect.unit (s := S2x256x1024) (k0_off20 v26) S1x256x1024.size (k0_off20_inb v6 v18 v26 k0_hw3 k0_h6)) (fun _ => rfl)
  let v42 : Memref sig .tc .vmem S256x1024 .f32 := v41.squeeze S256x1024 squeezes_S1x256x1024_S256x1024
  let v43 : Memref sig .tc .hbm S1x256x1024 .f32 := wdM.slice (Rect.unit (s := S32x256x1024) (k0_off21 v4) S1x256x1024.size (k0_off21_inb v4 v6 v18 k0_hw4 k0_h6)) (fun _ => rfl)
  let v44 : Memref sig .tc .hbm S256x1024 .f32 := v43.squeeze S256x1024 squeezes_S1x256x1024_S256x1024
  Prog.lift (.waitDma2 v40.sem v44 v42 ((View.wordExact_bits rfl).reshape _ _) ((View.wordExact_bits rfl).reshape _ _))
  let v46 : Vec F S1x1024x256 .f32 ← Prog.lift (.load gR (Rect.unit (s := S2x1024x256) (k0_off22 v26) S1x1024x256.size (k0_off22_inb v6 v18 v26 k0_hw3 k0_h6)).toLoadRect (View.loadsAt_vmem h_S1x1024x256))
  let v49 : Vec F S1024x256 .bf16 ← Prog.lift (.load gB (Rect.unit (s := S1024x256) ![0, 0] S1024x256.size inb_S1024x256_S1024x256_0_0).toLoadRect (View.loadsAt_vmem h_S1024x256))
  Prog.lift (.store gB (Rect.unit (s := S1024x256) ![0, 0] S1024x256.size inb_S1024x256_S1024x256_0_0) (k0_pay4 v46) Finset.univ (View.stores_vmem h_S1024x256 ((Memref.isWhole_whole _).storeExact_slice rfl _ packedbf16_S1024x256_S1024x256_0_0) (fun _ => rfl)) (.inl rfl))
  let v53 : Vec F S1x1024x256 .f32 ← Prog.lift (.load uR (Rect.unit (s := S2x1024x256) (k0_off22 v26) S1x1024x256.size (k0_off22_inb v6 v18 v26 k0_hw3 k0_h6)).toLoadRect (View.loadsAt_vmem h_S1x1024x256))
  let v56 : Vec F S1024x256 .bf16 ← Prog.lift (.load uB (Rect.unit (s := S1024x256) ![0, 0] S1024x256.size inb_S1024x256_S1024x256_0_0).toLoadRect (View.loadsAt_vmem h_S1024x256))
  Prog.lift (.store uB (Rect.unit (s := S1024x256) ![0, 0] S1024x256.size inb_S1024x256_S1024x256_0_0) (k0_pay1 (k0_pay5 v53)) Finset.univ (View.stores_vmem h_S1024x256 ((Memref.isWhole_whole _).storeExact_slice rfl _ packedbf16_S1024x256_S1024x256_0_0) (fun _ => rfl)) (.inl rfl))
  let v60 : Vec F S1x256x1024 .f32 ← Prog.lift (.load dR (Rect.unit (s := S2x256x1024) (k0_off23 v26) S1x256x1024.size (k0_off23_inb v6 v18 v26 k0_hw3 k0_h6)).toLoadRect (View.loadsAt_vmem h_S1x256x1024))
  let v63 : Vec F S256x1024 .bf16 ← Prog.lift (.load dB (Rect.unit (s := S256x1024) ![0, 0] S256x1024.size inb_S256x1024_S256x1024_0_0).toLoadRect (View.loadsAt_vmem h_S256x1024))
  Prog.lift (.store dB (Rect.unit (s := S256x1024) ![0, 0] S256x1024.size inb_S256x1024_S256x1024_0_0) (k0_pay2 v60) Finset.univ (View.stores_vmem h_S256x1024 ((Memref.isWhole_whole _).storeExact_slice rfl _ packedbf16_S256x1024_S256x1024_0_0) (fun _ => rfl)) (.inl rfl))
  k
/-- Step 4: at an expert's first point, wait for its weights, round them, and start the next expert's. -/
def blockD (i : grid0.Coords) (v4 v6 v18 : BitVec 32) (k0_hw4 : k0_chk4 v4 v6 v18) (k : Prog (TpuEff nD τ sig (Elt F) Λ₀ .tc) PUnit) : Prog (TpuEff nD τ sig (Elt F) Λ₀ .tc) PUnit :=
  if k0_h6 : k0_cond6 v18 = 1#1 then
    withWord (k0_off14 i) (k0_off14_inb i) fun v26 => withProof (k0_chk3 v6 v18 v26) (k0_chk3.dec v6 v18 v26) fun k0_hw3 =>
      blockW v4 v6 v18 v26 k0_hw4 k0_h6 k0_hw3 (blockN v4 v6 v18 v26 k0_hw4 k0_h6 k0_hw3 k)
  else k
/-- Step 5: wait for the point's block of rows and write the experts' rows it gives. -/
def blockE (i : grid0.Coords) (arg6 : Memref sig .tc .vmem S512x1024 .bf16) (harg6 : arg6.IsWhole) (v0 v2 : BitVec 32) (k : Prog (TpuEff nD τ sig (Elt F) Λ₀ .tc) PUnit) : Prog (TpuEff nD τ sig (Elt F) Λ₀ .tc) PUnit :=
  if k0_h8 : k0_cond8 i v0 = 1#1 then do
    let v28 : DmaSems sig S1 := cc0_scratch1.slice (Rect.unit (s := S3) (k0_off31 i) S1.size (k0_off31_inb i))
    let v29 : DmaSems sig S_ := v28.squeeze S_ squeezes_S1_S_
    let v30 : Memref sig .tc .vmem S1x512x512 .i32 := xR.slice (Rect.unit (s := S3x512x512) (k0_off32 i) S1x512x512.size (k0_off32_inb i)) (fun _ => rfl)
    let v31 : Memref sig .tc .vmem S512x512 .i32 := v30.squeeze S512x512 squeezes_S1x512x512_S512x512
    let v32 : Memref sig .tc .hbm S512x512 .i32 := xsM.slice (Rect.unit (s := S49152x512) (k0_off33 i) S512x512.size (k0_off33_inb i)) (fun _ => rfl)
    Prog.lift (.waitDma2 v29.sem v32 v31 (View.wordExact_bits rfl) ((View.wordExact_bits rfl).reshape _ _))
    let v36 : Vec F S1x512x512 .i32 ← Prog.lift (.load xR (Rect.unit (s := S3x512x512) (k0_off34 i) S1x512x512.size (k0_off34_inb i)).toLoadRect (View.loadsAt_vmem h_S1x512x512))
    let v46 : Vec F S512x256 .bf16 ← Prog.lift (.load gB (Rect.unit (s := S1024x256) ![0, 0] S512x256.size inb_S1024x256_S512x256_0_0).toLoadRect (View.loadsAt_vmem h_S512x256))
    let v48 : Vec F S512x256 .bf16 ← Prog.lift (.load gB (Rect.unit (s := S1024x256) ![512, 0] S512x256.size inb_S1024x256_S512x256_512_0).toLoadRect (View.loadsAt_vmem h_S512x256))
    let v51 : Vec F S512x256 .bf16 ← Prog.lift (.load uB (Rect.unit (s := S1024x256) ![0, 0] S512x256.size inb_S1024x256_S512x256_0_0).toLoadRect (View.loadsAt_vmem h_S512x256))
    let v53 : Vec F S512x256 .bf16 ← Prog.lift (.load uB (Rect.unit (s := S1024x256) ![512, 0] S512x256.size inb_S1024x256_S512x256_512_0).toLoadRect (View.loadsAt_vmem h_S512x256))
    let v66 : Vec F S256x1024 .bf16 ← Prog.lift (.load dB (Rect.unit (s := S256x1024) ![0, 0] S256x1024.size inb_S256x1024_S256x1024_0_0).toLoadRect (View.loadsAt_vmem h_S256x1024))
    let v69 : Vec F S512x1024 .bf16 ← Prog.lift (.load arg6 (Rect.unit (s := S512x1024) ![0, 0] S512x1024.size inb_S512x1024_S512x1024_0_0).toLoadRect (View.loadsAt_vmem h_S512x1024))
    Prog.lift (.store arg6 (Rect.unit (s := S512x1024) ![0, 0] S512x1024.size inb_S512x1024_S512x1024_0_0) (k0_pay3 (k0_pay9 v2 v36 v46 v48) (k0_pay10 v2 v36 v51 v53) (k0_pay11 v2 v36 v46 v48) v66) Finset.univ (View.stores_vmem h_S512x1024 (harg6.storeExact_slice rfl _ packedbf16_S512x1024_S512x1024_0_0) (fun _ => rfl)) (.inl rfl))
    k
  else do
    k

/-- The body as the five steps in a row, each after the words of the plan it reads. -/
def body (i : grid0.Coords) (arg6 : Memref sig .tc .vmem S512x1024 .bf16) (harg6 : arg6.IsWhole) : Prog (TpuEff nD τ sig (Elt F) Λ₀ .tc) PUnit :=
  withWord ![5, 0] inb_S8x128_S1x1_5_0 fun v0 => withProof (k0_chk1 i v0) (k0_chk1.dec i v0) fun k0_hw1 =>
  withWord (k0_off1 i) (k0_off1_inb i) fun v2 =>
  withWord (k0_off2 i) (k0_off2_inb i) fun v4 => withProof (k0_chk2 i v4) (k0_chk2.dec i v4) fun k0_hw2 =>
  withWord (k0_off3 i) (k0_off3_inb i) fun v6 =>
  blockA i v0 (blockB i v0 k0_hw1 (blockC i v4 k0_hw2 (
  withWord (k0_off13 i) (k0_off13_inb i) fun v18 => withProof (k0_chk4 v4 v6 v18) (k0_chk4.dec v4 v6 v18) fun k0_hw4 =>
  blockD i v4 v6 v18 k0_hw4 (blockE i arg6 harg6 v0 v2 (pure ⟨⟩)))))

set_option maxRecDepth 65536 in
set_option maxHeartbeats 4000000 in
/-- The printed body is those steps. -/
theorem body_eq (i : grid0.Coords) (arg6 : Memref sig .tc .vmem S512x1024 .bf16) (harg6 : arg6.IsWhole) :
    cc0_experts (F := F) i tbM (Memref.isWhole_whole _) xsM (Memref.isWhole_whole _) wgM (Memref.isWhole_whole _) wuM (Memref.isWhole_whole _) wdM (Memref.isWhole_whole _) arg6 harg6 xR (Memref.isWhole_whole _) cc0_scratch1 gR (Memref.isWhole_whole _) uR (Memref.isWhole_whole _) dR (Memref.isWhole_whole _) gB (Memref.isWhole_whole _) uB (Memref.isWhole_whole _) dB (Memref.isWhole_whole _) cc0_scratch8
      = body i arg6 harg6 := by
  rw [cc0_experts_eq_skeleton]; unfold cc0_experts_skel; simp only [k0_part1_eq_skeleton, k0_part2_eq_skeleton]; rfl

end Cert.Kernel2Ideal.Experts

end
-- ==== Proof.Experts.Block.lean ====
/- The values the body of the experts' kernel computes, and what its loads read. -/
module

public import proofs.«01_k».proof.Proof.Experts.Setup
public import Idealize.ShloMosaic.Lib.Pipeline.Value
public import Idealize.ShloMosaic.Lib.VecWindow

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

/-! ## The values -/

theorem cast_rows : S512x512.ShapeCasts S1x512x512 := by decide
theorem cast_w : S1024x256.ShapeCasts S1x1024x256 := by decide
theorem cast_d : S256x1024.ShapeCasts S1x256x1024 := by decide

/-- An expert's three weights, rounded, from the arrays of all experts' weights. -/
def gOf {c : Dev nD} (G : Held (F := F) c wgM) (e : Fin 32) : Vec F S1024x256 .bf16 :=
  k0_pay4 (shapeCast S1x1024x256 ((wsrc wgM e).view.read (Elt F) G) cast_w)
def uOf {c : Dev nD} (U : Held (F := F) c wuM) (e : Fin 32) : Vec F S1024x256 .bf16 :=
  k0_pay1 (k0_pay5 (shapeCast S1x1024x256 ((wsrc wuM e).view.read (Elt F) U) cast_w))
def dOf {c : Dev nD} (D : Held (F := F) c wdM) (e : Fin 32) : Vec F S256x1024 .bf16 :=
  k0_pay2 (shapeCast S1x256x1024 ((dsrc e).view.read (Elt F) D) cast_d)

/-- The upper half of a gate or up weight's rows, and the lower half. -/
abbrev upperR : Rect S1024x256 := Rect.unit (s := S1024x256) ![0, 0] S512x256.size inb_S1024x256_S512x256_0_0
abbrev lowerR : Rect S1024x256 := Rect.unit (s := S1024x256) ![512, 0] S512x256.size inb_S1024x256_S512x256_512_0

/-- The block of rows the body writes: from the number of valid rows `v2`, the block `x` of packed rows and the
    rounded weights `g`, `u`, `d`. -/
def blk (v2 : BitVec 32) (x : Vec F S512x512 .i32) (g u : Vec F S1024x256 .bf16) (d : Vec F S256x1024 .bf16) : Vec F S512x1024 .bf16 :=
  k0_pay3
    (k0_pay9 v2 (shapeCast S1x512x512 x cast_rows) (fun j => g (upperR.toLoadRect.idx j)) (fun j => g (lowerR.toLoadRect.idx j)))
    (k0_pay10 v2 (shapeCast S1x512x512 x cast_rows) (fun j => u (upperR.toLoadRect.idx j)) (fun j => u (lowerR.toLoadRect.idx j)))
    (k0_pay11 v2 (shapeCast S1x512x512 x cast_rows) (fun j => g (upperR.toLoadRect.idx j)) (fun j => g (lowerR.toLoadRect.idx j)))
    d

/-! ## The loads -/

/-- A load of a whole buffer reads what it holds. -/
theorem load_whole {s : Shape} {e : EltTy} {M : Memref sig .tc .vmem s e} (hM : M.IsWhole) (x : s.Idx → Elt F e)
    {off : Fin s.rank → ℕ} (h : ∀ a, off a + s.size a ≤ s.size a) :
    M.view.readAt (Elt F) (Rect.unit off s.size h).toLoadRect (hM.unread x) = x :=
  (View.readAt_full _ _ h).trans (hM.read_unread x)

/-- A load of part of a whole buffer reads that part of what it holds. -/
theorem load_part {s : Shape} {e : EltTy} {M : Memref sig .tc .vmem s e} (hM : M.IsWhole) (x : s.Idx → Elt F e) (r : LoadRect s) :
    M.view.readAt (Elt F) r (hM.unread x) = fun j => x (r.idx j) :=
  funext fun j => congrFun (hM.read_unread x) _

/-- What a slot holds, given back its leading axis of extent one, is what a load through the whole scratch at
    that slot's box reads. -/
theorem slot_cast {sp : Space} {s s' : Shape} {e : EltTy} (M : Memref sig .tc sp s e) (r : Rect s)
    (hr : ∀ a, r.stride a = 1) (hq : r.shape.Squeezes s') (hc : s'.ShapeCasts r.shape)
    (f : M.view.ty.Contents (Elt F)) :
    M.view.readAt (Elt F) r.toLoadRect f = shapeCast r.shape (((M.slice r hr).squeeze s' hq).view.read (Elt F) f) hc := by
  funext j
  rw [Memref.read_squeeze_slice M r hr hq hq.numel_eq f]
  unfold shapeCast
  rw [Shape.reshapeEquiv_reshapeEquiv, Shape.reshapeEquiv_self]

/-- A load of a slot's box, the slot having received a block whole, reads that block. -/
theorem slot_load {sp : Space} {s s' : Shape} {e : EltTy} (M : Memref sig .tc sp s e) {off off' size : Fin s.rank → ℕ}
    (ho : off = off') (p : ∀ a, off a + size a ≤ s.size a) (p' : ∀ a, off' a + size a ≤ s.size a)
    (hq : (Rect.unit off' size p').shape.Squeezes s') (hc : s'.ShapeCasts (Rect.unit off' size p').shape)
    (f : ((M.slice (Rect.unit off' size p') (fun _ => rfl)).squeeze s' hq).view.ty.Contents (Elt F)) (w : s'.Idx → Elt F e) :
    M.view.readAt (Elt F) (Rect.unit off size p).toLoadRect
      (((M.slice (Rect.unit off' size p') (fun _ => rfl)).squeeze s' hq).view.writes (Elt F) f [⟨Rect.whole s', w⟩])
      = shapeCast (Rect.unit off' size p').shape w hc := by
  subst ho
  refine (slot_cast M (Rect.unit off size p) (fun _ => rfl) hq hc _).trans ?_
  exact congrArg (fun x => shapeCast (Rect.unit off size p).shape x hc) (View.read_writes_whole _ f w)

/-- The printed body's value is `blk`, once each load is known to read what it should. -/
theorem blk_of {v2 : BitVec 32} {x : Vec F S512x512 .i32} {g u : Vec F S1024x256 .bf16} {d v66 : Vec F S256x1024 .bf16}
    {v36 : Vec F S1x512x512 .i32} {v46 v48 v51 v53 : Vec F S512x256 .bf16} (h36 : v36 = shapeCast S1x512x512 x cast_rows)
    (h46 : v46 = fun j => g (upperR.toLoadRect.idx j)) (h48 : v48 = fun j => g (lowerR.toLoadRect.idx j))
    (h51 : v51 = fun j => u (upperR.toLoadRect.idx j)) (h53 : v53 = fun j => u (lowerR.toLoadRect.idx j)) (h66 : v66 = d) :
    k0_pay3 (k0_pay9 v2 v36 v46 v48) (k0_pay10 v2 v36 v51 v53) (k0_pay11 v2 v36 v46 v48) v66 = blk v2 x g u d := by
  subst h36 h46 h48 h51 h53 h66; rfl

theorem load_x (t : Fin grid0.N) (f : (xslot (Ring.sl 3 t.val)).view.ty.Contents (Elt F)) (w : S512x512.Idx → Elt F .i32)
    (h : ∀ a, k0_off34 (grid0.coords t) a + S1x512x512.size a ≤ S3x512x512.size a) :
    xR.view.readAt (Elt F) (Rect.unit (s := S3x512x512) (k0_off34 (grid0.coords t)) S1x512x512.size h).toLoadRect
      ((xslot (Ring.sl 3 t.val)).view.writes (Elt F) f [⟨Rect.whole S512x512, w⟩]) = shapeCast S1x512x512 w cast_rows := by
  exact slot_load xR (off34_eq t) h (xslot_inb _) squeezes_S1x512x512_S512x512 cast_rows f w

theorem load_g (s : Fin 2) (f : (wslot gR s).view.ty.Contents (Elt F)) (w : S1024x256.Idx → Elt F .f32)
    (h : ∀ a, k0_off22 (BitVec.ofNat 32 s.val) a + S1x1024x256.size a ≤ S2x1024x256.size a) :
    gR.view.readAt (Elt F) (Rect.unit (s := S2x1024x256) (k0_off22 (BitVec.ofNat 32 s.val)) S1x1024x256.size h).toLoadRect
      ((wslot gR s).view.writes (Elt F) f [⟨Rect.whole S1024x256, w⟩]) = shapeCast S1x1024x256 w cast_w := by
  exact slot_load gR (off22_eq s) h (wslot_inb _) squeezes_S1x1024x256_S1024x256 cast_w f w

theorem load_u (s : Fin 2) (f : (wslot uR s).view.ty.Contents (Elt F)) (w : S1024x256.Idx → Elt F .f32)
    (h : ∀ a, k0_off22 (BitVec.ofNat 32 s.val) a + S1x1024x256.size a ≤ S2x1024x256.size a) :
    uR.view.readAt (Elt F) (Rect.unit (s := S2x1024x256) (k0_off22 (BitVec.ofNat 32 s.val)) S1x1024x256.size h).toLoadRect
      ((wslot uR s).view.writes (Elt F) f [⟨Rect.whole S1024x256, w⟩]) = shapeCast S1x1024x256 w cast_w := by
  exact slot_load uR (off22_eq s) h (wslot_inb _) squeezes_S1x1024x256_S1024x256 cast_w f w

theorem load_d (s : Fin 2) (f : (dslot s).view.ty.Contents (Elt F)) (w : S256x1024.Idx → Elt F .f32)
    (h : ∀ a, k0_off23 (BitVec.ofNat 32 s.val) a + S1x256x1024.size a ≤ S2x256x1024.size a) :
    dR.view.readAt (Elt F) (Rect.unit (s := S2x256x1024) (k0_off23 (BitVec.ofNat 32 s.val)) S1x256x1024.size h).toLoadRect
      ((dslot s).view.writes (Elt F) f [⟨Rect.whole S256x1024, w⟩]) = shapeCast S1x256x1024 w cast_d := by
  exact slot_load dR (off23_eq s) h (dslot_inb _) squeezes_S1x256x1024_S256x1024 cast_d f w

end Cert.Kernel2Ideal.Experts

end
-- ==== Proof.Experts.StepD.lean ====
/- The wait and rounding of step 4 of the body, and the rules for the words of the plan it reads. -/
module

public import proofs.«01_k».proof.Proof.Experts.Blocks
public import proofs.«01_k».proof.Proof.Experts.Block

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

/-- The plan's table, held at `T` at half its share. -/
abbrev tbPt (c : Dev nD) (T : Held (F := F) c tbM) : sProp 𝕄 := tbM.view.loc (c : Thread nD τ) ↦[Finset.univ]{fullShare.right} T
/-- The three buffers of rounded weights, at anything. -/
def bfAny (c : Dev nD) : sProp 𝕄 := iprop((∃ d, owns (c : Thread nD τ) gB fullShare d) ∗ (∃ d, owns (c : Thread nD τ) uB fullShare d) ∗ ∃ d, owns (c : Thread nD τ) dB fullShare d)
/-- The three buffers of rounded weights, at expert `e`'s. -/
def bfAt (c : Dev nD) (G : Held (F := F) c wgM) (U : Held (F := F) c wuM) (D : Held (F := F) c wdM) (e : Fin 32) : sProp 𝕄 :=
  iprop(owns (c : Thread nD τ) gB fullShare (gOf G e) ∗ owns (c : Thread nD τ) uB fullShare (uOf U e) ∗ owns (c : Thread nD τ) dB fullShare (dOf D e))

/-- The word of the table at an offset. -/
def word {c : Dev nD} (T : Held (F := F) c tbM) (off : Fin 2 → ℕ) (inb : ∀ a, off a + S1x1.size a ≤ S8x128.size a) : BitVec 32 :=
  (tbM.access (Rect.unit (s := S8x128) off S1x1.size inb)).read (Elt F) T (Shape.Idx.first (numel1_S1x1.symm ▸ Nat.one_pos))

variable (c : Dev nD) (t : Fin grid0.N) (arg6 : Memref sig .tc .vmem S512x1024 .bf16) (harg6 : arg6.IsWhole)
  (G : Held (F := F) c wgM) (U : Held (F := F) c wuM) (D : Held (F := F) c wdM) (T : Held (F := F) c tbM)

/-- Reading a word of the table goes on at the word. -/
theorem wp_withWord (off : Fin 2 → ℕ) (inb : ∀ a, off a + S1x1.size a ≤ S8x128.size a) (w : BitVec 32) (hw : w = word T off inb)
    (k : BitVec 32 → Prog (TpuEff nD τ sig (Elt F) Λ₀ .tc) PUnit) (K : PUnit → sProp 𝕄) :
    iprop(tbPt c T ∗ (tbPt c T -∗ wp frame (wpE (defs₀ (F := F)) Variants.none c none) Set.univ (k w) K)) ⊢ wp frame (wpE (defs₀ (F := F)) Variants.none c none) Set.univ (withWord off inb k) K := by
  have e : withWord off inb k = smemLoadElt (Val := Elt F) (e := .i32) tbM (Rect.unit (s := S8x128) off S1x1.size inb)
      (View.loads_smem_one rfl numel1_S1x1) (Shape.Idx.first (numel1_S1x1.symm ▸ Nat.one_pos)) k := rfl
  rw [e]
  iintro ⟨HT, Hk⟩
  named_smem HT w hw
  iapply Hk; iexact HT

/-- A condition that holds is passed. -/
theorem wp_withProof (p : Prop) (d : Decidable p) (h : p) (k : p → Prog (TpuEff nD τ sig (Elt F) Λ₀ .tc) PUnit) (K : PUnit → sProp 𝕄) :
    wp frame (wpE (defs₀ (F := F)) Variants.none c none) Set.univ (k h) K ⊢ wp frame (wpE (defs₀ (F := F)) Variants.none c none) Set.univ (withProof p d k) K := by
  have e : withProof (F := F) p d k = .op (.assume p d) (fun h => k h.down) := rfl
  rw [e]
  iintro H
  iapply (wp_assume _ _ _ _ h)
  iexact H

set_option maxHeartbeats 1000000 in
/-- At an expert's first point: its weights land, and are rounded; the slot is idle again. -/
theorem wp_blockW (e : Fin 32) (s : Fin 2) (v6 v18 : BitVec 32) (k0_hw4 : k0_chk4 (BitVec.ofNat 32 e.val) v6 v18)
    (h6 : k0_cond6 v18 = 1#1) (hw3 : k0_chk3 v6 v18 (BitVec.ofNat 32 s.val)) (k : Prog (TpuEff nD τ sig (Elt F) Λ₀ .tc) PUnit) (W : Waits sig Unit) (K : PUnit → sProp 𝕄) :
    iprop(wFlight c G U D s e ∗ bfAny c ∗ owes (c : Thread nD τ) 0 W
        ∗ (iprop(wFree c G U D s ∗ bfAt c G U D e ∗ (∃ W', owes (c : Thread nD τ) 0 W')) -∗ wp frame (wpE (defs₀ (F := F)) Variants.none c none) Set.univ k K))
      ⊢ wp frame (wpE (defs₀ (F := F)) Variants.none c none) Set.univ (blockW (BitVec.ofNat 32 e.val) v6 v18 (BitVec.ofNat 32 s.val) k0_hw4 h6 hw3 k) K := by
  unfold blockW
  unfold wFlight wFree bfAny bfAt gFlight uFlight dFlight gFree uFree dFree owns
  iintro ⟨⟨⟨%fg, HFg, Hrg⟩, ⟨%fu, HFu, Hru⟩, ⟨%fd, HFd, Hrd⟩⟩, ⟨⟨%bg, %cg, -, HBg⟩, ⟨%bu, %cu, -, HBu⟩, ⟨%bd, %cd, -, HBd⟩⟩, HW, Hk⟩
  sl_exec
  iapply Hk
  isplitl [HFg HFg_dst HFg_src Hrg HFu HFu_dst HFu_src Hru HFd HFd_dst HFd_src Hrd]
  · isplitl [HFg HFg_dst HFg_src Hrg]
    · isplitl [HFg]; · iexact HFg
      iexists _; isplitl [HFg_dst]; · iexact HFg_dst
      iapply (gCopy_split c G s e).2; isplitl [HFg_src]; · iexact HFg_src
      iexact Hrg
    isplitl [HFu HFu_dst HFu_src Hru]
    · isplitl [HFu]; · iexact HFu
      iexists _; isplitl [HFu_dst]; · iexact HFu_dst
      iapply (uCopy_split c U s e).2; isplitl [HFu_src]; · iexact HFu_src
      iexact Hru
    isplitl [HFd]; · iexact HFd
    iexists _; isplitl [HFd_dst]; · iexact HFd_dst
    iapply (dCopy_split c D s e).2; isplitl [HFd_src]; · iexact HFd_src
    iexact Hrd
  isplitl [HBg HBu HBd]
  · isplitl [HBg]
    · iexists _; isplitr; swap; · iexact HBg
      ipureintro
      exact (View.read_writes_full _ _ _ _ _).trans (congrArg k0_pay4 (load_g s _ _ _))
    isplitl [HBu]
    · iexists _; isplitr; swap; · iexact HBu
      ipureintro
      exact (View.read_writes_full _ _ _ _ _).trans (congrArg (fun x => k0_pay1 (k0_pay5 x)) (load_u s _ _ _))
    iexists _; isplitr; swap; · iexact HBd
    ipureintro
    exact (View.read_writes_full _ _ _ _ _).trans (congrArg k0_pay2 (load_d s _ _ _))
  iexists _; iexact HW

end Cert.Kernel2Ideal.Experts

end
-- ==== Proof.Experts.Steps.lean ====
/- The other steps of the body: starting transfers of rows and weights, and writing the experts' rows. -/
module

public import proofs.«01_k».proof.Proof.Experts.StepD

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (t : Fin grid0.N) (arg6 : Memref sig .tc .vmem S512x1024 .bf16) (harg6 : arg6.IsWhole)
  (X : Held (F := F) c xsM) (G : Held (F := F) c wgM) (U : Held (F := F) c wuM) (D : Held (F := F) c wdM)

/-! ## What the body's conditions say -/

theorem cond1_iff : ∀ t : Fin grid0.N, k0_cond1 (grid0.coords t) = 1#1 ↔ t.val = 0 := by decide +kernel
theorem cond5_iff : ∀ t : Fin grid0.N, k0_cond5 (grid0.coords t) = 1#1 ↔ t.val = 0 := by decide +kernel
theorem cond4_iff : ∀ (t : Fin grid0.N) (u : Fin 97), k0_cond4 (grid0.coords t) (BitVec.ofNat 32 u.val) = 1#1 ↔ t.val + 2 < u.val := by decide +kernel
theorem cond8_iff : ∀ (t : Fin grid0.N) (u : Fin 97), k0_cond8 (grid0.coords t) (BitVec.ofNat 32 u.val) = 1#1 ↔ t.val < u.val := by decide +kernel
theorem start0_iff : ∀ u : Fin 97, Scalar.cmpi .ne (Scalar.extui (Scalar.cmpi .sgt (BitVec.ofNat 32 u.val) 0#32) : BitVec 32) 0#32 = 1#1 ↔ 0 < u.val := by decide +kernel
theorem start1_iff : ∀ u : Fin 97, Scalar.cmpi .ne (Scalar.extui (Scalar.cmpi .sgt (BitVec.ofNat 32 u.val) 1#32) : BitVec 32) 0#32 = 1#1 ↔ 1 < u.val := by decide +kernel

/-- Block `b`'s slot of the ring of rows, with `u` blocks in use: on its way if it is one of them, idle if not. -/
def xRole (c : Dev nD) (X : Held (F := F) c xsM) (u b : ℕ) : sProp 𝕄 :=
  if b < u then xFlight c X (Ring.sl 3 b) (Ring.bk 96 b) else xFree c X (Ring.sl 3 b)
/-- A slot of the rings of weights, `o` the expert on its way into it. -/
def wRole (c : Dev nD) (G : Held (F := F) c wgM) (U : Held (F := F) c wuM) (D : Held (F := F) c wdM) (s : Fin 2) (o : Option (Fin 32)) : sProp 𝕄 :=
  match o with
  | none => wFree c G U D s
  | some e => wFlight c G U D s e
/-- What the word naming the next expert says: none, or which. -/
def NextWord (v6 : BitVec 32) (o : Option (Fin 32)) : Prop :=
  match o with
  | none => ¬ k0_cond7 v6 = 1#1
  | some e => v6 = BitVec.ofNat 32 e.val
theorem cond7_of : ∀ e : Fin 32, k0_cond7 (BitVec.ofNat 32 e.val) = 1#1 := by decide +kernel

/-! ## The steps -/

theorem wp_startRows0 (h1 : k0_cond1 (grid0.coords t) = 1#1) (u : Fin 97) (k : Prog (TpuEff nD τ sig (Elt F) Λ₀ .tc) PUnit) (W : Waits sig Unit) (K : PUnit → sProp 𝕄) :
    iprop(xFree c X 0 ∗ owes (c : Thread nD τ) 0 W ∗ (iprop(xRole c X u.val 0 ∗ (∃ W', owes (c : Thread nD τ) 0 W')) -∗ wp frame (wpE (defs₀ (F := F)) Variants.none c none) Set.univ k K))
      ⊢ wp frame (wpE (defs₀ (F := F)) Variants.none c none) Set.univ (startRows0 (grid0.coords t) (BitVec.ofNat 32 u.val) h1 k) K := by
  unfold startRows0 xRole
  by_cases h : 0 < u.val
  · rw [if_pos ((start0_iff u).2 h), if_pos h]
    show iprop(xFree c X 0 ∗ owes (c : Thread nD τ) 0 W ∗ (iprop(xFlight c X 0 0 ∗ (∃ W', owes (c : Thread nD τ) 0 W')) -∗ wp frame (wpE (defs₀ (F := F)) Variants.none c none) Set.univ k K)) ⊢ _
    unfold xFlight xFree
    iintro ⟨⟨Hc, %f, Hs, Hw⟩, HW, Hk⟩
    ihave Hx := (xCopy_split c X 0 0).1 $$ Hw
    icases Hx with ⟨Hh, Hr⟩
    sl_exec
    iapply Hk
    isplitl [Hc Hr]
    · iexists _; isplitl [Hc]; · iexact Hc
      iexact Hr
    iexists _; iexact HW
  · rw [if_neg (fun h' => h ((start0_iff u).1 h')), if_neg h]
    iintro ⟨HF, HW, Hk⟩
    iapply Hk; isplitl [HF]; · iexact HF
    iexists _; iexact HW

theorem wp_startRows1 (h1 : k0_cond1 (grid0.coords t) = 1#1) (u : Fin 97) (k : Prog (TpuEff nD τ sig (Elt F) Λ₀ .tc) PUnit) (W : Waits sig Unit) (K : PUnit → sProp 𝕄) :
    iprop(xFree c X 1 ∗ owes (c : Thread nD τ) 0 W ∗ (iprop(xRole c X u.val 1 ∗ (∃ W', owes (c : Thread nD τ) 0 W')) -∗ wp frame (wpE (defs₀ (F := F)) Variants.none c none) Set.univ k K))
      ⊢ wp frame (wpE (defs₀ (F := F)) Variants.none c none) Set.univ (startRows1 (grid0.coords t) (BitVec.ofNat 32 u.val) h1 k) K := by
  unfold startRows1 xRole
  by_cases h : 1 < u.val
  · rw [if_pos ((start1_iff u).2 h), if_pos h]
    show iprop(xFree c X 1 ∗ owes (c : Thread nD τ) 0 W ∗ (iprop(xFlight c X 1 1 ∗ (∃ W', owes (c : Thread nD τ) 0 W')) -∗ wp frame (wpE (defs₀ (F := F)) Variants.none c none) Set.univ k K)) ⊢ _
    unfold xFlight xFree
    iintro ⟨⟨Hc, %f, Hs, Hw⟩, HW, Hk⟩
    ihave Hx := (xCopy_split c X 1 1).1 $$ Hw
    icases Hx with ⟨Hh, Hr⟩
    sl_exec
    iapply Hk
    isplitl [Hc Hr]
    · iexists _; isplitl [Hc]; · iexact Hc
      iexact Hr
    iexists _; iexact HW
  · rw [if_neg (fun h' => h ((start1_iff u).1 h')), if_neg h]
    iintro ⟨HF, HW, Hk⟩
    iapply Hk; isplitl [HF]; · iexact HF
    iexists _; iexact HW

/-- Step 1 at the first point: the first two blocks of the rows are started, as far as there are any. -/
theorem wp_blockA_first (ht : t.val = 0) (u : Fin 97) (k : Prog (TpuEff nD τ sig (Elt F) Λ₀ .tc) PUnit) (W : Waits sig Unit) (K : PUnit → sProp 𝕄) :
    iprop(xFree c X 0 ∗ xFree c X 1 ∗ owes (c : Thread nD τ) 0 W ∗ (iprop(xRole c X u.val 0 ∗ xRole c X u.val 1 ∗ (∃ W', owes (c : Thread nD τ) 0 W')) -∗ wp frame (wpE (defs₀ (F := F)) Variants.none c none) Set.univ k K))
      ⊢ wp frame (wpE (defs₀ (F := F)) Variants.none c none) Set.univ (blockA (grid0.coords t) (BitVec.ofNat 32 u.val) k) K := by
  unfold blockA
  have h1 := (cond1_iff t).2 ht
  rw [dif_pos h1]
  iintro ⟨H0, H1, HW, Hk⟩
  iapply (wp_startRows0 c t X h1 u _ W K)
  isplitl [H0]; · iexact H0
  isplitl [HW]; · iexact HW
  iintro ⟨H0, ⟨%W1, HW⟩⟩
  iapply (wp_startRows1 c t X h1 u _ W1 K)
  isplitl [H1]; · iexact H1
  isplitl [HW]; · iexact HW
  iintro ⟨H1, HW⟩
  iapply Hk
  isplitl [H0]; · iexact H0
  isplitl [H1]; · iexact H1
  iexact HW

/-- At any other point it does nothing. -/
theorem blockA_rest (ht : t.val ≠ 0) (v0 : BitVec 32) (k : Prog (TpuEff nD τ sig (Elt F) Λ₀ .tc) PUnit) : blockA (F := F) (grid0.coords t) v0 k = k := by
  unfold blockA; rw [dif_neg (fun h => ht ((cond1_iff t).1 h))]

/-- Step 2: the block two points on is started, if it is in use. -/
theorem wp_blockB (u : Fin 97) (hw1 : k0_chk1 (grid0.coords t) (BitVec.ofNat 32 u.val)) (k : Prog (TpuEff nD τ sig (Elt F) Λ₀ .tc) PUnit) (W : Waits sig Unit) (K : PUnit → sProp 𝕄) :
    iprop(xFree c X (Ring.sl 3 (t.val + 2)) ∗ owes (c : Thread nD τ) 0 W ∗ (iprop(xRole c X u.val (t.val + 2) ∗ (∃ W', owes (c : Thread nD τ) 0 W')) -∗ wp frame (wpE (defs₀ (F := F)) Variants.none c none) Set.univ k K))
      ⊢ wp frame (wpE (defs₀ (F := F)) Variants.none c none) Set.univ (blockB (grid0.coords t) (BitVec.ofNat 32 u.val) hw1 k) K := by
  unfold blockB xRole
  by_cases h : t.val + 2 < u.val
  · rw [dif_pos ((cond4_iff t u).2 h), if_pos h]
    unfold xFlight xFree
    iintro ⟨⟨Hc, %f, Hs, Hw⟩, HW, Hk⟩
    ihave Hx := (xCopy_split c X (Ring.sl 3 (t.val + 2)) (Ring.bk 96 (t.val + 2))).1 $$ Hw
    icases Hx with ⟨Hh, Hr⟩
    sl_exec
    iapply Hk
    isplitl [Hc Hr]
    · iexists _; isplitl [Hc]; · iexact Hc
      iexact Hr
    iexists _; iexact HW
  · rw [dif_neg (fun h' => h ((cond4_iff t u).1 h')), if_neg h]
    iintro ⟨HF, HW, Hk⟩
    iapply Hk; isplitl [HF]; · iexact HF
    iexists _; iexact HW

/-- Step 3 at the first point: the weights of its expert are started. -/
theorem wp_blockC_first (ht : t.val = 0) (e : Fin 32) (hw2 : k0_chk2 (grid0.coords t) (BitVec.ofNat 32 e.val)) (k : Prog (TpuEff nD τ sig (Elt F) Λ₀ .tc) PUnit) (W : Waits sig Unit) (K : PUnit → sProp 𝕄) :
    iprop(wFree c G U D 0 ∗ owes (c : Thread nD τ) 0 W ∗ (iprop(wFlight c G U D 0 e ∗ (∃ W', owes (c : Thread nD τ) 0 W')) -∗ wp frame (wpE (defs₀ (F := F)) Variants.none c none) Set.univ k K))
      ⊢ wp frame (wpE (defs₀ (F := F)) Variants.none c none) Set.univ (blockC (grid0.coords t) (BitVec.ofNat 32 e.val) hw2 k) K := by
  unfold blockC
  rw [dif_pos ((cond5_iff t).2 ht)]
  unfold wFlight wFree gFlight uFlight dFlight gFree uFree dFree
  iintro ⟨⟨⟨Hcg, %fg, Hsg, Hwg⟩, ⟨Hcu, %fu, Hsu, Hwu⟩, ⟨Hcd, %fd, Hsd, Hwd⟩⟩, HW, Hk⟩
  ihave Hg := (gCopy_split c G 0 e).1 $$ Hwg
  icases Hg with ⟨Hhg, Hrg⟩
  ihave Hu := (uCopy_split c U 0 e).1 $$ Hwu
  icases Hu with ⟨Hhu, Hru⟩
  ihave Hd := (dCopy_split c D 0 e).1 $$ Hwd
  icases Hd with ⟨Hhd, Hrd⟩
  sl_exec
  iapply Hk
  isplitl [Hcg Hrg Hcu Hru Hcd Hrd]
  · isplitl [Hcg Hrg]
    · iexists _; isplitl [Hcg]; · iexact Hcg
      iexact Hrg
    isplitl [Hcu Hru]
    · iexists _; isplitl [Hcu]; · iexact Hcu
      iexact Hru
    iexists _; isplitl [Hcd]; · iexact Hcd
    iexact Hrd
  iexists _; iexact HW

/-- At any other point it does nothing. -/
theorem blockC_rest (ht : t.val ≠ 0) (v4 : BitVec 32) (hw2) (k : Prog (TpuEff nD τ sig (Elt F) Λ₀ .tc) PUnit) : blockC (F := F) (grid0.coords t) v4 hw2 k = k := by
  unfold blockC; rw [dif_neg (fun h => ht ((cond5_iff t).1 h))]

/-- Within step 4: the next expert's weights are started into the other slot, if there is a next expert. -/
theorem wp_blockN (v4 v6 v18 : BitVec 32) (s : Fin 2) (o : Option (Fin 32)) (ho : NextWord v6 o) (hw4 : k0_chk4 v4 v6 v18)
    (h6 : k0_cond6 v18 = 1#1) (hw3 : k0_chk3 v6 v18 (BitVec.ofNat 32 s.val)) (k : Prog (TpuEff nD τ sig (Elt F) Λ₀ .tc) PUnit) (W : Waits sig Unit) (K : PUnit → sProp 𝕄) :
    iprop(wFree c G U D (1 - s) ∗ owes (c : Thread nD τ) 0 W ∗ (iprop(wRole c G U D (1 - s) o ∗ (∃ W', owes (c : Thread nD τ) 0 W')) -∗ wp frame (wpE (defs₀ (F := F)) Variants.none c none) Set.univ k K))
      ⊢ wp frame (wpE (defs₀ (F := F)) Variants.none c none) Set.univ (blockN v4 v6 v18 (BitVec.ofNat 32 s.val) hw4 h6 hw3 k) K := by
  unfold blockN
  cases o with
  | none =>
    rw [dif_neg ho, show wRole c G U D (1 - s) none = wFree c G U D (1 - s) from rfl]
    iintro ⟨HF, HW, Hk⟩
    iapply Hk; isplitl [HF]; · iexact HF
    iexists _; iexact HW
  | some e =>
    obtain rfl : v6 = BitVec.ofNat 32 e.val := ho
    rw [dif_pos (cond7_of e)]
    rw [show wRole c G U D (1 - s) (some e) = wFlight c G U D (1 - s) e from rfl]
    unfold wFlight wFree gFlight uFlight dFlight gFree uFree dFree
    iintro ⟨⟨⟨Hcg, %fg, Hsg, Hwg⟩, ⟨Hcu, %fu, Hsu, Hwu⟩, ⟨Hcd, %fd, Hsd, Hwd⟩⟩, HW, Hk⟩
    ihave Hg := (gCopy_split c G (1 - s) e).1 $$ Hwg
    icases Hg with ⟨Hhg, Hrg⟩
    ihave Hu := (uCopy_split c U (1 - s) e).1 $$ Hwu
    icases Hu with ⟨Hhu, Hru⟩
    ihave Hd := (dCopy_split c D (1 - s) e).1 $$ Hwd
    icases Hd with ⟨Hhd, Hrd⟩
    sl_exec
    iapply Hk
    isplitl [Hcg Hrg Hcu Hru Hcd Hrd]
    · isplitl [Hcg Hrg]
      · iexists _; isplitl [Hcg]; · iexact Hcg
        iexact Hrg
      isplitl [Hcu Hru]
      · iexists _; isplitl [Hcu]; · iexact Hcu
        iexact Hru
      iexists _; isplitl [Hcd]; · iexact Hcd
      iexact Hrd
    iexists _; iexact HW

/-- Step 5 at a point in use: its block of rows lands, and the output block is written. -/
theorem wp_blockE_used (u : Fin 97) (ht : t.val < u.val) (v2 : BitVec 32) (e : Fin 32) (k : Prog (TpuEff nD τ sig (Elt F) Λ₀ .tc) PUnit) (W : Waits sig Unit) (K : PUnit → sProp 𝕄) :
    iprop(xRole c X u.val t.val ∗ bfAt c G U D e ∗ (∃ d, owns (c : Thread nD τ) arg6 fullShare d) ∗ owes (c : Thread nD τ) 0 W
        ∗ (iprop(xFree c X (Ring.sl 3 t.val) ∗ bfAt c G U D e
            ∗ owns (c : Thread nD τ) arg6 fullShare (blk v2 ((xsrc (Ring.bk 96 t.val)).view.read (Elt F) X) (gOf G e) (uOf U e) (dOf D e))
            ∗ (∃ W', owes (c : Thread nD τ) 0 W')) -∗ wp frame (wpE (defs₀ (F := F)) Variants.none c none) Set.univ k K))
      ⊢ wp frame (wpE (defs₀ (F := F)) Variants.none c none) Set.univ (blockE (grid0.coords t) arg6 harg6 (BitVec.ofNat 32 u.val) v2 k) K := by
  unfold blockE xRole
  rw [dif_pos ((cond8_iff t u).2 ht), if_pos ht]
  unfold xFlight xFree bfAt owns
  iintro ⟨⟨%f, HF, Hr⟩, ⟨⟨%cg, %hg, HBg⟩, ⟨%cu, %hu, HBu⟩, ⟨%cd, %hd, HBd⟩⟩, ⟨%d6, %f6, -, HO⟩, HW, Hk⟩
  obtain rfl := (Memref.isWhole_whole cc0_scratch5).eq_unread hg
  obtain rfl := (Memref.isWhole_whole cc0_scratch6).eq_unread hu
  obtain rfl := (Memref.isWhole_whole cc0_scratch7).eq_unread hd
  sl_exec
  iapply Hk
  isplitl [HF HF_dst HF_src Hr]
  · isplitl [HF]; · iexact HF
    iexists _; isplitl [HF_dst]; · iexact HF_dst
    iapply (xCopy_split c X (Ring.sl 3 t.val) (Ring.bk 96 t.val)).2; isplitl [HF_src]; · iexact HF_src
    iexact Hr
  isplitl [HBg HBu HBd]
  · isplitl [HBg]
    · iexists _; isplitr; · ipureintro; exact hg
      iexact HBg
    isplitl [HBu]
    · iexists _; isplitr; · ipureintro; exact hu
      iexact HBu
    iexists _; isplitr; · ipureintro; exact hd
    iexact HBd
  isplitl [HO]
  · iexists _; isplitr; swap; · iexact HO
    ipureintro
    exact (View.read_writes_full _ _ _ _ _).trans (blk_of (load_x t _ _ _)
      (load_part _ _ _) (load_part _ _ _) (load_part _ _ _) (load_part _ _ _) (load_whole _ _ _))
  iexists _; iexact HW

/-- At a point not in use it does nothing. -/
theorem blockE_rest (u : Fin 97) (ht : ¬ t.val < u.val) (v2 : BitVec 32) (k : Prog (TpuEff nD τ sig (Elt F) Λ₀ .tc) PUnit) :
    blockE (F := F) (grid0.coords t) arg6 harg6 (BitVec.ofNat 32 u.val) v2 k = k := by
  unfold blockE; rw [dif_neg (fun h => ht ((cond8_iff t u).1 h))]

end Cert.Kernel2Ideal.Experts

end
-- ==== Proof.Experts.Plan.lean ====
/- What the table of the plan says, as numbers: how many blocks are in use, each point's expert, weight slot and
   next expert; and what a table must meet for the kernel to run on it. -/
module

public import proofs.«01_k».proof.Proof.Experts.Steps

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

/-- Entry `k` of row `r` of a table. -/
def entry (w : S8x128.Idx → BitVec 32) (r : Fin 8) (k : ℕ) : BitVec 32 :=
  w (fun a => ⟨(![r.val, k % 128] : Fin 2 → ℕ) a, by
    have := r.isLt; have := Nat.mod_lt k (show 128 > 0 by decide)
    fin_cases a <;> simp [S8x128] <;> omega⟩)

/-- The number of blocks in use. -/
def used (w : S8x128.Idx → BitVec 32) : Fin 97 := Fin.ofNat 97 (entry w 5 0).toNat
/-- The expert of point `k`. -/
def own (w : S8x128.Idx → BitVec 32) (k : ℕ) : Fin 32 := Fin.ofNat 32 (entry w 0 k).toNat
/-- The slot its weights are in. -/
def wslotOf (w : S8x128.Idx → BitVec 32) (k : ℕ) : Fin 2 := Fin.ofNat 2 (entry w 4 k).toNat
/-- The next expert, if there is one. -/
def nextOf (w : S8x128.Idx → BitVec 32) (k : ℕ) : Option (Fin 32) :=
  if k0_cond7 (entry w 3 k) = 1#1 then some (Fin.ofNat 32 (entry w 3 k).toNat) else none
/-- Point `k` is the first of its expert's. -/
def isFirst (w : S8x128.Idx → BitVec 32) (k : ℕ) : Prop := k0_cond6 (entry w 2 k) = 1#1

/-- A table the kernel runs on. -/
structure Planned (w : S8x128.Idx → BitVec 32) : Prop where
  used_eq : entry w 5 0 = BitVec.ofNat 32 (used w).val
  used_pos : 0 < (used w).val
  own_eq : ∀ k < 96, entry w 0 k = BitVec.ofNat 32 (own w k).val
  slot_eq : ∀ k < 96, entry w 4 k = BitVec.ofNat 32 (wslotOf w k).val
  next_eq : ∀ k < 96, NextWord (entry w 3 k) (nextOf w k)
  first_zero : isFirst w 0
  slot_zero : wslotOf w 0 = 0
  turn : ∀ k < 95, isFirst w (k + 1) → nextOf w k = some (own w (k + 1)) ∧ wslotOf w (k + 1) = 1 - wslotOf w k
  keep : ∀ k < 95, ¬ isFirst w (k + 1) → own w (k + 1) = own w k ∧ nextOf w (k + 1) = nextOf w k ∧ wslotOf w (k + 1) = wslotOf w k
  last : nextOf w 95 = none

theorem word_eq {c : Dev nD} (T : Held (F := F) c tbM) {off : Fin 2 → ℕ} (inb : ∀ a, off a + S1x1.size a ≤ S8x128.size a) (r : Fin 8) (k : ℕ)
    (hk : k < 128) (h : off = ![r.val, k]) : entry T r k = word T off inb := by
  subst h
  unfold entry word
  refine congrArg T (funext fun a => Fin.ext ?_)
  fin_cases a
  · show r.val = r.val + 1 * 0; omega
  · show k % 128 = k + 1 * 0; omega

theorem offw1 : ∀ t : Fin grid0.N, k0_off1 (grid0.coords t) = ![(1 : Fin 8).val, t.val] := by decide +kernel
theorem offw2 : ∀ t : Fin grid0.N, k0_off2 (grid0.coords t) = ![(0 : Fin 8).val, t.val] := by decide +kernel
theorem offw3 : ∀ t : Fin grid0.N, k0_off3 (grid0.coords t) = ![(3 : Fin 8).val, t.val] := by decide +kernel
theorem offw13 : ∀ t : Fin grid0.N, k0_off13 (grid0.coords t) = ![(2 : Fin 8).val, t.val] := by decide +kernel
theorem offw14 : ∀ t : Fin grid0.N, k0_off14 (grid0.coords t) = ![(4 : Fin 8).val, t.val] := by decide +kernel

/-! ## The conditions the body assumes of the words it reads -/

theorem chk1_of : ∀ (t : Fin grid0.N) (u : Fin 97), k0_chk1 (grid0.coords t) (BitVec.ofNat 32 u.val) := by
  intro t u h4
  have h := (cond4_iff t u).1 h4
  have hu := u.isLt
  rw [off10_eq t (by omega)]
  exact xsrc_inb _
theorem chk2_of (t : Fin grid0.N) (e : Fin 32) : k0_chk2 (grid0.coords t) (BitVec.ofNat 32 e.val) :=
  ⟨fun _ => by rw [off11_eq e]; exact wsrc_inb e, fun _ => by rw [off12_eq e]; exact dsrc_inb e⟩
theorem chk4_of (e : Fin 32) (v6 v18 : BitVec 32) (o : Option (Fin 32)) (ho : NextWord v6 o) : k0_chk4 (BitVec.ofNat 32 e.val) v6 v18 := by
  refine ⟨fun _ => by rw [off17_eq e]; exact wsrc_inb e, fun _ => by rw [off21_eq e]; exact dsrc_inb e, fun _ h7 => ?_, fun _ h7 => ?_⟩ <;>
    cases o with
    | none => exact absurd h7 ho
    | some e' =>
      obtain rfl : v6 = BitVec.ofNat 32 e'.val := ho
      first
        | (rw [off26_eq e']; exact wsrc_inb e')
        | (rw [off30_eq e']; exact dsrc_inb e')
theorem chk3_of (v6 v18 : BitVec 32) (s : Fin 2) : k0_chk3 v6 v18 (BitVec.ofNat 32 s.val) :=
  ⟨fun _ => by rw [off15_eq s]; exact wcell_inb 0 s, fun _ => by rw [off16_eq s]; exact wslot_inb s, fun _ => by rw [off18_eq s]; exact wcell_inb 1 s,
    fun _ => by rw [off19_eq s]; exact wcell_inb 2 s, fun _ => by rw [off20_eq s]; exact dslot_inb s, fun _ => by rw [off22_eq s]; exact wslot_inb s,
    fun _ => by rw [off23_eq s]; exact dslot_inb s, fun _ _ => by rw [off24_eq s]; exact wcell_inb 0 _, fun _ _ => by rw [off25_eq s]; exact wslot_inb _,
    fun _ _ => by rw [off27_eq s]; exact wcell_inb 1 _, fun _ _ => by rw [off28_eq s]; exact wcell_inb 2 _, fun _ _ => by rw [off29_eq s]; exact dslot_inb _⟩

end Cert.Kernel2Ideal.Experts

end
-- ==== Proof.Experts.Point.lean ====
/- A run of the body at one point: what the run holds of the rings between points, and how the five steps carry
   it from one point to the next. -/
module

public import proofs.«01_k».proof.Proof.Experts.Plan

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (t : Fin grid0.N) (arg6 : Memref sig .tc .vmem S512x1024 .bf16) (harg6 : arg6.IsWhole)
  (X : Held (F := F) c xsM) (G : Held (F := F) c wgM) (U : Held (F := F) c wuM) (D : Held (F := F) c wdM) (T : Held (F := F) c tbM)

/-- The ring of rows before point `k`: idle at first, and then with blocks `k` and `k + 1` on their way, as far as they are in use. -/
def xBefore (u k : ℕ) : sProp 𝕄 :=
  if k = 0 then iprop(xFree c X 0 ∗ xFree c X 1 ∗ xFree c X 2)
  else iprop(xRole c X u k ∗ xRole c X u (k + 1) ∗ xFree c X (Ring.sl 3 (k + 2)))
/-- The weights after the point whose slot, next expert and expert are `s`, `o` and `e`: that slot is idle, the next expert's
    weights are on their way into the other, and the rounded weights are the expert's. -/
def wDone (s : Fin 2) (o : Option (Fin 32)) (e : Fin 32) : sProp 𝕄 :=
  iprop(wFree c G U D s ∗ wRole c G U D (1 - s) o ∗ bfAt c G U D e)
/-- The weights before point `k`. -/
def wBefore (w : S8x128.Idx → BitVec 32) : ℕ → sProp 𝕄
  | 0 => iprop(wFree c G U D 0 ∗ wFree c G U D 1 ∗ bfAny c)
  | k + 1 => wDone c G U D (wslotOf w k) (nextOf w k) (own w k)
/-- The weights at point `k` before its wait: on their way if the point is its expert's first, rounded already if not. -/
def wAt (w : S8x128.Idx → BitVec 32) (k : ℕ) : sProp 𝕄 :=
  iprop((⌜isFirst w k⌝ ∗ wFlight c G U D (wslotOf w k) (own w k) ∗ wFree c G U D (1 - wslotOf w k) ∗ bfAny c)
    ∨ (⌜¬ isFirst w k⌝ ∗ wDone c G U D (wslotOf w k) (nextOf w k) (own w k)))

omit [FloatOps F] in
theorem bfAt_any (e : Fin 32) [FloatOps F] : bfAt c G U D e ⊢ bfAny c := by
  unfold bfAt bfAny
  iintro ⟨H0, H1, H2⟩
  isplitl [H0]; · iexists _; iexact H0
  isplitl [H1]; · iexists _; iexact H1
  iexists _; iexact H2

theorem wp_A (u : Fin 97) (k : Prog (TpuEff nD τ sig (Elt F) Λ₀ .tc) PUnit) (W : Waits sig Unit) (K : PUnit → sProp 𝕄) :
    iprop(xBefore c X u.val t.val ∗ owes (c : Thread nD τ) 0 W
        ∗ (iprop((xRole c X u.val t.val ∗ xRole c X u.val (t.val + 1) ∗ xFree c X (Ring.sl 3 (t.val + 2))) ∗ (∃ W', owes (c : Thread nD τ) 0 W')) -∗ wp frame (wpE (defs₀ (F := F)) Variants.none c none) Set.univ k K))
      ⊢ wp frame (wpE (defs₀ (F := F)) Variants.none c none) Set.univ (blockA (grid0.coords t) (BitVec.ofNat 32 u.val) k) K := by
  unfold xBefore
  by_cases ht : t.val = 0
  · rw [if_pos ht]
    iintro ⟨⟨H0, H1, H2⟩, HW, Hk⟩
    iapply (wp_blockA_first c t X ht u k W K)
    isplitl [H0]; · iexact H0
    isplitl [H1]; · iexact H1
    isplitl [HW]; · iexact HW
    iintro ⟨H0, H1, HW⟩
    iapply Hk
    rw [ht]
    isplitl [H0 H1 H2]
    · isplitl [H0]; · iexact H0
      isplitl [H1]; · iexact H1
      iexact H2
    iexact HW
  · rw [if_neg ht, blockA_rest t ht]
    iintro ⟨H, HW, Hk⟩
    iapply Hk
    isplitl [H]; · iexact H
    iexists _; iexact HW

theorem wp_C {w : S8x128.Idx → BitVec 32} (hw : Planned w) (hw2 : k0_chk2 (grid0.coords t) (BitVec.ofNat 32 (own w t.val).val)) (k : Prog (TpuEff nD τ sig (Elt F) Λ₀ .tc) PUnit) (W : Waits sig Unit) (K : PUnit → sProp 𝕄) :
    iprop(wBefore c G U D w t.val ∗ owes (c : Thread nD τ) 0 W
        ∗ (iprop(wAt c G U D w t.val ∗ (∃ W', owes (c : Thread nD τ) 0 W')) -∗ wp frame (wpE (defs₀ (F := F)) Variants.none c none) Set.univ k K))
      ⊢ wp frame (wpE (defs₀ (F := F)) Variants.none c none) Set.univ (blockC (grid0.coords t) (BitVec.ofNat 32 (own w t.val).val) hw2 k) K := by
  have htN : t.val < 96 := Nat.lt_of_lt_of_eq t.isLt N_0
  by_cases ht : t.val = 0
  · have e0 : wBefore c G U D w t.val = iprop(wFree c G U D 0 ∗ wFree c G U D 1 ∗ bfAny c) := by rw [ht]; rfl
    have es : wslotOf w t.val = 0 := by rw [ht]; exact hw.slot_zero
    have ef : isFirst w t.val := by rw [ht]; exact hw.first_zero
    rw [e0]
    unfold wAt
    rw [es]
    iintro ⟨⟨H0, H1, HB⟩, HW, Hk⟩
    iapply (wp_blockC_first c t G U D ht (own w t.val) hw2 k W K)
    isplitl [H0]; · iexact H0
    isplitl [HW]; · iexact HW
    iintro ⟨H0, HW⟩
    iapply Hk
    isplitl [H0 H1 HB]
    · ileft
      isplitr; · ipureintro; exact ef
      isplitl [H0]; · iexact H0
      isplitl [H1]; · iexact H1
      iexact HB
    iexact HW
  · obtain ⟨j, hj⟩ : ∃ j, t.val = j + 1 := ⟨t.val - 1, by omega⟩
    rw [blockC_rest t ht, hj]
    have e0 : wBefore c G U D w (j + 1) = wDone c G U D (wslotOf w j) (nextOf w j) (own w j) := rfl
    rw [e0]
    unfold wAt
    by_cases hf : isFirst w (j + 1)
    · obtain ⟨hn, hs⟩ := hw.turn j (by omega) hf
      have hs' : 1 - wslotOf w (j + 1) = wslotOf w j := by
        rw [hs]; generalize wslotOf w j = x; revert x; decide
      rw [hs', hn, hs]
      unfold wDone
      rw [show wRole c G U D (1 - wslotOf w j) (some (own w (j + 1))) = wFlight c G U D (1 - wslotOf w j) (own w (j + 1)) from rfl]
      iintro ⟨⟨H0, H1, HB⟩, HW, Hk⟩
      iapply Hk
      isplitl [H0 H1 HB]
      · ileft
        isplitr; · ipureintro; exact hf
        isplitl [H1]; · iexact H1
        isplitl [H0]; · iexact H0
        iapply (bfAt_any c G U D (own w j)); iexact HB
      iexists _; iexact HW
    · obtain ⟨ho, hn, hs⟩ := hw.keep j (by omega) hf
      rw [ho, hn, hs]
      iintro ⟨H, HW, Hk⟩
      iapply Hk
      isplitl [H]
      · iright
        isplitr; · ipureintro; exact hf
        iexact H
      iexists _; iexact HW

theorem wp_D {w : S8x128.Idx → BitVec 32} (hw : Planned w) (hT : T = w) (hw4) (k : Prog (TpuEff nD τ sig (Elt F) Λ₀ .tc) PUnit) (W : Waits sig Unit) (K : PUnit → sProp 𝕄) :
    iprop(wAt c G U D w t.val ∗ tbPt c T ∗ owes (c : Thread nD τ) 0 W
        ∗ (iprop(wBefore c G U D w (t.val + 1) ∗ tbPt c T ∗ (∃ W', owes (c : Thread nD τ) 0 W')) -∗ wp frame (wpE (defs₀ (F := F)) Variants.none c none) Set.univ k K))
      ⊢ wp frame (wpE (defs₀ (F := F)) Variants.none c none) Set.univ (blockD (grid0.coords t) (BitVec.ofNat 32 (own w t.val).val) (entry w 3 t.val) (entry w 2 t.val) hw4 k) K := by
  have htN : t.val < 96 := Nat.lt_of_lt_of_eq t.isLt N_0
  have e0 : wBefore c G U D w (t.val + 1) = wDone c G U D (wslotOf w t.val) (nextOf w t.val) (own w t.val) := rfl
  rw [e0]
  unfold wAt blockD
  iintro ⟨HA, HT, HW, Hk⟩
  icases HA with (⟨%hf, HF, HE, HB⟩ | ⟨%hf, HD⟩)
  · have hf' : k0_cond6 (entry w 2 t.val) = 1#1 := hf
    rw [dif_pos hf']
    iapply (wp_withWord c T _ _ (BitVec.ofNat 32 (wslotOf w t.val).val)
      ((hw.slot_eq t.val htN).symm.trans (by rw [← hT]; exact word_eq T _ 4 t.val (by omega) (offw14 t))))
    isplitl [HT]; · iexact HT
    iintro HT
    iapply (wp_withProof c _ _ (chk3_of _ _ (wslotOf w t.val)))
    iapply (wp_blockW c G U D (own w t.val) (wslotOf w t.val) _ _ hw4 hf' (chk3_of _ _ _) _ W K)
    isplitl [HF]; · iexact HF
    isplitl [HB]; · iexact HB
    isplitl [HW]; · iexact HW
    iintro ⟨HF, HB, ⟨%W1, HW⟩⟩
    iapply (wp_blockN c G U D _ _ _ (wslotOf w t.val) (nextOf w t.val) (hw.next_eq t.val htN) hw4 hf' (chk3_of _ _ _) k W1 K)
    isplitl [HE]; · iexact HE
    isplitl [HW]; · iexact HW
    iintro ⟨HE, HW⟩
    iapply Hk
    isplitl [HF HE HB]
    · unfold wDone
      isplitl [HF]; · iexact HF
      isplitl [HE]; · iexact HE
      iexact HB
    isplitl [HT]; · iexact HT
    iexact HW
  · have hf' : ¬ k0_cond6 (entry w 2 t.val) = 1#1 := hf
    rw [dif_neg hf']
    iapply Hk
    isplitl [HD]; · iexact HD
    isplitl [HT]; · iexact HT
    iexists _; iexact HW

/-- Before the last step of point `t`'s body. -/
def mid (w : S8x128.Idx → BitVec 32) (k : ℕ) : sProp 𝕄 :=
  iprop((xRole c X (used w).val k ∗ xRole c X (used w).val (k + 1) ∗ xRole c X (used w).val (k + 2)) ∗ wBefore c G U D w (k + 1) ∗ tbPt c T)
/-- The rings before point `k`. -/
def rings (w : S8x128.Idx → BitVec 32) (k : ℕ) : sProp 𝕄 :=
  iprop(xBefore c X (used w).val k ∗ wBefore c G U D w k ∗ tbPt c T)

set_option maxHeartbeats 1000000 in
/-- The body up to its last step. -/
theorem run_head {w : S8x128.Idx → BitVec 32} (hw : Planned w) (hT : T = w) (W : Waits sig Unit) (K : PUnit → sProp 𝕄) :
    iprop(rings c X G U D T w t.val ∗ owes (c : Thread nD τ) 0 W
        ∗ (iprop(mid c X G U D T w t.val ∗ (∃ W', owes (c : Thread nD τ) 0 W'))
            -∗ wp frame (wpE (defs₀ (F := F)) Variants.none c none) Set.univ (blockE (grid0.coords t) arg6 harg6 (BitVec.ofNat 32 (used w).val) (entry w 1 t.val) (pure ⟨⟩)) K))
      ⊢ wp frame (wpE (defs₀ (F := F)) Variants.none c none) Set.univ (body (grid0.coords t) arg6 harg6) K := by
  have htN : t.val < 96 := Nat.lt_of_lt_of_eq t.isLt N_0
  unfold rings mid body
  iintro ⟨⟨HX, HWt, HT⟩, HW, Hk⟩
  iapply (wp_withWord c T _ _ (BitVec.ofNat 32 (used w).val) (hw.used_eq.symm.trans (by rw [← hT]; exact word_eq T _ 5 0 (by omega) rfl)))
  isplitl [HT]; · iexact HT
  iintro HT
  iapply (wp_withProof c _ _ (chk1_of t (used w)))
  iapply (wp_withWord c T _ _ (entry w 1 t.val) (by rw [← hT]; exact word_eq T _ 1 t.val (by omega) (offw1 t)))
  isplitl [HT]; · iexact HT
  iintro HT
  iapply (wp_withWord c T _ _ (BitVec.ofNat 32 (own w t.val).val) ((hw.own_eq t.val htN).symm.trans (by rw [← hT]; exact word_eq T _ 0 t.val (by omega) (offw2 t))))
  isplitl [HT]; · iexact HT
  iintro HT
  iapply (wp_withProof c _ _ (chk2_of t (own w t.val)))
  iapply (wp_withWord c T _ _ (entry w 3 t.val) (by rw [← hT]; exact word_eq T _ 3 t.val (by omega) (offw3 t)))
  isplitl [HT]; · iexact HT
  iintro HT
  iapply (wp_A c t X (used w) _ W K)
  isplitl [HX]; · iexact HX
  isplitl [HW]; · iexact HW
  iintro ⟨⟨H0, H1, H2⟩, ⟨%W1, HW⟩⟩
  iapply (wp_blockB c t X (used w) (chk1_of t (used w)) _ W1 K)
  isplitl [H2]; · iexact H2
  isplitl [HW]; · iexact HW
  iintro ⟨H2, ⟨%W2, HW⟩⟩
  iapply (wp_C c t G U D hw (chk2_of t (own w t.val)) _ W2 K)
  isplitl [HWt]; · iexact HWt
  isplitl [HW]; · iexact HW
  iintro ⟨HWt, ⟨%W3, HW⟩⟩
  iapply (wp_withWord c T _ _ (entry w 2 t.val) (by rw [← hT]; exact word_eq T _ 2 t.val (by omega) (offw13 t)))
  isplitl [HT]; · iexact HT
  iintro HT
  iapply (wp_withProof c _ _ (chk4_of (own w t.val) _ _ (nextOf w t.val) (hw.next_eq t.val htN)))
  iapply (wp_D c t G U D T hw hT (chk4_of (own w t.val) _ _ (nextOf w t.val) (hw.next_eq t.val htN)) _ W3 K)
  isplitl [HWt]; · iexact HWt
  isplitl [HT]; · iexact HT
  isplitl [HW]; · iexact HW
  iintro ⟨HWt, HT, HW⟩
  iapply Hk
  isplitl [H0 H1 H2 HWt HT]
  · isplitl [H0 H1 H2]
    · isplitl [H0]; · iexact H0
      isplitl [H1]; · iexact H1
      iexact H2
    isplitl [HWt]; · iexact HWt
    iexact HT
  iexact HW

/-- The block of rows point `k` writes. -/
def outBlk (w : S8x128.Idx → BitVec 32) (k : ℕ) : Vec F S512x1024 .bf16 :=
  blk (entry w 1 k) ((xsrc (Ring.bk 96 k)).view.read (Elt F) X) (gOf G (own w k)) (uOf U (own w k)) (dOf D (own w k))

set_option maxHeartbeats 1000000 in
/-- The body at a point in use: the rings move on, and the output block is written. -/
theorem run_used {w : S8x128.Idx → BitVec 32} (hw : Planned w) (hT : T = w) (hu : t.val < (used w).val) (W : Waits sig Unit) (K : PUnit → sProp 𝕄) :
    iprop(rings c X G U D T w t.val ∗ (∃ d, owns (c : Thread nD τ) arg6 fullShare d) ∗ owes (c : Thread nD τ) 0 W
        ∗ (iprop(rings c X G U D T w (t.val + 1) ∗ owns (c : Thread nD τ) arg6 fullShare (outBlk c X G U D w t.val) ∗ (∃ W', owes (c : Thread nD τ) 0 W')) -∗ K ⟨⟩))
      ⊢ wp frame (wpE (defs₀ (F := F)) Variants.none c none) Set.univ (body (grid0.coords t) arg6 harg6) K := by
  have e0 : wBefore c G U D w (t.val + 1) = wDone c G U D (wslotOf w t.val) (nextOf w t.val) (own w t.val) := rfl
  refine .trans ?_ (run_head c t arg6 harg6 X G U D T hw hT W K)
  unfold mid
  rw [e0]
  unfold wDone
  rw [show rings c X G U D T w (t.val + 1) = iprop((xRole c X (used w).val (t.val + 1) ∗ xRole c X (used w).val (t.val + 2) ∗ xFree c X (Ring.sl 3 t.val))
    ∗ (wFree c G U D (wslotOf w t.val) ∗ wRole c G U D (1 - wslotOf w t.val) (nextOf w t.val) ∗ bfAt c G U D (own w t.val)) ∗ tbPt c T) from by
      unfold rings xBefore
      rw [if_neg (Nat.succ_ne_zero _), show t.val + 1 + 2 = t.val + 3 from rfl, Ring.sl_add 3 t.val]; rfl]
  iintro ⟨HR, HO, HW, Hk⟩
  isplitl [HR]; · iexact HR
  isplitl [HW]; · iexact HW
  iintro ⟨⟨⟨H0, H1, H2⟩, ⟨HF, HN, HB⟩, HT⟩, ⟨%W1, HW⟩⟩
  iapply (wp_blockE_used c t arg6 harg6 X G U D (used w) hu (entry w 1 t.val) (own w t.val) _ W1 K)
  isplitl [H0]; · iexact H0
  isplitl [HB]; · iexact HB
  isplitl [HO]; · iexact HO
  isplitl [HW]; · iexact HW
  iintro ⟨H0, HB, HO, HW⟩
  sl_step
  iapply Hk
  isplitl [H0 H1 H2 HF HN HB HT]
  · isplitl [H0 H1 H2]
    · isplitl [H1]; · iexact H1
      isplitl [H2]; · iexact H2
      iexact H0
    isplitl [HF HN HB]
    · isplitl [HF]; · iexact HF
      isplitl [HN]; · iexact HN
      iexact HB
    iexact HT
  isplitl [HO]; · iexact HO
  iexact HW

set_option maxHeartbeats 1000000 in
/-- The body at a point not in use: the rings move on, nothing is written. -/
theorem run_unused {w : S8x128.Idx → BitVec 32} (hw : Planned w) (hT : T = w) (hu : ¬ t.val < (used w).val) (W : Waits sig Unit) (K : PUnit → sProp 𝕄) :
    iprop(rings c X G U D T w t.val ∗ owes (c : Thread nD τ) 0 W
        ∗ (iprop(rings c X G U D T w (t.val + 1) ∗ (∃ W', owes (c : Thread nD τ) 0 W')) -∗ K ⟨⟩))
      ⊢ wp frame (wpE (defs₀ (F := F)) Variants.none c none) Set.univ (body (grid0.coords t) arg6 harg6) K := by
  refine .trans ?_ (run_head c t arg6 harg6 X G U D T hw hT W K)
  rw [blockE_rest t arg6 harg6 (used w) hu]
  unfold mid
  rw [show rings c X G U D T w (t.val + 1) = iprop((xRole c X (used w).val (t.val + 1) ∗ xRole c X (used w).val (t.val + 2) ∗ xRole c X (used w).val t.val)
    ∗ wBefore c G U D w (t.val + 1) ∗ tbPt c T) from by
      unfold rings xBefore
      rw [if_neg (Nat.succ_ne_zero _), show t.val + 1 + 2 = t.val + 3 from rfl, Ring.sl_add 3 t.val,
        show xRole c X (used w).val t.val = xFree c X (Ring.sl 3 t.val) from if_neg hu]]
  iintro ⟨HR, HW, Hk⟩
  isplitl [HR]; · iexact HR
  isplitl [HW]; · iexact HW
  iintro ⟨⟨⟨H0, H1, H2⟩, HWt, HT⟩, HW⟩
  sl_step
  iapply Hk
  isplitl [H0 H1 H2 HWt HT]
  · isplitl [H0 H1 H2]
    · isplitl [H1]; · iexact H1
      isplitl [H2]; · iexact H2
      iexact H0
    isplitl [HWt]; · iexact HWt
    iexact HT
  iexact HW

end Cert.Kernel2Ideal.Experts

end
-- ==== Proof.Experts.Rings.lean ====
/- What the launch hands the four rings of transfers, and what it takes back: a buffer whole is its slots, an array
   whole is one share of it per slot. -/
module

public import proofs.«01_k».proof.Proof.Experts.Point

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

section Two
/-! ## A ring of two slots -/

omit [FloatOps F] in
theorem two_in {α β : Type} {B s0 s1 Wh C0 C1 : sProp 𝕄} {P0 : α → sProp 𝕄} {P1 : β → sProp 𝕄}
    (hs : B ⊢ iprop((∃ f, P0 f) ∗ ∃ f, P1 f)) (hc : Wh ⊢ iprop(C0 ∗ C1)) :
    iprop(B ∗ (s0 ∗ s1) ∗ Wh) ⊢ iprop((s0 ∗ ∃ f, P0 f ∗ C0) ∗ (s1 ∗ ∃ f, P1 f ∗ C1)) := by
  iintro ⟨HB, ⟨H0, H1⟩, HW⟩
  ihave HB' := hs $$ HB
  icases HB' with ⟨⟨%f0, HB0⟩, ⟨%f1, HB1⟩⟩
  ihave HW' := hc $$ HW
  icases HW' with ⟨HW0, HW1⟩
  isplitl [H0 HB0 HW0]
  · isplitl [H0]; · iexact H0
    iexists f0; isplitl [HB0]; · iexact HB0
    iexact HW0
  isplitl [H1]; · iexact H1
  iexists f1; isplitl [HB1]; · iexact HB1
  iexact HW1
omit [FloatOps F] in
theorem two_out {α β : Type} {B s0 s1 Wh C0 C1 : sProp 𝕄} {P0 : α → sProp 𝕄} {P1 : β → sProp 𝕄}
    (hs : iprop((∃ f, P0 f) ∗ ∃ f, P1 f) ⊢ B) (hc : iprop(C0 ∗ C1) ⊢ Wh) :
    iprop((s0 ∗ ∃ f, P0 f ∗ C0) ∗ (s1 ∗ ∃ f, P1 f ∗ C1)) ⊢ iprop(B ∗ (s0 ∗ s1) ∗ Wh) := by
  iintro ⟨⟨H0, ⟨%f0, HB0, HW0⟩⟩, ⟨H1, ⟨%f1, HB1, HW1⟩⟩⟩
  isplitl [HB0 HB1]
  · iapply hs
    isplitl [HB0]; · iexists f0; iexact HB0
    iexists f1; iexact HB1
  isplitl [H0 H1]
  · isplitl [H0]; · iexact H0
    iexact H1
  iapply hc
  isplitl [HW0]; · iexact HW0
  iexact HW1
omit [FloatOps F] in
/-- An array whole is its two halves by share. -/
theorem halves {ℓ : Loc nD τ sig} (W : Buf (Elt F) ℓ) :
    (ℓ ↦{fullShare} W : sProp 𝕄) ⊣⊢ iprop((ℓ ↦[Finset.univ]{wq 0} W) ∗ (ℓ ↦[Finset.univ]{wq 1} W)) :=
  pointsTo_share (PosShare.mem_left_op_right fullShare)
end Two

/-- A buffer whole on core `c`, at anything. -/
abbrev anyP (c : Dev nD) (b : Ref sig .tc) : sProp 𝕄 := iprop(∃ f : Buf (Elt F) ((c : Thread nD τ).loc b), ((c : Thread nD τ).loc b) ↦{fullShare} f)
/-- A semaphore of core `c` at zero. -/
abbrev zeroP (c : Dev nD) (n : DmaSem sig) : sProp 𝕄 := semVal ((c : Thread nD τ), SemLoc.dma n) 0

/-! ## The rings of weights -/

theorem wcell_sem : ∀ (j : Fin 3) (s : Fin 2), (wcell j s).sem = ⟨5 + 3 * s.val + j.val, by have := j.isLt; have := s.isLt; show _ < 11; omega⟩ := by decide

abbrev wslotSet (s : Fin 2) : Finset S2x1024x256.Idx := (Rect.unit (s := S2x1024x256) ![s.val, 0, 0] S1x1024x256.size (wslot_inb s)).set
theorem wslotSet_disjoint (s s' : Fin 2) (h : s ≠ s') : Disjoint (wslotSet s) (wslotSet s') :=
  Ring.lead_disjoint (s := S2x1024x256) (0 : Fin 3) 1 (fun s : Fin 2 => (![s.val, 0, 0] : Fin 3 → Nat)) S1x1024x256.size wslot_inb (fun s => by simp) rfl s s' h
theorem wslotSet_cover : Finset.univ.biUnion wslotSet = Finset.univ :=
  Ring.lead_cover (s := S2x1024x256) (0 : Fin 3) 1 (fun s : Fin 2 => (![s.val, 0, 0] : Fin 3 → Nat)) S1x1024x256.size wslot_inb (fun s => by simp)
    (fun s a ha => by fin_cases a <;> first | exact absurd rfl ha | rfl) rfl (fun a ha => by fin_cases a <;> first | exact absurd rfl ha | rfl) rfl
abbrev dslotSet (s : Fin 2) : Finset S2x256x1024.Idx := (Rect.unit (s := S2x256x1024) ![s.val, 0, 0] S1x256x1024.size (dslot_inb s)).set
theorem dslotSet_disjoint (s s' : Fin 2) (h : s ≠ s') : Disjoint (dslotSet s) (dslotSet s') :=
  Ring.lead_disjoint (s := S2x256x1024) (0 : Fin 3) 1 (fun s : Fin 2 => (![s.val, 0, 0] : Fin 3 → Nat)) S1x256x1024.size dslot_inb (fun s => by simp) rfl s s' h
theorem dslotSet_cover : Finset.univ.biUnion dslotSet = Finset.univ :=
  Ring.lead_cover (s := S2x256x1024) (0 : Fin 3) 1 (fun s : Fin 2 => (![s.val, 0, 0] : Fin 3 → Nat)) S1x256x1024.size dslot_inb (fun s => by simp)
    (fun s a ha => by fin_cases a <;> first | exact absurd rfl ha | rfl) rfl (fun a ha => by fin_cases a <;> first | exact absurd rfl ha | rfl) rfl

section Weights
variable (c : Dev nD)

theorem gSet_eq (s : Fin 2) : (wslot gR s).view.set = wslotSet s := by
  simp only [wslot, Memref.view_squeeze, View.set_reshape]; exact View.set_slice_whole _ _
theorem uSet_eq (s : Fin 2) : (wslot uR s).view.set = wslotSet s := by
  simp only [wslot, Memref.view_squeeze, View.set_reshape]; exact View.set_slice_whole _ _
theorem dSet_eq (s : Fin 2) : (dslot s).view.set = dslotSet s := by
  simp only [dslot, Memref.view_squeeze, View.set_reshape]; exact View.set_slice_whole _ _
theorem gSlotP_eq (s : Fin 2) (f) : gSlotP (F := F) c s f = (((c : Thread nD τ).loc cc0_scratch2) ↦[wslotSet s]{fullShare} f : sProp 𝕄) := by
  unfold gSlotP; rw [gSet_eq]; rfl
theorem uSlotP_eq (s : Fin 2) (f) : uSlotP (F := F) c s f = (((c : Thread nD τ).loc cc0_scratch3) ↦[wslotSet s]{fullShare} f : sProp 𝕄) := by
  unfold uSlotP; rw [uSet_eq]; rfl
theorem dSlotP_eq (s : Fin 2) (f) : dSlotP (F := F) c s f = (((c : Thread nD τ).loc cc0_scratch4) ↦[dslotSet s]{fullShare} f : sProp 𝕄) := by
  unfold dSlotP; rw [dSet_eq]; rfl

theorem g_in (W : Held (F := F) c wgM) : iprop(anyP c cc0_scratch2 ∗ (zeroP c 5 ∗ zeroP c 8) ∗ (((c : Thread nD τ).loc main_v0) ↦{fullShare} W)) ⊢ iprop(gFree c W 0 ∗ gFree c W 1) := by
  unfold gFree
  rw [wcell_sem 0 0, wcell_sem 0 1]
  exact two_in (Ring.slots2_split (U := Pipeline.UD sig nD τ) (ℓ := (c : Thread nD τ).loc cc0_scratch2) (q := fullShare) wslotSet wslotSet_disjoint wslotSet_cover
    (gSlotP c 0) (gSlotP c 1) (gSlotP_eq c 0) (gSlotP_eq c 1)) (halves W).1
theorem g_out (W : Held (F := F) c wgM) : iprop(gFree c W 0 ∗ gFree c W 1) ⊢ iprop(anyP c cc0_scratch2 ∗ (zeroP c 5 ∗ zeroP c 8) ∗ (((c : Thread nD τ).loc main_v0) ↦{fullShare} W)) := by
  unfold gFree
  rw [wcell_sem 0 0, wcell_sem 0 1]
  exact two_out (Ring.slots2_join (U := Pipeline.UD sig nD τ) (ℓ := (c : Thread nD τ).loc cc0_scratch2) (q := fullShare) wslotSet wslotSet_disjoint wslotSet_cover
    (gSlotP c 0) (gSlotP c 1) (gSlotP_eq c 0) (gSlotP_eq c 1)) (halves W).2
theorem u_in (W : Held (F := F) c wuM) : iprop(anyP c cc0_scratch3 ∗ (zeroP c 6 ∗ zeroP c 9) ∗ (((c : Thread nD τ).loc main_v1) ↦{fullShare} W)) ⊢ iprop(uFree c W 0 ∗ uFree c W 1) := by
  unfold uFree
  rw [wcell_sem 1 0, wcell_sem 1 1]
  exact two_in (Ring.slots2_split (U := Pipeline.UD sig nD τ) (ℓ := (c : Thread nD τ).loc cc0_scratch3) (q := fullShare) wslotSet wslotSet_disjoint wslotSet_cover
    (uSlotP c 0) (uSlotP c 1) (uSlotP_eq c 0) (uSlotP_eq c 1)) (halves W).1
theorem u_out (W : Held (F := F) c wuM) : iprop(uFree c W 0 ∗ uFree c W 1) ⊢ iprop(anyP c cc0_scratch3 ∗ (zeroP c 6 ∗ zeroP c 9) ∗ (((c : Thread nD τ).loc main_v1) ↦{fullShare} W)) := by
  unfold uFree
  rw [wcell_sem 1 0, wcell_sem 1 1]
  exact two_out (Ring.slots2_join (U := Pipeline.UD sig nD τ) (ℓ := (c : Thread nD τ).loc cc0_scratch3) (q := fullShare) wslotSet wslotSet_disjoint wslotSet_cover
    (uSlotP c 0) (uSlotP c 1) (uSlotP_eq c 0) (uSlotP_eq c 1)) (halves W).2
theorem d_in (W : Held (F := F) c wdM) : iprop(anyP c cc0_scratch4 ∗ (zeroP c 7 ∗ zeroP c 10) ∗ (((c : Thread nD τ).loc main_v2) ↦{fullShare} W)) ⊢ iprop(dFree c W 0 ∗ dFree c W 1) := by
  unfold dFree
  rw [wcell_sem 2 0, wcell_sem 2 1]
  exact two_in (Ring.slots2_split (U := Pipeline.UD sig nD τ) (ℓ := (c : Thread nD τ).loc cc0_scratch4) (q := fullShare) dslotSet dslotSet_disjoint dslotSet_cover
    (dSlotP c 0) (dSlotP c 1) (dSlotP_eq c 0) (dSlotP_eq c 1)) (halves W).1
theorem d_out (W : Held (F := F) c wdM) : iprop(dFree c W 0 ∗ dFree c W 1) ⊢ iprop(anyP c cc0_scratch4 ∗ (zeroP c 7 ∗ zeroP c 10) ∗ (((c : Thread nD τ).loc main_v2) ↦{fullShare} W)) := by
  unfold dFree
  rw [wcell_sem 2 0, wcell_sem 2 1]
  exact two_out (Ring.slots2_join (U := Pipeline.UD sig nD τ) (ℓ := (c : Thread nD τ).loc cc0_scratch4) (q := fullShare) dslotSet dslotSet_disjoint dslotSet_cover
    (dSlotP c 0) (dSlotP c 1) (dSlotP_eq c 0) (dSlotP_eq c 1)) (halves W).2
end Weights

/-! ## The ring of rows -/

theorem xcell_sem : ∀ (s : Fin 3), (xcell s).sem = ⟨2 + s.val, by have := s.isLt; show _ < 11; omega⟩ := by decide
abbrev xslotSet (s : Fin 3) : Finset S3x512x512.Idx := (Rect.unit (s := S3x512x512) ![s.val, 0, 0] S1x512x512.size (xslot_inb s)).set
theorem xslotSet_disjoint (s s' : Fin 3) (h : s ≠ s') : Disjoint (xslotSet s) (xslotSet s') :=
  Ring.lead_disjoint (s := S3x512x512) (0 : Fin 3) 1 (fun s : Fin 3 => (![s.val, 0, 0] : Fin 3 → Nat)) S1x512x512.size xslot_inb (fun s => by simp) rfl s s' h
theorem xslotSet_cover : Finset.univ.biUnion xslotSet = Finset.univ :=
  Ring.lead_cover (s := S3x512x512) (0 : Fin 3) 1 (fun s : Fin 3 => (![s.val, 0, 0] : Fin 3 → Nat)) S1x512x512.size xslot_inb (fun s => by simp)
    (fun s a ha => by fin_cases a <;> first | exact absurd rfl ha | rfl) rfl (fun a ha => by fin_cases a <;> first | exact absurd rfl ha | rfl) rfl

section Rows
variable (c : Dev nD)
theorem xSet_eq (s : Fin 3) : (xslot s).view.set = xslotSet s := by
  simp only [xslot, Memref.view_squeeze, View.set_reshape]; exact View.set_slice_whole _ _
theorem xSlotP_eq (s : Fin 3) (f) : xSlotP (F := F) c s f = (((c : Thread nD τ).loc cc0_scratch0) ↦[xslotSet s]{fullShare} f : sProp 𝕄) := by
  unfold xSlotP; rw [xSet_eq]; rfl

theorem x_in (W : Held (F := F) c xsM) : iprop(anyP c cc0_scratch0 ∗ (zeroP c 2 ∗ zeroP c 3 ∗ zeroP c 4) ∗ (((c : Thread nD τ).loc main_arg0) ↦{fullShare} W)) ⊢ iprop(xFree c W 0 ∗ xFree c W 1 ∗ xFree c W 2) := by
  unfold xFree
  rw [xcell_sem 0, xcell_sem 1, xcell_sem 2]
  iintro ⟨HB, ⟨H0, H1, H2⟩, HW⟩
  ihave HB' := (Ring.slots3_split (U := Pipeline.UD sig nD τ) (ℓ := (c : Thread nD τ).loc cc0_scratch0) (q := fullShare) xslotSet xslotSet_disjoint xslotSet_cover
    (xSlotP c 0) (xSlotP c 1) (xSlotP c 2) (xSlotP_eq c 0) (xSlotP_eq c 1) (xSlotP_eq c 2)) $$ HB
  icases HB' with ⟨⟨%f0, HB0⟩, ⟨%f1, HB1⟩, ⟨%f2, HB2⟩⟩
  ihave HW' := (pointsTo_share (PosShare.mem_left_op_right fullShare)).1 $$ HW
  icases HW' with ⟨HW0, HW12⟩
  ihave HW' := (pointsTo_share (PosShare.mem_left_op_right fullShare.right)).1 $$ HW12
  icases HW' with ⟨HW1, HW2⟩
  isplitl [H0 HB0 HW0]
  · isplitl [H0]; · iexact H0
    iexists f0; isplitl [HB0]; · iexact HB0
    iexact HW0
  isplitl [H1 HB1 HW1]
  · isplitl [H1]; · iexact H1
    iexists f1; isplitl [HB1]; · iexact HB1
    iexact HW1
  isplitl [H2]; · iexact H2
  iexists f2; isplitl [HB2]; · iexact HB2
  iexact HW2
theorem x_out (W : Held (F := F) c xsM) : iprop(xFree c W 0 ∗ xFree c W 1 ∗ xFree c W 2) ⊢ iprop(anyP c cc0_scratch0 ∗ (zeroP c 2 ∗ zeroP c 3 ∗ zeroP c 4) ∗ (((c : Thread nD τ).loc main_arg0) ↦{fullShare} W)) := by
  unfold xFree
  rw [xcell_sem 0, xcell_sem 1, xcell_sem 2]
  iintro ⟨⟨H0, ⟨%f0, HB0, HW0⟩⟩, ⟨H1, ⟨%f1, HB1, HW1⟩⟩, ⟨H2, ⟨%f2, HB2, HW2⟩⟩⟩
  isplitl [HB0 HB1 HB2]
  · iapply (Ring.slots3_join (U := Pipeline.UD sig nD τ) (ℓ := (c : Thread nD τ).loc cc0_scratch0) (q := fullShare) xslotSet xslotSet_disjoint xslotSet_cover
      (xSlotP c 0) (xSlotP c 1) (xSlotP c 2) (xSlotP_eq c 0) (xSlotP_eq c 1) (xSlotP_eq c 2))
    isplitl [HB0]; · iexists f0; iexact HB0
    isplitl [HB1]; · iexists f1; iexact HB1
    iexists f2; iexact HB2
  isplitl [H0 H1 H2]
  · isplitl [H0]; · iexact H0
    isplitl [H1]; · iexact H1
    iexact H2
  iapply (pointsTo_share (PosShare.mem_left_op_right fullShare)).2
  isplitl [HW0]; · iexact HW0
  iapply (pointsTo_share (PosShare.mem_left_op_right fullShare.right)).2
  isplitl [HW1]; · iexact HW1
  iexact HW2
end Rows

end Cert.Kernel2Ideal.Experts

end
-- ==== Proof.Experts.Run.lean ====
/- The run of the experts' kernel on a planned table, with its output named: the pipeline's proof data, the body
   obligation at every point, the launch, and what the arrays end at. Over any number system. -/
module

public import proofs.«01_k».proof.Proof.Experts.Rings
public import Idealize.ShloMosaic.Lib.Pipeline.TableIdle
public import Idealize.ShloMosaic.Lib.Claim

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The table and the arrays at the region's entry -/

/-- The table of the plan. -/
def tw : S8x128.Idx → BitVec 32 := m (((0 : Dev nD) : Thread nD τ).loc main_arg1)

theorem hostOps0_fresh : (hostOps0 : List (HloOp τ sig (Elt F))).Forall fun op => op.fresh = ∅ := by
  simp only [List.Forall]; repeat' constructor

/-- What a buffer holds when the region is entered. -/
abbrev V (c : Dev nD) (b : Ref sig .tc) : Buf (Elt F) ((c : Thread nD τ).loc b) := StableHlo.after hostOps0 (fun b => m (c, b)) b

theorem V_of (c : Dev nD) (b : Ref sig .tc) (h : b ≠ main_v0 ∧ b ≠ main_v1 ∧ b ≠ main_v2) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    refine ⟨fun e => h.1 ?_, fun e => h.2.1 ?_, fun e => h.2.2 ?_⟩ <;> exact Proc.devRef_injective _ e))

theorem V_tab (c : Dev nD) : V m c main_arg1 = tw m := by
  obtain rfl : c = 0 := Subsingleton.elim _ _
  exact V_of m 0 main_arg1 (by decide)

variable {w : S8x128.Idx → BitVec 32}

/-- A table as the pipeline's one table. -/
def pfOf (w : S8x128.Idx → BitVec 32) : pre0.Contents (Elt F) := fun | ⟨0, _⟩ => w | ⟨_ + 1, h⟩ => absurd h (by simp)

theorem min_eq : ∀ (n : Fin 96) (u : Fin 97), 0 < u.val →
    (Scalar.minsi (BitVec.ofNat 32 n.val) (Scalar.subi (BitVec.ofNat 32 u.val) 1#32)).toNat = min n.val (u.val - 1) := by decide +kernel

/-- The block of the output a point's window is on. -/
theorem ix_eq (hw : Planned w) (i : grid0.Coords) :
    cc0_transform_4 inb_S8x128_S1x1_5_0 numel1_S1x1 (pfOf (F := F) w) i = ![min (i 0).val ((used w).val - 1), 0] := by
  have e : (pfOf (F := F) w).at 0 (Rect.unit (s := S8x128) ![5, 0] S1x1.size inb_S8x128_S1x1_5_0) numel1_S1x1 = BitVec.ofNat 32 (used w).val := by
    refine Eq.trans ?_ hw.used_eq
    unfold entry
    refine congrArg w (funext fun a => Fin.ext ?_)
    fin_cases a
    · show 5 + 1 * 0 = 5; rfl
    · show 0 + 1 * 0 = 0; rfl
  have := min_eq (i 0) (used w) hw.used_pos
  unfold cc0_transform_4
  rw [e]
  refine funext fun a => ?_
  fin_cases a
  · exact this
  · rfl

/-- So the pipeline's side condition holds. -/
theorem ok_of (hw : Planned w) : ok0 (pfOf (F := F) w) := by
  intro i
  have hi : (i 0).val < 96 := (i 0).isLt
  have h : ∀ a, (cc0_transform_4 inb_S8x128_S1x1_5_0 numel1_S1x1 (pfOf (F := F) w) i a + 1) * S512x1024.size a ≤ S49152x1024.size a := by
    rw [ix_eq hw i]
    intro a
    fin_cases a
    · show (min (i 0).val ((used w).val - 1) + 1) * 512 ≤ 49152; omega
    · show (0 + 1) * 1024 ≤ 1024; omega
  refine ⟨h, .inr (.inl (.inr ⟨by decide, rfl, .inl ⟨?_, ?_⟩⟩))⟩
  · show 2 ∣ _ * 512
    exact Dvd.dvd.mul_left (by decide) _
  · show 2 ∣ 512
    decide

/-- The pipeline at the table. -/
abbrev adm (hw : Planned w) (p : Fin 1) : (pcfgs (F := F) p).Adm := ⟨pfOf w, ok_of hw⟩
abbrev cfgAt (hw : Planned w) : Pipeline.Cfg sig Λ₀ := cfg0 (F := F) (adm hw 0)

/-! ## The pipeline's proof data -/

/-- The invariant before point `k`: the rings, and the generator register. -/
def Phi (w : S8x128.Idx → BitVec 32) (c : Dev nD) (k : ℕ) : sProp 𝕄 :=
  iprop(rings c (V m c main_arg0) (V m c main_v0) (V m c main_v1) (V m c main_v2) (V m c main_arg1) w k ∗ ∃ r, prngReg c r)

/-- The block of rows point `k` of those in use writes. -/
def rowsAt (w : S8x128.Idx → BitVec 32) (c : Dev nD) (k : ℕ) : Vec F S512x1024 .bf16 :=
  outBlk c (V m c main_arg0) (V m c main_v0) (V m c main_v1) (V m c main_v2) w k

/-- The proof data on core `c`: the output's buffer holds the rows of the point, or past those in use of the last one of them. -/
def dats (hw : Planned w) (_ : Fin 1) (c : Dev nD) : Dat τ (Elt F) Unit ℕ (Pipeline.UD sig nD τ) ℕ (cfgAt (F := F) hw) c where
  A w := V m c (Pipeline.arrRef spec0 w)
  after a t := match a with
    | ⟨0, _⟩ => rowsAt m w c (min t.val ((used w).val - 1))
  Φ t := Phi m w c t.val
  q _ := fullShare
  owed _ := 0

variable (hw : Planned w)

theorem A_eq (c : Dev nD) (a : Fin (cfgAt (F := F) hw).W) : (dats m hw 0 c).A a = V m c (Pipeline.arrRef spec0 a) := by
  dsimp only [dats]
theorem Phi_castSucc (c : Dev nD) (t : Fin (cfgAt (F := F) hw).N) : (dats m hw 0 c).Φ t.castSucc = Phi m w c t.val := by
  dsimp only [dats]; simp only [Fin.coe_castSucc]
theorem Phi_succ (c : Dev nD) (t : Fin (cfgAt (F := F) hw).N) : (dats m hw 0 c).Φ t.succ = Phi m w c (t.val + 1) := by
  dsimp only [dats]; simp only [Fin.val_succ]
theorem after_eq (c : Dev nD) (t : Fin (cfgAt (F := F) hw).N) : (dats m hw 0 c).after 0 t = rowsAt m w c (min t.val ((used w).val - 1)) := rfl

theorem point_lt (t : Fin (cfgAt (F := F) hw).N) : t.val < 96 := Nat.lt_of_lt_of_eq t.isLt N_0
theorem coords0 : ∀ t : Fin grid0.N, (grid0.coords t 0).val = t.val := by decide +kernel
theorem index_eq (t : Fin (cfgAt (F := F) hw).N) : ((cfgAt (F := F) hw).win 0).index t = ![min t.val ((used w).val - 1), 0] := by
  refine (ix_eq (F := F) hw (grid0.coords t)).trans ?_
  rw [coords0 t]

/-- A point is idle just when it is not in use. -/
theorem idle_eq (t : Fin (cfgAt (F := F) hw).N) : (cfgAt (F := F) hw).idle 0 ((cfgAt (F := F) hw).grid.coords t) = !decide (t.val < (used w).val) := by
  have e : (pfOf (F := F) w).atD 0 ![5, 0] = BitVec.ofNat 32 (used w).val := by
    refine Eq.trans ?_ hw.used_eq
    unfold Pipeline.Prefetch.Contents.atD
    rw [dif_pos (by intro a; fin_cases a <;> decide)]
    unfold entry
    refine congrArg w (funext fun a => Fin.ext ?_)
    fin_cases a <;> rfl
  show (!(k0_cond8 (grid0.coords t) ((pfOf (F := F) w).atD 0 ![5, 0]) == 1#1)) = _
  rw [e]
  congr 1
  rw [Bool.eq_iff_iff, beq_iff_eq, decide_eq_true_iff]
  exact cond8_iff t (used w)

/-- What the buffer holds at a point not in use: the last written rows. -/
theorem before_unused (c : Dev nD) : ∀ (n : ℕ) (t : Fin (cfgAt (F := F) hw).N), t.val = n → ¬ t.val < (used w).val → ∀ d,
    (dats m hw 0 c).before 0 t d = rowsAt m w c ((used w).val - 1) := by
  have hu := hw.used_pos
  intro n
  induction n with
  | zero => intro t ht h; omega
  | succ n ih =>
    intro t ht h d
    have hlt := point_lt hw t
    rw [(dats m hw 0 c).before_of_pos 0 t (by omega) (Window.fetch_out _ rfl t) d]
    have hfl : ((cfgAt (F := F) hw).win 0).flush ⟨t.val - 1, Nat.lt_of_le_of_lt (Nat.sub_le _ _) t.isLt⟩ = false := by
      unfold Window.flush
      rw [Bool.and_eq_false_iff]; right
      rw [Bool.or_eq_false_iff]
      refine ⟨decide_eq_false ?_, decide_eq_false ?_⟩
      · show ¬ t.val - 1 + 1 = grid0.N
        rw [N_0]; omega
      · rintro ⟨h1, h2⟩
        refine h2 ?_
        rw [index_eq, index_eq]
        show ![min (t.val - 1 + 1) ((used w).val - 1), 0] = ![min (t.val - 1) ((used w).val - 1), 0]
        rw [Nat.min_eq_right (by omega), Nat.min_eq_right (by omega)]
    rw [hfl, if_neg Bool.false_ne_true]
    unfold Dat.left
    rw [idle_eq]
    by_cases h1 : t.val - 1 < (used w).val
    · rw [decide_eq_true h1]
      show (dats m hw 0 c).kept 0 _ d = _
      unfold Dat.kept
      rw [Pipeline.fill_of_clip_none (cfg := cfgAt (F := F) hw) 0 _ (fun _ => rfl) d ((dats m hw 0 c).after 0 _), Window.fill_cut, after_eq]
      show rowsAt m w c (min (t.val - 1) ((used w).val - 1)) = _
      rw [Nat.min_eq_right (by omega)]
    · rw [decide_eq_false h1]
      exact ih ⟨t.val - 1, _⟩ (by show t.val - 1 = n; omega) h1 d

/-! ## The body obligation -/

/-- The output's staging buffer at point `t`. -/
abbrev stg (t : Fin (cfgAt (F := F) hw).N) : Memref sig .tc .vmem S512x1024 .bf16 := spec0_0.stage ((cfgAt (F := F) hw).slots t 0)
theorem stg_whole (t : Fin (cfgAt (F := F) hw).N) : (stg (F := F) hw t).IsWhole := hstage0_0 (((cfgAt (F := F) hw).slots t 0).cast nbuf0_0)

theorem defs₀_row (t : Fin (cfgAt (F := F) hw).N) :
    defs₀ (F := F) .tc (cfgAt (F := F) hw).body ((cfgAt (F := F) hw).bodyArgs t ((cfgAt (F := F) hw).slots t)) = body (F := F) (grid0.coords t) (stg (F := F) hw t) (stg_whole hw t) := by
  unfold defs₀; rw [Defs.onTc_tc]; exact body_eq _ _ _

theorem leaves_used (c : Dev nD) (t : Fin (cfgAt (F := F) hw).N) (hu : t.val < (used w).val) :
    ((dats m hw 0 c).leavesExact 0 t : sProp 𝕄) = owns (c : Thread nD τ) (stg (F := F) hw t) fullShare (rowsAt m w c t.val) := by
  unfold Dat.leavesExact
  rw [idle_eq, decide_eq_true hu]
  show (owns (c : Thread nD τ) (stg (F := F) hw t) fullShare ((dats m hw 0 c).after 0 t) : sProp 𝕄) = _
  rw [after_eq, Nat.min_eq_left (by omega)]
theorem leaves_unused (c : Dev nD) (t : Fin (cfgAt (F := F) hw).N) (hu : ¬ t.val < (used w).val) :
    iprop(∃ d, owns (c : Thread nD τ) (stg (F := F) hw t) fullShare ((dats m hw 0 c).before 0 t d)) ⊢ ((dats m hw 0 c).leavesExact 0 t : sProp 𝕄) := by
  have ea : (dats m hw 0 c).after 0 t = rowsAt m w c ((used w).val - 1) := by rw [after_eq, Nat.min_eq_right (by omega)]
  have eb : ∀ d, (dats m hw 0 c).before 0 t d = (dats m hw 0 c).after 0 t := fun d => (before_unused m hw c t.val t rfl hu d).trans ea.symm
  unfold Dat.leavesExact
  rw [idle_eq, decide_eq_false hu]
  cases hf : ((cfgAt (F := F) hw).win 0).flush t
  · exact .rfl
  · show _ ⊢ (owns (c : Thread nD τ) (stg (F := F) hw t) fullShare ((dats m hw 0 c).after 0 t) : sProp 𝕄)
    iintro ⟨%d, HO⟩
    rw [eb d]
    iexact HO

theorem sound_used (c : Dev nD) (t : Fin (cfgAt (F := F) hw).N) (hu : t.val < (used w).val) (ht : V m c main_arg1 = w) :
    iprop((dats m hw 0 c).Φ t.castSucc ∗ (dats m hw 0 c).owesAt () t.castSucc ∗ (∃ d, owns (c : Thread nD τ) (stg (F := F) hw t) fullShare ((dats m hw 0 c).before 0 t d)))
      ⊢ wp frame (wpE (defs₀ (F := F)) Variants.none c none) Set.univ (body (F := F) (grid0.coords t) (stg (F := F) hw t) (stg_whole hw t)) (fun _ =>
        iprop((dats m hw 0 c).Φ t.succ ∗ (dats m hw 0 c).owesAt () t.succ ∗ (dats m hw 0 c).leavesExact 0 t)) := by
  rw [leaves_used m hw c t hu, Phi_castSucc, Phi_succ]
  unfold Dat.owesAt Pipeline.owesWithin Phi
  rw [show (dats m hw 0 c).owed t.castSucc = 0 from rfl, show (dats m hw 0 c).owed t.succ = 0 from rfl]
  iintro ⟨⟨HR, Hg⟩, ⟨%W, -, HW⟩, ⟨%d, HO⟩⟩
  iapply (run_used c t (stg (F := F) hw t) (stg_whole hw t) (V m c main_arg0) (V m c main_v0) (V m c main_v1) (V m c main_v2) (V m c main_arg1) hw ht hu W _)
  isplitl [HR]; · iexact HR
  isplitl [HO]; · iexists _; iexact HO
  isplitl [HW]; · iexact HW
  iintro ⟨HR, HO, ⟨%W', HW⟩⟩
  isplitl [HR Hg]
  · isplitl [HR]; · iexact HR
    iexact Hg
  isplitl [HW]
  · iexists W'; isplitr; · ipureintro; exact fun _ _ => Or.inl trivial
    iexact HW
  iexact HO

theorem sound_unused (c : Dev nD) (t : Fin (cfgAt (F := F) hw).N) (hu : ¬ t.val < (used w).val) (ht : V m c main_arg1 = w) :
    iprop((dats m hw 0 c).Φ t.castSucc ∗ (dats m hw 0 c).owesAt () t.castSucc ∗ (∃ d, owns (c : Thread nD τ) (stg (F := F) hw t) fullShare ((dats m hw 0 c).before 0 t d)))
      ⊢ wp frame (wpE (defs₀ (F := F)) Variants.none c none) Set.univ (body (F := F) (grid0.coords t) (stg (F := F) hw t) (stg_whole hw t)) (fun _ =>
        iprop((dats m hw 0 c).Φ t.succ ∗ (dats m hw 0 c).owesAt () t.succ ∗ (dats m hw 0 c).leavesExact 0 t)) := by
  rw [Phi_castSucc, Phi_succ]
  unfold Dat.owesAt Pipeline.owesWithin Phi
  rw [show (dats m hw 0 c).owed t.castSucc = 0 from rfl, show (dats m hw 0 c).owed t.succ = 0 from rfl]
  iintro ⟨⟨HR, Hg⟩, ⟨%W, -, HW⟩, HO⟩
  iapply (run_unused c t (stg (F := F) hw t) (stg_whole hw t) (V m c main_arg0) (V m c main_v0) (V m c main_v1) (V m c main_v2) (V m c main_arg1) hw ht hu W _)
  isplitl [HR]; · iexact HR
  isplitl [HW]; · iexact HW
  iintro ⟨HR, ⟨%W', HW⟩⟩
  isplitl [HR Hg]
  · isplitl [HR]; · iexact HR
    iexact Hg
  isplitl [HW]
  · iexists W'; isplitr; · ipureintro; exact fun _ _ => Or.inl trivial
    iexact HW
  iapply (leaves_unused m hw c t hu); iexact HO

theorem body_obligation (c : Dev nD) (ht : V m c main_arg1 = w) : BodyObligation (dats (F := F) m hw 0 c) (defs₀ (F := F)) Variants.none () Set.univ := fun t => by
  rw [bigSep_W0, bigSep_W0, defs₀_row]
  by_cases hu : t.val < (used w).val
  · exact triple_restated (sound_used m hw c t hu ht) rfl .rfl fun _ => .rfl
  · exact triple_restated (sound_unused m hw c t hu ht) rfl .rfl fun _ => .rfl

/-! ## The launch -/

/-- The kernel's own semaphores. -/
abbrev osem0 : Fin 9 → SemLoc sig := fun j => (![SemLoc.dma 2, SemLoc.dma 3, SemLoc.dma 4, SemLoc.dma 5, SemLoc.dma 6, SemLoc.dma 7, SemLoc.dma 8, SemLoc.dma 9, SemLoc.dma 10] : Fin 9 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(zeroP c 2 ∗ zeroP c 3 ∗ zeroP c 4 ∗ zeroP c 5 ∗ zeroP c 6 ∗ zeroP c 7 ∗ zeroP c 8 ∗ zeroP c 9 ∗ zeroP c 10) := by
  rw [Pipeline.ownSems0_eq_of_list c osem0 [0, 1, 2, 3, 4, 5, 6, 7, 8] (by decide) (by decide)]; rfl
/-- The arrays the kernel reads by transfers of its own. -/
def H0 : Finset (Ref sig .tc) := {main_arg0, main_v0, main_v1, main_v2}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_v0) ↦{fullShare} V m c main_v0)
        ∗ (((c : Thread nD τ).loc main_v1) ↦{fullShare} V m c main_v1) ∗ (((c : Thread nD τ).loc main_v2) ↦{fullShare} V m c main_v2)) := by
  rw [BI.bigSep_eq_bigSepL_of_eq [main_arg0, main_v0, main_v1, main_v2] (by decide) (by decide)]; rfl

theorem PhiD0_eq (c : Dev nD) :
    (Pipeline.ΦD osem0 spec0 H0 (V m) c : sProp 𝕄)
      = iprop((anyP c cc0_scratch0 ∗ anyP c cc0_scratch2 ∗ anyP c cc0_scratch3 ∗ anyP c cc0_scratch4 ∗ anyP c cc0_scratch5 ∗ anyP c cc0_scratch6 ∗ anyP c cc0_scratch7)
        ∗ (∃ r, prngReg c r)
        ∗ (zeroP c 2 ∗ zeroP c 3 ∗ zeroP c 4 ∗ zeroP c 5 ∗ zeroP c 6 ∗ zeroP c 7 ∗ zeroP c 8 ∗ zeroP c 9 ∗ zeroP c 10)
        ∗ (((c : Thread nD τ).loc main_arg0) ↦{fullShare} V m c main_arg0) ∗ (((c : Thread nD τ).loc main_v0) ↦{fullShare} V m c main_v0)
        ∗ (((c : Thread nD τ).loc main_v1) ↦{fullShare} V m c main_v1) ∗ (((c : Thread nD τ).loc main_v2) ↦{fullShare} V m c main_v2)) := by
  rw [Pipeline.ΦD_eq, scopedRest0_eq, ownSems00_eq, hbmPts0_eq]

theorem table_held (c : Dev nD) (v : pre0.Contents (Elt F)) :
    (Pipeline.ΦT pre0 v c : sProp 𝕄) = tbPt c (v 0) := by
  show Pipeline.prefHeld pre0 c (fun _ => fullShare.right) v = _
  unfold Pipeline.prefHeld
  rw [show (Finset.univ : Finset (Fin pre0.K)) = {0} from by decide, bigSep_singleton]
  rfl

set_option maxHeartbeats 1000000 in
theorem hin (c : Dev nD) (ht : V m c main_arg1 = w) :
    iprop(Pipeline.ΦD osem0 spec0 H0 (V m) c ∗ Pipeline.ΦT pre0 (pfOf (F := F) w) c) ⊢ ((dats m hw 0 c).Φ 0 : sProp 𝕄) := by
  rw [PhiD0_eq, table_held, show (dats m hw 0 c).Φ 0 = Phi m w c 0 from rfl, show (tbPt c (pfOf (F := F) w 0) : sProp 𝕄) = tbPt c (V m c main_arg1) from congrArg (tbPt c) ht.symm]
  unfold Phi rings xBefore wBefore wFree bfAny
  rw [if_pos rfl]
  simp only [owns_whole]
  iintro ⟨⟨⟨B0, B2, B3, B4, B5, B6, B7⟩, Hg, ⟨Z2, Z3, Z4, Z5, Z6, Z7, Z8, Z9, Z10⟩, HX, HG, HU, HD⟩, HT⟩
  ihave KG := (g_in c (V m c main_v0)) $$ [B2 Z5 Z8 HG]
  · isplitl [B2]; · iexact B2
    isplitl [Z5 Z8]
    · isplitl [Z5]; · iexact Z5
      iexact Z8
    iexact HG
  icases KG with ⟨G0, G1⟩
  ihave KU := (u_in c (V m c main_v1)) $$ [B3 Z6 Z9 HU]
  · isplitl [B3]; · iexact B3
    isplitl [Z6 Z9]
    · isplitl [Z6]; · iexact Z6
      iexact Z9
    iexact HU
  icases KU with ⟨U0, U1⟩
  ihave KD := (d_in c (V m c main_v2)) $$ [B4 Z7 Z10 HD]
  · isplitl [B4]; · iexact B4
    isplitl [Z7 Z10]
    · isplitl [Z7]; · iexact Z7
      iexact Z10
    iexact HD
  icases KD with ⟨D0, D1⟩
  isplitl [B0 Z2 Z3 Z4 HX G0 G1 U0 U1 D0 D1 B5 B6 B7 HT]
  · isplitl [B0 Z2 Z3 Z4 HX]
    · iapply (x_in c (V m c main_arg0))
      isplitl [B0]; · iexact B0
      isplitl [Z2 Z3 Z4]
      · isplitl [Z2]; · iexact Z2
        isplitl [Z3]; · iexact Z3
        iexact Z4
      iexact HX
    isplitl [G0 G1 U0 U1 D0 D1 B5 B6 B7]
    · isplitl [G0 U0 D0]
      · isplitl [G0]; · iexact G0
        isplitl [U0]; · iexact U0
        iexact D0
      isplitl [G1 U1 D1]
      · isplitl [G1]; · iexact G1
        isplitl [U1]; · iexact U1
        iexact D1
      isplitl [B5]; · iexact B5
      isplitl [B6]; · iexact B6
      iexact B7
    iexact HT
  iexact Hg

/-- The two slots of weights idle, in either order. -/
theorem frees (c : Dev nD) (G : Held (F := F) c wgM) (U : Held (F := F) c wuM) (D : Held (F := F) c wdM) : ∀ s : Fin 2,
    iprop(wFree c G U D s ∗ wFree c G U D (1 - s)) ⊢ iprop(wFree c G U D 0 ∗ wFree c G U D 1)
  | ⟨0, _⟩ => .rfl
  | ⟨1, _⟩ => by
    show iprop(wFree c G U D 1 ∗ wFree c G U D 0) ⊢ _
    iintro ⟨H1, H0⟩
    isplitl [H0]; · iexact H0
    iexact H1
/-- The three slots of rows idle, after the last point. -/
theorem x_last (c : Dev nD) (X : Held (F := F) c xsM) (u : Fin 97) : xBefore c X u.val 96 ⊢ iprop(xFree c X 0 ∗ xFree c X 1 ∗ xFree c X 2) := by
  unfold xBefore xRole
  rw [if_neg (by decide), if_neg (by have := u.isLt; omega), if_neg (by have := u.isLt; omega),
    show Ring.sl 3 96 = 0 from by decide, show Ring.sl 3 (96 + 1) = 1 from by decide, show Ring.sl 3 (96 + 2) = 2 from by decide]
theorem w_last (hw : Planned w) (c : Dev nD) (G : Held (F := F) c wgM) (U : Held (F := F) c wuM) (D : Held (F := F) c wdM) :
    wBefore c G U D w 96 ⊢ iprop((wFree c G U D 0 ∗ wFree c G U D 1) ∗ bfAny c) := by
  show wDone c G U D (wslotOf w 95) (nextOf w 95) (own w 95) ⊢ _
  unfold wDone
  rw [hw.last, show wRole c G U D (1 - wslotOf w 95) none = wFree c G U D (1 - wslotOf w 95) from rfl]
  iintro ⟨H0, H1, HB⟩
  isplitl [H0 H1]
  · iapply (frees c G U D (wslotOf w 95))
    isplitl [H0]; · iexact H0
    iexact H1
  iapply (bfAt_any c G U D (own w 95)); iexact HB

set_option maxHeartbeats 1000000 in
theorem hout (c : Dev nD) : ((dats m hw 0 c).Φ (Fin.last (cfgAt (F := F) hw).N) : sProp 𝕄) ⊢ Pipeline.ΦD osem0 spec0 H0 (V m) c := by
  rw [PhiD0_eq, show (dats m hw 0 c).Φ (Fin.last (cfgAt (F := F) hw).N) = Phi m w c grid0.N from rfl, N_0]
  unfold Phi rings
  iintro ⟨⟨HX, HW, -⟩, Hg⟩
  ihave HX := (x_last c _ (used w)) $$ HX
  ihave HX := (x_out c _) $$ HX
  icases HX with ⟨B0, ⟨Z2, Z3, Z4⟩, HX⟩
  ihave HW := ((w_last hw c _ _ _).trans (show _ ⊢ iprop(((gFree c (V m c main_v0) 0 ∗ uFree c (V m c main_v1) 0 ∗ dFree c (V m c main_v2) 0)
    ∗ (gFree c (V m c main_v0) 1 ∗ uFree c (V m c main_v1) 1 ∗ dFree c (V m c main_v2) 1)) ∗ anyP c cc0_scratch5 ∗ anyP c cc0_scratch6 ∗ anyP c cc0_scratch7) from by
      unfold wFree bfAny; simp only [owns_whole]; exact .rfl)) $$ HW
  icases HW with ⟨⟨⟨G0, U0, D0⟩, ⟨G1, U1, D1⟩⟩, B5, B6, B7⟩
  ihave KG := (g_out c (V m c main_v0)) $$ [G0 G1]
  · isplitl [G0]; · iexact G0
    iexact G1
  icases KG with ⟨B2, ⟨Z5, Z8⟩, HG⟩
  ihave KU := (u_out c (V m c main_v1)) $$ [U0 U1]
  · isplitl [U0]; · iexact U0
    iexact U1
  icases KU with ⟨B3, ⟨Z6, Z9⟩, HU⟩
  ihave KD := (d_out c (V m c main_v2)) $$ [D0 D1]
  · isplitl [D0]; · iexact D0
    iexact D1
  icases KD with ⟨B4, ⟨Z7, Z10⟩, HD⟩
  isplitl [B0 B2 B3 B4 B5 B6 B7]
  · isplitl [B0]; · iexact B0
    isplitl [B2]; · iexact B2
    isplitl [B3]; · iexact B3
    isplitl [B4]; · iexact B4
    isplitl [B5]; · iexact B5
    isplitl [B6]; · iexact B6
    iexact B7
  isplitl [Hg]; · iexact Hg
  isplitl [Z2 Z3 Z4 Z5 Z6 Z7 Z8 Z9 Z10]
  · isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    iexact Z10
  isplitl [HX]; · iexact HX
  isplitl [HG]; · iexact HG
  isplitl [HU]; · iexact HU
  iexact HD

theorem region_entry (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

set_option backward.isDefEq.respectTransparency.types false in
/-- The launch: every weakly fair execution ends, with the output array at what the proof data says, every other array as the
    region found it, and every semaphore counter at zero. -/
theorem run_main (hp : Planned (tw m)) :
    θ_run defs (onTc (τ := τ) (main (F := F))) (s₀ m ρ) (fun r => Pipeline.FramePost (Pipeline.pin pcfgs (adm (F := F) hp)) (dats m hp) 0 (V m) r ∧ r.2.sem = fun _ => 0) :=
  Pipeline.θ_run_frameP_dma (Q' := _) pcfgs (adm (F := F) hp) (dats m hp) (0 : Fin 1) launch0 osem0 defs₀ Variants.none ownSemFacts0 H0 H0_sub m ρ main
    (hbody := fun c => (body_obligation m hp c (V_tab m c)).loose) (hshare := fun c => (dats m hp 0 c).share_full fun _ => rfl)
    (howed := fun _ _ => rfl) (V := V m) (hmain := region_entry m Variants.none) (hA := A_eq m hp)
    (hpf := fun c k => match k with | ⟨0, _⟩ => V_tab m c) (hin := fun c => hin m hp c (V_tab m c)) (hout := hout m hp)

/-- The run, read at the result and the arguments. -/
theorem run (hp : Planned (tw m)) : θ_run defs (onTc (τ := τ) (main (F := F))) ⟨m, fun _ => 0, ρ⟩ (fun r => (∀ c : Dev nD,
      r.2.mem ((c.tc : Thread nD τ).loc main_v3) = (dats m hp 0 c).arrAt 0 (cfgAt (F := F) hp).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 0,
      ((h.1 c).2 main_arg0 (show main_arg0 ∈ Pipeline.restRefs sig spec0 from Pipeline.mem_restRefs_of main_arg0 (by decide) (by decide))).trans (V_of m c main_arg0 (by decide)),
      ((h.1 c).2 main_arg1 (show main_arg1 ∈ Pipeline.restRefs sig spec0 from Pipeline.mem_restRefs_of main_arg1 (by decide) (by decide))).trans (V_of m c main_arg1 (by decide)),
      ((h.1 c).2 main_arg2 (show main_arg2 ∈ Pipeline.restRefs sig spec0 from Pipeline.mem_restRefs_of main_arg2 (by decide) (by decide))).trans (V_of m c main_arg2 (by decide)),
      ((h.1 c).2 main_arg3 (show main_arg3 ∈ Pipeline.restRefs sig spec0 from Pipeline.mem_restRefs_of main_arg3 (by decide) (by decide))).trans (V_of m c main_arg3 (by decide)),
      ((h.1 c).2 main_arg4 (show main_arg4 ∈ Pipeline.restRefs sig spec0 from Pipeline.mem_restRefs_of main_arg4 (by decide) (by decide))).trans (V_of m c main_arg4 (by decide))⟩, h.2⟩) (run_main m ρ hp)

/-- The arguments come back as they were, and every counter is zero. -/
theorem frame (hp : Planned (tw m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ hp)

end Cert.Kernel2Ideal.Experts

end
-- ==== Proof.Experts.Decode.lean ====
module

public import proofs.«01_k».proof.Proof.Experts.Plan
public import proofs.«01_k».proof.Proof.Gen.Pre_planned
public import Idealize.ShloMosaic.Lib.ReduceAll
public import Idealize.ShloMosaic.Lib.StableHlo.Predicate

@[expose] public section

set_option maxRecDepth 16384

noncomputable section

namespace Cert.Kernel2Ideal.Experts

open Idealize.ShloMosaic

variable {F : FTy → Type} [FloatOps F]

/-! ## Words -/

theorem first_iff (v : BitVec 32) : k0_cond6 v = 1#1 ↔ v = 1#32 := by
  unfold k0_cond6
  refine Iff.trans ?_ IntOp.cmpi_eq
  show IntOp.cmpi .ne ((IntOp.cmpi .eq v 1#32).setWidth 32) 0#32 = 1#1 ↔ IntOp.cmpi .eq v 1#32 = 1#1
  generalize IntOp.cmpi .eq v 1#32 = b
  revert b; decide
theorem next_iff (v : BitVec 32) : k0_cond7 v = 1#1 ↔ 0 ≤ v.toInt := by
  unfold k0_cond7
  refine Iff.trans ?_ (IntOp.cmpi_sge (x := v) (y := 0#32))
  show IntOp.cmpi .ne ((IntOp.cmpi .sge v 0#32).setWidth 32) 0#32 = 1#1 ↔ IntOp.cmpi .sge v 0#32 = 1#1
  generalize IntOp.cmpi .sge v 0#32 = b
  revert b; decide
/-- A word between zero and below `n`, read signed, is the word of a number below `n`. -/
theorem word_of_range (n : ℕ) [NeZero n] (hn : n < 2 ^ 31) (v : BitVec 32) (h0 : 0 ≤ v.toInt) (h1 : v.toInt < n) :
    v = BitVec.ofNat 32 (Fin.ofNat n v.toNat).val := by
  have hv : v.toNat < n := by
    rw [BitVec.toInt_eq_toNat_cond] at h0 h1
    have := v.isLt
    split at h0 <;> omega
  apply BitVec.eq_of_toNat_eq
  rw [BitVec.toNat_ofNat, Fin.val_ofNat, Nat.mod_eq_of_lt hv, Nat.mod_eq_of_lt (by omega)]

/-! ## The rows of the table the predicate reads -/

section
open Cert.Pre_planned

/-- The first 96 entries of a row of the table, as a vector. -/
theorem row_at (w : S8x128.Idx → BitVec 32) (r : Fin 8) (hs : S8x128.Slices ![r.val, 0] S1x96) (hc : S1x96.ShapeCasts S96) (k : Fin 96) :
    shapeCast S96 (extractStridedSlice S1x96 ![r.val, 0] w hs) hc (Shape.Idx.ofFin k) = entry w r k.val := by
  rw [Idealize.ShloMosaic.shapeCast_apply _ hc (Shape.Idx.ofFin k) (StableHlo.Predicate.ij (n := 1) (m := 96) 0 k) ?_]
  · unfold extractStridedSlice entry
    refine congrArg w (funext fun a => Fin.ext ?_)
    have := k.isLt
    fin_cases a
    · rfl
    · show 0 + k.val = k.val % 128; omega
  · rw [Shape.rowMajor_val_two, Shape.rowMajor_val_one]
    show 0 * 96 + k.val = k.val
    omega
/-- The entry of the table that counts the blocks in use, as a scalar. -/
theorem used_at (w : S8x128.Idx → BitVec 32) (hs : S8x128.Slices ![5, 0] S1x1) (hc : S1x1.ShapeCasts S_) (j : S_.Idx) :
    shapeCast S_ (extractStridedSlice S1x1 ![5, 0] w hs) hc j = entry w 5 0 := by
  unfold shapeCast extractStridedSlice entry
  refine congrArg w (funext fun a => Fin.ext ?_)
  generalize Shape.reshapeEquiv hc j = i
  have h0 : (i 0).val < 1 := (i 0).isLt
  have h1 : (i 1).val < 1 := (i 1).isLt
  fin_cases a
  · show 5 + (i 0).val = 5; omega
  · show 0 + (i 1).val = 0; omega
/-- All but the last of a vector of 96, read at an index; all but the first. -/
theorem head_at {α : Type} (x : S96.Idx → α) (h : S96.Slices ![0] S95) (k : Fin 95) :
    extractStridedSlice S95 ![0] x h (Shape.Idx.ofFin k) = x (Shape.Idx.ofFin (k.castLE (by decide))) := by
  unfold extractStridedSlice
  refine congrArg x (funext fun a => Fin.ext ?_)
  fin_cases a
  show 0 + k.val = k.val; omega
theorem tail_at {α : Type} (x : S96.Idx → α) (h : S96.Slices ![1] S95) (k : Fin 95) :
    extractStridedSlice S95 ![1] x h (Shape.Idx.ofFin k) = x (Shape.Idx.ofFin k.succ) := by
  unfold extractStridedSlice
  refine congrArg x (funext fun a => Fin.ext ?_)
  fin_cases a
  show 1 + k.val = k.val + 1; omega
/-- One entry of a vector of 96, as a scalar. -/
theorem one_at {α : Type} (x : S96.Idx → α) (p : Fin 96) (h : S96.Slices ![p.val] S1) (hc : S1.ShapeCasts S_) (j : S_.Idx) :
    shapeCast S_ (extractStridedSlice S1 ![p.val] x h) hc j = x (Shape.Idx.ofFin p) := by
  unfold shapeCast extractStridedSlice
  refine congrArg x (funext fun a => Fin.ext ?_)
  generalize Shape.reshapeEquiv hc j = i
  have h0 : (i 0).val < 1 := (i 0).isLt
  fin_cases a
  show p.val + (i 0).val = p.val; omega

/-- The two cut-down vectors and the single entries, of a row of the table. -/
theorem head_row (w : S8x128.Idx → BitVec 32) (r : Fin 8) (hs : S8x128.Slices ![r.val, 0] S1x96) (hc : S1x96.ShapeCasts S96) (h : S96.Slices ![0] S95) (k : Fin 95) :
    extractStridedSlice S95 ![0] (shapeCast S96 (extractStridedSlice S1x96 ![r.val, 0] w hs) hc) h (Shape.Idx.ofFin k) = entry w r k.val :=
  (head_at _ h k).trans (row_at w r hs hc _)
theorem tail_row (w : S8x128.Idx → BitVec 32) (r : Fin 8) (hs : S8x128.Slices ![r.val, 0] S1x96) (hc : S1x96.ShapeCasts S96) (h : S96.Slices ![1] S95) (k : Fin 95) :
    extractStridedSlice S95 ![1] (shapeCast S96 (extractStridedSlice S1x96 ![r.val, 0] w hs) hc) h (Shape.Idx.ofFin k) = entry w r (k.val + 1) :=
  (tail_at _ h k).trans (row_at w r hs hc _)
theorem one_row (w : S8x128.Idx → BitVec 32) (r : Fin 8) (p : Fin 96) (hs : S8x128.Slices ![r.val, 0] S1x96) (hc : S1x96.ShapeCasts S96)
    (h : S96.Slices ![p.val] S1) (hc' : S1.ShapeCasts S_) (j : S_.Idx) :
    shapeCast S_ (extractStridedSlice S1 ![p.val] (shapeCast S96 (extractStridedSlice S1x96 ![r.val, 0] w hs) hc) h) hc' j = entry w r p.val :=
  (one_at _ p h hc' j).trans (row_at w r hs hc _)

instance : Subsingleton S_.Idx := ⟨fun a b => funext fun i => i.elim0⟩

/-- What the predicate says, entry by entry. -/
structure Accepted (w : S8x128.Idx → BitVec 32) : Prop where
  used_ge : (1#32 : BitVec 32).toInt ≤ (entry w 5 0).toInt
  used_le : (entry w 5 0).toInt ≤ (96#32 : BitVec 32).toInt
  first_zero : entry w 2 0 = 1#32
  slot_zero : entry w 4 0 = 0#32
  next_last : (entry w 3 95).toInt < (0#32 : BitVec 32).toInt
  own_ge : ∀ k : Fin 96, (0#32 : BitVec 32).toInt ≤ (entry w 0 k.val).toInt
  own_lt : ∀ k : Fin 96, (entry w 0 k.val).toInt < (32#32 : BitVec 32).toInt
  next_lt : ∀ k : Fin 96, (entry w 3 k.val).toInt < (32#32 : BitVec 32).toInt
  step : ∀ k : Fin 95,
    (entry w 2 (k.val + 1) = 1#32 ∧ entry w 0 (k.val + 1) = entry w 3 k.val ∧ entry w 4 (k.val + 1) = 1#32 - entry w 4 k.val)
    ∨ (entry w 2 (k.val + 1) = 0#32 ∧ entry w 0 (k.val + 1) = entry w 0 k.val ∧ entry w 3 (k.val + 1) = entry w 3 k.val
      ∧ entry w 4 (k.val + 1) = entry w 4 k.val)

theorem accepted (a0 : IVec S49152x512 32) (w : IVec S8x128 32) (a2 : FVec F S1x32x1024x256 .f32) (a3 : FVec F S1x32x1024x256 .f32)
    (a4 : FVec F S1x32x256x1024 .f32) (h : Cert.Pre_planned.fn (F := F) a0 w a2 a3 a4 = fun _ => 1#1) : Accepted w := by
  have e := congrFun h (fun i => i.elim0)
  unfold Cert.Pre_planned.fn fn_part1 fn_part2 fn_part3 at e
  dsimp only [andi] at e
  obtain ⟨e, es⟩ := IntOp.andi_eq_one.1 e
  obtain ⟨e, er⟩ := IntOp.andi_eq_one.1 e
  obtain ⟨e, en⟩ := IntOp.andi_eq_one.1 e
  obtain ⟨e, e0⟩ := IntOp.andi_eq_one.1 e
  obtain ⟨e, ef⟩ := IntOp.andi_eq_one.1 e
  obtain ⟨e1, e2⟩ := IntOp.andi_eq_one.1 e
  have er' := fun k : Fin 96 => Host.reduce_andi_all _ _ _ _ _ er (Shape.Idx.ofFin k)
  have es' := fun k : Fin 95 => Host.reduce_andi_all _ _ _ _ _ es (Shape.Idx.ofFin k)
  clear er es e h
  have ec := fun k : Fin 96 => IntOp.andi_eq_one.1 (er' k)
  have eo := fun k : Fin 96 => IntOp.andi_eq_one.1 (ec k).1
  refine ⟨?_, ?_, ?_, ?_, ?_, fun k => ?_, fun k => ?_, fun k => ?_, fun k => ?_⟩
  · exact (IntOp.cmpi_sge.1 e1).trans_eq (congrArg BitVec.toInt (used_at w _ _ _))
  · exact (congrArg BitVec.toInt (used_at w _ _ _)).symm.trans_le (IntOp.cmpi_sle.1 e2)
  · exact (one_row w 2 0 _ _ _ _ _).symm.trans (IntOp.cmpi_eq.1 ef)
  · exact (one_row w 4 0 _ _ _ _ _).symm.trans (IntOp.cmpi_eq.1 e0)
  · exact (congrArg BitVec.toInt (one_row w 3 95 _ _ _ _ _)).symm.trans_lt (IntOp.cmpi_slt.1 en)
  · exact (IntOp.cmpi_sge.1 (eo k).1).trans_eq (congrArg BitVec.toInt (row_at w 0 _ _ k))
  · exact (congrArg BitVec.toInt (row_at w 0 _ _ k)).symm.trans_lt (IntOp.cmpi_slt.1 (eo k).2)
  · exact (congrArg BitVec.toInt (row_at w 3 _ _ k)).symm.trans_lt (IntOp.cmpi_slt.1 (ec k).2)
  · rcases IntOp.ori_eq_one.1 (es' k) with hk | hk
    · obtain ⟨hk, h4⟩ := IntOp.andi_eq_one.1 hk
      obtain ⟨hk, h0⟩ := IntOp.andi_eq_one.1 hk
      have h2 := IntOp.cmpi_eq.1 (IntOp.andi_eq_one.1 hk).1
      exact .inl ⟨(tail_row w 2 _ _ _ k).symm.trans h2, (tail_row w 0 _ _ _ k).symm.trans ((IntOp.cmpi_eq.1 h0).trans (head_row w 3 _ _ _ k)),
        (tail_row w 4 _ _ _ k).symm.trans ((IntOp.cmpi_eq.1 h4).trans (congrArg (fun v => 1#32 - v) (head_row w 4 _ _ _ k)))⟩
    · obtain ⟨hk, h4⟩ := IntOp.andi_eq_one.1 hk
      obtain ⟨hk, h3⟩ := IntOp.andi_eq_one.1 hk
      obtain ⟨h2, h0⟩ := IntOp.andi_eq_one.1 hk
      exact .inr ⟨(tail_row w 2 _ _ _ k).symm.trans (IntOp.cmpi_eq.1 h2), (tail_row w 0 _ _ _ k).symm.trans ((IntOp.cmpi_eq.1 h0).trans (head_row w 0 _ _ _ k)),
        (tail_row w 3 _ _ _ k).symm.trans ((IntOp.cmpi_eq.1 h3).trans (head_row w 3 _ _ _ k)), (tail_row w 4 _ _ _ k).symm.trans ((IntOp.cmpi_eq.1 h4).trans (head_row w 4 _ _ _ k))⟩

end

theorem planned_of (w : S8x128.Idx → BitVec 32) (h : Accepted w) : Planned w := by
  have hu : entry w 5 0 = BitVec.ofNat 32 (used w).val :=
    word_of_range 97 (by decide) _ (le_trans (by decide) h.used_ge) (lt_of_le_of_lt h.used_le (by decide))
  have ho : ∀ k < 96, entry w 0 k = BitVec.ofNat 32 (own w k).val := fun k hk =>
    word_of_range 32 (by decide) _ (h.own_ge ⟨k, hk⟩) (h.own_lt ⟨k, hk⟩)
  have hs : ∀ k < 96, entry w 4 k = BitVec.ofNat 32 (wslotOf w k).val := by
    intro k
    induction k with
    | zero => intro _; unfold wslotOf; rw [h.slot_zero]; rfl
    | succ k ih =>
      intro hk
      have hi := ih (by omega)
      have hw : entry w 4 k = 0#32 ∨ entry w 4 k = 1#32 := by
        rw [hi]; generalize wslotOf w k = s; revert s; decide
      have hw' : entry w 4 (k + 1) = 0#32 ∨ entry w 4 (k + 1) = 1#32 := by
        rcases h.step ⟨k, by omega⟩ with ⟨-, -, h4⟩ | ⟨-, -, -, h4⟩ <;> rw [h4] <;> rcases hw with h | h <;> simp only [h] <;> decide
      unfold wslotOf
      rcases hw' with h | h <;> rw [h] <;> rfl
  refine ⟨hu, ?_, ho, hs, fun k hk => ?_, (first_iff _).2 h.first_zero, ?_, fun k hk hf => ?_, fun k hk hf => ?_, ?_⟩
  · have h1 := h.used_ge
    rw [hu] at h1
    revert h1
    generalize used w = u
    revert u; decide
  · unfold nextOf
    split
    · next h7 => exact word_of_range 32 (by decide) _ ((next_iff _).1 h7) (h.next_lt ⟨k, hk⟩)
    · next h7 => exact h7
  · unfold wslotOf; rw [h.slot_zero]; rfl
  · have h2 := (first_iff _).1 hf
    rcases h.step ⟨k, hk⟩ with ⟨-, h0, h4⟩ | ⟨h2', -⟩
    · have h3 : k0_cond7 (entry w 3 k) = 1#1 := (next_iff _).2 (by rw [← h0]; exact h.own_ge ⟨k + 1, by omega⟩)
      refine ⟨?_, ?_⟩
      · unfold nextOf own; rw [if_pos h3]; rw [show entry w 0 (k + 1) = entry w 3 k from h0]
      · have e : wslotOf w (k + 1) = Fin.ofNat 2 (1#32 - entry w 4 k).toNat := by unfold wslotOf; rw [show entry w 4 (k + 1) = _ from h4]
        rw [e, hs k (by omega)]
        generalize wslotOf w k = s
        revert s; decide
    · exact absurd (h2.symm.trans h2') (by decide)
  · rcases h.step ⟨k, hk⟩ with ⟨h2, -⟩ | ⟨-, h0, h3, h4⟩
    · exact absurd ((first_iff _).2 h2) hf
    · refine ⟨?_, ?_, ?_⟩
      · unfold own; rw [show entry w 0 (k + 1) = _ from h0]
      · unfold nextOf; rw [show entry w 3 (k + 1) = _ from h3]
      · unfold wslotOf; rw [show entry w 4 (k + 1) = _ from h4]
  · unfold nextOf
    rw [if_neg]
    rw [next_iff]
    exact not_le.2 h.next_last

/-- The precondition of the claims, on the table of plans. -/
theorem planned_of_pre (a0 : IVec S49152x512 32) (w : IVec S8x128 32) (a2 : FVec F S1x32x1024x256 .f32) (a3 : FVec F S1x32x1024x256 .f32)
    (a4 : FVec F S1x32x256x1024 .f32) (h : Cert.Pre_planned.fn (F := F) a0 w a2 a3 a4 = fun _ => 1#1) : Planned w :=
  planned_of w (accepted a0 w a2 a3 a4 h)

end Cert.Kernel2Ideal.Experts

end
-- ==== Proof.Experts.Twin.lean ====
/- The kernel's program and the program read at the ideal instance have the same text, so a run of the
   one is a run of the other; the frames of both, under the precondition. -/
module

public import proofs.«01_k».proof.Defs
public import proofs.«01_k».proof.Proof.Gen.Kernel2
public import proofs.«01_k».proof.Proof.Experts.Run
public import proofs.«01_k».proof.Proof.Experts.Decode

@[expose] public section

set_option maxRecDepth 16384

namespace Cert.Kernel2Ideal.Experts

open Idealize.ShloMosaic Idealize.ShloMosaic.TcCoe Idealize.SL.Sem

variable {F : FTy → Type} [FloatOps F]

/-- The kernel's bodies agree, label by label. -/
theorem bodies : Cert.Kernel2.defs₀ (F := F) = Cert.Kernel2Ideal.defs₀ (F := F) :=
  congrArg (Defs.onTc (nD := Cert.Kernel2Ideal.nD) (τ := Cert.Kernel2Ideal.τ) (sig := Cert.Kernel2Ideal.sig))
    (funext fun l => funext fun x =>
      match l, x with
      | 0, (_, _) => rfl)

/-- So do the tables with the pipeline's own bodies. -/
theorem defs_eq : Cert.Kernel2.defs (F := F) = Cert.Kernel2Ideal.defs (F := F) :=
  congrArg (Pipeline.defs (Cert.Kernel2Ideal.pcfgs (F := F))) bodies

/-- The table of a memory that meets the precondition. -/
theorem planned_mem (m : (ℓ : Loc nD τ sig) → Buf (Elt F) ℓ)
    (h : ∀ c : Dev nD, Cert.Pre_planned.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Planned (tw m) :=
  planned_of_pre _ _ _ _ _ (h _)

theorem frame_ideal : Cert.quiescent_Kernel2Ideal := fun m ρ h => frame (F := Ideal) m ρ (planned_mem m h)

theorem frame_kernel : Cert.quiescent_Kernel2 := fun m ρ h => by
  have h := frame (F := Bits) m ρ (planned_mem m h)
  rw [← defs_eq] at h
  exact h

end Cert.Kernel2Ideal.Experts
-- ==== Proof.Experts.Rows.lean ====
/- One row of an expert's feed-forward layer, as extended reals: what the kernel's block of rows holds, row by row. -/
module

public import proofs.«01_k».proof.Proof.Experts.Block
public import proofs.«01_k».proof.Proof.Ple.Rows
public import Idealize.ShloMosaic.Lib.Pointwise
public import Idealize.ShloMosaic.Lib.Tactic.CleanTypes

@[expose] public section

set_option maxRecDepth 16384

noncomputable section

namespace Cert.Row

open Idealize.ShloMosaic

/-- Row `p` of a block with `v` valid rows: its numbers if it is one of them, zeros if not. -/
def valid (v : BitVec 32) (p : ℕ) (w : Fin 512 → BitVec 32) (j : Fin 1024) : EReal :=
  Scalar.select (IntOp.cmpi CmpIPredicate.slt (BitVec.ofNat 32 p) v) (halves w j) 0

/-- A row times a weight. -/
def proj (x : Fin 1024 → EReal) (w : Fin 1024 → Fin 256 → EReal) (f : Fin 256) : EReal := ∑ k, x k * w k f

/-- The hidden row of an expert: the gate's activation times the up product. -/
def hidden (x : Fin 1024 → EReal) (g u : Fin 1024 → Fin 256 → EReal) (f : Fin 256) : EReal :=
  proj x g f * Ideal.div 1 (1 + Ideal.exp (0 - proj x g f)) * proj x u f

/-- The row an expert gives back. -/
def expert (x : Fin 1024 → EReal) (g u : Fin 1024 → Fin 256 → EReal) (d : Fin 256 → Fin 1024 → EReal) (j : Fin 1024) : EReal :=
  ∑ f, hidden x g u f * d f j

/-- A product over a row is the one over its first half plus the one over its second. -/
theorem proj_split (x : Fin 1024 → EReal) (w : Fin 1024 → Fin 256 → EReal) (f : Fin 256) :
    proj x w f = (∑ k : Fin 512, x ⟨k.val, by omega⟩ * w ⟨k.val, by omega⟩ f)
      + ∑ k : Fin 512, x ⟨512 + k.val, by omega⟩ * w ⟨512 + k.val, by omega⟩ f :=
  Fin.sum_univ_add (a := 512) (b := 512) fun k => x k * w k f

theorem valid_lo (v : BitVec 32) (p : ℕ) (w : Fin 512 → BitVec 32) (k : Fin 512) :
    valid v p w ⟨k.val, by omega⟩
      = Ideal.ofBits .bf16 ((Scalar.select (IntOp.cmpi CmpIPredicate.slt (BitVec.ofNat 32 p) v) (w k) 0#32).extractLsb' 0 16) := by
  unfold valid halves
  rw [dif_pos k.isLt]
  unfold Scalar.select
  split
  · rfl
  · exact ((congrArg (Ideal.ofBits .bf16) (show BitVec.extractLsb' 0 16 0#32 = 0x0000#16 by decide)).trans Ideal.ofBits_zero_bf16).symm

theorem valid_hi (v : BitVec 32) (p : ℕ) (w : Fin 512 → BitVec 32) (k : Fin 512) :
    valid v p w ⟨512 + k.val, by omega⟩
      = Ideal.ofBits .bf16 ((Scalar.select (IntOp.cmpi CmpIPredicate.slt (BitVec.ofNat 32 p) v) (w k) 0#32).extractLsb' 16 16) := by
  unfold valid halves
  rw [dif_neg (show ¬ 512 + k.val < 512 by omega)]
  unfold Scalar.select
  split
  · simp only [Nat.add_sub_cancel_left]
  · exact ((congrArg (Ideal.ofBits .bf16) (show BitVec.extractLsb' 16 16 0#32 = 0x0000#16 by decide)).trans Ideal.ofBits_zero_bf16).symm

end Cert.Row

namespace Cert.Kernel2Ideal.Experts

open Idealize.ShloMosaic Idealize.ShloMosaic.TcCoe Idealize.ShloMosaic.Pipeline Cert.Kernel2Ideal.Gen

/-- The rows kept by the mask, times a weight's two halves. -/
theorem pay9_apply (v : BitVec 32) (x : Vec Ideal S512x512 .i32) (gu gl : Vec Ideal S512x256 .bf16) (w : Vec Ideal S1024x256 .bf16)
    (hu : ∀ k f, gu (ix2 k f) = w (ix2 ⟨k.val, by omega⟩ f)) (hl : ∀ k f, gl (ix2 k f) = w (ix2 ⟨512 + k.val, by omega⟩ f))
    (p : Fin 512) (f : Fin 256) :
    k0_pay9 (F := Ideal) v (shapeCast S1x512x512 x cast_rows) gu gl (ix2 p f)
      = Row.proj (Row.valid v p.val fun k => x (ix2 p k)) (fun k f => w (ix2 k f)) f := by
  rw [Row.proj_split]
  pointwise [k0_pay9, k0_pay7, k0_pay8, k0_pay6]
  refine congrArg₂ (· + ·) (Finset.sum_congr rfl fun k _ => ?_) (Finset.sum_congr rfl fun k _ => ?_)
  · exact congrArg₂ (· * ·) (Row.valid_lo v p.val (fun k => x (ix2 p k)) k).symm (hu k f)
  · exact congrArg₂ (· * ·) (Row.valid_hi v p.val (fun k => x (ix2 p k)) k).symm (hl k f)

theorem pay10_apply (v : BitVec 32) (x : Vec Ideal S512x512 .i32) (gu gl : Vec Ideal S512x256 .bf16) (w : Vec Ideal S1024x256 .bf16)
    (hu : ∀ k f, gu (ix2 k f) = w (ix2 ⟨k.val, by omega⟩ f)) (hl : ∀ k f, gl (ix2 k f) = w (ix2 ⟨512 + k.val, by omega⟩ f))
    (p : Fin 512) (f : Fin 256) :
    k0_pay10 (F := Ideal) v (shapeCast S1x512x512 x cast_rows) gu gl (ix2 p f)
      = Row.proj (Row.valid v p.val fun k => x (ix2 p k)) (fun k f => w (ix2 k f)) f :=
  pay9_apply v x gu gl w hu hl p f

theorem pay11_apply (v : BitVec 32) (x : Vec Ideal S512x512 .i32) (gu gl : Vec Ideal S512x256 .bf16) (p : Fin 512) (f : Fin 256) :
    k0_pay11 (F := Ideal) v (shapeCast S1x512x512 x cast_rows) gu gl (ix2 p f)
      = 1 + Ideal.exp (0 - k0_pay9 (F := Ideal) v (shapeCast S1x512x512 x cast_rows) gu gl (ix2 p f)) := by
  pointwise [k0_pay11]

theorem pay3_apply (a b e : Vec Ideal S512x256 .f32) (d : Vec Ideal S256x1024 .bf16) (p : Fin 512) (j : Fin 1024) :
    k0_pay3 (F := Ideal) a b e d (ix2 p j) = ∑ f, a (ix2 p f) * Ideal.div 1 (e (ix2 p f)) * b (ix2 p f) * d (ix2 f j) := by
  pointwise [k0_pay3]

theorem upper_apply (w : Vec Ideal S1024x256 .bf16) (k : Fin 512) (f : Fin 256) :
    w (upperR.toLoadRect.idx (ix2 k f)) = w (ix2 ⟨k.val, by omega⟩ f) := congrArg w (by
  funext a; apply Fin.ext; match a with | ⟨0, _⟩ => exact (by simp [ix2]) | ⟨1, _⟩ => exact (by simp [ix2]))
theorem lower_apply (w : Vec Ideal S1024x256 .bf16) (k : Fin 512) (f : Fin 256) :
    w (lowerR.toLoadRect.idx (ix2 k f)) = w (ix2 ⟨512 + k.val, by omega⟩ f) := congrArg w (by
  funext a; apply Fin.ext; match a with | ⟨0, _⟩ => exact (by simp [ix2]) | ⟨1, _⟩ => exact (by simp [ix2]))

/-- The block a point writes, row by row. -/
theorem blk_apply (v : BitVec 32) (x : Vec Ideal S512x512 .i32) (g u : Vec Ideal S1024x256 .bf16) (d : Vec Ideal S256x1024 .bf16) (p : Fin 512) (j : Fin 1024) :
    blk (F := Ideal) v x g u d (ix2 p j)
      = Row.expert (Row.valid v p.val fun k => x (ix2 p k)) (fun k f => g (ix2 k f)) (fun k f => u (ix2 k f)) (fun f j => d (ix2 f j)) j := by
  unfold blk Row.expert Row.hidden
  refine (pay3_apply _ _ _ _ p j).trans (Finset.sum_congr rfl fun f _ => ?_)
  rw [pay11_apply, pay9_apply v x _ _ g (upper_apply g) (lower_apply g), pay10_apply v x _ _ u (upper_apply u) (lower_apply u)]

/-- Row `p` of block `b` of the packed rows. -/
theorem xsrc_apply {c : Dev nD} (X : Held (F := Ideal) c xsM) (b : Fin 96) (p k : Fin 512) :
    (xsrc b).view.read (Elt Ideal) X (ix2 p k) = (show Vec Ideal S49152x512 .i32 from X) (ix2 ⟨512 * b.val + p.val, by omega⟩ k) := by
  refine congrArg (show Vec Ideal S49152x512 .i32 from X) ?_
  funext a; apply Fin.ext;
  match a with
  | ⟨0, _⟩ => show 512 * b.val + 1 * p.val = 512 * b.val + p.val; omega
  | ⟨1, _⟩ => show 0 + 1 * k.val = k.val; omega

theorem cut_w : S1x1024x256.ShapeCasts S1024x256 := by decide
theorem cut_d : S1x256x1024.ShapeCasts S256x1024 := by decide
theorem cut_w_apply (x : Vec Ideal S1x1024x256 .f32) (k : Fin 1024) (f : Fin 256) : shapeCast S1024x256 x cut_w (ix2 k f) = x (ix3 0 k f) := by
  pointwise []
theorem cut_d_apply (x : Vec Ideal S1x256x1024 .f32) (k : Fin 256) (f : Fin 1024) : shapeCast S256x1024 x cut_d (ix2 k f) = x (ix3 0 k f) := by
  pointwise []

/-- Expert `e`'s gate or up weight. -/
theorem wsrcG_apply {c : Dev nD} (G : Held (F := Ideal) c wgM) (e : Fin 32) (k : Fin 1024) (f : Fin 256) :
    (wsrc wgM e).view.read (Elt Ideal) G (ix2 k f) = (show Vec Ideal S32x1024x256 .f32 from G) (ix3 e k f) := by
  refine (congrFun (Memref.read_squeeze_slice wgM _ _ squeezes_S1x1024x256_S1024x256 cut_w G) _).trans ((cut_w_apply _ k f).trans (congrArg (show Vec Ideal S32x1024x256 .f32 from G) ?_))
  funext a; apply Fin.ext
  match a with
  | ⟨0, _⟩ => show e.val + 1 * 0 = e.val; omega
  | ⟨1, _⟩ => show 0 + 1 * k.val = k.val; omega
  | ⟨2, _⟩ => show 0 + 1 * f.val = f.val; omega

theorem gOf_apply {c : Dev nD} (G : Held (F := Ideal) c wgM) (e : Fin 32) (k : Fin 1024) (f : Fin 256) :
    gOf (F := Ideal) G e (ix2 k f) = (show Vec Ideal S32x1024x256 .f32 from G) (ix3 e k f) := by
  refine Eq.trans ?_ (wsrcG_apply G e k f)
  pointwise [gOf, k0_pay4]

theorem wsrcU_apply {c : Dev nD} (G : Held (F := Ideal) c wuM) (e : Fin 32) (k : Fin 1024) (f : Fin 256) :
    (wsrc wuM e).view.read (Elt Ideal) G (ix2 k f) = (show Vec Ideal S32x1024x256 .f32 from G) (ix3 e k f) := by
  refine (congrFun (Memref.read_squeeze_slice wuM _ _ squeezes_S1x1024x256_S1024x256 cut_w G) _).trans ((cut_w_apply _ k f).trans (congrArg (show Vec Ideal S32x1024x256 .f32 from G) ?_))
  funext a; apply Fin.ext
  match a with
  | ⟨0, _⟩ => show e.val + 1 * 0 = e.val; omega
  | ⟨1, _⟩ => show 0 + 1 * k.val = k.val; omega
  | ⟨2, _⟩ => show 0 + 1 * f.val = f.val; omega

theorem uOf_apply {c : Dev nD} (G : Held (F := Ideal) c wuM) (e : Fin 32) (k : Fin 1024) (f : Fin 256) :
    uOf (F := Ideal) G e (ix2 k f) = (show Vec Ideal S32x1024x256 .f32 from G) (ix3 e k f) := by
  refine Eq.trans ?_ (wsrcU_apply G e k f)
  pointwise [uOf, k0_pay1, k0_pay5]

theorem dsrc_apply {c : Dev nD} (D : Held (F := Ideal) c wdM) (e : Fin 32) (k : Fin 256) (j : Fin 1024) :
    (dsrc e).view.read (Elt Ideal) D (ix2 k j) = (show Vec Ideal S32x256x1024 .f32 from D) (ix3 e k j) := by
  refine (congrFun (Memref.read_squeeze_slice wdM _ _ squeezes_S1x256x1024_S256x1024 cut_d D) _).trans ((cut_d_apply _ k j).trans (congrArg (show Vec Ideal S32x256x1024 .f32 from D) ?_))
  funext a; apply Fin.ext
  match a with
  | ⟨0, _⟩ => show e.val + 1 * 0 = e.val; omega
  | ⟨1, _⟩ => show 0 + 1 * k.val = k.val; omega
  | ⟨2, _⟩ => show 0 + 1 * j.val = j.val; omega

theorem dOf_apply {c : Dev nD} (D : Held (F := Ideal) c wdM) (e : Fin 32) (k : Fin 256) (j : Fin 1024) :
    dOf (F := Ideal) D e (ix2 k j) = (show Vec Ideal S32x256x1024 .f32 from D) (ix3 e k j) := by
  refine Eq.trans ?_ (dsrc_apply D e k j)
  pointwise [dOf, k0_pay2]

end Cert.Kernel2Ideal.Experts

end
-- ==== Proof.Experts.Value.lean ====
/- What the experts' result array holds after the run, row by row, on the rows of the blocks in use, at the reals. -/
module

public import proofs.«01_k».proof.Proof.Experts.Run
public import proofs.«01_k».proof.Proof.Experts.Rows
public import Idealize.ShloMosaic.Lib.Pipeline.ValueKit.Geometry
public import Idealize.ShloMosaic.Lib.Pipeline.Covers

@[expose] public section

set_option maxRecDepth 16384

noncomputable section

namespace Cert.Kernel2Ideal.Experts

open Idealize.ShloMosaic Idealize.ShloMosaic.TcCoe Idealize.ShloMosaic.Pipeline Idealize.SL.Sem Cert.Kernel2Ideal.Gen

variable (m : (ℓ : Loc nD τ sig) → Buf (Elt Ideal) ℓ) (c : Dev nD)

/-! ## The weights the host hands the kernel -/

theorem castW_apply (x : FVec Ideal S1x32x1024x256 .f32) (e : Fin 32) (k : Fin 1024) (f : Fin 256) :
    shapeCast S32x1024x256 x shapeCasts_S1x32x1024x256_S32x1024x256 (ix3 e k f) = x (ix4 0 e k f) := by
  pointwise []
theorem castD_apply (x : FVec Ideal S1x32x256x1024 .f32) (e : Fin 32) (k : Fin 256) (f : Fin 1024) :
    shapeCast S32x256x1024 x shapeCasts_S1x32x256x1024_S32x256x1024 (ix3 e k f) = x (ix4 0 e k f) := by
  pointwise []

theorem V_gate (e : Fin 32) (k : Fin 1024) (f : Fin 256) : V m c main_v0 (ix3 e k f) = m ((c.tc : Thread nD τ).loc main_arg2) (ix4 0 e k f) := by
  have h : V m c main_v0 = shapeCast S32x1024x256 (m ((c.tc : Thread nD τ).loc main_arg2)) shapeCasts_S1x32x1024x256_S32x1024x256 := by
    unfold V hostOps0
    after_results_simp <;> rfl
  exact (congrFun h _).trans (castW_apply _ e k f)
theorem V_up (e : Fin 32) (k : Fin 1024) (f : Fin 256) : V m c main_v1 (ix3 e k f) = m ((c.tc : Thread nD τ).loc main_arg3) (ix4 0 e k f) := by
  have h : V m c main_v1 = shapeCast S32x1024x256 (m ((c.tc : Thread nD τ).loc main_arg3)) shapeCasts_S1x32x1024x256_S32x1024x256 := by
    unfold V hostOps0
    after_results_simp <;> rfl
  exact (congrFun h _).trans (castW_apply _ e k f)
theorem V_down (e : Fin 32) (k : Fin 256) (f : Fin 1024) : V m c main_v2 (ix3 e k f) = m ((c.tc : Thread nD τ).loc main_arg4) (ix4 0 e k f) := by
  have h : V m c main_v2 = shapeCast S32x256x1024 (m ((c.tc : Thread nD τ).loc main_arg4)) shapeCasts_S1x32x256x1024_S32x256x1024 := by
    unfold V hostOps0
    after_results_simp <;> rfl
  exact (congrFun h _).trans (castD_apply _ e k f)

/-! ## One block's rows -/

variable {w : S8x128.Idx → BitVec 32}

theorem rowsAt_apply (k : ℕ) (hk : k < 96) (p : Fin 512) (j : Fin 1024) :
    rowsAt m w c k (ix2 p j)
      = Row.expert (Row.valid (entry w 1 k) p.val fun q => m ((c.tc : Thread nD τ).loc main_arg0) (ix2 ⟨512 * k + p.val, by omega⟩ q))
          (fun q f => m ((c.tc : Thread nD τ).loc main_arg2) (ix4 0 (own w k) q f))
          (fun q f => m ((c.tc : Thread nD τ).loc main_arg3) (ix4 0 (own w k) q f))
          (fun f j => m ((c.tc : Thread nD τ).loc main_arg4) (ix4 0 (own w k) f j)) j := by
  unfold rowsAt outBlk
  refine (blk_apply _ _ _ _ _ p j).trans ?_
  have hx : (fun q => (xsrc (Ring.bk 96 k)).view.read (Elt Ideal) (V m c main_arg0) (ix2 p q))
      = fun q => m ((c.tc : Thread nD τ).loc main_arg0) (ix2 ⟨512 * k + p.val, by omega⟩ q) := funext fun q => by
    refine (xsrc_apply (c := c) (V m c main_arg0) (Ring.bk 96 k) p q).trans ?_
    refine (congrFun (V_of m c main_arg0 (by decide)) _).trans (congrArg (m ((c.tc : Thread nD τ).loc main_arg0)) ?_)
    funext a; apply Fin.ext
    match a with
    | ⟨0, _⟩ => show 512 * (k % 96) + p.val = 512 * k + p.val; omega
    | ⟨1, _⟩ => rfl
  have hg : (fun q f => gOf (F := Ideal) (V m c main_v0) (own w k) (ix2 q f)) = fun q f => m ((c.tc : Thread nD τ).loc main_arg2) (ix4 0 (own w k) q f) :=
    funext fun q => funext fun f => (gOf_apply (c := c) (V m c main_v0) (own w k) q f).trans (V_gate m c _ q f)
  have hu : (fun q f => uOf (F := Ideal) (V m c main_v1) (own w k) (ix2 q f)) = fun q f => m ((c.tc : Thread nD τ).loc main_arg3) (ix4 0 (own w k) q f) :=
    funext fun q => funext fun f => (uOf_apply (c := c) (V m c main_v1) (own w k) q f).trans (V_up m c _ q f)
  have hd : (fun f j => dOf (F := Ideal) (V m c main_v2) (own w k) (ix2 f j)) = fun f j => m ((c.tc : Thread nD τ).loc main_arg4) (ix4 0 (own w k) f j) :=
    funext fun f => funext fun j => (dOf_apply (c := c) (V m c main_v2) (own w k) f j).trans (V_down m c _ f j)
  exact congr (congr (congr (congr (congrArg (fun x g u d => Row.expert (Row.valid (entry w 1 k) p.val x) g u d) hx) hg) hu) hd) rfl

/-! ## The array after the run -/

variable (hw : Planned w)

/-- Where an element of a point's block sits in the array. -/
def place (t : Fin (cfgAt (F := Ideal) hw).N) (y : S512x1024.Idx) : S49152x1024.Idx := (((cfgAt (F := Ideal) hw).win 0).blk t).view.emb y

theorem emb_row (t : Fin (cfgAt (F := Ideal) hw).N) (p : Fin 512) (q : Fin 1024) :
    (place hw t (ix2 p q) 0).val = min t.val ((used w).val - 1) * 512 + p.val := by
  have h : ((cfgAt (F := Ideal) hw).win 0).index t (0 : Fin 2) = min t.val ((used w).val - 1) := congrFun (index_eq (F := Ideal) hw t) (0 : Fin 2)
  unfold place
  blk_simp
  exact congrArg (· * 512 + p.val) h
theorem emb_col (t : Fin (cfgAt (F := Ideal) hw).N) (p : Fin 512) (q : Fin 1024) : place hw t (ix2 p q) 1 = q := by
  have h : ((cfgAt (F := Ideal) hw).win 0).index t (1 : Fin 2) = 0 := congrFun (index_eq (F := Ideal) hw t) (1 : Fin 2)
  apply Fin.ext
  unfold place
  blk_simp
  exact (congrArg (· * 1024 + q.val) h).trans (by show 0 * 1024 + q.val = q.val; omega)

theorem rowsAt_congr {k k' : ℕ} {p p' : Fin 512} {q q' : Fin 1024} (hk : k = k') (hp : p = p') (hq : q = q') :
    rowsAt m w c k (ix2 p q) = rowsAt m w c k' (ix2 p' q') := by
  subst hk hp hq; rfl

/-- A row of a block in use ends with what the block's point wrote. -/
theorem arr_apply (r : Fin 49152) (j : Fin 1024) (hr : r.val / 512 < (used w).val) :
    ((dats m hw 0 c).arrAt 0 (cfgAt (F := Ideal) hw).N : Vec Ideal S49152x1024 .bf16) (ix2 r j)
      = rowsAt m w c (r.val / 512) (ix2 ⟨r.val % 512, by omega⟩ j) := by
  have hN : (cfgAt (F := Ideal) hw).N = 96 := N_0
  have hlt : r.val / 512 < (cfgAt (F := Ideal) hw).N := by have := r.isLt; omega
  obtain ⟨t, _, hf, hi⟩ := ((cfgAt (F := Ideal) hw).win 0).exists_flush_same_index rfl ⟨r.val / 512, hlt⟩
  have key := (dats m hw 0 c).arrAt_forall_of_flushed 0
    (fun (i : S49152x1024.Idx) (v : EReal) => v = rowsAt m w c ((i 0).val / 512) (ix2 ⟨(i 0).val % 512, by omega⟩ (i 1)))
    (fun t hf y => ?_) (cfgAt (F := Ideal) hw).N t (ix2 r j) t.isLt hf ?_
  · exact key
  · change S512x1024.Idx at y
    obtain ⟨p, q, rfl⟩ : ∃ (p : Fin 512) (q : Fin 1024), y = ix2 p q := ⟨y 0, y 1, eq_ix2 y⟩
    have h0 := emb_row hw t p q
    have h1 := emb_col hw t p q
    have hp := p.isLt
    show rowsAt m w c (min t.val ((used w).val - 1)) (ix2 p q) = _
    refine rowsAt_congr m c ?_ (Fin.ext ?_) h1.symm
    · show _ = (place hw t (ix2 p q) 0).val / 512
      rw [h0]; omega
    · show p.val = (place hw t (ix2 p q) 0).val % 512
      rw [h0]; omega
  · have h0 := emb_row hw t ⟨r.val % 512, by omega⟩ j
    have h1 := emb_col hw t ⟨r.val % 512, by omega⟩ j
    rw [index_eq, index_eq] at hi
    have hm : min t.val ((used w).val - 1) = min (r.val / 512) ((used w).val - 1) := congrFun hi 0
    have hin := View.emb_mem_set (((cfgAt (F := Ideal) hw).win 0).blk t).view (ix2 (⟨r.val % 512, by omega⟩ : Fin 512) j)
    refine Eq.mp (congrArg (· ∈ (((cfgAt (F := Ideal) hw).win 0).blk t).view.set) ?_) hin
    refine (eq_ix2 _).trans ?_
    refine congrArg₂ ix2 (Fin.ext ?_) h1
    refine h0.trans ?_
    rw [hm]
    show min (r.val / 512) ((used w).val - 1) * 512 + r.val % 512 = r.val
    omega

end Cert.Kernel2Ideal.Experts

end
-- ==== Proof.Experts.RefRows.lean ====
/- The reference of the experts' call, row by row, as extended reals: every row goes through all the experts, and the ones
   that do not own it weigh nothing. -/
module

public import proofs.«01_k».proof.Proof.Experts.Rows
public import proofs.«01_k».proof.Proof.Gen.Reference2Ideal.Run
public import Idealize.ShloMosaic.Lib.Pointwise
public import Idealize.ShloMosaic.Lib.BitcastConvert
public import Idealize.ShloMosaic.Lib.Tactic.CleanTypes

@[expose] public section

set_option maxRecDepth 16384

noncomputable section

namespace Cert.Reference2Ideal.Experts

open Cert.Reference2Ideal Cert.Reference2Ideal.Gen Idealize.ShloMosaic Idealize.ShloMosaic.TcCoe

variable (a0 : IVec S49152x512 32) (a1 : IVec S8x128 32) (a2 a3 : FVec Ideal S1x32x1024x256 .f32) (a4 : FVec Ideal S1x32x256x1024 .f32)

/-- The block length, as the remainder divides by it. -/
def refLen : IVec S_ 32 := select (cmpi .eq (id (constantI S_ 32 512#32)) (constantI S_ 32 0#32)) (constantI S_ 32 1#32) (id (constantI S_ 32 512#32))
/-- A row's number within its block. -/
def refRow : IVec S49152 32 := select (andi (cmpi .ne (cmpi .slt (Host.remsi (iotaInDim S49152 32 0) (broadcastInDim S49152 ![] bcast_S_S49152 refLen)) (broadcastInDim S49152 ![] bcast_S_S49152 (constantI S_ 32 0#32))) (broadcastInDim S49152 ![] bcast_S_S49152 (cmpi .slt refLen (constantI S_ 32 0#32)))) (cmpi .ne (Host.remsi (iotaInDim S49152 32 0) (broadcastInDim S49152 ![] bcast_S_S49152 refLen)) (broadcastInDim S49152 ![] bcast_S_S49152 (constantI S_ 32 0#32)))) (addi (Host.remsi (iotaInDim S49152 32 0) (broadcastInDim S49152 ![] bcast_S_S49152 refLen)) (broadcastInDim S49152 ![] bcast_S_S49152 refLen)) (Host.remsi (iotaInDim S49152 32 0) (broadcastInDim S49152 ![] bcast_S_S49152 refLen))
/-- A word per block, repeated for its rows. -/
def byRow (x : IVec S96 32) : IVec S49152 32 := shapeCast _ (broadcastInDim S96x512 ![0, 1] bcast_S96x1_S96x512_0_1 (broadcastInDim S96x1 ![0] bcast_S96_S96x1_0 x)) shapeCasts_S96x512_S49152
/-- The unpacked rows, those past a block's valid ones zero. -/
def refHf : FVec Ideal S49152x1024 .f32 := select (broadcastInDim S49152x1024 ![0, 1] bcast_S49152x1_S49152x1024_0_1 (broadcastInDim S49152x1 ![0] bcast_S49152_S49152x1_0 (cmpi .slt refRow (byRow (extractStridedSlice S96 ![0] (shapeCast _ (extractStridedSlice S1x128 ![1, 0] a1 slices_S8x128_S1x128_1_0) shapeCasts_S1x128_S128) slices_S128_S96_0))))) (concatenate S49152x1024 1 [⟨S49152x512, (shapeCast _ (extractStridedSlice S49152x512x1 ![0, 0, 0] (extf .f32 (bitcastToFloat (F := Ideal) .bf16 (Host.bitcastConvertNarrow S49152x512x2 16 a0 splits_S49152x512_w32_S49152x512x2_w16)) bitsLt_bf16_f32) slices_S49152x512x2_S49152x512x1_0_0_0) shapeCasts_S49152x512x1_S49152x512)⟩, ⟨S49152x512, (shapeCast _ (extractStridedSlice S49152x512x1 ![0, 0, 1] (extf .f32 (bitcastToFloat (F := Ideal) .bf16 (Host.bitcastConvertNarrow S49152x512x2 16 a0 splits_S49152x512_w32_S49152x512x2_w16)) bitsLt_bf16_f32) slices_S49152x512x2_S49152x512x1_0_0_1) shapeCasts_S49152x512x1_S49152x512)⟩] concatenates_S49152x512_S49152x512_S49152x1024_d1) (broadcastInDim S49152x1024 ![] bcast_S_S49152x1024 (id (constant S_ .f32 0x00000000#32)))
/-- Which expert owns which row. -/
def refCombine : FVec Ideal S49152x32 .f32 := uitofp .f32 (cmpi .eq (broadcastInDim S49152x32 ![0, 1] bcast_S49152x1_S49152x32_0_1 (broadcastInDim S49152x1 ![0] bcast_S49152_S49152x1_0 (byRow (extractStridedSlice S96 ![0] (shapeCast _ (extractStridedSlice S1x128 ![0, 0] a1 slices_S8x128_S1x128_0_0) shapeCasts_S1x128_S128) slices_S128_S96_0)))) (broadcastInDim S49152x32 ![0, 1] bcast_S1x32_S49152x32_0_1 (iotaInDim S1x32 32 1)))
/-- The weighted hidden rows of eight experts. -/
def refHid (hf : FVec Ideal S49152x1024 .f32) (cb : FVec Ideal S49152x8 .f32) (g u : FVec Ideal S8x1024x256 .f32) : FVec Ideal S49152x8x256 .f32 :=
  mulf (mulf (mulf (Host.dotGeneral dot_S49152x1024_S8x1024x256_S49152x8x256_1_1_0_02_n_n none hf g) (Host.divf (broadcastInDim S49152x8x256 ![] bcast_S_S49152x8x256 (constant S_ .f32 0x3F800000#32)) (addf (broadcastInDim S49152x8x256 ![] bcast_S_S49152x8x256 (constant S_ .f32 0x3F800000#32)) (Host.exp (Host.negf (Host.dotGeneral dot_S49152x1024_S8x1024x256_S49152x8x256_1_1_0_02_n_n none hf g)))))) (Host.dotGeneral dot_S49152x1024_S8x1024x256_S49152x8x256_1_1_0_02_n_n none hf u)) (broadcastInDim S49152x8x256 ![0, 1, 2] bcast_S49152x8x1_S49152x8x256_0_1_2 (broadcastInDim S49152x8x1 ![0, 1] bcast_S49152x8_S49152x8x1_0_1 cb))
/-- What eight experts add to the rows. -/
def refGroup (hf : FVec Ideal S49152x1024 .f32) (cb : FVec Ideal S49152x8 .f32) (g u : FVec Ideal S8x1024x256 .f32) (d : FVec Ideal S8x256x1024 .f32) : FVec Ideal S49152x1024 .f32 :=
  Host.dotGeneral dot_S49152x8x256_S8x256x1024_S49152x1024_12_01_0_2_n_n none (refHid hf cb g u) d
/-- The four groups of experts, added. -/
def refOut (hf : FVec Ideal S49152x1024 .f32) (cb : FVec Ideal S49152x32 .f32) : FVec Ideal S49152x1024 .bf16 :=
  truncf .bf16 (addf (addf (addf (addf (broadcastInDim S49152x1024 ![] bcast_S_S49152x1024 (constant S_ .f32 0x00000000#32)) (refGroup hf (extractStridedSlice S49152x8 ![0, 0] cb slices_S49152x32_S49152x8_0_0) (extractStridedSlice S8x1024x256 ![0, 0, 0] (shapeCast _ a2 shapeCasts_S1x32x1024x256_S32x1024x256) slices_S32x1024x256_S8x1024x256_0_0_0) (extractStridedSlice S8x1024x256 ![0, 0, 0] (shapeCast _ a3 shapeCasts_S1x32x1024x256_S32x1024x256) slices_S32x1024x256_S8x1024x256_0_0_0) (extractStridedSlice S8x256x1024 ![0, 0, 0] (shapeCast _ a4 shapeCasts_S1x32x256x1024_S32x256x1024) slices_S32x256x1024_S8x256x1024_0_0_0))) (refGroup hf (extractStridedSlice S49152x8 ![0, 8] cb slices_S49152x32_S49152x8_0_8) (extractStridedSlice S8x1024x256 ![8, 0, 0] (shapeCast _ a2 shapeCasts_S1x32x1024x256_S32x1024x256) slices_S32x1024x256_S8x1024x256_8_0_0) (extractStridedSlice S8x1024x256 ![8, 0, 0] (shapeCast _ a3 shapeCasts_S1x32x1024x256_S32x1024x256) slices_S32x1024x256_S8x1024x256_8_0_0) (extractStridedSlice S8x256x1024 ![8, 0, 0] (shapeCast _ a4 shapeCasts_S1x32x256x1024_S32x256x1024) slices_S32x256x1024_S8x256x1024_8_0_0))) (refGroup hf (extractStridedSlice S49152x8 ![0, 16] cb slices_S49152x32_S49152x8_0_16) (extractStridedSlice S8x1024x256 ![16, 0, 0] (shapeCast _ a2 shapeCasts_S1x32x1024x256_S32x1024x256) slices_S32x1024x256_S8x1024x256_16_0_0) (extractStridedSlice S8x1024x256 ![16, 0, 0] (shapeCast _ a3 shapeCasts_S1x32x1024x256_S32x1024x256) slices_S32x1024x256_S8x1024x256_16_0_0) (extractStridedSlice S8x256x1024 ![16, 0, 0] (shapeCast _ a4 shapeCasts_S1x32x256x1024_S32x256x1024) slices_S32x256x1024_S8x256x1024_16_0_0))) (refGroup hf (extractStridedSlice S49152x8 ![0, 24] cb slices_S49152x32_S49152x8_0_24) (extractStridedSlice S8x1024x256 ![24, 0, 0] (shapeCast _ a2 shapeCasts_S1x32x1024x256_S32x1024x256) slices_S32x1024x256_S8x1024x256_24_0_0) (extractStridedSlice S8x1024x256 ![24, 0, 0] (shapeCast _ a3 shapeCasts_S1x32x1024x256_S32x1024x256) slices_S32x1024x256_S8x1024x256_24_0_0) (extractStridedSlice S8x256x1024 ![24, 0, 0] (shapeCast _ a4 shapeCasts_S1x32x256x1024_S32x256x1024) slices_S32x256x1024_S8x256x1024_24_0_0))) bitsLt_bf16_f32

/-- The word a packed pair's part belongs to. -/
theorem drop_part (r : Fin 49152) (k : Fin 512) (b : Fin 2) :
    splits_S49152x512_w32_S49152x512x2_w16.drop (ix3 r k b) = ix2 r k := by
  funext a
  apply Fin.ext
  match a with
  | ⟨0, _⟩ => rfl
  | ⟨1, _⟩ => rfl

theorem byRow_apply (x : IVec S96 32) (r : Fin 49152) : byRow x (ix1 r) = x (ix1 ⟨r.val / 512, by omega⟩) := by
  pointwise [byRow]

/-- The first 96 words of a row of the table. -/
theorem head0 (k : Fin 96) : (extractStridedSlice S96 ![0] (shapeCast S128 (extractStridedSlice S1x128 ![0, 0] a1 slices_S8x128_S1x128_0_0) shapeCasts_S1x128_S128) slices_S128_S96_0) (ix1 k)
    = a1 (ix2 0 ⟨k.val, by omega⟩) := by
  pointwise []
theorem head1 (k : Fin 96) : (extractStridedSlice S96 ![0] (shapeCast S128 (extractStridedSlice S1x128 ![1, 0] a1 slices_S8x128_S1x128_1_0) shapeCasts_S1x128_S128) slices_S128_S96_0) (ix1 k)
    = a1 (ix2 1 ⟨k.val, by omega⟩) := by
  pointwise []

/-- The remainder by 512 of a small number, as the host takes it. -/
theorem rem_eq (n : ℕ) (h : n < 49152) : IntOp.remsi ArithUnit.host (BitVec.ofNat 32 n) 512#32 = BitVec.ofNat 32 (n % 512) := by
  have e : (BitVec.ofNat 32 n).toNat = n := by rw [BitVec.toNat_ofNat]; omega
  apply BitVec.eq_of_toNat_eq
  rw [IntOp.toNat_remsi ArithUnit.host (by rw [e]; omega) 512 (by omega) (by omega), e, BitVec.toNat_ofNat]
  omega
/-- A remainder that is not negative is kept. -/
theorem kept : ∀ k : Fin 512, Scalar.select
      (IntOp.andi
        (IntOp.cmpi CmpIPredicate.ne (IntOp.cmpi CmpIPredicate.slt (BitVec.ofNat 32 k.val) 0#32) (IntOp.cmpi CmpIPredicate.slt 512#32 0#32))
        (IntOp.cmpi CmpIPredicate.ne (BitVec.ofNat 32 k.val) 0#32))
      (IntOp.addi (BitVec.ofNat 32 k.val) 512#32) (BitVec.ofNat 32 k.val) = BitVec.ofNat 32 k.val := by decide +kernel

theorem refRow_apply (r : Fin 49152) : refRow (ix1 r) = BitVec.ofNat 32 (r.val % 512) := by
  pointwise [refRow, refLen]
  have e : Scalar.select (IntOp.cmpi CmpIPredicate.eq (id (constantI S_ 32 512#32) ix0) 0#32) (1#32) (id (constantI S_ 32 512#32) ix0) = 512#32 := by
    show Scalar.select (IntOp.cmpi CmpIPredicate.eq 512#32 0#32) 1#32 512#32 = 512#32
    decide
  rw [e, rem_eq r.val r.isLt]
  exact kept ⟨r.val % 512, by omega⟩

theorem refHf_apply (r : Fin 49152) (j : Fin 1024) : refHf a0 a1 (ix2 r j)
    = Row.valid (a1 (ix2 1 ⟨r.val / 512, by omega⟩)) (r.val % 512) (fun k => a0 (ix2 r k)) j := by
  pointwise [refHf]
  simp only [drop_part, refRow_apply, byRow_apply, head1]
  exact congrArg (Scalar.select _ _) Ideal.ofBits_zero_f32

theorem same_expert : ∀ o e : Fin 32, IntOp.cmpi CmpIPredicate.eq (BitVec.ofNat 32 o.val) (BitVec.ofNat 32 e.val) = if o = e then 1#1 else 0#1 := by
  decide +kernel

/-- One expert weighs one where it owns the row, nothing elsewhere. -/
theorem refCombine_apply (r : Fin 49152) (e : Fin 32) (o : Fin 32) (ho : a1 (ix2 0 ⟨r.val / 512, by omega⟩) = BitVec.ofNat 32 o.val) :
    refCombine a1 (ix2 r e) = if o = e then 1 else 0 := by
  pointwise [refCombine]
  simp only [byRow_apply, head0, ho]
  rw [same_expert o e]
  split
  · simp [FloatOps.uitofp, FloatOps.scalar]
  · simp [FloatOps.uitofp, FloatOps.scalar]

theorem refHid_apply (hf : FVec Ideal S49152x1024 .f32) (cb : FVec Ideal S49152x8 .f32) (g u : FVec Ideal S8x1024x256 .f32) (r : Fin 49152) (e : Fin 8) (f : Fin 256) :
    refHid hf cb g u (ix3 r e f) = Row.hidden (fun k => hf (ix2 r k)) (fun k f => g (ix3 e k f)) (fun k f => u (ix3 e k f)) f * cb (ix2 r e) := by
  unfold Row.hidden Row.proj
  pointwise [refHid]
  simp only [zero_sub]

theorem refGroup_sum (hf : FVec Ideal S49152x1024 .f32) (cb : FVec Ideal S49152x8 .f32) (g u : FVec Ideal S8x1024x256 .f32) (d : FVec Ideal S8x256x1024 .f32) (r : Fin 49152) (j : Fin 1024) :
    refGroup hf cb g u d (ix2 r j) = ∑ e : Fin 8, ∑ f : Fin 256, refHid hf cb g u (ix3 r e f) * d (ix3 e f j) := by
  pointwise [refGroup]

/-- What expert `e` adds to a row of numbers `x` it weighs with `c`. -/
def term (x : Fin 1024 → EReal) (c : EReal) (e : Fin 32) (j : Fin 1024) : EReal :=
  ∑ f : Fin 256, Row.hidden x (fun k f => a2 (ix4 0 e k f)) (fun k f => a3 (ix4 0 e k f)) f * c * a4 (ix4 0 e f j)

/-- Eight experts from `o` on add their terms. -/
theorem refGroup_apply (o : ℕ) (ho : o + 8 ≤ 32) (hf : FVec Ideal S49152x1024 .f32) (cc : FVec Ideal S49152x32 .f32) (cb : FVec Ideal S49152x8 .f32) (g u : FVec Ideal S8x1024x256 .f32)
    (d : FVec Ideal S8x256x1024 .f32) (r : Fin 49152) (j : Fin 1024)
    (hc : ∀ e : Fin 8, cb (ix2 r e) = cc (ix2 r ⟨o + e.val, by omega⟩))
    (hg : ∀ (e : Fin 8) k f, g (ix3 e k f) = a2 (ix4 0 ⟨o + e.val, by omega⟩ k f))
    (hu : ∀ (e : Fin 8) k f, u (ix3 e k f) = a3 (ix4 0 ⟨o + e.val, by omega⟩ k f))
    (hd : ∀ (e : Fin 8) f, d (ix3 e f j) = a4 (ix4 0 ⟨o + e.val, by omega⟩ f j)) :
    refGroup hf cb g u d (ix2 r j)
      = ∑ e : Fin 8, term a2 a3 a4 (fun k => hf (ix2 r k)) (cc (ix2 r ⟨o + e.val, by omega⟩)) ⟨o + e.val, by omega⟩ j := by
  rw [refGroup_sum]
  refine Finset.sum_congr rfl fun e _ => Finset.sum_congr rfl fun f _ => ?_
  rw [refHid_apply, hc, hd]
  simp only [hg, hu]

/-- Four groups of eight are all thirty-two. -/
theorem groups (T : Fin 32 → EReal) :
    0 + (∑ x : Fin 8, T ⟨0 + x.val, by omega⟩) + (∑ x : Fin 8, T ⟨8 + x.val, by omega⟩) + (∑ x : Fin 8, T ⟨16 + x.val, by omega⟩) + (∑ x : Fin 8, T ⟨24 + x.val, by omega⟩)
      = ∑ e, T e := by
  rw [zero_add]
  refine Eq.symm ((Fin.sum_univ_add (a := 24) (b := 8) T).trans (congrArg (· + _) ?_))
  refine (Fin.sum_univ_add (a := 16) (b := 8) _).trans (congrArg (· + _) ?_)
  refine (Fin.sum_univ_add (a := 8) (b := 8) _).trans (congrArg (· + _) ?_)
  exact Finset.sum_congr rfl fun x _ => congrArg T (Fin.ext (Nat.zero_add _).symm)

theorem refOut_apply (hf : FVec Ideal S49152x1024 .f32) (cc : FVec Ideal S49152x32 .f32) (r : Fin 49152) (j : Fin 1024) :
    refOut a2 a3 a4 hf cc (ix2 r j) = ∑ e : Fin 32, term a2 a3 a4 (fun k => hf (ix2 r k)) (cc (ix2 r e)) e j := by
  refine Eq.trans ?_ (groups fun e => term a2 a3 a4 (fun k => hf (ix2 r k)) (cc (ix2 r e)) e j)
  pointwise [refOut]
  rw [refGroup_apply a2 a3 a4 0 (by omega) hf cc _ _ _ _ r j (by intros; pointwise []) (by intros; pointwise []) (by intros; pointwise []) (by intros; pointwise []),
    refGroup_apply a2 a3 a4 8 (by omega) hf cc _ _ _ _ r j (by intros; pointwise []) (by intros; pointwise []) (by intros; pointwise []) (by intros; pointwise []),
    refGroup_apply a2 a3 a4 16 (by omega) hf cc _ _ _ _ r j (by intros; pointwise []) (by intros; pointwise []) (by intros; pointwise []) (by intros; pointwise []),
    refGroup_apply a2 a3 a4 24 (by omega) hf cc _ _ _ _ r j (by intros; pointwise []) (by intros; pointwise []) (by intros; pointwise []) (by intros; pointwise [])]
  simp only [Nat.zero_add]

/-- Of all the experts' terms only the owner's is left. -/
theorem owner_only (x : Fin 1024 → EReal) (o : Fin 32) (j : Fin 1024) :
    (∑ e : Fin 32, term a2 a3 a4 x (if o = e then 1 else 0) e j)
      = Row.expert x (fun k f => a2 (ix4 0 o k f)) (fun k f => a3 (ix4 0 o k f)) (fun f j => a4 (ix4 0 o f j)) j := by
  rw [Finset.sum_eq_single o]
  · unfold term Row.expert
    simp only [if_true, mul_one]
  · intro e _ he
    unfold term
    simp only [if_neg (Ne.symm he), mul_zero, zero_mul, Finset.sum_const_zero]
  · intro h; exact absurd (Finset.mem_univ _) h

theorem res_eq (m : (ℓ : Loc nD τ sig) → Buf (Elt Ideal) ℓ) (c : Dev nD) :
    Value.res_main_v81 (F := Ideal) m c
      = refOut (m ((c.tc : Thread nD τ).loc main_arg2)) (m ((c.tc : Thread nD τ).loc main_arg3)) (m ((c.tc : Thread nD τ).loc main_arg4))
        (refHf (m ((c.tc : Thread nD τ).loc main_arg0)) (m ((c.tc : Thread nD τ).loc main_arg1))) (refCombine (m ((c.tc : Thread nD τ).loc main_arg1))) := rfl

/-- The reference's result at row `r`, column `j`, the owner of the row's block being `o`. -/
theorem ref_apply (m : (ℓ : Loc nD τ sig) → Buf (Elt Ideal) ℓ) (c : Dev nD) (r : Fin 49152) (j : Fin 1024) (o : Fin 32)
    (ho : (m ((c.tc : Thread nD τ).loc main_arg1) : IVec S8x128 32) (ix2 0 ⟨r.val / 512, by omega⟩) = BitVec.ofNat 32 o.val) :
    Value.res_main_v81 (F := Ideal) m c (ix2 r j)
      = Row.expert (Row.valid ((m ((c.tc : Thread nD τ).loc main_arg1) : IVec S8x128 32) (ix2 1 ⟨r.val / 512, by omega⟩)) (r.val % 512)
            fun k => (m ((c.tc : Thread nD τ).loc main_arg0) : IVec S49152x512 32) (ix2 r k))
          (fun k f => (m ((c.tc : Thread nD τ).loc main_arg2) : FVec Ideal S1x32x1024x256 .f32) (ix4 0 o k f))
          (fun k f => (m ((c.tc : Thread nD τ).loc main_arg3) : FVec Ideal S1x32x1024x256 .f32) (ix4 0 o k f))
          (fun f j => (m ((c.tc : Thread nD τ).loc main_arg4) : FVec Ideal S1x32x256x1024 .f32) (ix4 0 o f j)) j := by
  rw [res_eq]
  refine (refOut_apply _ _ _ _ _ r j).trans (Eq.trans ?_ (owner_only _ _ _ _ o j))
  refine Finset.sum_congr rfl fun e _ => ?_
  exact congrArg₂ (fun x k => term _ _ _ x k e j) (funext fun k => refHf_apply _ _ r k) (refCombine_apply _ r e o ho)

end Cert.Reference2Ideal.Experts

end
-- ==== Proof.Experts.Agree.lean ====
/- The experts' rows of the kernel and of the reference agree on the blocks in use. -/
module

public import proofs.«01_k».proof.Defs
public import proofs.«01_k».proof.Proof.Gen.On_used_rows
public import proofs.«01_k».proof.Proof.Experts.Twin
public import proofs.«01_k».proof.Proof.Experts.Value
public import proofs.«01_k».proof.Proof.Experts.RefRows

@[expose] public section

set_option maxRecDepth 16384

noncomputable section

namespace Cert.Kernel2Ideal.Experts

open Idealize.ShloMosaic Idealize.ShloMosaic.TcCoe Idealize.SL.Sem

/-! ## The rows compared -/

theorem entry_apply (w : S8x128.Idx → BitVec 32) (a : Fin 8) (k : ℕ) (hk : k < 128) : entry w a k = w (ix2 a ⟨k, hk⟩) := by
  unfold entry
  refine congrArg w (funext fun b => Fin.ext ?_)
  match b with
  | ⟨0, _⟩ => rfl
  | ⟨1, _⟩ => exact Nat.mod_eq_of_lt hk

theorem times : ∀ u : Fin 97, IntOp.muli (BitVec.ofNat 32 u.val) 512#32 = BitVec.ofNat 32 (u.val * 512) := by decide +kernel

/-- A row the mask selects is in a block in use. -/
theorem in_use (a0 : IVec S49152x512 32) (w : IVec S8x128 32) (a2 a3 : FVec Ideal S1x32x1024x256 .f32) (a4 : FVec Ideal S1x32x256x1024 .f32) (hw : Planned w)
    (r : Fin 49152) (j : Fin 1024) (h : Cert.On_used_rows.fn (F := Ideal) a0 w a2 a3 a4 (ix2 r j) = 1#1) : r.val / 512 < (used w).val := by
  have hu : w (ix2 5 0) = BitVec.ofNat 32 (used w).val := (entry_apply w 5 0 (by omega)).symm.trans hw.used_eq
  have e : Cert.On_used_rows.fn (F := Ideal) a0 w a2 a3 a4 (ix2 r j)
      = IntOp.cmpi CmpIPredicate.slt (BitVec.ofNat 32 r.val) (IntOp.muli (w (ix2 5 0)) 512#32) := by
    pointwise [Cert.On_used_rows.fn]
  rw [e, hu, times, IntOp.cmpi_slt] at h
  have h1 : (used w).val < 97 := (used w).isLt
  have h2 : r.val < 49152 := r.isLt
  rw [BitVec.toInt_eq_toNat_of_lt (by rw [BitVec.toNat_ofNat]; omega), BitVec.toInt_eq_toNat_of_lt (by rw [BitVec.toNat_ofNat]; omega),
    BitVec.toNat_ofNat, BitVec.toNat_ofNat] at h
  omega

/-- The reference's result is what the kernel's array holds, on the rows the mask selects. -/
theorem result_eq (m : (ℓ : Loc nD τ sig) → Buf (Elt Ideal) ℓ)
    (m' : (ℓ : Loc Cert.Reference2Ideal.nD Cert.Reference2Ideal.τ Cert.Reference2Ideal.sig) → Buf (Elt Ideal) ℓ) (c : Dev nD) (hw : Planned (tw m))
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4))
    (i : (⟨2, ![49152, 1024]⟩ : Shape).Idx)
    (hi : Cert.On_used_rows.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) i = 1#1) :
    Cert.Reference2Ideal.Value.res_main_v81 (F := Ideal) m' c i = (dats m hw 0 c).arrAt 0 (cfgAt (F := Ideal) hw).N i := by
  obtain rfl : c = 0 := Subsingleton.elim _ _
  obtain ⟨r, j, rfl⟩ : ∃ (r : Fin 49152) (j : Fin 1024), i = ix2 r j := ⟨i 0, i 1, eq_ix2 i⟩
  have hr := in_use _ _ _ _ _ hw r j hi
  have hk : r.val / 512 < 96 := by have := r.isLt; omega
  have ho := hw.own_eq (r.val / 512) hk
  rw [entry_apply _ _ _ (by omega)] at ho
  refine (Cert.Reference2Ideal.Experts.ref_apply m' 0 r j (own (tw m) (r.val / 512)) ?_).trans ?_
  · rw [h1]; exact ho
  refine Eq.trans ?_ ((arr_apply m 0 hw r j hr).trans (rowsAt_apply m 0 (r.val / 512) hk ⟨r.val % 512, by omega⟩ j)).symm
  rw [h0, h1, h2, h3, h4, entry_apply _ _ _ (by omega)]
  have er : (⟨512 * (r.val / 512) + r.val % 512, by omega⟩ : Fin 49152) = r := Fin.ext (by show 512 * (r.val / 512) + r.val % 512 = r.val; omega)
  simp only [er]
  rfl

theorem algebraic : Cert.algebraic_Kernel2Ideal_Reference2Ideal_on_used_rows := fun m ρ m' ρ' hp hargs =>
  ⟨fun c => (dats m (planned_mem m hp) 0 c).arrAt 0 (cfgAt (F := Ideal) (planned_mem m hp)).N,
    (θ_run _ _ _).mono (fun _ h c => ⟨fun i _ => congrFun (h.1 c).1 i, (h.1 c).2⟩) (run (F := Ideal) m ρ (planned_mem m hp)),
    (θ_run _ _ _).mono (fun _ h c => by
      obtain ⟨e0, e1, e2, e3, e4⟩ := hargs c
      exact ⟨fun i hi => (congrFun (h c).1 i).trans (result_eq m m' c (planned_mem m hp) e0 e1 e2 e3 e4 i hi), (h c).2⟩)
      (Cert.Reference2Ideal.Value.run (F := Ideal) m' ρ')⟩

end Cert.Kernel2Ideal.Experts

end
-- ==== Proof.Plan.Setup.lean ====
/- The plan of the tiles: its table as one term of the counts, and what the runs of its kernel are stated over. -/
module

public import proofs.«01_k».proof.Proof.Gen.Kernel3Ideal.Frame
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.Kernel3Ideal.Plan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen
open Idealize.ShloMosaic.Pipeline (Dat Cfg Window BodyObligation cellOf)

variable {F : FTy → Type} [FloatOps F]

local notation "𝕄" => MT nD τ sig Unit (Elt F) ℕ (UR sig nD τ) ℕ

/-! ## The table -/

/-- The row and the lane of an element of a square. -/
abbrev rowI : IVec S128x128 32 := iota .tc S128x128 32 [0] iota_S128x128_d0_w32
abbrev laneI : IVec S128x128 32 := iota .tc S128x128 32 [1] iota_S128x128_d1_w32

abbrev zeroS : F .f32 := Scalar.ofBits .f32 0x00000000#32

/-- The owner of a tile, in column form. -/
def ownerV (x : Vec F S64x128 .f32) : FVec F S128x1 .f32 := k0_pay23 (k0_pay20 x) k0_pay21 (k0_pay22 x)
/-- The mask of a tile's owner. -/
def mineV (x : Vec F S64x128 .f32) : IVec S128x128 1 := k0_pay24 laneI (k0_pay20 x) k0_pay21 (k0_pay22 x)
/-- The rows of a tile in use. -/
def validV (x : Vec F S64x128 .f32) : FVec F S128x1 .f32 :=
  k0_pay26 (k0_pay13 x) laneI (k0_pay16 x) (k0_pay18 x) (k0_pay19 (F := F)) (k0_pay20 x) k0_pay21 (k0_pay22 x)
/-- The mask of the experts that have rows. -/
def busyV (x : Vec F S64x128 .f32) : IVec S1x128 1 := k0_pay27 (k0_pay14 x) laneI
/-- The expert that follows, expert by expert. -/
def nextV (x : Vec F S64x128 .f32) : FVec F S1x128 .f32 := k0_pay30 rowI laneI (k0_pay19 (F := F)) (busyV x) (zeroS (F := F)) (k0_pay28 (F := F))
/-- Whether a tile is its expert's first. -/
def firstV (x : Vec F S64x128 .f32) : FVec F S128x1 .f32 := k0_pay31 (k0_pay16 x) (k0_pay18 x) (mineV x) (k0_pay25 (k0_pay19 (F := F)))
/-- The rank of an expert, on every row. -/
def rankV (x : Vec F S64x128 .f32) : FVec F S128x128 .f32 := k0_pay32 rowI laneI (busyV x) (zeroS (F := F)) (k0_pay28 (F := F))
/-- The slot of a tile's weights. -/
def slotV (x : Vec F S64x128 .f32) : FVec F S128x1 .f32 := k0_pay33 (mineV x) (zeroS (F := F)) (rankV x)

/-- The table the kernel makes of the counts. -/
def table (x : Vec F S64x128 .f32) : IVec S8x128 32 :=
  k0_pay1 laneI (slotV x) (k0_pay34 (k0_pay18 x)) (k0_pay35 laneI (ownerV x) (validV x) (firstV x)) (k0_pay36 laneI (mineV x) (nextV x))

/-- A load of a whole buffer reads what it holds. -/
theorem load_whole {s : Shape} {e : EltTy} {M : Memref sig .tc .vmem s e} (hM : M.IsWhole) (x : s.Idx → Elt F e)
    {off : Fin s.rank → ℕ} (h : ∀ a, off a + s.size a ≤ s.size a) :
    M.view.readAt (Elt F) (Rect.unit off s.size h).toLoadRect (hM.unread x) = x :=
  (View.readAt_full _ _ h).trans (hM.read_unread x)

/-! ## The points -/

/-- The first point is the one that makes the table. -/
theorem cond1_iff (t : Fin cfg0.N) : k0_cond1 (grid0.coords t) = 1#1 ↔ t.val = 0 := by
  have ht : t.val < 4 := Nat.lt_of_lt_of_eq t.isLt N_0
  have e0 : (grid0.coords t 0).val = t.val / 1 % 4 := Pipeline.Grid.coords_val t 0 (by decide) rfl
  have h : k0_cond1 (grid0.coords t) = 1#1 ↔ t.val % 4 = 0 := by
    simp only [k0_cond1, e0]
    word_cmp
  rw [h]; omega

abbrev st0 (t : Fin cfg0.N) : Memref sig .tc .vmem S64x128 .f32 := win0_0.stage (cfg0.slots t 0)
abbrev st1 (t : Fin cfg0.N) : Memref sig .tc .vmem S4096x128 .f32 := win0_1.stage (cfg0.slots t 1)
abbrev st2 (t : Fin cfg0.N) : Memref sig .tc .vmem S64x128 .f32 := win0_2.stage (cfg0.slots t 2)
abbrev st3 (t : Fin cfg0.N) : Memref sig .tc .vmem S8x128 .i32 := win0_3.stage (cfg0.slots t 3)
abbrev st4 (t : Fin cfg0.N) : Memref sig .tc .vmem S32x8x128 .i32 := win0_4.stage (cfg0.slots t 4)
abbrev st5 (t : Fin cfg0.N) : Memref sig .tc .vmem S32x8x128 .i32 := win0_5.stage (cfg0.slots t 5)

end Cert.Kernel3Ideal.Plan

end
-- ==== Proof.Plan.RunA.lean ====
/- The first point: the table is left in its buffer, whatever was there. -/
module

public import proofs.«01_k».proof.Proof.Plan.Setup

@[expose] public section

set_option maxRecDepth 16384

noncomputable section

namespace Cert.Kernel3Ideal.Plan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point leaves the table of the counts. -/
theorem run_first (c : Dev nD) (i : grid0.Coords) (arg1 : Memref sig .tc .vmem S64x128 .f32) (harg1 : arg1.IsWhole) (arg2 : Memref sig .tc .vmem S4096x128 .f32) (harg2 : arg2.IsWhole) (arg3 : Memref sig .tc .vmem S64x128 .f32) (harg3 : arg3.IsWhole) (arg4 : Memref sig .tc .vmem S8x128 .i32) (harg4 : arg4.IsWhole) (arg5 : Memref sig .tc .vmem S32x8x128 .i32) (harg5 : arg5.IsWhole) (arg6 : Memref sig .tc .vmem S32x8x128 .i32) (harg6 : arg6.IsWhole) (hc0 : k0_cond1 i = 1#1) (x0 : Vec F S64x128 .f32) (x1 : Vec F S4096x128 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ d, owns (c : Thread nD τ) arg3 fullShare d) ∗ owns (c : Thread nD τ) arg4 fullShare (table x0)
              ∗ (∃ d, owns (c : Thread nD τ) arg5 fullShare d) ∗ (∃ d, owns (c : Thread nD τ) arg6 fullShare d)) -∗ K ⟨⟩))
          ⊢ wp frame (wpE (defs₀ (F := F)) Variants.none c none) E (cc0_tile_plan i arg1 harg1 arg2 harg2 arg3 harg3 arg4 harg4 arg5 harg5 arg6 harg6) K := by
    intro E K
    simp only [cc0_tile_plan_eq_skeleton]; unfold cc0_tile_plan_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _; isplitr; swap; · iexact H3
      ipureintro
      exact (View.read_writes_full _ _ _ _ _).trans (congrArg table (load_whole harg1 x0 _))
    isplitl [H4]
    · iexists _, _; isplitr; swap; · iexact H4
      ipureintro; rfl
    iexists _, _; isplitr; swap; · iexact H5
    ipureintro; rfl

end Cert.Kernel3Ideal.Plan

end
-- ==== Proof.Plan.RunB.lean ====
/- The other points: the table stays as it was. -/
module

public import proofs.«01_k».proof.Proof.Plan.RunA

@[expose] public section

set_option maxRecDepth 16384

noncomputable section

namespace Cert.Kernel3Ideal.Plan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later point leaves the table as it found it. -/
theorem run_later (c : Dev nD) (i : grid0.Coords) (arg1 : Memref sig .tc .vmem S64x128 .f32) (harg1 : arg1.IsWhole) (arg2 : Memref sig .tc .vmem S4096x128 .f32) (harg2 : arg2.IsWhole) (arg3 : Memref sig .tc .vmem S64x128 .f32) (harg3 : arg3.IsWhole) (arg4 : Memref sig .tc .vmem S8x128 .i32) (harg4 : arg4.IsWhole) (arg5 : Memref sig .tc .vmem S32x8x128 .i32) (harg5 : arg5.IsWhole) (arg6 : Memref sig .tc .vmem S32x8x128 .i32) (harg6 : arg6.IsWhole) (hc0 : ¬ k0_cond1 i = 1#1) (x0 : Vec F S64x128 .f32) (x1 : Vec F S4096x128 .f32) (y : Vec F S8x128 .i32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare y
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ d, owns (c : Thread nD τ) arg3 fullShare d) ∗ owns (c : Thread nD τ) arg4 fullShare y
              ∗ (∃ d, owns (c : Thread nD τ) arg5 fullShare d) ∗ (∃ d, owns (c : Thread nD τ) arg6 fullShare d)) -∗ K ⟨⟩))
          ⊢ wp frame (wpE (defs₀ (F := F)) Variants.none c none) E (cc0_tile_plan i arg1 harg1 arg2 harg2 arg3 harg3 arg4 harg4 arg5 harg5 arg6 harg6) K := by
    intro E K
    simp only [cc0_tile_plan_eq_skeleton]; unfold cc0_tile_plan_skel
    unfold owns
    iintro ⟨⟨%f0, %hf0, H0⟩, ⟨%f1, %hf1, H1⟩, ⟨%d2, %f2, -, H2⟩, ⟨%f3, %hf3, H3⟩, ⟨%d4, %f4, -, H4⟩, ⟨%d5, %f5, -, H5⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _; isplitr; swap; · iexact H3
      ipureintro
      exact hf3
    isplitl [H4]
    · iexists _, _; isplitr; swap; · iexact H4
      ipureintro; rfl
    iexists _, _; isplitr; swap; · iexact H5
    ipureintro; rfl

end Cert.Kernel3Ideal.Plan

end
-- ==== Proof.Plan.Run.lean ====
/- The run of the plan's kernel with its table named and its other outputs left unnamed: the pipeline's proof data, the
   body obligation at every point, the launch, and what the arrays end at. Over any number system. -/
module

public import proofs.«01_k».proof.Proof.Plan.RunB
public import Idealize.ShloMosaic.Lib.Pipeline.TableIdle
public import Idealize.ShloMosaic.Lib.Claim
public import Idealize.ShloMosaic.Lib.Pipeline.ValueKit.Geometry
public import Idealize.ShloMosaic.Lib.Pipeline.Covers

@[expose] public section

set_option maxRecDepth 16384

noncomputable section

namespace Cert.Kernel3Ideal.Plan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## The pipeline's proof data -/

/-- The outputs nothing is said of: the bases and the two arrays of positions. -/
def left0 : Fin 6 → Bool := fun w => w.val == 2 || w.val == 4 || w.val == 5

/-- The counts as the pipeline finds them. -/
def counts (c : Dev nD) : Vec F S64x128 .f32 := V m c main_v0

/-- The table's buffer holds the table of the counts after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, _⟩ => table (counts m c)
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_cnt (c : Dev nD) (t : Fin cfg0.N) : (dats m 0 c).after 0 t = iblk m c 0 t := by dsimp only [dats]
theorem after_route (c : Dev nD) (t : Fin cfg0.N) : (dats m 0 c).after 1 t = iblk m c 1 t := by dsimp only [dats]
theorem after_table (c : Dev nD) (t : Fin cfg0.N) : (dats m 0 c).after 3 t = table (counts m c) := by dsimp only [dats]
theorem before_cnt (c : Dev nD) (t : Fin cfg0.N) (d) : (dats m 0 c).before 0 t d = iblk m c 0 t :=
  before0_0_of m (dats m 0 c) (A_eq m c 0) (after_cnt m c) t d
theorem before_route (c : Dev nD) (t : Fin cfg0.N) (d) : (dats m 0 c).before 1 t d = iblk m c 1 t :=
  before0_1_of m (dats m 0 c) (A_eq m c 1) (after_route m c) t d

/-- The window of the counts is the whole of them. -/
theorem iblk_cnt (c : Dev nD) (t : Fin cfg0.N) : (iblk m c 0 t : Vec F S64x128 .f32) = counts m c := by
  funext y
  refine congrArg (V m c main_v0) (funext fun a => Fin.ext ?_)
  match a with
  | ⟨0, _⟩ => show 0 * 64 + 1 * (y 0).val = (y 0).val; omega
  | ⟨1, _⟩ => show 0 * 128 + 1 * (y 1).val = (y 1).val; omega

theorem point_lt (t : Fin cfg0.N) : t.val < 4 := Nat.lt_of_lt_of_eq t.isLt N_0

/-- The table's window is written back after the last point only. -/
theorem flush_table (t : Fin cfg0.N) : (cfg0.win 3).flush t = decide (t.val + 1 = 4) := by
  obtain rfl | rfl | rfl | rfl := fin_N0 t <;> rfl

/-- It is idle at every point but the first. -/
theorem idle_table (t : Fin cfg0.N) : cfg0.idle 3 (cfg0.grid.coords t) = !decide (t.val = 0) := by
  have h : cfg0.idle 3 (cfg0.grid.coords t) = !(k0_cond1 (grid0.coords t) == 1#1) := rfl
  rw [h]
  congr 1
  rw [Bool.eq_iff_iff, beq_iff_eq, decide_eq_true_iff]
  exact cond1_iff t

/-- What the table's buffer holds at a later point: the table. -/
theorem before_table (c : Dev nD) : ∀ (n : ℕ) (t : Fin cfg0.N), t.val = n + 1 → ∀ d, (dats m 0 c).before 3 t d = table (counts m c) := by
  intro n
  induction n with
  | zero =>
    intro t ht d
    rw [(dats m 0 c).before_of_pos 3 t (by omega) (Window.fetch_out _ rfl t) d, flush_table]
    rw [decide_eq_false (by show ¬ t.val - 1 + 1 = 4; omega), if_neg Bool.false_ne_true]
    unfold Dat.left
    rw [idle_table, decide_eq_true (by show t.val - 1 = 0; omega)]
    show (dats m 0 c).kept 3 _ d = _
    unfold Dat.kept
    rw [Pipeline.fill_of_clip_none (cfg := cfg0) 3 _ (fun _ => rfl) d ((dats m 0 c).after 3 _), Window.fill_cut, after_table]
  | succ n ih =>
    intro t ht d
    have hlt := point_lt t
    rw [(dats m 0 c).before_of_pos 3 t (by omega) (Window.fetch_out _ rfl t) d, flush_table]
    rw [decide_eq_false (by show ¬ t.val - 1 + 1 = 4; omega), if_neg Bool.false_ne_true]
    unfold Dat.left
    rw [idle_table, decide_eq_false (by show ¬ t.val - 1 = 0; omega)]
    exact ih ⟨t.val - 1, _⟩ (by show t.val - 1 = n + 1; omega) d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare d)
    ∗ (∃ d, owns (c : Thread nD τ) (st3 t) fullShare ((dats m 0 c).before 3 t d))
    ∗ (∃ d, owns (c : Thread nD τ) (st4 t) fullShare d)
    ∗ (∃ d, owns (c : Thread nD τ) (st5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (st2 t) fullShare d)
    ∗ (dats m 0 c).leavesExact 3 t
    ∗ (∃ d, owns (c : Thread nD τ) (st4 t) fullShare d)
    ∗ (∃ d, owns (c : Thread nD τ) (st5 t) fullShare d))

theorem leaves_cnt (c : Dev nD) (t : Fin cfg0.N) :
    ((dats m 0 c).leavesExact 0 t : sProp 𝕄) = owns (c : Thread nD τ) (st0 t) fullShare (iblk m c 0 t : Vec F S64x128 .f32) := by
  unfold Dat.leavesExact
  rw [show cfg0.idle 0 (cfg0.grid.coords t) = false from rfl, after_cnt]
theorem leaves_route (c : Dev nD) (t : Fin cfg0.N) :
    ((dats m 0 c).leavesExact 1 t : sProp 𝕄) = owns (c : Thread nD τ) (st1 t) fullShare (iblk m c 1 t : Vec F S4096x128 .f32) := by
  unfold Dat.leavesExact
  rw [show cfg0.idle 1 (cfg0.grid.coords t) = false from rfl, after_route]
/-- The table in its buffer is what a point leaves there. -/
theorem leaves_table (c : Dev nD) (t : Fin cfg0.N) :
    owns (c : Thread nD τ) (st3 t) fullShare (table (counts m c)) ⊢ ((dats m 0 c).leavesExact 3 t : sProp 𝕄) := by
  unfold Dat.leavesExact
  rw [idle_table]
  by_cases h0 : t.val = 0
  · rw [decide_eq_true h0]
    show _ ⊢ (owns (c : Thread nD τ) (st3 t) fullShare ((dats m 0 c).after 3 t) : sProp 𝕄)
    rw [after_table]
  · rw [decide_eq_false h0]
    cases hf : (cfg0.win 3).flush t
    · show _ ⊢ (iprop(∃ d, owns (c : Thread nD τ) (st3 t) fullShare ((dats m 0 c).before 3 t d)) : sProp 𝕄)
      iintro H
      iexists (table (counts m c))
      rw [before_table m c (t.val - 1) t (by omega)]
      iexact H
    · show _ ⊢ (owns (c : Thread nD τ) (st3 t) fullShare ((dats m 0 c).after 3 t) : sProp 𝕄)
      rw [after_table]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_cnt, before_route]
  rw [show (dats m 0 c).Φ t.succ = (dats m 0 c).Φ t.castSucc from rfl,
    show (dats m 0 c).owesAt () t.succ = (dats m 0 c).owesAt () t.castSucc from rfl, leaves_cnt, leaves_route]
  by_cases h0 : t.val = 0
  · iintro ⟨HΦ, Ho, ⟨%d0, H0⟩, ⟨%d1, H1⟩, ⟨%d2, H2⟩, ⟨%d3, H3⟩, ⟨%d4, H4⟩, ⟨%d5, H5⟩⟩
    iapply ((run_first c (grid0.coords t) _ _ _ _ _ _ _ _ _ _ _ _ ((cond1_iff t).mpr h0) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]
    · iapply (leaves_table m c t)
      rw [iblk_cnt]
      iexact H3
    isplitl [H4]; · iexact H4
    iexact H5
  · simp only [before_table m c (t.val - 1) t (by omega)]
    iintro ⟨HΦ, Ho, ⟨%d0, H0⟩, ⟨%d1, H1⟩, ⟨%d2, H2⟩, ⟨%d3, H3⟩, ⟨%d4, H4⟩, ⟨%d5, H5⟩⟩
    iapply ((run_later c (grid0.coords t) _ _ _ _ _ _ _ _ _ _ _ _ (fun h => h0 ((cond1_iff t).mp h)) (iblk m c 0 t) (iblk m c 1 t) (table (counts m c))) Set.univ _)
    isplitl [H0]; · iexact H0
    isplitl [H1]; · iexact H1
    isplitl [H2]; · iexists _; iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iapply (leaves_table m c t); iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ left0 := fun t => by
  rw [bigSep_W0, bigSep_W0, defs₀_row]
  exact triple_restated (sound_body m c t) rfl .rfl fun _ => .rfl

/-! ## The launch -/

set_option backward.isDefEq.respectTransparency.types false in
theorem run_main : θ_run defs (onTc (τ := τ) (main (F := F))) (s₀ m ρ) (fun r => (Pipeline.RDat.FramePost (cfgs 0) (fun c => (dats m 0 c).toRForget left0) (V m)) r ∧ r.2.sem = fun _ => 0) :=
  Pipeline.θ_run_frame_forget (Q' := _) cfgs (dats m) (0 : Fin 1) launch0 defs₀ Variants.none left0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, read at the table and the arguments. -/
theorem run : θ_run defs (onTc (τ := τ) (main (F := F))) ⟨m, fun _ => 0, ρ⟩ (fun r => (∀ c : Dev nD,
      r.2.mem ((c.tc : Thread nD τ).loc main_v1_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((dats m 0 c).toRForget_arrAt_iff (fgt := left0) (w := 3) rfl _ _).mp ((h.1 c).1 3),
      ((h.1 c).2 main_arg0 (Pipeline.mem_restRefs_of main_arg0 (by decide) (by decide))).trans (V_main_arg0 m c),
      (Pipeline.RDat.FramePost.arr_in h.1 c 1 rfl).trans ((A_eq m c 1).trans (V_main_arg1 m c))⟩, h.2⟩) (run_main m ρ)

/-- The arguments come back as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run m ρ)

/-! ## The table after the run -/

/-- The table's window is the whole of its array, so the array ends at the table. -/
theorem arr_table (c : Dev nD) : ((dats m 0 c).arrAt 3 cfg0.N : IVec S8x128 32) = table (counts m c) := by
  funext i
  have hN : cfg0.N = 4 := N_0
  have key := (dats m 0 c).arrAt_forall_of_flushed 3 (fun (i : S8x128.Idx) (v : BitVec 32) => v = table (counts m c) i)
    (fun t _ y => ?_) cfg0.N t0_3 i t0_3.isLt (flush_table t0_3) ?_
  · exact key
  · change S8x128.Idx at y
    show table (counts m c) y = table (counts m c) _
    refine congrArg (table (counts m c)) (funext fun a => Fin.ext ?_)
    match a with
    | ⟨0, _⟩ => show (y 0).val = 0 * 8 + 1 * (y 0).val; omega
    | ⟨1, _⟩ => show (y 1).val = 0 * 128 + 1 * (y 1).val; omega
  · have hin := View.emb_mem_set ((cfg0.win 3).blk t0_3).view (i : S8x128.Idx)
    refine Eq.mp (congrArg (· ∈ ((cfg0.win 3).blk t0_3).view.set) (funext fun a => Fin.ext ?_)) hin
    match a with
    | ⟨0, _⟩ => show 0 * 8 + 1 * (i 0).val = (i 0).val; omega
    | ⟨1, _⟩ => show 0 * 128 + 1 * (i 1).val = (i 1).val; omega

end Cert.Kernel3Ideal.Plan

end
-- ==== Proof.Plan.Twin.lean ====
/- The plan's program and the program read at the ideal instance have the same text, so a run of the one is a run of the
   other; the frames of both. -/
module

public import proofs.«01_k».proof.Defs
public import proofs.«01_k».proof.Proof.Gen.Kernel3
public import proofs.«01_k».proof.Proof.Plan.Run

@[expose] public section

set_option maxRecDepth 16384

namespace Cert.Kernel3Ideal.Plan

open Idealize.ShloMosaic Idealize.ShloMosaic.TcCoe Idealize.SL.Sem

variable {F : FTy → Type} [FloatOps F]

/-- The kernel's bodies agree, label by label. -/
theorem bodies : Cert.Kernel3.defs₀ (F := F) = Cert.Kernel3Ideal.defs₀ (F := F) :=
  congrArg (Defs.onTc (nD := Cert.Kernel3Ideal.nD) (τ := Cert.Kernel3Ideal.τ) (sig := Cert.Kernel3Ideal.sig))
    (funext fun l => funext fun x =>
      match l, x with
      | 0, (_, _) => rfl)

/-- So do the tables with the pipeline's own bodies. -/
theorem defs_eq : Cert.Kernel3.defs (F := F) = Cert.Kernel3Ideal.defs (F := F) :=
  congrArg (Pipeline.defs (Cert.Kernel3Ideal.pcfgs (F := F))) bodies

theorem frame_ideal : Cert.quiescent_Kernel3Ideal := fun m ρ _ => frame (F := Ideal) m ρ

theorem frame_kernel : Cert.quiescent_Kernel3 := fun m ρ _ => by
  have h := frame (F := Bits) m ρ
  rw [← defs_eq] at h
  exact h

end Cert.Kernel3Ideal.Plan
-- ==== Proof.Plan.Rows.lean ====
/- The plan of the tiles, number by number, as extended reals: from the experts' totals, who owns a tile, how many of its
   rows are in use, whether it is its owner's first, which expert with rows follows, and the slot its weights go to.
   The kernel's table holds these numbers. -/
module

public import proofs.«01_k».proof.Proof.Plan.Setup
public import Idealize.ShloMosaic.Lib.Pointwise
public import Idealize.ShloMosaic.Lib.Tactic.CleanTypes

@[expose] public section

set_option maxRecDepth 16384

noncomputable section

namespace Cert.Tiles

open Idealize.ShloMosaic

/-- A constant of the programs. -/
abbrev const (w : BitVec 32) : EReal := Ideal.ofBits .f32 w
/-- A position of a row as a number. -/
abbrev num (k : Fin 128) : EReal := FloatOps.sitofp (F := Ideal) .f32 (BitVec.ofNat 32 k.val)
/-- Whether a position is an expert's. -/
abbrev isExpert (k : Fin 128) : BitVec 1 := IntOp.cmpi .slt (BitVec.ofNat 32 k.val) 32#32

variable (T : Fin 128 → EReal)

/-- The tiles an expert needs. -/
def tiles (k : Fin 128) : EReal := Ideal.liftRound Int.ceil (Ideal.div (T k) (const 0x44000000#32))
/-- Where an expert's tiles end. -/
def stop (k : Fin 128) : EReal := ∑ j : Fin 128, Scalar.select (IntOp.cmpi .sle (BitVec.ofNat 32 j.val) (BitVec.ofNat 32 k.val)) (tiles T j) 0
/-- Where an expert's tiles start. -/
def start (k : Fin 128) : EReal := stop T k - tiles T k
/-- The tiles in use. -/
def used : EReal := (Finset.univ : Finset (Fin 128)).fold max (const 0xFF800000#32) (stop T)
/-- The owner of a tile. -/
def owner (t : Fin 128) : EReal :=
  min (∑ k : Fin 128, Scalar.select (IntOp.andi (isExpert k) (BitVec.ofBool (decide (stop T k ≤ min (num t) (max (used T - 1) 0))))) 1 0) (const 0x41F80000#32)
/-- An expert's number at the owner of a tile. -/
def pick (v : Fin 128 → EReal) (t : Fin 128) : EReal := ∑ k : Fin 128, if num k = owner T t then v k else 0
/-- The rows of a tile in use. -/
def valid (t : Fin 128) : EReal :=
  if num t < used T then min (const 0x44000000#32) (max 0 (pick T T t - (num t - pick T (start T) t) * const 0x44000000#32)) else 0
/-- Whether a tile is its owner's first. -/
def first (t : Fin 128) : EReal :=
  Scalar.select (IntOp.andi (BitVec.ofBool (decide (num t < used T))) (BitVec.ofBool (decide (num t = pick T (start T) t)))) 1 0
/-- Whether an expert has rows. -/
def busy (k : Fin 128) : BitVec 1 := IntOp.andi (isExpert k) (BitVec.ofBool (decide (0 < tiles T k)))
/-- The least expert with rows past one. -/
def above (k : Fin 128) : EReal :=
  (Finset.univ : Finset (Fin 128)).fold min (const 0x7F800000#32) fun j =>
    Scalar.select (IntOp.andi (busy T j) (IntOp.cmpi .sgt (BitVec.ofNat 32 j.val) (BitVec.ofNat 32 k.val))) (num j) (const 0x43000000#32)
/-- The expert with rows that follows, minus one where none does. -/
def follower (k : Fin 128) : EReal := if above T k < const 0x43000000#32 then above T k else const 0xBF800000#32
/-- How many experts with rows come before one. -/
def rank (k : Fin 128) : EReal :=
  ∑ j : Fin 128, Scalar.select (IntOp.andi (busy T j) (IntOp.cmpi .slt (BitVec.ofNat 32 j.val) (BitVec.ofNat 32 k.val))) 1 0
/-- The slot of a tile's weights: the owner's rank, even or odd. -/
def slot (t : Fin 128) : EReal :=
  pick T (rank T) t - const 0x40000000#32 * Ideal.liftRound Int.floor (Ideal.div (pick T (rank T) t) (const 0x40000000#32))
/-- A row of the table. -/
def entry (r : Fin 8) (t : Fin 128) : EReal :=
  match r with
  | 0 => owner T t
  | 1 => valid T t
  | 2 => first T t
  | 3 => pick T (follower T) t
  | 4 => slot T t
  | 5 => used T
  | 6 => 0
  | 7 => 0

/-! ## Steps of arithmetic -/

theorem tile_len : const 0x44000000#32 = ((512 : ℝ) : EReal) := by
  simp [const, Ideal.ofBits, Ideal.ieee, -EReal.coe_mul]; norm_num
theorem tile_inv : const 0x3B000000#32 = (((512 : ℝ)⁻¹ : ℝ) : EReal) := by
  simp [const, Ideal.ofBits, Ideal.ieee, -EReal.coe_mul]; norm_num
theorem two : const 0x40000000#32 = ((2 : ℝ) : EReal) := by
  simp [const, Ideal.ofBits, Ideal.ieee, -EReal.coe_mul]; norm_num
theorem half : const 0x3F000000#32 = (((2 : ℝ)⁻¹ : ℝ) : EReal) := by
  simp [const, Ideal.ofBits, Ideal.ieee, -EReal.coe_mul]; norm_num

/-- A product with an inverse is a quotient. -/
theorem mul_inv_eq (x : EReal) (r : ℝ) (hr : r ≠ 0) : x * ((r⁻¹ : ℝ) : EReal) = Ideal.div x (r : EReal) := by
  unfold Ideal.div
  rw [if_neg (by exact_mod_cast hr), EReal.coe_inv]
theorem over_tile (x : EReal) : x * const 0x3B000000#32 = Ideal.div x (const 0x44000000#32) := by
  rw [tile_len, tile_inv]; exact mul_inv_eq x 512 (by norm_num)
theorem over_two (x : EReal) : x * const 0x3F000000#32 = Ideal.div x (const 0x40000000#32) := by
  rw [two, half]; exact mul_inv_eq x 2 (by norm_num)

theorem bit_cases (b : BitVec 1) : b = 0#1 ∨ b = 1#1 := by
  revert b; decide

theorem and_comm (a b : BitVec 1) : IntOp.andi a b = IntOp.andi b a := by
  revert a b; decide

theorem select_and (a b : BitVec 1) : Scalar.select a (Scalar.select b (1 : EReal) 0) 0 = Scalar.select (IntOp.andi b a) 1 0 := by
  rcases bit_cases a with rfl | rfl <;> rcases bit_cases b with rfl | rfl <;> simp [Scalar.select, IntOp.andi]

theorem same : ∀ j k : Fin 128, IntOp.cmpi .eq (BitVec.ofNat 32 j.val) (BitVec.ofNat 32 k.val) = if j = k then 1#1 else 0#1 := by
  decide +kernel

theorem toInt_place : ∀ k : Fin 128, (BitVec.ofNat 32 k.val).toInt = (k.val : ℤ) := by
  decide +kernel

theorem num_eq (k : Fin 128) : num k = ((k.val : ℝ) : EReal) := by
  show (((BitVec.ofNat 32 k.val).toInt : ℝ) : EReal) = _
  rw [toInt_place, Int.cast_natCast]

/-- A sum of bits is a number that counts. -/
theorem sum_bits (s : Finset (Fin 128)) (b : Fin 128 → BitVec 1) : ∃ n : ℕ, (∑ k ∈ s, Scalar.select (b k) (1 : EReal) 0) = ((n : ℝ) : EReal) := by
  induction s using Finset.induction_on with
  | empty => exact ⟨0, by simp⟩
  | insert a s ha ih =>
    obtain ⟨n, hn⟩ := ih
    rw [Finset.sum_insert ha, hn]
    rcases bit_cases (b a) with h | h
    · exact ⟨n, by simp [h, Scalar.select]⟩
    · exact ⟨n + 1, by simp [h, Scalar.select, add_comm]⟩

/-- An owner is an expert. -/
theorem owner_mem (t : Fin 128) : ∃ n : Fin 128, owner T t = ((n.val : ℝ) : EReal) := by
  unfold owner
  obtain ⟨n, hn⟩ := sum_bits Finset.univ fun k => IntOp.andi (isExpert k) (BitVec.ofBool (decide (stop T k ≤ min (num t) (max (used T - 1) 0))))
  have h31 : const 0x41F80000#32 = ((31 : ℝ) : EReal) := by
    simp [const, Ideal.ofBits, Ideal.ieee, -EReal.coe_mul]; norm_num
  rw [hn, h31]
  refine ⟨⟨min n 31, by omega⟩, ?_⟩
  push_cast
  rfl

/-- The number of a tile's owner is the number at its place. -/
theorem pick_eq_at (v : Fin 128 → EReal) (t n : Fin 128) (h : owner T t = ((n.val : ℝ) : EReal)) : pick T v t = v n := by
  unfold pick
  have e (k : Fin 128) : (num k = owner T t) ↔ k = n := by
    rw [h, num_eq]
    constructor
    · intro hk; exact Fin.ext (by exact_mod_cast hk)
    · rintro rfl; rfl
  simp [e]

/-- The word of a place's number is the place. -/
theorem word_eq (n : Fin 128) : FloatOps.fptosi (F := Ideal) (φ := .f32) 32 ((n.val : ℝ) : EReal) = BitVec.ofNat 32 n.val := by
  show BitVec.ofInt 32 (max (-2147483648) (min 2147483647 (if (0 : ℝ) ≤ (n.val : ℝ) then ⌊(n.val : ℝ)⌋ else ⌈(n.val : ℝ)⌉))) = _
  rw [if_pos (Nat.cast_nonneg _), Int.floor_natCast, min_eq_right (by omega), max_eq_right (by omega), BitVec.ofInt_natCast]

/-- A bit is set where its own place of a row of zeros is positive. -/
theorem own_bit (b : Fin 128 → BitVec 1) (j : Fin 128) :
    BitVec.ofBool (decide ((0 : EReal) < ∑ k : Fin 128, Scalar.select (IntOp.cmpi .eq (BitVec.ofNat 32 j.val) (BitVec.ofNat 32 k.val)) (Scalar.select (b k) 1 0) 0))
      = b j := by
  have e : (∑ k : Fin 128, Scalar.select (IntOp.cmpi .eq (BitVec.ofNat 32 j.val) (BitVec.ofNat 32 k.val)) (Scalar.select (b k) (1 : EReal) 0) 0)
      = Scalar.select (b j) 1 0 := by
    rw [Finset.sum_eq_single j]
    · rw [same, if_pos rfl]; rfl
    · intro k _ hk
      rw [same, if_neg (Ne.symm hk)]; rfl
    · intro h; exact absurd (Finset.mem_univ _) h
  rw [e]
  rcases bit_cases (b j) with h | h <;> rw [h] <;> simp [Scalar.select]

end Cert.Tiles

namespace Cert.Kernel3Ideal.Plan

open Idealize.ShloMosaic Idealize.ShloMosaic.TcCoe Idealize.ShloMosaic.Pipeline Cert.Kernel3Ideal.Gen

variable (x : Vec Ideal S64x128 .f32)

/-- The experts' totals. -/
def totals (l : Fin 128) : EReal := ∑ p : Fin 64, x (ix2 p l)

theorem pay13_apply (l : Fin 128) : k0_pay13 x (ix2 0 l) = totals x l := by
  unfold totals
  pointwise [k0_pay13, k0_pay12]

theorem pay14_apply (l : Fin 128) : k0_pay14 x (ix2 0 l) = Tiles.tiles (totals x) l := by
  unfold Tiles.tiles
  rw [← Tiles.over_tile, ← pay13_apply]
  pointwise [k0_pay14]

theorem pay15_apply (l : Fin 128) : k0_pay15 x (ix2 0 l) = Tiles.stop (totals x) l := by
  unfold Tiles.stop
  simp only [← pay14_apply]
  pointwise [k0_pay15]

theorem pay16_apply (l : Fin 128) : k0_pay16 x (ix2 0 l) = Tiles.start (totals x) l := by
  unfold Tiles.start
  rw [← pay14_apply, ← pay15_apply]
  pointwise [k0_pay16]

theorem pay18_apply : k0_pay18 x (ix2 0 0) = Tiles.used (totals x) := by
  unfold Tiles.used
  simp only [← funext (pay15_apply x)]
  pointwise [k0_pay18]

theorem pay19_apply (t l : Fin 128) : k0_pay19 (F := Ideal) (ix2 t l) = Tiles.num t := by
  pointwise [k0_pay19]

theorem ownerV_apply (t : Fin 128) : ownerV x (ix2 t 0) = Tiles.owner (totals x) t := by
  unfold Tiles.owner
  simp only [← pay15_apply, ← pay18_apply]
  pointwise [ownerV, k0_pay23, k0_pay22, k0_pay21, k0_pay20, k0_pay19]

theorem mineV_apply (t l : Fin 128) : mineV x (ix2 t l) = BitVec.ofBool (decide (Tiles.num l = Tiles.owner (totals x) t)) := by
  rw [← ownerV_apply]
  pointwise [mineV, k0_pay24, ownerV]

/-- A row's numbers under the mask of the tile's owner. -/
theorem pick_eq (v : Fin 128 → EReal) (t : Fin 128) : (∑ l : Fin 128, Scalar.select (mineV x (ix2 t l)) (v l) 0) = Tiles.pick (totals x) v t := by
  unfold Tiles.pick
  simp only [mineV_apply]
  pointwise []

theorem validV_apply (t : Fin 128) : validV x (ix2 t 0) = Tiles.valid (totals x) t := by
  unfold Tiles.valid
  have e : ∀ l, k0_pay24 laneI (k0_pay20 x) k0_pay21 (k0_pay22 x) (ix2 t l) = mineV x (ix2 t l) := fun _ => rfl
  pointwise [validV, k0_pay26, k0_pay25]
  simp only [e, pay13_apply, pay16_apply, pay18_apply, pay19_apply, pick_eq]

theorem busyV_apply (l : Fin 128) : busyV x (ix2 0 l) = Tiles.busy (totals x) l := by
  unfold Tiles.busy
  rw [← pay14_apply]
  pointwise [busyV, k0_pay27]

theorem nextV_apply (l : Fin 128) : nextV x (ix2 0 l) = Tiles.follower (totals x) l := by
  unfold Tiles.follower Tiles.above
  pointwise [nextV, k0_pay30, k0_pay29, k0_pay28]
  simp only [busyV_apply, Tiles.own_bit, pay19_apply]
  simp only [Tiles.and_comm (Tiles.busy _ _)]

theorem firstV_apply (t : Fin 128) : firstV x (ix2 t 0) = Tiles.first (totals x) t := by
  unfold Tiles.first
  pointwise [firstV, k0_pay31, k0_pay25]
  simp only [pay16_apply, pay18_apply, pay19_apply, pick_eq]
  rw [Tiles.and_comm]

theorem rankV_apply (t l : Fin 128) : rankV x (ix2 t l) = Tiles.rank (totals x) l := by
  unfold Tiles.rank
  pointwise [rankV, k0_pay32, k0_pay29, k0_pay28]
  simp only [busyV_apply, Tiles.select_and]

theorem slotV_apply (t : Fin 128) : slotV x (ix2 t 0) = Tiles.slot (totals x) t := by
  unfold Tiles.slot
  rw [← Tiles.over_two]
  pointwise [slotV, k0_pay33]
  simp only [rankV_apply, pick_eq]

/-- The kernel's table. -/
theorem table_apply (r : Fin 8) (t : Fin 128) : table x (ix2 r t) = FloatOps.fptosi (F := Ideal) (φ := .f32) 32 (Tiles.entry (totals x) r t) := by
  pointwise [table, k0_pay1, k0_pay34, k0_pay35, k0_pay36]
  refine congrArg (FloatOps.fptosi (F := Ideal) (φ := .f32) 32) ?_
  simp only [ownerV_apply, validV_apply, firstV_apply, nextV_apply, slotV_apply, pay18_apply, pick_eq]
  fin_cases r <;> simp [Tiles.entry, Scalar.select, IntOp.cmpi]

end Cert.Kernel3Ideal.Plan

end
-- ==== Proof.Plan.RefRows.lean ====
/- The reference of the tiles' plan, number by number: its table holds the same numbers of its own totals. -/
module

public import proofs.«01_k».proof.Proof.Plan.Rows
public import proofs.«01_k».proof.Proof.Gen.Reference3Ideal.Run
public import Idealize.ShloMosaic.Lib.Pointwise
public import Idealize.ShloMosaic.Lib.Routing.OpsSet
public import Idealize.ShloMosaic.Lib.Tactic.CleanTypes

@[expose] public section

set_option maxRecDepth 16384

noncomputable section

namespace Cert.Reference3Ideal.Plan

open Cert.Reference3Ideal Cert.Reference3Ideal.Gen Cert.Reference3Ideal.Value Idealize.ShloMosaic Idealize.ShloMosaic.TcCoe

variable (V : Valuation τ sig (Elt Ideal))

/-- The experts' totals. -/
def totals (l : Fin 128) : EReal := ∑ p : Fin 64, (show FVec Ideal S64x1x128 .f32 from V (Proc.devRef .tc main_arg0)) (ix3 p 0 l)

abbrev total : FVec Ideal S128 .f32 := res_main_v1 V
abbrev tilesV : FVec Ideal S128 .f32 := res_main_v4 V
abbrev stopV : FVec Ideal S128 .f32 := res_main_v12 V
abbrev startV : FVec Ideal S128 .f32 := res_main_v13 V
abbrev usedV : FVec Ideal S_ .f32 := res_main_v14 V
abbrev tileV : FVec Ideal S128 .f32 := res_main_v16 V
abbrev ownerV : FVec Ideal S128 .f32 := res_main_v35 V
abbrev busyV : IVec S128 1 := res_main_v73 V
abbrev aboveV : FVec Ideal S128 .f32 := res_main_v84 V
abbrev turnV : FVec Ideal S128 .f32 := res_main_v105 V

theorem total_apply (l : Fin 128) : total V (ix1 l) = totals V l := by
  unfold totals
  pointwise [res_main_v1]

theorem tilesV_apply (l : Fin 128) : tilesV V (ix1 l) = Tiles.tiles (totals V) l := by
  unfold Tiles.tiles
  rw [← total_apply]
  pointwise [res_main_v4]

theorem stopV_apply (l : Fin 128) : stopV V (ix1 l) = Tiles.stop (totals V) l := by
  unfold Tiles.stop
  simp only [← tilesV_apply]
  pointwise [res_main_v12, res_main_v5, id]

theorem startV_apply (l : Fin 128) : startV V (ix1 l) = Tiles.start (totals V) l := by
  unfold Tiles.start
  rw [← tilesV_apply, ← stopV_apply]
  pointwise [res_main_v13]

theorem usedV_apply : usedV V ix0 = Tiles.used (totals V) := by
  unfold Tiles.used
  simp only [← funext (stopV_apply V)]
  pointwise [res_main_v14]
  exact Shape.ReducesTo.fold_fiber_r1_a0 _ _ max _ (stopV V)

theorem tileV_apply (l : Fin 128) : tileV V (ix1 l) = Tiles.num l := by
  pointwise [res_main_v16]

theorem ownerV_apply (t : Fin 128) : ownerV V (ix1 t) = Tiles.owner (totals V) t := by
  unfold Tiles.owner
  simp only [← stopV_apply, ← usedV_apply, ← tileV_apply V]
  pointwise [res_main_v35, res_main_v18, res_main_v5, id]

theorem busyV_apply (l : Fin 128) : busyV V (ix1 l) = Tiles.busy (totals V) l := by
  unfold Tiles.busy
  rw [← tilesV_apply]
  pointwise [res_main_v73, res_main_v18, res_main_v5]

theorem aboveV_apply (l : Fin 128) : aboveV V (ix1 l) = Tiles.above (totals V) l := by
  unfold Tiles.above
  simp only [← busyV_apply]
  pointwise [res_main_v84, res_main_v5, id]

/-- The column of the tiles' owners, as positions. -/
abbrev ownersV : IVec S128x1 32 :=
  broadcastInDim S128x1 ![0] bcast_S128_S128x1_0 (select (cmpi .slt (fptosi 32 (ownerV V)) (broadcastInDim S128 ![] bcast_S_S128 (constantI S_ 32 0#32)))
    (addi (fptosi 32 (ownerV V)) (broadcastInDim S128 ![] bcast_S_S128 (constantI S_ 32 128#32))) (fptosi 32 (ownerV V)))

theorem place_nonneg : ∀ k : Fin 128, IntOp.cmpi .slt (BitVec.ofNat 32 k.val) 0#32 = 0#1 := by
  decide +kernel

theorem ownersV_apply (t n : Fin 128) (h : Tiles.owner (totals V) t = ((n.val : ℝ) : EReal)) : ownersV V (ix2 t 0) = BitVec.ofNat 32 n.val := by
  pointwise [ownersV]
  rw [ownerV_apply, h, Tiles.word_eq, place_nonneg]
  rfl

/-- An array read at the owners. -/
theorem at_owners (x : FVec Ideal S128 .f32) (t : Fin 128) :
    Host.gather gather_S128_S128x1_S128_n_0_n_n_0_1_1 x (ownersV V) (ix1 t) = Tiles.pick (totals V) (fun k => x (ix1 k)) t := by
  obtain ⟨n, hn⟩ := Tiles.owner_mem (totals V) t
  rw [Tiles.pick_eq_at _ _ t n hn]
  exact Routing.gather_take1 _ rfl rfl rfl rfl x _ t n (ownersV_apply V t n hn) (by norm_num)

theorem turnV_apply (t : Fin 128) : turnV V (ix1 t) = Tiles.pick (totals V) (Tiles.rank (totals V)) t := by
  unfold turnV res_main_v105
  refine (at_owners V _ t).trans (congrArg (fun v => Tiles.pick (totals V) v t) (funext fun l => ?_))
  unfold Tiles.rank
  simp only [← busyV_apply]
  pointwise [res_main_v5, id]

/-! ## The rows of the table -/

abbrev row (x : FVec Ideal S128 .f32) : FVec Ideal S1x128 .f32 := broadcastInDim S1x128 ![1] bcast_S128_S1x128_1 x
abbrev atOwners (x : FVec Ideal S128 .f32) : FVec Ideal S128 .f32 := Host.gather gather_S128_S128x1_S128_n_0_n_n_0_1_1 x (ownersV V)
abbrev inUse : IVec S128 1 := cmpf .olt (tileV V) (broadcastInDim S128 ![] bcast_S_S128 (usedV V))
abbrev validV : FVec Ideal S128 .f32 :=
  select (inUse V) (minimumf (broadcastInDim S128 ![] bcast_S_S128 (id (constant S_ .f32 0x44000000#32)))
      (maximumf (broadcastInDim S128 ![] bcast_S_S128 (id (constant S_ .f32 0x00000000#32)))
        (subf (atOwners V (total V)) (mulf (subf (tileV V) (atOwners V (startV V))) (broadcastInDim S128 ![] bcast_S_S128 (constant S_ .f32 0x44000000#32))))))
    (broadcastInDim S128 ![] bcast_S_S128 (id (constant S_ .f32 0x00000000#32)))
abbrev firstV : FVec Ideal S128 .f32 :=
  id (select (andi (inUse V) (cmpf .oeq (tileV V) (atOwners V (startV V)))) (broadcastInDim S128 ![] bcast_S_S128 (constant S_ .f32 0x3F800000#32))
    (broadcastInDim S128 ![] bcast_S_S128 (constant S_ .f32 0x00000000#32)))
abbrev followerV : FVec Ideal S128 .f32 :=
  select (cmpf .olt (aboveV V) (broadcastInDim S128 ![] bcast_S_S128 (constant S_ .f32 0x43000000#32))) (aboveV V)
    (broadcastInDim S128 ![] bcast_S_S128 (id (constant S_ .f32 0xBF800000#32)))
abbrev slotV : FVec Ideal S128 .f32 :=
  subf (turnV V) (mulf (broadcastInDim S128 ![] bcast_S_S128 (constant S_ .f32 0x40000000#32))
    (Host.floor (Host.divf (turnV V) (broadcastInDim S128 ![] bcast_S_S128 (constant S_ .f32 0x40000000#32)))))
/-- The reference's table, before its two rows of zeros. -/
def stackV : FVec Ideal S6x128 .f32 :=
  concatenate S6x128 0 [⟨S1x128, row (ownerV V)⟩, ⟨S1x128, row (validV V)⟩, ⟨S1x128, row (firstV V)⟩, ⟨S1x128, row (atOwners V (followerV V))⟩,
    ⟨S1x128, row (slotV V)⟩, ⟨S1x128, row (broadcastInDim S128 ![] bcast_S_S128 (usedV V))⟩] concatenates_S1x128_S1x128_S1x128_S1x128_S1x128_S1x128_S6x128_d0

theorem validV_apply (t : Fin 128) : validV V (ix1 t) = Tiles.valid (totals V) t := by
  have e1 := at_owners V (total V) t
  have e2 := at_owners V (startV V) t
  simp only [total_apply, startV_apply] at e1 e2
  unfold Tiles.valid
  rw [← tileV_apply V, ← usedV_apply, ← e1, ← e2]
  pointwise [validV, inUse, id]

theorem firstV_apply (t : Fin 128) : firstV V (ix1 t) = Tiles.first (totals V) t := by
  have e2 := at_owners V (startV V) t
  simp only [startV_apply] at e2
  unfold Tiles.first
  rw [← tileV_apply V, ← usedV_apply, ← e2]
  pointwise [firstV, inUse, id]

theorem followerV_apply (l : Fin 128) : followerV V (ix1 l) = Tiles.follower (totals V) l := by
  unfold Tiles.follower
  rw [← aboveV_apply]
  pointwise [followerV, id]

theorem slotV_apply (t : Fin 128) : slotV V (ix1 t) = Tiles.slot (totals V) t := by
  unfold Tiles.slot
  rw [← turnV_apply]
  pointwise [slotV]

theorem stack_apply (r : Fin 6) (t : Fin 128) : stackV V (ix2 r t) = Tiles.entry (totals V) ⟨r.val, by omega⟩ t := by
  have e : atOwners V (followerV V) (ix1 t) = Tiles.pick (totals V) (Tiles.follower (totals V)) t :=
    (at_owners V (followerV V) t).trans (by simp only [followerV_apply])
  rw [show Tiles.entry (totals V) ⟨r.val, by omega⟩ t = match r with
    | 0 => ownerV V (ix1 t) | 1 => validV V (ix1 t) | 2 => firstV V (ix1 t) | 3 => atOwners V (followerV V) (ix1 t) | 4 => slotV V (ix1 t) | 5 => usedV V ix0 by
      rw [ownerV_apply, validV_apply, firstV_apply, e, slotV_apply, usedV_apply]
      fin_cases r <;> rfl]
  unfold stackV
  generalize validV V = a1, firstV V = a2, atOwners V (followerV V) = a3, slotV V = a4, ownerV V = a0
  pointwise []
  fin_cases r <;> rfl

/-- The reference's table. -/
abbrev tableV : IVec S8x128 32 :=
  fptosi 32 (pad S8x128 ![0, 0] ![2, 0] ![0, 0] (stackV V) (sitofp .f32 (constantI S_ 32 0#32)) pads_S6x128_S8x128_020_000 h_S_)

theorem tableV_apply (r : Fin 8) (t : Fin 128) :
    tableV V (ix2 r t) = FloatOps.fptosi (F := Ideal) (φ := .f32) 32 (Tiles.entry (totals V) r t) := by
  pointwise [tableV]
  refine congrArg (FloatOps.fptosi (F := Ideal) (φ := .f32) 32) ?_
  split
  · exact stack_apply V ⟨r.val, ‹_›⟩ t
  · rename_i h
    have z : FloatOps.sitofp (F := Ideal) .f32 0#32 = 0 := by simp [FloatOps.sitofp, FloatOps.scalar]
    rw [z]
    fin_cases r <;> first | exact absurd (by decide) h | rfl

end Cert.Reference3Ideal.Plan

end
-- ==== Proof.Plan.Agree.lean ====
/- The tables of the kernel's plan and of the reference's agree. -/
module

public import proofs.«01_k».proof.Defs
public import proofs.«01_k».proof.Proof.Plan.Twin
public import proofs.«01_k».proof.Proof.Plan.RefRows

@[expose] public section

set_option maxRecDepth 16384

noncomputable section

namespace Cert.Kernel3Ideal.Plan

open Idealize.ShloMosaic Idealize.ShloMosaic.TcCoe Idealize.SL.Sem Cert.Kernel3Ideal.Gen

variable (m : (ℓ : Loc nD τ sig) → Buf (Elt Ideal) ℓ) (c : Dev nD)

theorem counts_eq : (counts m c : FVec Ideal S64x128 .f32)
    = shapeCast S64x128 (m ((c.tc : Thread nD τ).loc main_arg0) : FVec Ideal S64x1x128 .f32) shapeCasts_S64x1x128_S64x128 := by
  unfold counts V
  after_results_simp <;> rfl

theorem counts_apply (p : Fin 64) (l : Fin 128) :
    (counts m c : FVec Ideal S64x128 .f32) (ix2 p l) = (m ((c.tc : Thread nD τ).loc main_arg0) : FVec Ideal S64x1x128 .f32) (ix3 p 0 l) := by
  rw [counts_eq]
  pointwise []

theorem result_eq (m' : (ℓ : Loc Cert.Reference3Ideal.nD Cert.Reference3Ideal.τ Cert.Reference3Ideal.sig) → Buf (Elt Ideal) ℓ)
    (h0 : m' ((c.tc : Thread Cert.Reference3Ideal.nD Cert.Reference3Ideal.τ).loc Cert.Reference3Ideal.main_arg0) = m ((c.tc : Thread nD τ).loc main_arg0)) :
    Cert.Reference3Ideal.Plan.tableV (StableHlo.launchContents m' c) = ((dats m 0 c).arrAt 3 cfg0.N : IVec S8x128 32) := by
  rw [arr_table]
  funext i
  obtain ⟨r, t, rfl⟩ : ∃ (r : Fin 8) (t : Fin 128), i = ix2 r t := ⟨i 0, i 1, eq_ix2 i⟩
  rw [table_apply]
  refine (Cert.Reference3Ideal.Plan.tableV_apply _ r t).trans ?_
  refine congrArg (fun T => FloatOps.fptosi (F := Ideal) (φ := .f32) 32 (Tiles.entry T r t)) (funext fun l => ?_)
  refine Finset.sum_congr rfl fun p _ => ?_
  rw [counts_apply, ← h0]

theorem algebraic : Cert.algebraic_Kernel3Ideal_Reference3Ideal := fun m ρ m' ρ' _ hargs =>
  ⟨fun c => (dats m 0 c).arrAt 3 cfg0.N,
    (θ_run _ _ _).mono (fun _ h => h.1) (run (F := Ideal) m ρ),
    (θ_run _ _ _).mono (fun _ h c => ⟨(h c).1.trans (result_eq m c m' (hargs c).1), (h c).2⟩)
      (Cert.Reference3Ideal.Value.run (F := Ideal) m' ρ')⟩

end Cert.Kernel3Ideal.Plan

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_planned
public import proofs.«01_k».proof.Proof.Gen.On_used_rows
public import proofs.«01_k».proof.Proof.Gen.Reference2Ideal.Run
public import proofs.«01_k».proof.Proof.Ple.Twin
public import proofs.«01_k».proof.Proof.Experts.Agree
public import proofs.«01_k».proof.Proof.Plan.Agree
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem frame_kernel : Cert.quiescent_Kernel := fun m ρ _ => Cert.Kernel.Ple.frame (F := Bits) m ρ

theorem frame_kernelIdeal : Cert.quiescent_KernelIdeal := Cert.KernelIdeal.Ple.frame

theorem frame_reference : Cert.quiescent_ReferenceIdeal := fun m ρ _ =>
  (θ_run _ _ _).mono (fun _ h => ⟨fun c => (h c).2, sem_eq_zero_of_no_sems (by rfl) _⟩) (Cert.ReferenceIdeal.Value.run (F := Ideal) m ρ)

/-- The two results agree, row by row. -/
theorem result_eq (m : (ℓ : Loc Cert.Kernel.nD Cert.Kernel.τ Cert.Kernel.sig) → Buf (Elt Ideal) ℓ)
    (m' : (ℓ : Loc Cert.ReferenceIdeal.nD Cert.ReferenceIdeal.τ Cert.ReferenceIdeal.sig) → Buf (Elt Ideal) ℓ) (c : Dev Cert.Kernel.nD)
    (h0 : m' ((c.tc : Thread Cert.ReferenceIdeal.nD Cert.ReferenceIdeal.τ).loc Cert.ReferenceIdeal.main_arg0) = m ((c.tc : Thread Cert.Kernel.nD Cert.Kernel.τ).loc Cert.Kernel.main_arg0))
    (h1 : m' ((c.tc : Thread Cert.ReferenceIdeal.nD Cert.ReferenceIdeal.τ).loc Cert.ReferenceIdeal.main_arg1) = m ((c.tc : Thread Cert.Kernel.nD Cert.Kernel.τ).loc Cert.Kernel.main_arg1))
    (h2 : m' ((c.tc : Thread Cert.ReferenceIdeal.nD Cert.ReferenceIdeal.τ).loc Cert.ReferenceIdeal.main_arg2) = m ((c.tc : Thread Cert.Kernel.nD Cert.Kernel.τ).loc Cert.Kernel.main_arg2))
    (h3 : m' ((c.tc : Thread Cert.ReferenceIdeal.nD Cert.ReferenceIdeal.τ).loc Cert.ReferenceIdeal.main_arg3) = m ((c.tc : Thread Cert.Kernel.nD Cert.Kernel.τ).loc Cert.Kernel.main_arg3))
    (h4 : m' ((c.tc : Thread Cert.ReferenceIdeal.nD Cert.ReferenceIdeal.τ).loc Cert.ReferenceIdeal.main_arg4) = m ((c.tc : Thread Cert.Kernel.nD Cert.Kernel.τ).loc Cert.Kernel.main_arg4))
    (h5 : m' ((c.tc : Thread Cert.ReferenceIdeal.nD Cert.ReferenceIdeal.τ).loc Cert.ReferenceIdeal.main_arg5) = m ((c.tc : Thread Cert.Kernel.nD Cert.Kernel.τ).loc Cert.Kernel.main_arg5))
    (h6 : m' ((c.tc : Thread Cert.ReferenceIdeal.nD Cert.ReferenceIdeal.τ).loc Cert.ReferenceIdeal.main_arg6) = m ((c.tc : Thread Cert.Kernel.nD Cert.Kernel.τ).loc Cert.Kernel.main_arg6))
    (h7 : m' ((c.tc : Thread Cert.ReferenceIdeal.nD Cert.ReferenceIdeal.τ).loc Cert.ReferenceIdeal.main_arg7) = m ((c.tc : Thread Cert.Kernel.nD Cert.Kernel.τ).loc Cert.Kernel.main_arg7))
    (h8 : m' ((c.tc : Thread Cert.ReferenceIdeal.nD Cert.ReferenceIdeal.τ).loc Cert.ReferenceIdeal.main_arg8) = m ((c.tc : Thread Cert.Kernel.nD Cert.Kernel.τ).loc Cert.Kernel.main_arg8)) :
    Cert.ReferenceIdeal.Value.res_main_v63 (F := Ideal) m' c = Cert.Kernel.Ple.result m c := by
  funext (i : Cert.ReferenceIdeal.S16384x1024.Idx)
  obtain ⟨r, j, rfl⟩ : ∃ (r : Fin 16384) (j : Fin 1024), i = ix2 r j := ⟨i 0, i 1, eq_ix2 i⟩
  refine (Cert.ReferenceIdeal.Ple.ref_apply m' c r j).trans ?_
  rw [h0, h1, h2, h3, h4, h5, h6, h7, h8]
  rfl

theorem algebraic : Cert.algebraic_KernelIdeal_ReferenceIdeal := fun m ρ m' ρ' _ hargs =>
  ⟨fun c => Cert.Kernel.Ple.result m c, by
    have h := Cert.Kernel.Ple.value m ρ
    rw [← Cert.KernelIdeal.Ple.defs_eq] at h
    exact h,
    (θ_run _ _ _).mono (fun _ h c => by
      obtain ⟨e0, e1, e2, e3, e4, e5, e6, e7, e8⟩ := hargs c
      exact ⟨(h c).1.trans (result_eq m m' c e0 e1 e2 e3 e4 e5 e6 e7 e8), (h c).2⟩)
      (Cert.ReferenceIdeal.Value.run (F := Ideal) m' ρ')⟩

theorem frame_reference2 : Cert.quiescent_Reference2Ideal := fun m ρ _ =>
  (θ_run _ _ _).mono (fun _ h => ⟨fun c => (h c).2, sem_eq_zero_of_no_sems (by rfl) _⟩) (Cert.Reference2Ideal.Value.run (F := Ideal) m ρ)

theorem frame_reference2_planned : Cert.quiescent_Reference2Ideal_pre_planned := fun m ρ _ =>
  (θ_run _ _ _).mono (fun _ h => ⟨fun c => (h c).2, sem_eq_zero_of_no_sems (by rfl) _⟩) (Cert.Reference2Ideal.Value.run (F := Ideal) m ρ)

theorem frame_reference3 : Cert.quiescent_Reference3Ideal := fun m ρ _ =>
  (θ_run _ _ _).mono (fun _ h => ⟨fun c => (h c).2, sem_eq_zero_of_no_sems (by rfl) _⟩) (Cert.Reference3Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_planned.Gen.facts, Cert.On_used_rows.Gen.facts,
    frame_kernel, frame_kernelIdeal, frame_reference,
    Cert.Kernel2Ideal.Experts.frame_kernel, Cert.Kernel2Ideal.Experts.frame_ideal,
    frame_reference2, frame_reference2_planned,
    Cert.Kernel3Ideal.Plan.frame_kernel, Cert.Kernel3Ideal.Plan.frame_ideal, frame_reference3,
    trivial, algebraic, trivial, Cert.Kernel2Ideal.Experts.algebraic, trivial, Cert.Kernel3Ideal.Plan.algebraic⟩

end Cert.Proof

end
